-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v138_0)) (v1 : (c : Dev Cert.KernelIdeal.nD) → Buf (Elt Ideal) ((c.tc : Thread Cert.KernelIdeal.nD Cert.KernelIdeal.τ).loc Cert.KernelIdeal.main_v138_1)) (v2 : (c : Dev Cert.KernelIdeal.nD) → Buf (Elt Ideal) ((c.tc : Thread Cert.KernelIdeal.nD Cert.KernelIdeal.τ).loc Cert.KernelIdeal.main_v138_2)) (v3 : (c : Dev Cert.KernelIdeal.nD) → Buf (Elt Ideal) ((c.tc : Thread Cert.KernelIdeal.nD Cert.KernelIdeal.τ).loc Cert.KernelIdeal.main_v138_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138_0) = v0 c
          ∧ r.2.mem ((c.tc : Thread Cert.KernelIdeal.nD Cert.KernelIdeal.τ).loc Cert.KernelIdeal.main_v138_1) = v1 c
          ∧ r.2.mem ((c.tc : Thread Cert.KernelIdeal.nD Cert.KernelIdeal.τ).loc Cert.KernelIdeal.main_v138_2) = v2 c
          ∧ r.2.mem ((c.tc : Thread Cert.KernelIdeal.nD Cert.KernelIdeal.τ).loc Cert.KernelIdeal.main_v138_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_v225) = v1 c
          ∧ r.2.mem ((c.tc : Thread Cert.ReferenceIdeal.nD Cert.ReferenceIdeal.τ).loc Cert.ReferenceIdeal.main_v226) = v2 c
          ∧ r.2.mem ((c.tc : Thread Cert.ReferenceIdeal.nD Cert.ReferenceIdeal.τ).loc Cert.ReferenceIdeal.main_v227) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "log2e_scaled" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)) (v6 : (c : Dev Cert.Kernel3Ideal.nD) → Buf (Elt Ideal) ((c.tc : Thread Cert.Kernel3Ideal.nD Cert.Kernel3Ideal.τ).loc Cert.Kernel3Ideal.main_v1_6)) (v7 : (c : Dev Cert.Kernel3Ideal.nD) → Buf (Elt Ideal) ((c.tc : Thread Cert.Kernel3Ideal.nD Cert.Kernel3Ideal.τ).loc Cert.Kernel3Ideal.main_v1_7)) (v8 : (c : Dev Cert.Kernel3Ideal.nD) → Buf (Elt Ideal) ((c.tc : Thread Cert.Kernel3Ideal.nD Cert.Kernel3Ideal.τ).loc Cert.Kernel3Ideal.main_v1_8)) (v9 : (c : Dev Cert.Kernel3Ideal.nD) → Buf (Elt Ideal) ((c.tc : Thread Cert.Kernel3Ideal.nD Cert.Kernel3Ideal.τ).loc Cert.Kernel3Ideal.main_v1_9)) (v10 : (c : Dev Cert.Kernel3Ideal.nD) → Buf (Elt Ideal) ((c.tc : Thread Cert.Kernel3Ideal.nD Cert.Kernel3Ideal.τ).loc Cert.Kernel3Ideal.main_v1_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_v1_5) = v5 c
          ∧ r.2.mem ((c.tc : Thread Cert.Kernel3Ideal.nD Cert.Kernel3Ideal.τ).loc Cert.Kernel3Ideal.main_v1_6) = v6 c
          ∧ r.2.mem ((c.tc : Thread Cert.Kernel3Ideal.nD Cert.Kernel3Ideal.τ).loc Cert.Kernel3Ideal.main_v1_7) = v7 c
          ∧ r.2.mem ((c.tc : Thread Cert.Kernel3Ideal.nD Cert.Kernel3Ideal.τ).loc Cert.Kernel3Ideal.main_v1_8) = v8 c
          ∧ r.2.mem ((c.tc : Thread Cert.Kernel3Ideal.nD Cert.Kernel3Ideal.τ).loc Cert.Kernel3Ideal.main_v1_9) = v9 c
          ∧ r.2.mem ((c.tc : Thread Cert.Kernel3Ideal.nD Cert.Kernel3Ideal.τ).loc Cert.Kernel3Ideal.main_v1_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v124) = v1 c
          ∧ r.2.mem ((c.tc : Thread Cert.Reference3Ideal.nD Cert.Reference3Ideal.τ).loc Cert.Reference3Ideal.main_v151) = v2 c
          ∧ r.2.mem ((c.tc : Thread Cert.Reference3Ideal.nD Cert.Reference3Ideal.τ).loc Cert.Reference3Ideal.main_v153) = v3 c
          ∧ r.2.mem ((c.tc : Thread Cert.Reference3Ideal.nD Cert.Reference3Ideal.τ).loc Cert.Reference3Ideal.main_v149) = v4 c
          ∧ r.2.mem ((c.tc : Thread Cert.Reference3Ideal.nD Cert.Reference3Ideal.τ).loc Cert.Reference3Ideal.main_v155) = v5 c
          ∧ r.2.mem ((c.tc : Thread Cert.Reference3Ideal.nD Cert.Reference3Ideal.τ).loc Cert.Reference3Ideal.main_v157) = v6 c
          ∧ r.2.mem ((c.tc : Thread Cert.Reference3Ideal.nD Cert.Reference3Ideal.τ).loc Cert.Reference3Ideal.main_v159) = v7 c
          ∧ r.2.mem ((c.tc : Thread Cert.Reference3Ideal.nD Cert.Reference3Ideal.τ).loc Cert.Reference3Ideal.main_v161) = v8 c
          ∧ r.2.mem ((c.tc : Thread Cert.Reference3Ideal.nD Cert.Reference3Ideal.τ).loc Cert.Reference3Ideal.main_v163) = v9 c
          ∧ r.2.mem ((c.tc : Thread Cert.Reference3Ideal.nD Cert.Reference3Ideal.τ).loc Cert.Reference3Ideal.main_v165) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S16384x512 : Shape := ⟨2, ![16384, 512]⟩
abbrev S16384x128 : Shape := ⟨2, ![16384, 128]⟩
abbrev S8x257 : Shape := ⟨2, ![8, 257]⟩
abbrev S8x32 : Shape := ⟨2, ![8, 32]⟩
abbrev S8 : Shape := ⟨1, ![8]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S16384x128 : S_.BroadcastsInDim S16384x128 (![] : Fin 0 → Fin S16384x128.rank)
  bcast_S_S8x257 : S_.BroadcastsInDim S8x257 (![] : Fin 0 → Fin S8x257.rank)
  bcast_S_S8x32 : S_.BroadcastsInDim S8x32 (![] : Fin 0 → Fin S8x32.rank)
  bcast_S_S8 : S_.BroadcastsInDim S8 (![] : Fin 0 → Fin S8.rank)

variable [Facts]

def fn_part1 {F : FTy → Type} [FloatOps F] (main_arg8 : FVec F S8 .f32) (main_v4 : IVec S16384x512 1) (main_v7 : IVec S16384x512 1) (main_v10 : IVec S16384x512 1) (main_v13 : IVec S16384x128 1) (main_v16 : IVec S8x257 1) (main_v17 : FVec F S8x32 .f32) (main_cst_4 : FVec F S_ .f32) : IVec S16384x512 1 × IVec S16384x512 1 × IVec S16384x512 1 × IVec S16384x128 1 × IVec S8x257 1 × IVec S8x32 1 × IVec S8 1 :=
  let main_v18 : FVec F S8x32 .f32 := broadcastInDim S8x32 ![] bcast_S_S8x32 main_cst_4
  let main_v19 : IVec S8x32 1 := cmpf .olt main_v17 main_v18
  let main_v20 : FVec F S8 .f32 := Host.absf main_arg8
  let main_cst_5 : FVec F S_ .f32 := constant S_ .f32 0x7F800000#32
  let main_v21 : FVec F S8 .f32 := broadcastInDim S8 ![] bcast_S_S8 main_cst_5
  let main_v22 : IVec S8 1 := cmpf .olt main_v20 main_v21
  (main_v4, main_v7, main_v10, main_v13, main_v16, main_v19, main_v22)

def fn {F : FTy → Type} [FloatOps F] (main_arg0 : FVec F S16384x512 .f32) (main_arg1 : FVec F S16384x512 .f32) (main_arg2 : FVec F S16384x512 .bf16) (main_arg3 : FVec F S16384x512 .bf16) (main_arg4 : FVec F S16384x128 .bf16) (main_arg5 : FVec F S16384x128 .bf16) (main_arg6 : FVec F S8x257 .f32) (main_arg7 : FVec F S8x32 .f32) (main_arg8 : FVec F S8 .f32) (main_arg9 : FVec F S1024x2816 .f32) (main_arg10 : FVec F S1024x2816 .f32) (main_arg11 : FVec F S2816x1024 .f32) : IVec S16384x512 1 × IVec S16384x512 1 × IVec S16384x512 1 × IVec S16384x128 1 × IVec S8x257 1 × IVec S8x32 1 × IVec S8 1 :=
  let main_v0 : FVec F S16384x512 .f32 := (extf .f32 · bitsLt_bf16_f32) main_arg2
  let main_v1 : FVec F S16384x128 .f32 := (extf .f32 · bitsLt_bf16_f32) main_arg4
  let main_v2 : FVec F S16384x512 .f32 := Host.absf main_arg0
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_v5 : FVec F S16384x512 .f32 := Host.absf main_arg1
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : FVec F S16384x512 .f32 := Host.absf main_v0
  let main_cst_1 : FVec F S_ .f32 := constant S_ .f32 0x7F800000#32
  let main_v9 : FVec F S16384x512 .f32 := broadcastInDim S16384x512 ![] bcast_S_S16384x512 main_cst_1
  let main_v10 : IVec S16384x512 1 := cmpf .olt main_v8 main_v9
  let main_v11 : FVec F S16384x128 .f32 := Host.absf main_v1
  let main_cst_2 : FVec F S_ .f32 := constant S_ .f32 0x7F800000#32
  let main_v12 : FVec F S16384x128 .f32 := broadcastInDim S16384x128 ![] bcast_S_S16384x128 main_cst_2
  let main_v13 : IVec S16384x128 1 := cmpf .olt main_v11 main_v12
  let main_v14 : FVec F S8x257 .f32 := Host.absf main_arg6
  let main_cst_3 : FVec F S_ .f32 := constant S_ .f32 0x7F800000#32
  let main_v15 : FVec F S8x257 .f32 := broadcastInDim S8x257 ![] bcast_S_S8x257 main_cst_3
  let main_v16 : IVec S8x257 1 := cmpf .olt main_v14 main_v15
  let main_v17 : FVec F S8x32 .f32 := Host.absf main_arg7
  let main_cst_4 : FVec F S_ .f32 := constant S_ .f32 0x7F800000#32
  fn_part1 (F := F) main_arg8 main_v4 main_v7 main_v10 main_v13 main_v16 main_v17 main_cst_4
-- ==== Kernel.lean ====
abbrev S16384x512 : Shape := ⟨2, ![16384, 512]⟩
abbrev S16384x128 : Shape := ⟨2, ![16384, 128]⟩
abbrev S8x257 : Shape := ⟨2, ![8, 257]⟩
abbrev S8x32 : Shape := ⟨2, ![8, 32]⟩
abbrev S8 : Shape := ⟨1, ![8]⟩
abbrev S1024x2816 : Shape := ⟨2, ![1024, 2816]⟩
abbrev S2816x1024 : Shape := ⟨2, ![2816, 1024]⟩
abbrev S_ : Shape := ⟨0, ![]⟩
abbrev S16384x2x4x64 : Shape := ⟨4, ![16384, 2, 4, 64]⟩
abbrev S16384x4x2x64 : Shape := ⟨4, ![16384, 4, 2, 64]⟩
abbrev S5x128x640 : Shape := ⟨3, ![5, 128, 640]⟩
abbrev S5x128x640x1 : Shape := ⟨4, ![5, 128, 640, 1]⟩
abbrev S8x5x128x640 : Shape := ⟨4, ![8, 5, 128, 640]⟩
abbrev S5x8x128x640 : Shape := ⟨4, ![5, 8, 128, 640]⟩
abbrev S2x128x256 : Shape := ⟨3, ![2, 128, 256]⟩
abbrev S2x128x256x1 : Shape := ⟨4, ![2, 128, 256, 1]⟩
abbrev S8x2x128x256 : Shape := ⟨4, ![8, 2, 128, 256]⟩
abbrev S2x8x128x256 : Shape := ⟨4, ![2, 8, 128, 256]⟩
abbrev S16384x1024 : Shape := ⟨2, ![16384, 1024]⟩
abbrev S256x1024 : Shape := ⟨2, ![256, 1024]⟩
abbrev S768x512 : Shape := ⟨2, ![768, 512]⟩
abbrev S384x128 : Shape := ⟨2, ![384, 128]⟩
abbrev S1x8x128x640 : Shape := ⟨4, ![1, 8, 128, 640]⟩
abbrev S1x8x128x256 : Shape := ⟨4, ![1, 8, 128, 256]⟩
abbrev S16x2816 : Shape := ⟨2, ![16, 2816]⟩
abbrev S176x1024 : Shape := ⟨2, ![176, 1024]⟩
abbrev S1x1x128x640 : Shape := ⟨4, ![1, 1, 128, 640]⟩
abbrev S128x640 : Shape := ⟨2, ![128, 640]⟩
abbrev S256x640 : Shape := ⟨2, ![256, 640]⟩
abbrev S128x128 : Shape := ⟨2, ![128, 128]⟩
abbrev S256x128 : Shape := ⟨2, ![256, 128]⟩
abbrev S640x128 : Shape := ⟨2, ![640, 128]⟩
abbrev S256 : Shape := ⟨1, ![256]⟩
abbrev S256x1 : Shape := ⟨2, ![256, 1]⟩
abbrev S1x1x128x256 : Shape := ⟨4, ![1, 1, 128, 256]⟩
abbrev S128x256 : Shape := ⟨2, ![128, 256]⟩
abbrev S256x256 : Shape := ⟨2, ![256, 256]⟩
abbrev S640x256 : Shape := ⟨2, ![640, 256]⟩
abbrev S1 : Shape := ⟨1, ![1]⟩

abbrev nBuf : Space → Nat
  | .hbm => 228
  | .vmem => 34
  | .smem => 1
  | _ => 0

abbrev hbmTy0_0 (i : Nat) : BufTy := match i % 128 with
  | 0 => ⟨S16384x512, .f32⟩
  | 1 => ⟨S16384x512, .f32⟩
  | 2 => ⟨S16384x512, .bf16⟩
  | 3 => ⟨S16384x512, .bf16⟩
  | 4 => ⟨S16384x128, .bf16⟩
  | 5 => ⟨S16384x128, .bf16⟩
  | 6 => ⟨S8x257, .f32⟩
  | 7 => ⟨S8x32, .f32⟩
  | 8 => ⟨S8, .f32⟩
  | 9 => ⟨S1024x2816, .f32⟩
  | 10 => ⟨S1024x2816, .f32⟩
  | 11 => ⟨S2816x1024, .f32⟩
  | 12 => ⟨S_, .f32⟩
  | 13 => ⟨S_, .f32⟩
  | 14 => ⟨S_, .f32⟩
  | 15 => ⟨S_, .f32⟩
  | 16 => ⟨S16384x2x4x64, .f32⟩
  | 17 => ⟨S16384x4x2x64, .f32⟩
  | 18 => ⟨S16384x512, .f32⟩
  | 19 => ⟨S5x128x640, .i32⟩
  | 20 => ⟨S5x128x640, .i32⟩
  | 21 => ⟨S5x128x640, .i32⟩
  | 22 => ⟨S_, .i32⟩
  | 23 => ⟨S5x128x640, .i32⟩
  | 24 => ⟨S5x128x640, .i32⟩
  | 25 => ⟨S5x128x640, .i32⟩
  | 26 => ⟨S5x128x640, .i32⟩
  | 27 => ⟨S_, .i32⟩
  | 28 => ⟨S_, .i32⟩
  | 29 => ⟨S_, .i32⟩
  | 30 => ⟨S5x128x640, .i32⟩
  | 31 => ⟨S5x128x640, .i32⟩
  | 32 => ⟨S_, .i32⟩
  | 33 => ⟨S5x128x640, .i32⟩
  | 34 => ⟨S5x128x640, .i32⟩
  | 35 => ⟨S_, .i32⟩
  | 36 => ⟨S5x128x640, .i32⟩
  | 37 => ⟨S5x128x640, .i32⟩
  | 38 => ⟨S_, .i32⟩
  | 39 => ⟨S5x128x640, .i32⟩
  | 40 => ⟨S5x128x640, .i1⟩
  | 41 => ⟨S_, .i32⟩
  | 42 => ⟨S5x128x640, .i32⟩
  | 43 => ⟨S5x128x640, .i32⟩
  | 44 => ⟨S5x128x640, .i32⟩
  | 45 => ⟨S5x128x640x1, .i32⟩
  | 46 => ⟨S8x5x128x640, .f32⟩
  | 47 => ⟨S_, .i32⟩
  | 48 => ⟨S5x128x640, .i32⟩
  | 49 => ⟨S5x128x640, .i32⟩
  | 50 => ⟨S_, .i32⟩
  | 51 => ⟨S5x128x640, .i32⟩
  | 52 => ⟨S5x128x640, .i32⟩
  | 53 => ⟨S_, .i32⟩
  | 54 => ⟨S5x128x640, .i32⟩
  | 55 => ⟨S5x128x640, .i32⟩
  | 56 => ⟨S5x128x640, .i1⟩
  | 57 => ⟨S5x128x640, .i1⟩
  | 58 => ⟨S5x128x640, .i1⟩
  | 59 => ⟨S5x8x128x640, .f32⟩
  | 60 => ⟨S5x8x128x640, .i1⟩
  | 61 => ⟨S5x8x128x640, .f32⟩
  | 62 => ⟨S5x8x128x640, .f32⟩
  | 63 => ⟨S_, .f32⟩
  | 64 => ⟨S5x8x128x640, .f32⟩
  | 65 => ⟨S5x8x128x640, .f32⟩
  | 66 => ⟨S2x128x256, .i32⟩
  | 67 => ⟨S2x128x256, .i32⟩
  | 68 => ⟨S2x128x256, .i32⟩
  | 69 => ⟨S_, .i32⟩
  | 70 => ⟨S2x128x256, .i32⟩
  | 71 => ⟨S2x128x256, .i32⟩
  | 72 => ⟨S2x128x256, .i32⟩
  | 73 => ⟨S2x128x256, .i32⟩
  | 74 => ⟨S2x128x256, .i32⟩
  | 75 => ⟨S2x128x256, .i32⟩
  | 76 => ⟨S_, .i32⟩
  | 77 => ⟨S2x128x256, .i32⟩
  | 78 => ⟨S_, .i32⟩
  | 79 => ⟨S2x128x256, .i32⟩
  | 80 => ⟨S2x128x256, .i1⟩
  | 81 => ⟨S_, .i32⟩
  | 82 => ⟨S_, .i32⟩
  | 83 => ⟨S2x128x256, .i32⟩
  | 84 => ⟨S2x128x256, .i32⟩
  | 85 => ⟨S2x128x256, .i32⟩
  | 86 => ⟨S2x128x256, .i32⟩
  | 87 => ⟨S2x128x256, .i32⟩
  | 88 => ⟨S_, .i32⟩
  | 89 => ⟨S2x128x256, .i32⟩
  | 90 => ⟨S2x128x256, .i1⟩
  | 91 => ⟨S_, .i32⟩
  | 92 => ⟨S_, .i32⟩
  | 93 => ⟨S2x128x256, .i32⟩
  | 94 => ⟨S2x128x256, .i32⟩
  | 95 => ⟨S2x128x256, .i32⟩
  | 96 => ⟨S2x128x256, .i32⟩
  | 97 => ⟨S2x128x256, .i32⟩
  | 98 => ⟨S_, .i32⟩
  | 99 => ⟨S2x128x256, .i32⟩
  | 100 => ⟨S2x128x256, .i1⟩
  | 101 => ⟨S_, .i32⟩
  | 102 => ⟨S_, .i32⟩
  | 103 => ⟨S2x128x256, .i32⟩
  | 104 => ⟨S2x128x256, .i32⟩
  | 105 => ⟨S2x128x256, .i32⟩
  | 106 => ⟨S2x128x256, .i32⟩
  | 107 => ⟨S2x128x256, .i32⟩
  | 108 => ⟨S_, .i32⟩
  | 109 => ⟨S2x128x256, .i32⟩
  | 110 => ⟨S2x128x256, .i1⟩
  | 111 => ⟨S_, .i32⟩
  | 112 => ⟨S_, .i32⟩
  | 113 => ⟨S2x128x256, .i32⟩
  | 114 => ⟨S2x128x256, .i32⟩
  | 115 => ⟨S2x128x256, .i32⟩
  | 116 => ⟨S2x128x256, .i32⟩
  | 117 => ⟨S2x128x256, .i32⟩
  | 118 => ⟨S_, .i32⟩
  | 119 => ⟨S2x128x256, .i32⟩
  | 120 => ⟨S2x128x256, .i1⟩
  | 121 => ⟨S_, .i32⟩
  | 122 => ⟨S_, .i32⟩
  | 123 => ⟨S2x128x256, .i32⟩
  | 124 => ⟨S2x128x256, .i32⟩
  | 125 => ⟨S2x128x256, .i32⟩
  | 126 => ⟨S2x128x256, .i32⟩
  | 127 => ⟨S2x128x256, .i32⟩
  | _ => ⟨S16384x512, .f32⟩

abbrev hbmTy0_1 (i : Nat) : BufTy := match i % 128 with
  | 0 => ⟨S_, .i32⟩
  | 1 => ⟨S2x128x256, .i32⟩
  | 2 => ⟨S2x128x256, .i1⟩
  | 3 => ⟨S_, .i32⟩
  | 4 => ⟨S_, .i32⟩
  | 5 => ⟨S2x128x256, .i32⟩
  | 6 => ⟨S2x128x256, .i32⟩
  | 7 => ⟨S2x128x256, .i32⟩
  | 8 => ⟨S2x128x256, .i32⟩
  | 9 => ⟨S2x128x256, .i32⟩
  | 10 => ⟨S_, .i32⟩
  | 11 => ⟨S2x128x256, .i32⟩
  | 12 => ⟨S2x128x256, .i1⟩
  | 13 => ⟨S_, .i32⟩
  | 14 => ⟨S_, .i32⟩
  | 15 => ⟨S2x128x256, .i32⟩
  | 16 => ⟨S2x128x256, .i32⟩
  | 17 => ⟨S2x128x256, .i32⟩
  | 18 => ⟨S2x128x256, .i32⟩
  | 19 => ⟨S2x128x256, .i32⟩
  | 20 => ⟨S_, .i32⟩
  | 21 => ⟨S2x128x256, .i32⟩
  | 22 => ⟨S2x128x256, .i1⟩
  | 23 => ⟨S_, .i32⟩
  | 24 => ⟨S_, .i32⟩
  | 25 => ⟨S2x128x256, .i32⟩
  | 26 => ⟨S2x128x256, .i32⟩
  | 27 => ⟨S2x128x256, .i32⟩
  | 28 => ⟨S_, .i32⟩
  | 29 => ⟨S2x128x256, .i32⟩
  | 30 => ⟨S2x128x256, .i1⟩
  | 31 => ⟨S2x128x256, .i32⟩
  | 32 => ⟨S2x128x256, .i32⟩
  | 33 => ⟨S2x128x256, .i32⟩
  | 34 => ⟨S_, .i32⟩
  | 35 => ⟨S2x128x256, .i32⟩
  | 36 => ⟨S2x128x256, .i1⟩
  | 37 => ⟨S_, .i32⟩
  | 38 => ⟨S2x128x256, .i32⟩
  | 39 => ⟨S2x128x256, .i32⟩
  | 40 => ⟨S2x128x256, .i32⟩
  | 41 => ⟨S2x128x256x1, .i32⟩
  | 42 => ⟨S8x2x128x256, .f32⟩
  | 43 => ⟨S_, .i32⟩
  | 44 => ⟨S2x128x256, .i32⟩
  | 45 => ⟨S2x128x256, .i32⟩
  | 46 => ⟨S_, .i32⟩
  | 47 => ⟨S2x128x256, .i32⟩
  | 48 => ⟨S2x128x256, .i32⟩
  | 49 => ⟨S_, .i32⟩
  | 50 => ⟨S2x128x256, .i32⟩
  | 51 => ⟨S2x128x256, .i32⟩
  | 52 => ⟨S2x128x256, .i1⟩
  | 53 => ⟨S2x128x256, .i1⟩
  | 54 => ⟨S2x128x256, .i1⟩
  | 55 => ⟨S2x8x128x256, .f32⟩
  | 56 => ⟨S2x8x128x256, .i1⟩
  | 57 => ⟨S2x8x128x256, .f32⟩
  | 58 => ⟨S2x8x128x256, .f32⟩
  | 59 => ⟨S_, .f32⟩
  | 60 => ⟨S2x8x128x256, .f32⟩
  | 61 => ⟨S2x8x128x256, .f32⟩
  | 62 => ⟨S_, .f32⟩
  | 63 => ⟨S_, .f32⟩
  | 64 => ⟨S16384x512, .f32⟩
  | 65 => ⟨S16384x512, .f32⟩
  | 66 => ⟨S16384x512, .i32⟩
  | 67 => ⟨S_, .i32⟩
  | 68 => ⟨S16384x512, .i32⟩
  | 69 => ⟨S16384x512, .i32⟩
  | 70 => ⟨S_, .i32⟩
  | 71 => ⟨S16384x512, .i32⟩
  | 72 => ⟨S16384x512, .i1⟩
  | 73 => ⟨S_, .f32⟩
  | 74 => ⟨S16384x512, .f32⟩
  | 75 => ⟨S16384x512, .f32⟩
  | 76 => ⟨S16384x512, .f32⟩
  | 77 => ⟨S16384x1024, .f32⟩
  | 78 => ⟨S16384x1024, .bf16⟩
  | 79 => ⟨S_, .f32⟩
  | 80 => ⟨S_, .f32⟩
  | 81 => ⟨S16384x512, .f32⟩
  | 82 => ⟨S16384x512, .f32⟩
  | 83 => ⟨S16384x512, .i32⟩
  | 84 => ⟨S_, .i32⟩
  | 85 => ⟨S16384x512, .i32⟩
  | 86 => ⟨S16384x512, .i32⟩
  | 87 => ⟨S_, .i32⟩
  | 88 => ⟨S16384x512, .i32⟩
  | 89 => ⟨S16384x512, .i1⟩
  | 90 => ⟨S_, .f32⟩
  | 91 => ⟨S16384x512, .f32⟩
  | 92 => ⟨S16384x512, .f32⟩
  | 93 => ⟨S16384x512, .f32⟩
  | 94 => ⟨S16384x1024, .f32⟩
  | 95 => ⟨S16384x1024, .bf16⟩
  | 96 => ⟨S16384x1024, .bf16⟩
  | 97 => ⟨S1024x2816, .bf16⟩
  | 98 => ⟨S1024x2816, .bf16⟩
  | 99 => ⟨S2816x1024, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S384x128, .bf16⟩
  | .local _ .vmem, ⟨9, _⟩ => ⟨S384x128, .bf16⟩
  | .local _ .vmem, ⟨10, _⟩ => ⟨S384x128, .bf16⟩
  | .local _ .vmem, ⟨11, _⟩ => ⟨S384x128, .bf16⟩
  | .local _ .vmem, ⟨12, _⟩ => ⟨S1x8x128x640, .f32⟩
  | .local _ .vmem, ⟨13, _⟩ => ⟨S1x8x128x640, .f32⟩
  | .local _ .vmem, ⟨14, _⟩ => ⟨S1x8x128x640, .f32⟩
  | .local _ .vmem, ⟨15, _⟩ => ⟨S1x8x128x640, .f32⟩
  | .local _ .vmem, ⟨16, _⟩ => ⟨S1x8x128x256, .f32⟩
  | .local _ .vmem, ⟨17, _⟩ => ⟨S1x8x128x256, .f32⟩
  | .local _ .vmem, ⟨18, _⟩ => ⟨S1x8x128x256, .f32⟩
  | .local _ .vmem, ⟨19, _⟩ => ⟨S1x8x128x256, .f32⟩
  | .local _ .vmem, ⟨20, _⟩ => ⟨S16x2816, .f32⟩
  | .local _ .vmem, ⟨21, _⟩ => ⟨S16x2816, .f32⟩
  | .local _ .vmem, ⟨22, _⟩ => ⟨S16x2816, .f32⟩
  | .local _ .vmem, ⟨23, _⟩ => ⟨S16x2816, .f32⟩
  | .local _ .vmem, ⟨24, _⟩ => ⟨S176x1024, .f32⟩
  | .local _ .vmem, ⟨25, _⟩ => ⟨S176x1024, .f32⟩
  | .local _ .vmem, ⟨26, _⟩ => ⟨S256x1024, .bf16⟩
  | .local _ .vmem, ⟨27, _⟩ => ⟨S256x1024, .bf16⟩
  | .local _ .vmem, ⟨28, _⟩ => ⟨S16x2816, .bf16⟩
  | .local _ .vmem, ⟨29, _⟩ => ⟨S16x2816, .bf16⟩
  | .local _ .vmem, ⟨30, _⟩ => ⟨S16x2816, .bf16⟩
  | .local _ .vmem, ⟨31, _⟩ => ⟨S16x2816, .bf16⟩
  | .local _ .vmem, ⟨32, _⟩ => ⟨S176x1024, .bf16⟩
  | .local _ .vmem, ⟨33, _⟩ => ⟨S176x1024, .bf16⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_c_4 : Ref sig .tc := ⟨.hbm, 38, rfl⟩
abbrev main_v15 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_c_8 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_9 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_c_12 : Ref sig .tc := ⟨.hbm, 78, rfl⟩
abbrev main_v47 : Ref sig .tc := ⟨.hbm, 79, rfl⟩
abbrev main_v48 : Ref sig .tc := ⟨.hbm, 80, rfl⟩
abbrev main_c_13 : Ref sig .tc := ⟨.hbm, 81, rfl⟩
abbrev main_c_14 : Ref sig .tc := ⟨.hbm, 82, rfl⟩
abbrev main_call1_v0 : Ref sig .tc := ⟨.hbm, 83, rfl⟩
abbrev main_call1_v1 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_15 : Ref sig .tc := ⟨.hbm, 88, rfl⟩
abbrev main_v52 : Ref sig .tc := ⟨.hbm, 89, rfl⟩
abbrev main_v53 : Ref sig .tc := ⟨.hbm, 90, rfl⟩
abbrev main_c_16 : Ref sig .tc := ⟨.hbm, 91, rfl⟩
abbrev main_c_17 : Ref sig .tc := ⟨.hbm, 92, rfl⟩
abbrev main_call2_v0 : Ref sig .tc := ⟨.hbm, 93, rfl⟩
abbrev main_call2_v1 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_c_18 : Ref sig .tc := ⟨.hbm, 98, rfl⟩
abbrev main_v57 : Ref sig .tc := ⟨.hbm, 99, rfl⟩
abbrev main_v58 : Ref sig .tc := ⟨.hbm, 100, rfl⟩
abbrev main_c_19 : Ref sig .tc := ⟨.hbm, 101, rfl⟩
abbrev main_c_20 : Ref sig .tc := ⟨.hbm, 102, rfl⟩
abbrev main_call3_v0 : Ref sig .tc := ⟨.hbm, 103, rfl⟩
abbrev main_call3_v1 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_21 : Ref sig .tc := ⟨.hbm, 108, rfl⟩
abbrev main_v62 : Ref sig .tc := ⟨.hbm, 109, rfl⟩
abbrev main_v63 : Ref sig .tc := ⟨.hbm, 110, rfl⟩
abbrev main_c_22 : Ref sig .tc := ⟨.hbm, 111, rfl⟩
abbrev main_c_23 : Ref sig .tc := ⟨.hbm, 112, rfl⟩
abbrev main_call4_v0 : Ref sig .tc := ⟨.hbm, 113, rfl⟩
abbrev main_call4_v1 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_c_24 : Ref sig .tc := ⟨.hbm, 118, rfl⟩
abbrev main_v67 : Ref sig .tc := ⟨.hbm, 119, rfl⟩
abbrev main_v68 : Ref sig .tc := ⟨.hbm, 120, rfl⟩
abbrev main_c_25 : Ref sig .tc := ⟨.hbm, 121, rfl⟩
abbrev main_c_26 : Ref sig .tc := ⟨.hbm, 122, rfl⟩
abbrev main_call5_v0 : Ref sig .tc := ⟨.hbm, 123, rfl⟩
abbrev main_call5_v1 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_c_27 : Ref sig .tc := ⟨.hbm, 128, rfl⟩
abbrev main_v72 : Ref sig .tc := ⟨.hbm, 129, rfl⟩
abbrev main_v73 : Ref sig .tc := ⟨.hbm, 130, rfl⟩
abbrev main_c_28 : Ref sig .tc := ⟨.hbm, 131, rfl⟩
abbrev main_c_29 : Ref sig .tc := ⟨.hbm, 132, rfl⟩
abbrev main_call6_v0 : Ref sig .tc := ⟨.hbm, 133, rfl⟩
abbrev main_call6_v1 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_c_30 : Ref sig .tc := ⟨.hbm, 138, rfl⟩
abbrev main_v77 : Ref sig .tc := ⟨.hbm, 139, rfl⟩
abbrev main_v78 : Ref sig .tc := ⟨.hbm, 140, rfl⟩
abbrev main_c_31 : Ref sig .tc := ⟨.hbm, 141, rfl⟩
abbrev main_c_32 : Ref sig .tc := ⟨.hbm, 142, rfl⟩
abbrev main_call7_v0 : Ref sig .tc := ⟨.hbm, 143, rfl⟩
abbrev main_call7_v1 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_c_33 : Ref sig .tc := ⟨.hbm, 148, rfl⟩
abbrev main_v82 : Ref sig .tc := ⟨.hbm, 149, rfl⟩
abbrev main_v83 : Ref sig .tc := ⟨.hbm, 150, rfl⟩
abbrev main_c_34 : Ref sig .tc := ⟨.hbm, 151, rfl⟩
abbrev main_c_35 : Ref sig .tc := ⟨.hbm, 152, rfl⟩
abbrev main_call8_v0 : Ref sig .tc := ⟨.hbm, 153, rfl⟩
abbrev main_call8_v1 : Ref sig .tc := ⟨.hbm, 154, rfl⟩
abbrev main_v84 : Ref sig .tc := ⟨.hbm, 155, rfl⟩
abbrev main_c_36 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_c_37 : Ref sig .tc := ⟨.hbm, 162, rfl⟩
abbrev main_v90 : Ref sig .tc := ⟨.hbm, 163, rfl⟩
abbrev main_v91 : Ref sig .tc := ⟨.hbm, 164, rfl⟩
abbrev main_c_38 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_c_39 : Ref sig .tc := ⟨.hbm, 171, rfl⟩
abbrev main_v97 : Ref sig .tc := ⟨.hbm, 172, rfl⟩
abbrev main_v98 : Ref sig .tc := ⟨.hbm, 173, rfl⟩
abbrev main_c_40 : Ref sig .tc := ⟨.hbm, 174, rfl⟩
abbrev main_v99 : Ref sig .tc := ⟨.hbm, 175, rfl⟩
abbrev main_v100 : Ref sig .tc := ⟨.hbm, 176, rfl⟩
abbrev main_c_41 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_cst_42 : Ref sig .tc := ⟨.hbm, 187, rfl⟩
abbrev main_v110 : Ref sig .tc := ⟨.hbm, 188, rfl⟩
abbrev main_v111 : Ref sig .tc := ⟨.hbm, 189, rfl⟩
abbrev main_cst_43 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_c_44 : Ref sig .tc := ⟨.hbm, 195, rfl⟩
abbrev main_v116 : Ref sig .tc := ⟨.hbm, 196, rfl⟩
abbrev main_v117 : Ref sig .tc := ⟨.hbm, 197, rfl⟩
abbrev main_c_45 : Ref sig .tc := ⟨.hbm, 198, rfl⟩
abbrev main_v118 : Ref sig .tc := ⟨.hbm, 199, rfl⟩
abbrev main_v119 : Ref sig .tc := ⟨.hbm, 200, rfl⟩
abbrev main_cst_46 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_cst_47 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_c_48 : Ref sig .tc := ⟨.hbm, 212, rfl⟩
abbrev main_v129 : Ref sig .tc := ⟨.hbm, 213, rfl⟩
abbrev main_v130 : Ref sig .tc := ⟨.hbm, 214, rfl⟩
abbrev main_c_49 : Ref sig .tc := ⟨.hbm, 215, rfl⟩
abbrev main_v131 : Ref sig .tc := ⟨.hbm, 216, rfl⟩
abbrev main_v132 : Ref sig .tc := ⟨.hbm, 217, rfl⟩
abbrev main_cst_50 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138_0 : Ref sig .tc := ⟨.hbm, 224, rfl⟩
abbrev main_v138_1 : Ref sig .tc := ⟨.hbm, 225, rfl⟩
abbrev main_v138_2 : Ref sig .tc := ⟨.hbm, 226, rfl⟩
abbrev main_v138_3 : Ref sig .tc := ⟨.hbm, 227, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg0 : BitVec 32 := BitVec.ofNat 32 (i 0).val
  let c8192_i32 : BitVec 32 := 8192#32
  let v0 : BitVec 32 := Scalar.muli arg0 c8192_i32
  let arg1 : BitVec 32 := BitVec.ofNat 32 (i 1).val
  let c256_i32 : BitVec 32 := 256#32
  let v1 : BitVec 32 := Scalar.muli arg1 c256_i32
  let c512_i32 : BitVec 32 := 512#32
  let v2 : BitVec 32 := Scalar.subi v1 c512_i32
  let c0_i32 : BitVec 32 := 0#32
  let v3 : BitVec 32 := Scalar.maxsi v2 c0_i32
  let v4 : BitVec 32 := Scalar.addi v0 v3
  v4
def k0_mult2 (i : grid0.Coords) : BitVec 32 :=
  let arg0 : BitVec 32 := BitVec.ofNat 32 (i 0).val
  let c8192_i32 : BitVec 32 := 8192#32
  let v0 : BitVec 32 := Scalar.muli arg0 c8192_i32
  let arg1 : BitVec 32 := BitVec.ofNat 32 (i 1).val
  let c256_i32 : BitVec 32 := 256#32
  let v1 : BitVec 32 := Scalar.muli arg1 c256_i32
  let c512_i32 : BitVec 32 := 512#32
  let v2 : BitVec 32 := Scalar.subi v1 c512_i32
  let c0_i32 : BitVec 32 := 0#32
  let v3 : BitVec 32 := Scalar.maxsi v2 c0_i32
  let v4 : BitVec 32 := Scalar.addi v0 v3
  v4
def k0_mult3 (i : grid0.Coords) : BitVec 32 :=
  let arg0 : BitVec 32 := BitVec.ofNat 32 (i 0).val
  let c8192_i32 : BitVec 32 := 8192#32
  let v0 : BitVec 32 := Scalar.muli arg0 c8192_i32
  let arg1 : BitVec 32 := BitVec.ofNat 32 (i 1).val
  let c256_i32 : BitVec 32 := 256#32
  let v1 : BitVec 32 := Scalar.muli arg1 c256_i32
  let c128_i32 : BitVec 32 := 128#32
  let v2 : BitVec 32 := Scalar.subi v1 c128_i32
  let c0_i32 : BitVec 32 := 0#32
  let v3 : BitVec 32 := Scalar.maxsi v2 c0_i32
  let v4 : BitVec 32 := Scalar.addi v0 v3
  v4
def k0_mult4 (i : grid0.Coords) : BitVec 32 :=
  let arg0 : BitVec 32 := BitVec.ofNat 32 (i 0).val
  let c8192_i32 : BitVec 32 := 8192#32
  let v0 : BitVec 32 := Scalar.muli arg0 c8192_i32
  let arg1 : BitVec 32 := BitVec.ofNat 32 (i 1).val
  let c256_i32 : BitVec 32 := 256#32
  let v1 : BitVec 32 := Scalar.muli arg1 c256_i32
  let c128_i32 : BitVec 32 := 128#32
  let v2 : BitVec 32 := Scalar.subi v1 c128_i32
  let c0_i32 : BitVec 32 := 0#32
  let v3 : BitVec 32 := Scalar.maxsi v2 c0_i32
  let v4 : BitVec 32 := Scalar.addi v0 v3
  v4
def k0_mult5 (i : grid0.Coords) : BitVec 32 :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c128_i32 : BitVec 32 := 128#32
  let v11 : BitVec 32 := Scalar.muli v10 c128_i32
  let c512_i32 : BitVec 32 := 512#32
  let v12 : BitVec 32 := Scalar.subi v11 c512_i32
  let c0_i32_11 : BitVec 32 := 0#32
  let v13 : BitVec 32 := Scalar.maxsi v12 c0_i32_11
  let c128_i32_12 : BitVec 32 := 128#32
  let v14 : BitVec 32 := Scalar.muli v9 c128_i32_12
  let c512_i32_13 : BitVec 32 := 512#32
  let v15 : BitVec 32 := Scalar.subi v14 c512_i32_13
  let c0_i32_14 : BitVec 32 := 0#32
  let v16 : BitVec 32 := Scalar.maxsi v15 c0_i32_14
  let v17 : BitVec 32 := Scalar.subi v13 v16
  v17
def k0_mult6 (i : grid0.Coords) : BitVec 32 :=
  let arg1 : BitVec 32 := BitVec.ofNat 32 (i 1).val
  let c2_i32 : BitVec 32 := 2#32
  let v9 : BitVec 32 := Scalar.muli arg1 c2_i32
  let c0_i32_15 : BitVec 32 := 0#32
  let v19 : BitVec 32 := Scalar.addi v9 c0_i32_15
  let c128_i32_16 : BitVec 32 := 128#32
  let v20 : BitVec 32 := Scalar.muli v19 c128_i32_16
  let c128_i32_17 : BitVec 32 := 128#32
  let v21 : BitVec 32 := Scalar.subi v20 c128_i32_17
  let c0_i32_18 : BitVec 32 := 0#32
  let v22 : BitVec 32 := Scalar.maxsi v21 c0_i32_18
  let c128_i32_19 : BitVec 32 := 128#32
  let v23 : BitVec 32 := Scalar.muli v9 c128_i32_19
  let c128_i32_20 : BitVec 32 := 128#32
  let v24 : BitVec 32 := Scalar.subi v23 c128_i32_20
  let c0_i32_21 : BitVec 32 := 0#32
  let v25 : BitVec 32 := Scalar.maxsi v24 c0_i32_21
  let v26 : BitVec 32 := Scalar.subi v22 v25
  v26
def k0_mult7 (i : grid0.Coords) : BitVec 32 :=
  let arg1 : BitVec 32 := BitVec.ofNat 32 (i 1).val
  let c2_i32 : BitVec 32 := 2#32
  let v9 : BitVec 32 := Scalar.muli arg1 c2_i32
  let c1_i32 : BitVec 32 := 1#32
  let v28 : BitVec 32 := Scalar.addi v9 c1_i32
  let c128_i32_22 : BitVec 32 := 128#32
  let v29 : BitVec 32 := Scalar.muli v28 c128_i32_22
  let c512_i32_23 : BitVec 32 := 512#32
  let v30 : BitVec 32 := Scalar.subi v29 c512_i32_23
  let c0_i32_24 : BitVec 32 := 0#32
  let v31 : BitVec 32 := Scalar.maxsi v30 c0_i32_24
  let c128_i32_25 : BitVec 32 := 128#32
  let v32 : BitVec 32 := Scalar.muli v9 c128_i32_25
  let c512_i32_26 : BitVec 32 := 512#32
  let v33 : BitVec 32 := Scalar.subi v32 c512_i32_26
  let c0_i32_27 : BitVec 32 := 0#32
  let v34 : BitVec 32 := Scalar.maxsi v33 c0_i32_27
  let v35 : BitVec 32 := Scalar.subi v31 v34
  v35
def k0_mult8 (i : grid0.Coords) : BitVec 32 :=
  let arg1 : BitVec 32 := BitVec.ofNat 32 (i 1).val
  let c2_i32 : BitVec 32 := 2#32
  let v9 : BitVec 32 := Scalar.muli arg1 c2_i32
  let c1_i32_28 : BitVec 32 := 1#32
  let v37 : BitVec 32 := Scalar.addi v9 c1_i32_28
  let c128_i32_29 : BitVec 32 := 128#32
  let v38 : BitVec 32 := Scalar.muli v37 c128_i32_29
  let c128_i32_30 : BitVec 32 := 128#32
  let v39 : BitVec 32 := Scalar.subi v38 c128_i32_30
  let c0_i32_31 : BitVec 32 := 0#32
  let v40 : BitVec 32 := Scalar.maxsi v39 c0_i32_31
  let c128_i32_32 : BitVec 32 := 128#32
  let v41 : BitVec 32 := Scalar.muli v9 c128_i32_32
  let c128_i32_33 : BitVec 32 := 128#32
  let v42 : BitVec 32 := Scalar.subi v41 c128_i32_33
  let c0_i32_34 : BitVec 32 := 0#32
  let v43 : BitVec 32 := Scalar.maxsi v42 c0_i32_34
  let v44 : BitVec 32 := Scalar.subi v40 v43
  v44
def k0_off1 (i : grid0.Coords) (c0_i32 : BitVec 32) : Fin 2 → Nat :=
  let arg1 : BitVec 32 := BitVec.ofNat 32 (i 1).val
  let c2_i32 : BitVec 32 := 2#32
  let v9 : BitVec 32 := Scalar.muli arg1 c2_i32
  let v10 : BitVec 32 := Scalar.addi v9 c0_i32
  let c128_i32 : BitVec 32 := 128#32
  let v11 : BitVec 32 := Scalar.muli v10 c128_i32
  let c512_i32 : BitVec 32 := 512#32
  let v12 : BitVec 32 := Scalar.subi v11 c512_i32
  let c0_i32_11 : BitVec 32 := 0#32
  let v13 : BitVec 32 := Scalar.maxsi v12 c0_i32_11
  let c128_i32_12 : BitVec 32 := 128#32
  let v14 : BitVec 32 := Scalar.muli v9 c128_i32_12
  let c512_i32_13 : BitVec 32 := 512#32
  let v15 : BitVec 32 := Scalar.subi v14 c512_i32_13
  let c0_i32_14 : BitVec 32 := 0#32
  let v16 : BitVec 32 := Scalar.maxsi v15 c0_i32_14
  let v17 : BitVec 32 := Scalar.subi v13 v16
  let v18 : BitVec 32 := v17
  let v56 : Index := Scalar.indexCast v18
  let c0_45 : Index := 0#32
  ![v56.toNat, 0]
def k0_off2 (i : grid0.Coords) (c0_i32 : BitVec 32) : Fin 2 → Nat :=
  let arg1 : BitVec 32 := BitVec.ofNat 32 (i 1).val
  let c2_i32 : BitVec 32 := 2#32
  let v9 : BitVec 32 := Scalar.muli arg1 c2_i32
  let v10 : BitVec 32 := Scalar.addi v9 c0_i32
  let c128_i32 : BitVec 32 := 128#32
  let v11 : BitVec 32 := Scalar.muli v10 c128_i32
  let c512_i32 : BitVec 32 := 512#32
  let v12 : BitVec 32 := Scalar.subi v11 c512_i32
  let c0_i32_11 : BitVec 32 := 0#32
  let v13 : BitVec 32 := Scalar.maxsi v12 c0_i32_11
  let c128_i32_12 : BitVec 32 := 128#32
  let v14 : BitVec 32 := Scalar.muli v9 c128_i32_12
  let c512_i32_13 : BitVec 32 := 512#32
  let v15 : BitVec 32 := Scalar.subi v14 c512_i32_13
  let c0_i32_14 : BitVec 32 := 0#32
  let v16 : BitVec 32 := Scalar.maxsi v15 c0_i32_14
  let v17 : BitVec 32 := Scalar.subi v13 v16
  let v18 : BitVec 32 := v17
  let v70 : Index := Scalar.indexCast v18
  let c128_54 : Index := 128#32
  ![v70.toNat, 128]
def k0_off3 (i : grid0.Coords) (c0_i32 : BitVec 32) : Fin 2 → Nat :=
  let arg1 : BitVec 32 := BitVec.ofNat 32 (i 1).val
  let c2_i32 : BitVec 32 := 2#32
  let v9 : BitVec 32 := Scalar.muli arg1 c2_i32
  let v10 : BitVec 32 := Scalar.addi v9 c0_i32
  let c128_i32 : BitVec 32 := 128#32
  let v11 : BitVec 32 := Scalar.muli v10 c128_i32
  let c512_i32 : BitVec 32 := 512#32
  let v12 : BitVec 32 := Scalar.subi v11 c512_i32
  let c0_i32_11 : BitVec 32 := 0#32
  let v13 : BitVec 32 := Scalar.maxsi v12 c0_i32_11
  let c128_i32_12 : BitVec 32 := 128#32
  let v14 : BitVec 32 := Scalar.muli v9 c128_i32_12
  let c512_i32_13 : BitVec 32 := 512#32
  let v15 : BitVec 32 := Scalar.subi v14 c512_i32_13
  let c0_i32_14 : BitVec 32 := 0#32
  let v16 : BitVec 32 := Scalar.maxsi v15 c0_i32_14
  let v17 : BitVec 32 := Scalar.subi v13 v16
  let v18 : BitVec 32 := v17
  let v84 : Index := Scalar.indexCast v18
  let c256_64 : Index := 256#32
  ![v84.toNat, 256]
def k0_off4 (i : grid0.Coords) (c0_i32 : BitVec 32) : Fin 2 → Nat :=
  let arg1 : BitVec 32 := BitVec.ofNat 32 (i 1).val
  let c2_i32 : BitVec 32 := 2#32
  let v9 : BitVec 32 := Scalar.muli arg1 c2_i32
  let v10 : BitVec 32 := Scalar.addi v9 c0_i32
  let c128_i32 : BitVec 32 := 128#32
  let v11 : BitVec 32 := Scalar.muli v10 c128_i32
  let c512_i32 : BitVec 32 := 512#32
  let v12 : BitVec 32 := Scalar.subi v11 c512_i32
  let c0_i32_11 : BitVec 32 := 0#32
  let v13 : BitVec 32 := Scalar.maxsi v12 c0_i32_11
  let c128_i32_12 : BitVec 32 := 128#32
  let v14 : BitVec 32 := Scalar.muli v9 c128_i32_12
  let c512_i32_13 : BitVec 32 := 512#32
  let v15 : BitVec 32 := Scalar.subi v14 c512_i32_13
  let c0_i32_14 : BitVec 32 := 0#32
  let v16 : BitVec 32 := Scalar.maxsi v15 c0_i32_14
  let v17 : BitVec 32 := Scalar.subi v13 v16
  let v18 : BitVec 32 := v17
  let v98 : Index := Scalar.indexCast v18
  let c384_74 : Index := 384#32
  ![v98.toNat, 384]
def k0_off5 (i : grid0.Coords) (c0_i32_15 : BitVec 32) : Fin 2 → Nat :=
  let arg1 : BitVec 32 := BitVec.ofNat 32 (i 1).val
  let c2_i32 : BitVec 32 := 2#32
  let v9 : BitVec 32 := Scalar.muli arg1 c2_i32
  let v19 : BitVec 32 := Scalar.addi v9 c0_i32_15
  let c128_i32_16 : BitVec 32 := 128#32
  let v20 : BitVec 32 := Scalar.muli v19 c128_i32_16
  let c128_i32_17 : BitVec 32 := 128#32
  let v21 : BitVec 32 := Scalar.subi v20 c128_i32_17
  let c0_i32_18 : BitVec 32 := 0#32
  let v22 : BitVec 32 := Scalar.maxsi v21 c0_i32_18
  let c128_i32_19 : BitVec 32 := 128#32
  let v23 : BitVec 32 := Scalar.muli v9 c128_i32_19
  let c128_i32_20 : BitVec 32 := 128#32
  let v24 : BitVec 32 := Scalar.subi v23 c128_i32_20
  let c0_i32_21 : BitVec 32 := 0#32
  let v25 : BitVec 32 := Scalar.maxsi v24 c0_i32_21
  let v26 : BitVec 32 := Scalar.subi v22 v25
  let v27 : BitVec 32 := v26
  let v192 : Index := Scalar.indexCast v27
  let c0_148 : Index := 0#32
  ![v192.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let c256_i32 : BitVec 32 := 256#32
  let v1 : BitVec 32 := Scalar.muli arg1 c256_i32
  let c512_i32 : BitVec 32 := 512#32
  let v2 : BitVec 32 := Scalar.subi v1 c512_i32
  let c0_i32 : BitVec 32 := 0#32
  let v3 : BitVec 32 := Scalar.maxsi v2 c0_i32
  let v4 : BitVec 32 := Scalar.addi v0 v3
  let v5 : BitVec 32 := v4
  let c0_i32_0 : BitVec 32 := 0#32
  let c0_i32_1 : BitVec 32 := 0#32
  ![v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let c256_i32 : BitVec 32 := 256#32
  let v1 : BitVec 32 := Scalar.muli arg1 c256_i32
  let c512_i32 : BitVec 32 := 512#32
  let v2 : BitVec 32 := Scalar.subi v1 c512_i32
  let c0_i32 : BitVec 32 := 0#32
  let v3 : BitVec 32 := Scalar.maxsi v2 c0_i32
  let v4 : BitVec 32 := Scalar.addi v0 v3
  let v5 : BitVec 32 := v4
  let c0_i32_0 : BitVec 32 := 0#32
  let c0_i32_1 : BitVec 32 := 0#32
  ![v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let c256_i32 : BitVec 32 := 256#32
  let v1 : BitVec 32 := Scalar.muli arg1 c256_i32
  let c128_i32 : BitVec 32 := 128#32
  let v2 : BitVec 32 := Scalar.subi v1 c128_i32
  let c0_i32 : BitVec 32 := 0#32
  let v3 : BitVec 32 := Scalar.maxsi v2 c0_i32
  let v4 : BitVec 32 := Scalar.addi v0 v3
  let v5 : BitVec 32 := v4
  let c0_i32_0 : BitVec 32 := 0#32
  let c0_i32_1 : BitVec 32 := 0#32
  ![v5.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let c256_i32 : BitVec 32 := 256#32
  let v1 : BitVec 32 := Scalar.muli arg1 c256_i32
  let c128_i32 : BitVec 32 := 128#32
  let v2 : BitVec 32 := Scalar.subi v1 c128_i32
  let c0_i32 : BitVec 32 := 0#32
  let v3 : BitVec 32 := Scalar.maxsi v2 c0_i32
  let v4 : BitVec 32 := Scalar.addi v0 v3
  let v5 : BitVec 32 := v4
  let c0_i32_0 : BitVec 32 := 0#32
  let c0_i32_1 : BitVec 32 := 0#32
  ![v5.toNat, c0_i32_0.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c4_i32 : BitVec 32 := 4#32
  let v2 : BitVec 32 := Scalar.minsi v1 c4_i32
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c4_i32 : BitVec 32 := 4#32
  let v2 : BitVec 32 := Scalar.minsi v1 c4_i32
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.minsi v1 c1_i32
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.minsi v1 c1_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S16x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S176x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x512 : Shape := ⟨2, ![16384, 512]⟩
abbrev S16384x128 : Shape := ⟨2, ![16384, 128]⟩
abbrev S8x257 : Shape := ⟨2, ![8, 257]⟩
abbrev S8x32 : Shape := ⟨2, ![8, 32]⟩
abbrev S8 : Shape := ⟨1, ![8]⟩
abbrev S1024x2816 : Shape := ⟨2, ![1024, 2816]⟩
abbrev S2816x1024 : Shape := ⟨2, ![2816, 1024]⟩
abbrev S576 : Shape := ⟨1, ![576]⟩
abbrev S1x576 : Shape := ⟨2, ![1, 576]⟩
abbrev S64 : Shape := ⟨1, ![64]⟩
abbrev S_ : Shape := ⟨0, ![]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S2x8192x8x64 : Shape := ⟨4, ![2, 8192, 8, 64]⟩
abbrev S2x128x64x8x64 : Shape := ⟨5, ![2, 128, 64, 8, 64]⟩
abbrev S2x136x64x8x64 : Shape := ⟨5, ![2, 136, 64, 8, 64]⟩
abbrev S128 : Shape := ⟨1, ![128]⟩
abbrev S128x1 : Shape := ⟨2, ![128, 1]⟩
abbrev S9 : Shape := ⟨1, ![9]⟩
abbrev S1x9 : Shape := ⟨2, ![1, 9]⟩
abbrev S128x9 : Shape := ⟨2, ![128, 9]⟩
abbrev S128x9x1 : Shape := ⟨3, ![128, 9, 1]⟩
abbrev S2x128x9x64x8x64 : Shape := ⟨6, ![2, 128, 9, 64, 8, 64]⟩
abbrev S2x128x576x8x64 : Shape := ⟨5, ![2, 128, 576, 8, 64]⟩
abbrev S128x576 : Shape := ⟨2, ![128, 576]⟩
abbrev S128x1x576 : Shape := ⟨3, ![128, 1, 576]⟩
abbrev S2x128x8x64x576 : Shape := ⟨5, ![2, 128, 8, 64, 576]⟩
abbrev S1x1x8x64x576 : Shape := ⟨5, ![1, 1, 8, 64, 576]⟩
abbrev S1x128x1x1x576 : Shape := ⟨5, ![1, 128, 1, 1, 576]⟩
abbrev S2x128x8x64 : Shape := ⟨4, ![2, 128, 8, 64]⟩
abbrev S2x128x8x64x1 : Shape := ⟨5, ![2, 128, 8, 64, 1]⟩
abbrev S2x128x8x64x64 : Shape := ⟨5, ![2, 128, 8, 64, 64]⟩
abbrev S192 : Shape := ⟨1, ![192]⟩
abbrev S1x192 : Shape := ⟨2, ![1, 192]⟩
abbrev S64x192 : Shape := ⟨2, ![64, 192]⟩
abbrev S64x192x1 : Shape := ⟨3, ![64, 192, 1]⟩
abbrev S8x64x192 : Shape := ⟨3, ![8, 64, 192]⟩
abbrev S2x128x64x2x4x64 : Shape := ⟨6, ![2, 128, 64, 2, 4, 64]⟩
abbrev S2x8192x2x64 : Shape := ⟨4, ![2, 8192, 2, 64]⟩
abbrev S2x128x64x2x64 : Shape := ⟨5, ![2, 128, 64, 2, 64]⟩
abbrev S2x130x64x2x64 : Shape := ⟨5, ![2, 130, 64, 2, 64]⟩
abbrev S3 : Shape := ⟨1, ![3]⟩
abbrev S1x3 : Shape := ⟨2, ![1, 3]⟩
abbrev S128x3 : Shape := ⟨2, ![128, 3]⟩
abbrev S128x3x1 : Shape := ⟨3, ![128, 3, 1]⟩
abbrev S2x128x3x64x2x64 : Shape := ⟨6, ![2, 128, 3, 64, 2, 64]⟩
abbrev S2x128x192x2x64 : Shape := ⟨5, ![2, 128, 192, 2, 64]⟩
abbrev S128x192 : Shape := ⟨2, ![128, 192]⟩
abbrev S128x1x192 : Shape := ⟨3, ![128, 1, 192]⟩
abbrev S2x128x2x192x64x4 : Shape := ⟨6, ![2, 128, 2, 192, 64, 4]⟩
abbrev S2x128x2x4x64x192 : Shape := ⟨6, ![2, 128, 2, 4, 64, 192]⟩
abbrev S2x4x64x192 : Shape := ⟨4, ![2, 4, 64, 192]⟩
abbrev S1x1x2x4x64x192 : Shape := ⟨6, ![1, 1, 2, 4, 64, 192]⟩
abbrev S1x128x1x1x1x192 : Shape := ⟨6, ![1, 128, 1, 1, 1, 192]⟩
abbrev S2x4x1x1 : Shape := ⟨4, ![2, 4, 1, 1]⟩
abbrev S2x128x2x4x64 : Shape := ⟨5, ![2, 128, 2, 4, 64]⟩
abbrev S2x128x2x4x64x1 : Shape := ⟨6, ![2, 128, 2, 4, 64, 1]⟩
abbrev S1x1x2x4x1x1 : Shape := ⟨6, ![1, 1, 2, 4, 1, 1]⟩
abbrev S2x128x2x64x4x64 : Shape := ⟨6, ![2, 128, 2, 64, 4, 64]⟩
abbrev S16384x2x4x64 : Shape := ⟨4, ![16384, 2, 4, 64]⟩
abbrev S16384x4x2x64 : Shape := ⟨4, ![16384, 4, 2, 64]⟩
abbrev S16384x1024 : Shape := ⟨2, ![16384, 1024]⟩

abbrev nBuf : Space → Nat
  | .hbm => 303
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .bf16⟩
  | 3 => ⟨S16384x512, .bf16⟩
  | 4 => ⟨S16384x128, .bf16⟩
  | 5 => ⟨S16384x128, .bf16⟩
  | 6 => ⟨S8x257, .f32⟩
  | 7 => ⟨S8x32, .f32⟩
  | 8 => ⟨S8, .f32⟩
  | 9 => ⟨S1024x2816, .f32⟩
  | 10 => ⟨S1024x2816, .f32⟩
  | 11 => ⟨S2816x1024, .f32⟩
  | 12 => ⟨S576, .i32⟩
  | 13 => ⟨S1x576, .i32⟩
  | 14 => ⟨S64, .i32⟩
  | 15 => ⟨S_, .i32⟩
  | 16 => ⟨S64, .i32⟩
  | 17 => ⟨S64, .i32⟩
  | 18 => ⟨S64x1, .i32⟩
  | 19 => ⟨S64x576, .i32⟩
  | 20 => ⟨S64x576, .i32⟩
  | 21 => ⟨S64x576, .i32⟩
  | 22 => ⟨S_, .i32⟩
  | 23 => ⟨S_, .i32⟩
  | 24 => ⟨S_, .i32⟩
  | 25 => ⟨S64x576, .i32⟩
  | 26 => ⟨S64x576, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i1⟩
  | 36 => ⟨S_, .i32⟩
  | 37 => ⟨S64x576, .i32⟩
  | 38 => ⟨S64x576, .i32⟩
  | 39 => ⟨S64x576, .i32⟩
  | 40 => ⟨S64x576x1, .i32⟩
  | 41 => ⟨S8x64x576, .f32⟩
  | 42 => ⟨S2x8192x8x64, .f32⟩
  | 43 => ⟨S2x128x64x8x64, .f32⟩
  | 44 => ⟨S16384x512, .f32⟩
  | 45 => ⟨S2x8192x8x64, .f32⟩
  | 46 => ⟨S2x128x64x8x64, .f32⟩
  | 47 => ⟨S_, .i32⟩
  | 48 => ⟨S_, .f32⟩
  | 49 => ⟨S2x136x64x8x64, .f32⟩
  | 50 => ⟨S128, .i32⟩
  | 51 => ⟨S128x1, .i32⟩
  | 52 => ⟨S9, .i32⟩
  | 53 => ⟨S1x9, .i32⟩
  | 54 => ⟨S128x9, .i32⟩
  | 55 => ⟨S128x9, .i32⟩
  | 56 => ⟨S128x9, .i32⟩
  | 57 => ⟨S_, .i32⟩
  | 58 => ⟨S128x9, .i32⟩
  | 59 => ⟨S128x9, .i1⟩
  | 60 => ⟨S_, .i32⟩
  | 61 => ⟨S128x9, .i32⟩
  | 62 => ⟨S128x9, .i32⟩
  | 63 => ⟨S128x9, .i32⟩
  | 64 => ⟨S128x9x1, .i32⟩
  | 65 => ⟨S2x128x9x64x8x64, .f32⟩
  | 66 => ⟨S2x128x576x8x64, .f32⟩
  | 67 => ⟨S16384x512, .f32⟩
  | 68 => ⟨S2x8192x8x64, .f32⟩
  | 69 => ⟨S2x128x64x8x64, .f32⟩
  | 70 => ⟨S_, .i32⟩
  | 71 => ⟨S_, .f32⟩
  | 72 => ⟨S2x136x64x8x64, .f32⟩
  | 73 => ⟨S128, .i32⟩
  | 74 => ⟨S128x1, .i32⟩
  | 75 => ⟨S9, .i32⟩
  | 76 => ⟨S1x9, .i32⟩
  | 77 => ⟨S128x9, .i32⟩
  | 78 => ⟨S128x9, .i32⟩
  | 79 => ⟨S128x9, .i32⟩
  | 80 => ⟨S_, .i32⟩
  | 81 => ⟨S128x9, .i32⟩
  | 82 => ⟨S128x9, .i1⟩
  | 83 => ⟨S_, .i32⟩
  | 84 => ⟨S128x9, .i32⟩
  | 85 => ⟨S128x9, .i32⟩
  | 86 => ⟨S128x9, .i32⟩
  | 87 => ⟨S128x9x1, .i32⟩
  | 88 => ⟨S2x128x9x64x8x64, .f32⟩
  | 89 => ⟨S2x128x576x8x64, .f32⟩
  | 90 => ⟨S128, .i32⟩
  | 91 => ⟨S128x1, .i32⟩
  | 92 => ⟨S_, .i32⟩
  | 93 => ⟨S128x1, .i32⟩
  | 94 => ⟨S128x1, .i32⟩
  | 95 => ⟨S_, .i32⟩
  | 96 => ⟨S128x1, .i32⟩
  | 97 => ⟨S128x1, .i32⟩
  | 98 => ⟨S576, .i32⟩
  | 99 => ⟨S1x576, .i32⟩
  | 100 => ⟨S128x576, .i32⟩
  | 101 => ⟨S128x576, .i32⟩
  | 102 => ⟨S128x576, .i32⟩
  | 103 => ⟨S_, .i32⟩
  | 104 => ⟨S128x576, .i32⟩
  | 105 => ⟨S128x576, .i1⟩
  | 106 => ⟨S128x1x576, .i1⟩
  | 107 => ⟨S2x128x8x64x576, .f32⟩
  | 108 => ⟨S_, .f32⟩
  | 109 => ⟨S2x128x8x64x576, .f32⟩
  | 110 => ⟨S2x128x8x64x576, .f32⟩
  | 111 => ⟨S1x1x8x64x576, .f32⟩
  | 112 => ⟨S2x128x8x64x576, .f32⟩
  | 113 => ⟨S2x128x8x64x576, .f32⟩
  | 114 => ⟨S1x128x1x1x576, .i1⟩
  | 115 => ⟨S_, .f32⟩
  | 116 => ⟨S_, .f32⟩
  | 117 => ⟨S2x128x8x64x576, .i1⟩
  | 118 => ⟨S2x128x8x64x576, .f32⟩
  | 119 => ⟨S2x128x8x64x576, .f32⟩
  | 120 => ⟨S_, .f32⟩
  | 121 => ⟨S2x128x8x64, .f32⟩
  | 122 => ⟨S_, .f32⟩
  | 123 => ⟨S2x128x8x64, .f32⟩
  | 124 => ⟨S2x128x8x64, .f32⟩
  | 125 => ⟨S2x128x8x64x1, .f32⟩
  | 126 => ⟨S2x128x8x64x576, .f32⟩
  | 127 => ⟨S2x128x8x64x576, .f32⟩
  | _ => ⟨S16384x512, .f32⟩

abbrev hbmTy0_1 (i : Nat) : BufTy := match i % 128 with
  | 0 => ⟨S2x128x8x64x576, .f32⟩
  | 1 => ⟨S_, .f32⟩
  | 2 => ⟨S2x128x8x64, .f32⟩
  | 3 => ⟨S2x128x8x64x1, .f32⟩
  | 4 => ⟨S2x128x8x64x576, .f32⟩
  | 5 => ⟨S2x128x8x64x576, .f32⟩
  | 6 => ⟨S2x128x8x64x64, .f32⟩
  | 7 => ⟨S2x128x64x8x64, .f32⟩
  | 8 => ⟨S192, .i32⟩
  | 9 => ⟨S1x192, .i32⟩
  | 10 => ⟨S64, .i32⟩
  | 11 => ⟨S_, .i32⟩
  | 12 => ⟨S64, .i32⟩
  | 13 => ⟨S64, .i32⟩
  | 14 => ⟨S64x1, .i32⟩
  | 15 => ⟨S64x192, .i32⟩
  | 16 => ⟨S64x192, .i32⟩
  | 17 => ⟨S64x192, .i32⟩
  | 18 => ⟨S64x192, .i32⟩
  | 19 => ⟨S_, .i32⟩
  | 20 => ⟨S64x192, .i32⟩
  | 21 => ⟨S64x192, .i1⟩
  | 22 => ⟨S_, .i32⟩
  | 23 => ⟨S_, .i32⟩
  | 24 => ⟨S64x192, .i32⟩
  | 25 => ⟨S64x192, .i32⟩
  | 26 => ⟨S64x192, .i32⟩
  | 27 => ⟨S_, .i32⟩
  | 28 => ⟨S64x192, .i32⟩
  | 29 => ⟨S64x192, .i32⟩
  | 30 => ⟨S64x192, .f32⟩
  | 31 => ⟨S_, .f32⟩
  | 32 => ⟨S64x192, .f32⟩
  | 33 => ⟨S64x192, .f32⟩
  | 34 => ⟨S64x192, .f32⟩
  | 35 => ⟨S_, .f32⟩
  | 36 => ⟨S_, .f32⟩
  | 37 => ⟨S64x192, .f32⟩
  | 38 => ⟨S64x192, .f32⟩
  | 39 => ⟨S_, .f32⟩
  | 40 => ⟨S64x192, .f32⟩
  | 41 => ⟨S64x192, .f32⟩
  | 42 => ⟨S64x192, .i32⟩
  | 43 => ⟨S_, .i32⟩
  | 44 => ⟨S64x192, .i32⟩
  | 45 => ⟨S64x192, .i32⟩
  | 46 => ⟨S_, .i32⟩
  | 47 => ⟨S64x192, .i32⟩
  | 48 => ⟨S64x192, .i32⟩
  | 49 => ⟨S_, .i32⟩
  | 50 => ⟨S64x192, .i32⟩
  | 51 => ⟨S64x192, .i1⟩
  | 52 => ⟨S64x192, .i32⟩
  | 53 => ⟨S64x192, .i32⟩
  | 54 => ⟨S64x192, .i32⟩
  | 55 => ⟨S_, .i32⟩
  | 56 => ⟨S64x192, .i32⟩
  | 57 => ⟨S64x192, .i1⟩
  | 58 => ⟨S_, .i32⟩
  | 59 => ⟨S64x192, .i32⟩
  | 60 => ⟨S64x192, .i32⟩
  | 61 => ⟨S64x192, .i32⟩
  | 62 => ⟨S64x192x1, .i32⟩
  | 63 => ⟨S8x64x192, .f32⟩
  | 64 => ⟨S2x8192x8x64, .f32⟩
  | 65 => ⟨S2x128x64x2x4x64, .f32⟩
  | 66 => ⟨S16384x128, .f32⟩
  | 67 => ⟨S2x8192x2x64, .f32⟩
  | 68 => ⟨S2x128x64x2x64, .f32⟩
  | 69 => ⟨S_, .i32⟩
  | 70 => ⟨S_, .f32⟩
  | 71 => ⟨S2x130x64x2x64, .f32⟩
  | 72 => ⟨S128, .i32⟩
  | 73 => ⟨S128x1, .i32⟩
  | 74 => ⟨S3, .i32⟩
  | 75 => ⟨S1x3, .i32⟩
  | 76 => ⟨S128x3, .i32⟩
  | 77 => ⟨S128x3, .i32⟩
  | 78 => ⟨S128x3, .i32⟩
  | 79 => ⟨S_, .i32⟩
  | 80 => ⟨S128x3, .i32⟩
  | 81 => ⟨S128x3, .i1⟩
  | 82 => ⟨S_, .i32⟩
  | 83 => ⟨S128x3, .i32⟩
  | 84 => ⟨S128x3, .i32⟩
  | 85 => ⟨S128x3, .i32⟩
  | 86 => ⟨S128x3x1, .i32⟩
  | 87 => ⟨S2x128x3x64x2x64, .f32⟩
  | 88 => ⟨S2x128x192x2x64, .f32⟩
  | 89 => ⟨S16384x128, .f32⟩
  | 90 => ⟨S2x8192x2x64, .f32⟩
  | 91 => ⟨S2x128x64x2x64, .f32⟩
  | 92 => ⟨S_, .i32⟩
  | 93 => ⟨S_, .f32⟩
  | 94 => ⟨S2x130x64x2x64, .f32⟩
  | 95 => ⟨S128, .i32⟩
  | 96 => ⟨S128x1, .i32⟩
  | 97 => ⟨S3, .i32⟩
  | 98 => ⟨S1x3, .i32⟩
  | 99 => ⟨S128x3, .i32⟩
  | 100 => ⟨S128x3, .i32⟩
  | 101 => ⟨S128x3, .i32⟩
  | 102 => ⟨S_, .i32⟩
  | 103 => ⟨S128x3, .i32⟩
  | 104 => ⟨S128x3, .i1⟩
  | 105 => ⟨S_, .i32⟩
  | 106 => ⟨S128x3, .i32⟩
  | 107 => ⟨S128x3, .i32⟩
  | 108 => ⟨S128x3, .i32⟩
  | 109 => ⟨S128x3x1, .i32⟩
  | 110 => ⟨S2x128x3x64x2x64, .f32⟩
  | 111 => ⟨S2x128x192x2x64, .f32⟩
  | 112 => ⟨S128, .i32⟩
  | 113 => ⟨S128x1, .i32⟩
  | 114 => ⟨S_, .i32⟩
  | 115 => ⟨S128x1, .i32⟩
  | 116 => ⟨S128x1, .i32⟩
  | 117 => ⟨S_, .i32⟩
  | 118 => ⟨S128x1, .i32⟩
  | 119 => ⟨S128x1, .i32⟩
  | 120 => ⟨S192, .i32⟩
  | 121 => ⟨S1x192, .i32⟩
  | 122 => ⟨S128x192, .i32⟩
  | 123 => ⟨S128x192, .i32⟩
  | 124 => ⟨S128x192, .i32⟩
  | 125 => ⟨S_, .i32⟩
  | 126 => ⟨S128x192, .i32⟩
  | 127 => ⟨S128x192, .i1⟩
  | _ => ⟨S16384x512, .f32⟩

abbrev hbmTy0_2 (i : Nat) : BufTy := match i % 128 with
  | 0 => ⟨S128x1x192, .i1⟩
  | 1 => ⟨S2x128x2x192x64x4, .f32⟩
  | 2 => ⟨S2x128x2x4x64x192, .f32⟩
  | 3 => ⟨S_, .f32⟩
  | 4 => ⟨S2x128x2x4x64x192, .f32⟩
  | 5 => ⟨S2x128x2x4x64x192, .f32⟩
  | 6 => ⟨S2x4x64x192, .f32⟩
  | 7 => ⟨S1x1x2x4x64x192, .f32⟩
  | 8 => ⟨S2x128x2x4x64x192, .f32⟩
  | 9 => ⟨S2x128x2x4x64x192, .f32⟩
  | 10 => ⟨S1x128x1x1x1x192, .i1⟩
  | 11 => ⟨S_, .f32⟩
  | 12 => ⟨S_, .f32⟩
  | 13 => ⟨S2x128x2x4x64x192, .i1⟩
  | 14 => ⟨S2x128x2x4x64x192, .f32⟩
  | 15 => ⟨S2x128x2x4x64x192, .f32⟩
  | 16 => ⟨S2x4x1x1, .f32⟩
  | 17 => ⟨S_, .f32⟩
  | 18 => ⟨S2x128x2x4x64, .f32⟩
  | 19 => ⟨S2x128x2x4x64x1, .f32⟩
  | 20 => ⟨S1x1x2x4x1x1, .f32⟩
  | 21 => ⟨S2x128x2x4x64x1, .f32⟩
  | 22 => ⟨S2x128x2x4x64x1, .f32⟩
  | 23 => ⟨S2x128x2x4x64x192, .f32⟩
  | 24 => ⟨S2x128x2x4x64x192, .f32⟩
  | 25 => ⟨S2x128x2x4x64x192, .f32⟩
  | 26 => ⟨S_, .f32⟩
  | 27 => ⟨S2x128x2x4x64, .f32⟩
  | 28 => ⟨S2x128x2x4x64x1, .f32⟩
  | 29 => ⟨S1x1x2x4x1x1, .f32⟩
  | 30 => ⟨S2x128x2x4x64x1, .f32⟩
  | 31 => ⟨S2x128x2x4x64x1, .f32⟩
  | 32 => ⟨S2x128x2x4x64x1, .f32⟩
  | 33 => ⟨S2x128x2x4x64x1, .f32⟩
  | 34 => ⟨S2x128x2x4x64x192, .f32⟩
  | 35 => ⟨S2x128x2x4x64x192, .f32⟩
  | 36 => ⟨S2x128x2x64x4x64, .f32⟩
  | 37 => ⟨S2x128x64x2x4x64, .f32⟩
  | 38 => ⟨S16384x2x4x64, .f32⟩
  | 39 => ⟨S16384x4x2x64, .f32⟩
  | 40 => ⟨S16384x512, .f32⟩
  | 41 => ⟨S16384x512, .f32⟩
  | 42 => ⟨S16384x1024, .f32⟩
  | 43 => ⟨S16384x1024, .bf16⟩
  | 44 => ⟨S1024x2816, .bf16⟩
  | 45 => ⟨S1024x2816, .bf16⟩
  | 46 => ⟨S2816x1024, .bf16⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_call1_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_call2_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_c_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_14 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v80 : Ref sig .tc := ⟨.hbm, 119, rfl⟩
abbrev main_cst_15 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_17 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_c_18 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_19 : Ref sig .tc := ⟨.hbm, 147, rfl⟩
abbrev main_v104 : Ref sig .tc := ⟨.hbm, 148, rfl⟩
abbrev main_v105 : Ref sig .tc := ⟨.hbm, 149, rfl⟩
abbrev main_c_20 : Ref sig .tc := ⟨.hbm, 150, rfl⟩
abbrev main_c_21 : Ref sig .tc := ⟨.hbm, 151, rfl⟩
abbrev main_call4_v0 : Ref sig .tc := ⟨.hbm, 152, rfl⟩
abbrev main_call4_v1 : Ref sig .tc := ⟨.hbm, 153, rfl⟩
abbrev main_v106 : Ref sig .tc := ⟨.hbm, 154, rfl⟩
abbrev main_c_22 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_23 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_24 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_25 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_26 : Ref sig .tc := ⟨.hbm, 171, rfl⟩
abbrev main_v119 : Ref sig .tc := ⟨.hbm, 172, rfl⟩
abbrev main_v120 : Ref sig .tc := ⟨.hbm, 173, rfl⟩
abbrev main_c_27 : Ref sig .tc := ⟨.hbm, 174, rfl⟩
abbrev main_v121 : Ref sig .tc := ⟨.hbm, 175, rfl⟩
abbrev main_v122 : Ref sig .tc := ⟨.hbm, 176, rfl⟩
abbrev main_c_28 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_c_29 : Ref sig .tc := ⟨.hbm, 183, rfl⟩
abbrev main_v128 : Ref sig .tc := ⟨.hbm, 184, rfl⟩
abbrev main_v129 : Ref sig .tc := ⟨.hbm, 185, rfl⟩
abbrev main_c_30 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_c_31 : Ref sig .tc := ⟨.hbm, 197, rfl⟩
abbrev main_call6_v0 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_c_32 : Ref sig .tc := ⟨.hbm, 207, rfl⟩
abbrev main_v148 : Ref sig .tc := ⟨.hbm, 208, rfl⟩
abbrev main_v149 : Ref sig .tc := ⟨.hbm, 209, rfl⟩
abbrev main_c_33 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_c_34 : Ref sig .tc := ⟨.hbm, 220, rfl⟩
abbrev main_call7_v0 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_c_35 : Ref sig .tc := ⟨.hbm, 230, rfl⟩
abbrev main_v167 : Ref sig .tc := ⟨.hbm, 231, rfl⟩
abbrev main_v168 : Ref sig .tc := ⟨.hbm, 232, rfl⟩
abbrev main_c_36 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_c_37 : Ref sig .tc := ⟨.hbm, 242, rfl⟩
abbrev main_v177 : Ref sig .tc := ⟨.hbm, 243, rfl⟩
abbrev main_v178 : Ref sig .tc := ⟨.hbm, 244, rfl⟩
abbrev main_c_38 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_c_39 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_cst_40 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_cst_41 : Ref sig .tc := ⟨.hbm, 267, rfl⟩
abbrev main_call8_v0 : Ref sig .tc := ⟨.hbm, 268, rfl⟩
abbrev main_call8_v1 : Ref sig .tc := ⟨.hbm, 269, rfl⟩
abbrev main_call8_v2 : Ref sig .tc := ⟨.hbm, 270, rfl⟩
abbrev main_v198 : Ref sig .tc := ⟨.hbm, 271, rfl⟩
abbrev main_v199 : Ref sig .tc := ⟨.hbm, 272, rfl⟩
abbrev main_cst_42 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_cst_43 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩

abbrev nD : Nat := 1
abbrev τ : Topo := Topo.v7x

variable {F : FTy → Type} [FloatOps F]
-- ==== Kernel2.lean ====
abbrev S2x8192x1024 : Shape := ⟨3, ![2, 8192, 1024]⟩
abbrev S16384x1024 : Shape := ⟨2, ![16384, 1024]⟩
abbrev S9x2x1024 : Shape := ⟨3, ![9, 2, 1024]⟩
abbrev S6x1024 : Shape := ⟨2, ![6, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S512 : Shape := ⟨1, ![512]⟩
abbrev S2x4x64 : Shape := ⟨3, ![2, 4, 64]⟩
abbrev S4x2x64 : Shape := ⟨3, ![4, 2, 64]⟩
abbrev S1x1024 : Shape := ⟨2, ![1, 1024]⟩
abbrev S9x2x1x1024 : Shape := ⟨4, ![9, 2, 1, 1024]⟩
abbrev S1x1024x1024 : Shape := ⟨3, ![1, 1024, 1024]⟩
abbrev S9x1x1x1024 : Shape := ⟨4, ![9, 1, 1, 1024]⟩
abbrev S1x256x1024 : Shape := ⟨3, ![1, 256, 1024]⟩
abbrev S256x1024 : Shape := ⟨2, ![256, 1024]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S1x1x1x1024 : Shape := ⟨4, ![1, 1, 1, 1024]⟩
abbrev S1x1x1024 : Shape := ⟨3, ![1, 1, 1024]⟩
abbrev S1x256 : Shape := ⟨2, ![1, 256]⟩
abbrev S1x256x1 : Shape := ⟨3, ![1, 256, 1]⟩
abbrev S1024x1536 : Shape := ⟨2, ![1024, 1536]⟩
abbrev S256x1536 : Shape := ⟨2, ![256, 1536]⟩
abbrev S1024x1280 : Shape := ⟨2, ![1024, 1280]⟩
abbrev S256x1280 : Shape := ⟨2, ![256, 1280]⟩
abbrev S1536x1024 : Shape := ⟨2, ![1536, 1024]⟩
abbrev S1280x1024 : Shape := ⟨2, ![1280, 1024]⟩

abbrev nBuf : Space → Nat
  | .hbm => 25
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .bf16⟩
  | .hbm, ⟨2, _⟩ => ⟨S9x2x1024, .f32⟩
  | .hbm, ⟨3, _⟩ => ⟨S6x1024, .f32⟩
  | .hbm, ⟨4, _⟩ => ⟨S1024x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S512x1024, .f32⟩
  | .hbm, ⟨10, _⟩ => ⟨S512x1024, .f32⟩
  | .hbm, ⟨11, _⟩ => ⟨S2x4x64x1024, .f32⟩
  | .hbm, ⟨12, _⟩ => ⟨S4x2x64x1024, .f32⟩
  | .hbm, ⟨13, _⟩ => ⟨S512x1024, .f32⟩
  | .hbm, ⟨14, _⟩ => ⟨S1024x1024, .f32⟩
  | .hbm, ⟨15, _⟩ => ⟨S1024x1024, .bf16⟩
  | .hbm, ⟨16, _⟩ => ⟨S512, .f32⟩
  | .hbm, ⟨17, _⟩ => ⟨S512, .f32⟩
  | .hbm, ⟨18, _⟩ => ⟨S2x4x64, .f32⟩
  | .hbm, ⟨19, _⟩ => ⟨S4x2x64, .f32⟩
  | .hbm, ⟨20, _⟩ => ⟨S512, .f32⟩
  | .hbm, ⟨21, _⟩ => ⟨S1024, .f32⟩
  | .hbm, ⟨22, _⟩ => ⟨S1x1024, .f32⟩
  | .hbm, ⟨23, _⟩ => ⟨S9x2x1x1024, .f32⟩
  | .hbm, ⟨24, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S9x1x1x1024, .f32⟩
  | .local _ .vmem, ⟨5, _⟩ => ⟨S9x1x1x1024, .f32⟩
  | .local _ .vmem, ⟨6, _⟩ => ⟨S6x1024, .f32⟩
  | .local _ .vmem, ⟨7, _⟩ => ⟨S1x1024, .f32⟩
  | .local _ .vmem, ⟨8, _⟩ => ⟨S1024x1024, .bf16⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024x1024, .f32⟩
  | .local _ .vmem, ⟨13, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S9x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S2x8192x1024 : Shape := ⟨3, ![2, 8192, 1024]⟩
abbrev S16384x1024 : Shape := ⟨2, ![16384, 1024]⟩
abbrev S9x2x1024 : Shape := ⟨3, ![9, 2, 1024]⟩
abbrev S6x1024 : Shape := ⟨2, ![6, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x2x1024 : Shape := ⟨3, ![1, 2, 1024]⟩
abbrev S2x1024 : Shape := ⟨2, ![2, 1024]⟩
abbrev S2x8192x512 : Shape := ⟨3, ![2, 8192, 512]⟩
abbrev S2x8192x4x2x64 : Shape := ⟨5, ![2, 8192, 4, 2, 64]⟩
abbrev S2x8192x2x4x64 : Shape := ⟨5, ![2, 8192, 2, 4, 64]⟩
abbrev S512 : Shape := ⟨1, ![512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x1x1024 : Shape := ⟨3, ![2, 1, 1024]⟩
abbrev S1x1024 : Shape := ⟨2, ![1, 1024]⟩
abbrev S1x1x1024 : Shape := ⟨3, ![1, 1, 1024]⟩
abbrev S2x8192x2816 : Shape := ⟨3, ![2, 8192, 2816]⟩

abbrev nBuf : Space → Nat
  | .hbm => 160
  | .vmem => 0
  | .smem => 0
  | _ => 0

abbrev hbmTy0_0 (i : Nat) : BufTy := match i % 128 with
  | 0 => ⟨S2x8192x1024, .f32⟩
  | 1 => ⟨S16384x1024, .bf16⟩
  | 2 => ⟨S9x2x1024, .f32⟩
  | 3 => ⟨S6x1024, .f32⟩
  | 4 => ⟨S1024x1024, .f32⟩
  | 5 => ⟨S1024, .f32⟩
  | 6 => ⟨S1024x2816, .bf16⟩
  | 7 => ⟨S1024x2816, .bf16⟩
  | 8 => ⟨S2816x1024, .bf16⟩
  | 9 => ⟨S1x2x1024, .f32⟩
  | 10 => ⟨S2x1024, .f32⟩
  | 11 => ⟨S1x2x1024, .f32⟩
  | 12 => ⟨S2x1024, .f32⟩
  | 13 => ⟨S1x2x1024, .f32⟩
  | 14 => ⟨S2x1024, .f32⟩
  | 15 => ⟨S1x2x1024, .f32⟩
  | 16 => ⟨S2x1024, .f32⟩
  | 17 => ⟨S1x2x1024, .f32⟩
  | 18 => ⟨S2x1024, .f32⟩
  | 19 => ⟨S1x2x1024, .f32⟩
  | 20 => ⟨S2x1024, .f32⟩
  | 21 => ⟨S1x2x1024, .f32⟩
  | 22 => ⟨S2x1024, .f32⟩
  | 23 => ⟨S1x2x1024, .f32⟩
  | 24 => ⟨S2x1024, .f32⟩
  | 25 => ⟨S1x2x1024, .f32⟩
  | 26 => ⟨S2x1024, .f32⟩
  | 27 => ⟨S16384x1024, .f32⟩
  | 28 => ⟨S2x8192x1024, .f32⟩
  | 29 => ⟨S2x8192x512, .f32⟩
  | 30 => ⟨S2x8192x512, .f32⟩
  | 31 => ⟨S2x8192x4x2x64, .f32⟩
  | 32 => ⟨S2x8192x2x4x64, .f32⟩
  | 33 => ⟨S2x8192x512, .f32⟩
  | 34 => ⟨S512, .f32⟩
  | 35 => ⟨S2x8192x512, .f32⟩
  | 36 => ⟨S_, .f32⟩
  | 37 => ⟨S2x8192, .f32⟩
  | 38 => ⟨S2x8192x1, .f32⟩
  | 39 => ⟨S_, .f32⟩
  | 40 => ⟨S2x8192x1, .f32⟩
  | 41 => ⟨S2x8192x1, .f32⟩
  | 42 => ⟨S_, .f32⟩
  | 43 => ⟨S2x8192x1, .f32⟩
  | 44 => ⟨S2x8192x1, .f32⟩
  | 45 => ⟨S2x8192x1, .f32⟩
  | 46 => ⟨S2x8192x512, .f32⟩
  | 47 => ⟨S2x8192x512, .f32⟩
  | 48 => ⟨S1x1x512, .f32⟩
  | 49 => ⟨S2x8192x512, .f32⟩
  | 50 => ⟨S2x8192x512, .f32⟩
  | 51 => ⟨S512, .f32⟩
  | 52 => ⟨S2x8192x512, .f32⟩
  | 53 => ⟨S_, .f32⟩
  | 54 => ⟨S2x8192, .f32⟩
  | 55 => ⟨S2x8192x1, .f32⟩
  | 56 => ⟨S_, .f32⟩
  | 57 => ⟨S2x8192x1, .f32⟩
  | 58 => ⟨S2x8192x1, .f32⟩
  | 59 => ⟨S_, .f32⟩
  | 60 => ⟨S2x8192x1, .f32⟩
  | 61 => ⟨S2x8192x1, .f32⟩
  | 62 => ⟨S2x8192x1, .f32⟩
  | 63 => ⟨S2x8192x512, .f32⟩
  | 64 => ⟨S2x8192x512, .f32⟩
  | 65 => ⟨S1x1x512, .f32⟩
  | 66 => ⟨S2x8192x512, .f32⟩
  | 67 => ⟨S2x8192x512, .f32⟩
  | 68 => ⟨S2x8192x1024, .f32⟩
  | 69 => ⟨S2x8192x1024, .f32⟩
  | 70 => ⟨S2x1x1024, .f32⟩
  | 71 => ⟨S1x1024, .f32⟩
  | 72 => ⟨S1024, .f32⟩
  | 73 => ⟨S2x8192x1024, .f32⟩
  | 74 => ⟨S_, .f32⟩
  | 75 => ⟨S2x8192, .f32⟩
  | 76 => ⟨S2x8192x1, .f32⟩
  | 77 => ⟨S_, .f32⟩
  | 78 => ⟨S2x8192x1, .f32⟩
  | 79 => ⟨S2x8192x1, .f32⟩
  | 80 => ⟨S_, .f32⟩
  | 81 => ⟨S2x8192x1, .f32⟩
  | 82 => ⟨S2x8192x1, .f32⟩
  | 83 => ⟨S2x8192x1, .f32⟩
  | 84 => ⟨S2x8192x1024, .f32⟩
  | 85 => ⟨S2x8192x1024, .f32⟩
  | 86 => ⟨S1x1x1024, .f32⟩
  | 87 => ⟨S2x8192x1024, .f32⟩
  | 88 => ⟨S2x8192x1024, .f32⟩
  | 89 => ⟨S2x8192x1024, .f32⟩
  | 90 => ⟨S2x8192x1024, .f32⟩
  | 91 => ⟨S2x8192x1024, .f32⟩
  | 92 => ⟨S1x1024, .f32⟩
  | 93 => ⟨S1024, .f32⟩
  | 94 => ⟨S2x8192x1024, .f32⟩
  | 95 => ⟨S_, .f32⟩
  | 96 => ⟨S2x8192, .f32⟩
  | 97 => ⟨S2x8192x1, .f32⟩
  | 98 => ⟨S_, .f32⟩
  | 99 => ⟨S2x8192x1, .f32⟩
  | 100 => ⟨S2x8192x1, .f32⟩
  | 101 => ⟨S_, .f32⟩
  | 102 => ⟨S2x8192x1, .f32⟩
  | 103 => ⟨S2x8192x1, .f32⟩
  | 104 => ⟨S2x8192x1, .f32⟩
  | 105 => ⟨S2x8192x1024, .f32⟩
  | 106 => ⟨S2x8192x1024, .f32⟩
  | 107 => ⟨S1x1x1024, .f32⟩
  | 108 => ⟨S2x8192x1024, .f32⟩
  | 109 => ⟨S2x8192x1024, .f32⟩
  | 110 => ⟨S2x1x1024, .f32⟩
  | 111 => ⟨S_, .f32⟩
  | 112 => ⟨S2x1x1024, .f32⟩
  | 113 => ⟨S2x1x1024, .f32⟩
  | 114 => ⟨S2x8192x1024, .f32⟩
  | 115 => ⟨S2x8192x1024, .f32⟩
  | 116 => ⟨S2x1x1024, .f32⟩
  | 117 => ⟨S2x8192x1024, .f32⟩
  | 118 => ⟨S2x8192x1024, .f32⟩
  | 119 => ⟨S2x1x1024, .f32⟩
  | 120 => ⟨S_, .f32⟩
  | 121 => ⟨S2x1x1024, .f32⟩
  | 122 => ⟨S2x1x1024, .f32⟩
  | 123 => ⟨S1024x2816, .f32⟩
  | 124 => ⟨S1024x2816, .f32⟩
  | 125 => ⟨S2816x1024, .f32⟩
  | 126 => ⟨S2x8192x2816, .f32⟩
  | 127 => ⟨S2x8192x2816, .f32⟩
  | _ => ⟨S2x8192x1024, .f32⟩

abbrev hbmTy0_1 (i : Nat) : BufTy := match i % 128 with
  | 0 => ⟨S2x8192x2816, .f32⟩
  | 1 => ⟨S_, .f32⟩
  | 2 => ⟨S2x8192x2816, .f32⟩
  | 3 => ⟨S2x8192x2816, .f32⟩
  | 4 => ⟨S_, .f32⟩
  | 5 => ⟨S2x8192x2816, .f32⟩
  | 6 => ⟨S2x8192x2816, .f32⟩
  | 7 => ⟨S2x8192x2816, .f32⟩
  | 8 => ⟨S2x8192x2816, .f32⟩
  | 9 => ⟨S2x8192x2816, .f32⟩
  | 10 => ⟨S2x8192x1024, .f32⟩
  | 11 => ⟨S1x1024, .f32⟩
  | 12 => ⟨S1024, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x1024, .f32⟩
  | 25 => ⟨S2x8192x1024, .f32⟩
  | 26 => ⟨S1x1x1024, .f32⟩
  | 27 => ⟨S2x8192x1024, .f32⟩
  | 28 => ⟨S2x8192x1024, .f32⟩
  | 29 => ⟨S2x8192x1024, .f32⟩
  | 30 => ⟨S2x8192x1024, .f32⟩
  | 31 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_cst_9 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_11 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_12 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_call0_v0 : Ref sig .tc := ⟨.hbm, 127, rfl⟩
abbrev main_call0_v1 : Ref sig .tc := ⟨.hbm, 128, rfl⟩
abbrev main_call0_cst : Ref sig .tc := ⟨.hbm, 129, rfl⟩
abbrev main_call0_v2 : Ref sig .tc := ⟨.hbm, 130, rfl⟩
abbrev main_call0_v3 : Ref sig .tc := ⟨.hbm, 131, rfl⟩
abbrev main_call0_cst_0 : Ref sig .tc := ⟨.hbm, 132, rfl⟩
abbrev main_call0_v4 : Ref sig .tc := ⟨.hbm, 133, rfl⟩
abbrev main_call0_v5 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_13 : Ref sig .tc := ⟨.hbm, 142, rfl⟩
abbrev main_v111 : Ref sig .tc := ⟨.hbm, 143, rfl⟩
abbrev main_v112 : Ref sig .tc := ⟨.hbm, 144, rfl⟩
abbrev main_cst_14 : Ref sig .tc := ⟨.hbm, 145, rfl⟩
abbrev main_v113 : Ref sig .tc := ⟨.hbm, 146, rfl⟩
abbrev main_v114 : Ref sig .tc := ⟨.hbm, 147, rfl⟩
abbrev main_cst_15 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩

abbrev nD : Nat := 1
abbrev τ : Topo := Topo.v7x

variable {F : FTy → Type} [FloatOps F]
-- ==== Kernel3.lean ====
abbrev S2x8192x1024 : Shape := ⟨3, ![2, 8192, 1024]⟩
abbrev S9x2x1024 : Shape := ⟨3, ![9, 2, 1024]⟩
abbrev S6x1024 : Shape := ⟨2, ![6, 1024]⟩
abbrev S1024x2816 : Shape := ⟨2, ![1024, 2816]⟩
abbrev S2816x1024 : Shape := ⟨2, ![2816, 1024]⟩
abbrev S1024x2304 : Shape := ⟨2, ![1024, 2304]⟩
abbrev S9x2x1x1024 : Shape := ⟨4, ![9, 2, 1, 1024]⟩
abbrev S16384x1024 : Shape := ⟨2, ![16384, 1024]⟩
abbrev S16384x512 : Shape := ⟨2, ![16384, 512]⟩
abbrev S16384x128 : Shape := ⟨2, ![16384, 128]⟩
abbrev S2x512x512 : Shape := ⟨3, ![2, 512, 512]⟩
abbrev S2x128x128 : Shape := ⟨3, ![2, 128, 128]⟩
abbrev S1x512x1024 : Shape := ⟨3, ![1, 512, 1024]⟩
abbrev S9x1x1x1024 : Shape := ⟨4, ![9, 1, 1, 1024]⟩
abbrev S512x1024 : Shape := ⟨2, ![512, 1024]⟩
abbrev S512x512 : Shape := ⟨2, ![512, 512]⟩
abbrev S512x128 : Shape := ⟨2, ![512, 128]⟩
abbrev S1x512x512 : Shape := ⟨3, ![1, 512, 512]⟩
abbrev S1x128x128 : Shape := ⟨3, ![1, 128, 128]⟩
abbrev S128x128 : Shape := ⟨2, ![128, 128]⟩
abbrev S1x256x1024 : Shape := ⟨3, ![1, 256, 1024]⟩
abbrev S1x1024 : Shape := ⟨2, ![1, 1024]⟩
abbrev S1x1x1x1024 : Shape := ⟨4, ![1, 1, 1, 1024]⟩
abbrev S1x1x1024 : Shape := ⟨3, ![1, 1, 1024]⟩
abbrev S1x256 : Shape := ⟨2, ![1, 256]⟩
abbrev S1x256x1 : Shape := ⟨3, ![1, 256, 1]⟩
abbrev S256x1024 : Shape := ⟨2, ![256, 1024]⟩
abbrev S1024x1536 : Shape := ⟨2, ![1024, 1536]⟩
abbrev S256x1536 : Shape := ⟨2, ![256, 1536]⟩
abbrev S1024x1280 : Shape := ⟨2, ![1024, 1280]⟩
abbrev S256x1280 : Shape := ⟨2, ![256, 1280]⟩
abbrev S1536x1024 : Shape := ⟨2, ![1536, 1024]⟩
abbrev S1280x1024 : Shape := ⟨2, ![1280, 1024]⟩
abbrev S1024x512 : Shape := ⟨2, ![1024, 512]⟩
abbrev S256x512 : Shape := ⟨2, ![256, 512]⟩
abbrev S256x64 : Shape := ⟨2, ![256, 64]⟩
abbrev S1024x256 : Shape := ⟨2, ![1024, 256]⟩
abbrev S256x256 : Shape := ⟨2, ![256, 256]⟩
abbrev S256x128 : Shape := ⟨2, ![256, 128]⟩

abbrev nBuf : Space → Nat
  | .hbm => 19
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S9x2x1024, .f32⟩
  | .hbm, ⟨2, _⟩ => ⟨S6x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024x2304, .bf16⟩
  | .hbm, ⟨7, _⟩ => ⟨S9x2x1x1024, .f32⟩
  | .hbm, ⟨8, _⟩ => ⟨S2x8192x1024, .f32⟩
  | .hbm, ⟨9, _⟩ => ⟨S16384x1024, .bf16⟩
  | .hbm, ⟨10, _⟩ => ⟨S16384x512, .bf16⟩
  | .hbm, ⟨11, _⟩ => ⟨S16384x512, .bf16⟩
  | .hbm, ⟨12, _⟩ => ⟨S16384x1024, .bf16⟩
  | .hbm, ⟨13, _⟩ => ⟨S16384x128, .bf16⟩
  | .hbm, ⟨14, _⟩ => ⟨S16384x128, .bf16⟩
  | .hbm, ⟨15, _⟩ => ⟨S2x512x512, .f32⟩
  | .hbm, ⟨16, _⟩ => ⟨S2x512x512, .f32⟩
  | .hbm, ⟨17, _⟩ => ⟨S2x128x128, .f32⟩
  | .hbm, ⟨18, _⟩ => ⟨S2x128x128, .f32⟩
  | .local _ .vmem, ⟨0, _⟩ => ⟨S1x512x1024, .f32⟩
  | .local _ .vmem, ⟨1, _⟩ => ⟨S1x512x1024, .f32⟩
  | .local _ .vmem, ⟨2, _⟩ => ⟨S9x1x1x1024, .f32⟩
  | .local _ .vmem, ⟨3, _⟩ => ⟨S9x1x1x1024, .f32⟩
  | .local _ .vmem, ⟨4, _⟩ => ⟨S6x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1024x2304, .bf16⟩
  | .local _ .vmem, ⟨9, _⟩ => ⟨S1x512x1024, .f32⟩
  | .local _ .vmem, ⟨10, _⟩ => ⟨S1x512x1024, .f32⟩
  | .local _ .vmem, ⟨11, _⟩ => ⟨S512x1024, .bf16⟩
  | .local _ .vmem, ⟨12, _⟩ => ⟨S512x1024, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x1024, .bf16⟩
  | .local _ .vmem, ⟨18, _⟩ => ⟨S512x1024, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x128x128, .f32⟩
  | .local _ .vmem, ⟨28, _⟩ => ⟨S1x128x128, .f32⟩
  | .local _ .vmem, ⟨29, _⟩ => ⟨S1x128x128, .f32⟩
  | .local _ .vmem, ⟨30, _⟩ => ⟨S1x128x128, .f32⟩
  | .local _ .vmem, ⟨31, _⟩ => ⟨S512x512, .f32⟩
  | .local _ .vmem, ⟨32, _⟩ => ⟨S512x512, .f32⟩
  | .local _ .vmem, ⟨33, _⟩ => ⟨S128x128, .f32⟩
  | .local _ .vmem, ⟨34, _⟩ => ⟨S128x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩
abbrev main_v1_8 : Ref sig .tc := ⟨.hbm, 16, rfl⟩
abbrev main_v1_9 : Ref sig .tc := ⟨.hbm, 17, rfl⟩
abbrev main_v1_10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c15_i32 : BitVec 32 := 15#32
  let v346 : BitVec 1 := Scalar.cmpi .eq arg1 c15_i32
  let v347 : BitVec 32 := Scalar.extui v346
  let c0_i32 : BitVec 32 := 0#32
  let v348 : BitVec 1 := Scalar.cmpi .ne v347 c0_i32
  v348

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S9x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Kernel3Ideal.lean ====
variable {F : FTy → Type} [FloatOps F] [Named F]
def κ : String → Option EReal := fun
  | "log2e_scaled" => some (((Real.log 256)⁻¹ : ℝ) : EReal)
  | _ => none
-- ==== Reference3Ideal.lean ====
abbrev S2x8192x1024 : Shape := ⟨3, ![2, 8192, 1024]⟩
abbrev S9x2x1024 : Shape := ⟨3, ![9, 2, 1024]⟩
abbrev S6x1024 : Shape := ⟨2, ![6, 1024]⟩
abbrev S1024x2816 : Shape := ⟨2, ![1024, 2816]⟩
abbrev S2816x1024 : Shape := ⟨2, ![2816, 1024]⟩
abbrev S1024x2304 : Shape := ⟨2, ![1024, 2304]⟩
abbrev S1x2x1024 : Shape := ⟨3, ![1, 2, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x2816 : Shape := ⟨3, ![2, 8192, 2816]⟩
abbrev S2x8192x2304 : Shape := ⟨3, ![2, 8192, 2304]⟩
abbrev S2x8192x512 : Shape := ⟨3, ![2, 8192, 512]⟩
abbrev S2x8192x128 : Shape := ⟨3, ![2, 8192, 128]⟩
abbrev S2x8192x4x2x64 : Shape := ⟨5, ![2, 8192, 4, 2, 64]⟩
abbrev S2x8192x4x1x64 : Shape := ⟨5, ![2, 8192, 4, 1, 64]⟩
abbrev S2x8192x4x64 : Shape := ⟨4, ![2, 8192, 4, 64]⟩
abbrev S2x8192x1x4x2x64 : Shape := ⟨6, ![2, 8192, 1, 4, 2, 64]⟩
abbrev S2x8192x2x4x2x64 : Shape := ⟨6, ![2, 8192, 2, 4, 2, 64]⟩
abbrev S16384x1024 : Shape := ⟨2, ![16384, 1024]⟩
abbrev S2x8192x2x4x64 : Shape := ⟨5, ![2, 8192, 2, 4, 64]⟩
abbrev S16384x512 : Shape := ⟨2, ![16384, 512]⟩
abbrev S16384x128 : Shape := ⟨2, ![16384, 128]⟩
abbrev S2x512x512 : Shape := ⟨3, ![2, 512, 512]⟩
abbrev S2x128x128 : Shape := ⟨3, ![2, 128, 128]⟩

abbrev nBuf : Space → Nat
  | .hbm => 201
  | .vmem => 0
  | .smem => 0
  | _ => 0

abbrev hbmTy0_0 (i : Nat) : BufTy := match i % 128 with
  | 0 => ⟨S2x8192x1024, .f32⟩
  | 1 => ⟨S9x2x1024, .f32⟩
  | 2 => ⟨S6x1024, .f32⟩
  | 3 => ⟨S1024x2816, .bf16⟩
  | 4 => ⟨S1024x2816, .bf16⟩
  | 5 => ⟨S2816x1024, .bf16⟩
  | 6 => ⟨S1024x2304, .bf16⟩
  | 7 => ⟨S1x2x1024, .f32⟩
  | 8 => ⟨S2x1024, .f32⟩
  | 9 => ⟨S1x2x1024, .f32⟩
  | 10 => ⟨S2x1024, .f32⟩
  | 11 => ⟨S1x2x1024, .f32⟩
  | 12 => ⟨S2x1024, .f32⟩
  | 13 => ⟨S1x2x1024, .f32⟩
  | 14 => ⟨S2x1024, .f32⟩
  | 15 => ⟨S1x2x1024, .f32⟩
  | 16 => ⟨S2x1024, .f32⟩
  | 17 => ⟨S1x2x1024, .f32⟩
  | 18 => ⟨S2x1024, .f32⟩
  | 19 => ⟨S1x2x1024, .f32⟩
  | 20 => ⟨S2x1024, .f32⟩
  | 21 => ⟨S1x2x1024, .f32⟩
  | 22 => ⟨S2x1024, .f32⟩
  | 23 => ⟨S1x2x1024, .f32⟩
  | 24 => ⟨S2x1024, .f32⟩
  | 25 => ⟨S1x1024, .f32⟩
  | 26 => ⟨S1024, .f32⟩
  | 27 => ⟨S2x8192x1024, .f32⟩
  | 28 => ⟨S_, .f32⟩
  | 29 => ⟨S2x8192, .f32⟩
  | 30 => ⟨S2x8192x1, .f32⟩
  | 31 => ⟨S_, .f32⟩
  | 32 => ⟨S2x8192x1, .f32⟩
  | 33 => ⟨S2x8192x1, .f32⟩
  | 34 => ⟨S_, .f32⟩
  | 35 => ⟨S2x8192x1, .f32⟩
  | 36 => ⟨S2x8192x1, .f32⟩
  | 37 => ⟨S2x8192x1, .f32⟩
  | 38 => ⟨S2x8192x1024, .f32⟩
  | 39 => ⟨S2x8192x1024, .f32⟩
  | 40 => ⟨S1x1x1024, .f32⟩
  | 41 => ⟨S2x8192x1024, .f32⟩
  | 42 => ⟨S2x8192x1024, .f32⟩
  | 43 => ⟨S2x1x1024, .f32⟩
  | 44 => ⟨S_, .f32⟩
  | 45 => ⟨S2x1x1024, .f32⟩
  | 46 => ⟨S2x1x1024, .f32⟩
  | 47 => ⟨S2x8192x1024, .f32⟩
  | 48 => ⟨S2x8192x1024, .f32⟩
  | 49 => ⟨S2x1x1024, .f32⟩
  | 50 => ⟨S2x8192x1024, .f32⟩
  | 51 => ⟨S2x8192x1024, .f32⟩
  | 52 => ⟨S2x1x1024, .f32⟩
  | 53 => ⟨S_, .f32⟩
  | 54 => ⟨S2x1x1024, .f32⟩
  | 55 => ⟨S2x1x1024, .f32⟩
  | 56 => ⟨S1024x2816, .f32⟩
  | 57 => ⟨S1024x2816, .f32⟩
  | 58 => ⟨S2816x1024, .f32⟩
  | 59 => ⟨S2x8192x2816, .f32⟩
  | 60 => ⟨S2x8192x2816, .f32⟩
  | 61 => ⟨S2x8192x2816, .f32⟩
  | 62 => ⟨S_, .f32⟩
  | 63 => ⟨S2x8192x2816, .f32⟩
  | 64 => ⟨S2x8192x2816, .f32⟩
  | 65 => ⟨S_, .f32⟩
  | 66 => ⟨S2x8192x2816, .f32⟩
  | 67 => ⟨S2x8192x2816, .f32⟩
  | 68 => ⟨S2x8192x2816, .f32⟩
  | 69 => ⟨S2x8192x2816, .f32⟩
  | 70 => ⟨S2x8192x2816, .f32⟩
  | 71 => ⟨S2x8192x1024, .f32⟩
  | 72 => ⟨S1x1024, .f32⟩
  | 73 => ⟨S1024, .f32⟩
  | 74 => ⟨S2x8192x1024, .f32⟩
  | 75 => ⟨S_, .f32⟩
  | 76 => ⟨S2x8192, .f32⟩
  | 77 => ⟨S2x8192x1, .f32⟩
  | 78 => ⟨S_, .f32⟩
  | 79 => ⟨S2x8192x1, .f32⟩
  | 80 => ⟨S2x8192x1, .f32⟩
  | 81 => ⟨S_, .f32⟩
  | 82 => ⟨S2x8192x1, .f32⟩
  | 83 => ⟨S2x8192x1, .f32⟩
  | 84 => ⟨S2x8192x1, .f32⟩
  | 85 => ⟨S2x8192x1024, .f32⟩
  | 86 => ⟨S2x8192x1024, .f32⟩
  | 87 => ⟨S1x1x1024, .f32⟩
  | 88 => ⟨S2x8192x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S1x1024, .f32⟩
  | 94 => ⟨S1024, .f32⟩
  | 95 => ⟨S2x8192x1024, .f32⟩
  | 96 => ⟨S_, .f32⟩
  | 97 => ⟨S2x8192, .f32⟩
  | 98 => ⟨S2x8192x1, .f32⟩
  | 99 => ⟨S_, .f32⟩
  | 100 => ⟨S2x8192x1, .f32⟩
  | 101 => ⟨S2x8192x1, .f32⟩
  | 102 => ⟨S_, .f32⟩
  | 103 => ⟨S2x8192x1, .f32⟩
  | 104 => ⟨S2x8192x1, .f32⟩
  | 105 => ⟨S2x8192x1, .f32⟩
  | 106 => ⟨S2x8192x1024, .f32⟩
  | 107 => ⟨S2x8192x1024, .f32⟩
  | 108 => ⟨S1x1x1024, .f32⟩
  | 109 => ⟨S2x8192x1024, .f32⟩
  | 110 => ⟨S2x8192x1024, .f32⟩
  | 111 => ⟨S2x1x1024, .f32⟩
  | 112 => ⟨S_, .f32⟩
  | 113 => ⟨S2x1x1024, .f32⟩
  | 114 => ⟨S2x1x1024, .f32⟩
  | 115 => ⟨S2x8192x1024, .f32⟩
  | 116 => ⟨S2x8192x1024, .f32⟩
  | 117 => ⟨S2x1x1024, .f32⟩
  | 118 => ⟨S2x8192x1024, .f32⟩
  | 119 => ⟨S2x8192x1024, .f32⟩
  | 120 => ⟨S1024x2304, .f32⟩
  | 121 => ⟨S2x8192x2304, .f32⟩
  | 122 => ⟨S2x8192x512, .f32⟩
  | 123 => ⟨S2x8192x512, .f32⟩
  | 124 => ⟨S2x8192x512, .f32⟩
  | 125 => ⟨S2x8192x512, .f32⟩
  | 126 => ⟨S2x8192x128, .f32⟩
  | 127 => ⟨S2x8192x128, .f32⟩
  | _ => ⟨S2x8192x1024, .f32⟩

abbrev hbmTy0_1 (i : Nat) : BufTy := match i % 128 with
  | 0 => ⟨S2x8192x4x2x64, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S2x8192x4x2x64, .f32⟩
  | 8 => ⟨S2x8192x4x2x64, .f32⟩
  | 9 => ⟨S2x8192x4x1x64, .f32⟩
  | 10 => ⟨S2x8192x4x64, .f32⟩
  | 11 => ⟨S_, .f32⟩
  | 12 => ⟨S2x8192x4x64, .f32⟩
  | 13 => ⟨S2x8192x4x1x64, .f32⟩
  | 14 => ⟨S2x8192x4x64, .f32⟩
  | 15 => ⟨S2x8192x4x1x64, .f32⟩
  | 16 => ⟨S2x8192x4x64, .f32⟩
  | 17 => ⟨S2x8192x4x1x64, .f32⟩
  | 18 => ⟨S2x8192x4x1x64, .f32⟩
  | 19 => ⟨S2x8192x4x2x64, .f32⟩
  | 20 => ⟨S2x8192x4x1x64, .f32⟩
  | 21 => ⟨S2x8192x4x1x64, .f32⟩
  | 22 => ⟨S2x8192x4x2x64, .f32⟩
  | 23 => ⟨S2x8192x1x4x2x64, .f32⟩
  | 24 => ⟨S2x8192x1x4x2x64, .f32⟩
  | 25 => ⟨S2x8192x2x4x2x64, .f32⟩
  | 26 => ⟨S16384x1024, .f32⟩
  | 27 => ⟨S16384x1024, .bf16⟩
  | 28 => ⟨S2x8192x2x4x64, .f32⟩
  | 29 => ⟨S2x8192x4x2x64, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S2x8192x4x2x64, .f32⟩
  | 37 => ⟨S2x8192x4x2x64, .f32⟩
  | 38 => ⟨S2x8192x4x1x64, .f32⟩
  | 39 => ⟨S2x8192x4x64, .f32⟩
  | 40 => ⟨S_, .f32⟩
  | 41 => ⟨S2x8192x4x64, .f32⟩
  | 42 => ⟨S2x8192x4x1x64, .f32⟩
  | 43 => ⟨S2x8192x4x64, .f32⟩
  | 44 => ⟨S2x8192x4x1x64, .f32⟩
  | 45 => ⟨S2x8192x4x64, .f32⟩
  | 46 => ⟨S2x8192x4x1x64, .f32⟩
  | 47 => ⟨S2x8192x4x1x64, .f32⟩
  | 48 => ⟨S2x8192x4x2x64, .f32⟩
  | 49 => ⟨S2x8192x4x1x64, .f32⟩
  | 50 => ⟨S2x8192x4x1x64, .f32⟩
  | 51 => ⟨S2x8192x4x2x64, .f32⟩
  | 52 => ⟨S2x8192x1x4x2x64, .f32⟩
  | 53 => ⟨S2x8192x1x4x2x64, .f32⟩
  | 54 => ⟨S2x8192x2x4x2x64, .f32⟩
  | 55 => ⟨S16384x1024, .f32⟩
  | 56 => ⟨S16384x1024, .bf16⟩
  | 57 => ⟨S16384x512, .f32⟩
  | 58 => ⟨S16384x512, .bf16⟩
  | 59 => ⟨S16384x512, .f32⟩
  | 60 => ⟨S16384x512, .bf16⟩
  | 61 => ⟨S16384x128, .f32⟩
  | 62 => ⟨S16384x128, .bf16⟩
  | 63 => ⟨S16384x128, .f32⟩
  | 64 => ⟨S16384x128, .bf16⟩
  | 65 => ⟨S2x512x512, .f32⟩
  | 66 => ⟨S2x512x512, .f32⟩
  | 67 => ⟨S2x512x512, .f32⟩
  | 68 => ⟨S2x512x512, .f32⟩
  | 69 => ⟨S2x128x128, .f32⟩
  | 70 => ⟨S2x128x128, .f32⟩
  | 71 => ⟨S2x128x128, .f32⟩
  | 72 => ⟨S2x128x128, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_4 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_cst_8 : Ref sig .tc := ⟨.hbm, 99, rfl⟩
abbrev main_v75 : Ref sig .tc := ⟨.hbm, 100, rfl⟩
abbrev main_v76 : Ref sig .tc := ⟨.hbm, 101, rfl⟩
abbrev main_cst_9 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_10 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_11 : Ref sig .tc := ⟨.hbm, 129, rfl⟩
abbrev main_v102 : Ref sig .tc := ⟨.hbm, 130, rfl⟩
abbrev main_cst_12 : Ref sig .tc := ⟨.hbm, 131, rfl⟩
abbrev main_v103 : Ref sig .tc := ⟨.hbm, 132, rfl⟩
abbrev main_cst_13 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_14 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_15 : Ref sig .tc := ⟨.hbm, 158, rfl⟩
abbrev main_v127 : Ref sig .tc := ⟨.hbm, 159, rfl⟩
abbrev main_cst_16 : Ref sig .tc := ⟨.hbm, 160, rfl⟩
abbrev main_v128 : Ref sig .tc := ⟨.hbm, 161, rfl⟩
abbrev main_cst_17 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_18 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩

abbrev nD : Nat := 1
abbrev τ : Topo := Topo.v7x

variable {F : FTy → Type} [FloatOps F]
-- ==== Proof.Row.lean ====
module

public import Idealize.ShloMosaic.PureOps.Ideal.Laws
public import Mathlib.Analysis.SpecialFunctions.Pow.Real
public import Mathlib.Algebra.BigOperators.Intervals

@[expose] public section

noncomputable section

/-! One row of attention over extended reals: scores that are real where a key is seen and −∞ where it is hidden. -/

namespace Cert.Attn

open Idealize.ShloMosaic

section Row

variable {ι : Type} [Fintype ι]

/-- The sum of the exponentials of the scores of the keys that are seen. -/
def total (vis : ι → Prop) [DecidablePred vis] (S : ι → ℝ) : ℝ := ∑ i, if vis i then Real.exp (S i) else 0

/-- The row's result: the values averaged with the weights of the seen keys, `ξ` being what the sink adds to the
    denominator. -/
def average (vis : ι → Prop) [DecidablePred vis] (S : ι → ℝ) (ξ : ℝ) (v : ι → EReal) : EReal :=
  ∑ i, if vis i then ((Real.exp (S i) / (total vis S + ξ) : ℝ) : EReal) * v i else 0

/-- A total of exponentials is not negative. -/
theorem total_nonneg (vis : ι → Prop) [DecidablePred vis] (S : ι → ℝ) : 0 ≤ total vis S :=
  Finset.sum_nonneg fun i _ => by split_ifs <;> positivity

/-- It is positive where a key is seen. -/
theorem total_pos (vis : ι → Prop) [DecidablePred vis] (S : ι → ℝ) (h : ∃ i, vis i) : 0 < total vis S := by
  obtain ⟨i, hi⟩ := h
  refine Finset.sum_pos' (fun j _ => by split_ifs <;> positivity) ⟨i, Finset.mem_univ _, ?_⟩
  rw [if_pos hi]; positivity

/-- A nonnegative real factor goes into a sum of extended reals. -/
theorem sum_mul_coe (f : ι → EReal) (c : ℝ) (hc : 0 ≤ c) : (∑ i, f i) * (c : EReal) = ∑ i, f i * (c : EReal) := by
  classical
  induction (Finset.univ : Finset ι) using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum of reals is the same sum among the extended reals. -/
theorem coe_sum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The exponential in base two of a score written in base two, shifted by `μ`. -/
theorem exp2_score (x μ : ℝ) :
    Ideal.exp2 (((x * (Real.log 2)⁻¹ : ℝ) : EReal) - (μ : EReal))
      = ((Real.exp x * Real.exp (-(μ * Real.log 2)) : ℝ) : EReal) := by
  have h2 : Real.log 2 ≠ 0 := (Real.log_pos (by norm_num)).ne'
  rw [← EReal.coe_sub, Ideal.exp2_coe]
  congr 1
  show (2 : ℝ) ^ (x * (Real.log 2)⁻¹ - μ) = _
  rw [Real.rpow_def_of_pos (by norm_num), ← Real.exp_add]
  congr 1
  field_simp
  ring

/-- Two to a score in base two is the exponential of the score. -/
theorem exp_score (x μ : ℝ) :
    Ideal.exp ((x : EReal) - (μ : EReal)) = ((Real.exp x * Real.exp (-μ) : ℝ) : EReal) := by
  rw [← EReal.coe_sub, Ideal.exp_coe, ← Real.exp_add, sub_eq_add_neg]

variable (vis : ι → Prop) [DecidablePred vis] (S : ι → ℝ)

/-- The row as the kernel computes it: weights in base two, one reciprocal of the denominator. -/
theorem kernel_row (s v : ι → EReal) (hs : ∀ i, s i = if vis i then ((S i * (Real.log 2)⁻¹ : ℝ) : EReal) else ⊥)
    (μ ξ : ℝ) (hξ : 0 < total vis S + ξ) :
    (∑ i, Ideal.exp2 (s i - (μ : EReal)) * v i)
        * Ideal.div 1 ((∑ i, Ideal.exp2 (s i - (μ : EReal))) + ((ξ * Real.exp (-(μ * Real.log 2)) : ℝ) : EReal))
      = average vis S ξ v := by
  set E := Real.exp (-(μ * Real.log 2)) with hE
  have hEpos : 0 < E := Real.exp_pos _
  have he : ∀ i, Ideal.exp2 (s i - (μ : EReal)) = ((if vis i then Real.exp (S i) * E else 0 : ℝ) : EReal) := by
    intro i
    rw [hs i]
    split_ifs
    · exact exp2_score _ _
    · rw [EReal.bot_sub, Ideal.exp2_bot, EReal.coe_zero]
  simp only [he]
  have hden : (∑ i, ((if vis i then Real.exp (S i) * E else 0 : ℝ) : EReal)) + ((ξ * E : ℝ) : EReal)
      = (((total vis S + ξ) * E : ℝ) : EReal) := by
    rw [← coe_sum, ← EReal.coe_add, total, add_mul, Finset.sum_mul]
    congr 2
    exact Finset.sum_congr rfl fun i _ => by split_ifs <;> simp
  have hne : (total vis S + ξ) * E ≠ 0 := (mul_pos hξ hEpos).ne'
  rw [hden, Ideal.div_coe hne, one_mul, sum_mul_coe _ _ (by positivity), average]
  refine Finset.sum_congr rfl fun i _ => ?_
  split_ifs
  · rw [mul_right_comm, ← EReal.coe_mul]
    congr 2
    field_simp
  · rw [EReal.coe_zero, zero_mul, zero_mul]

/-- The row as the reference computes it: every weight divided by the denominator. -/
theorem reference_row (s v : ι → EReal) (hs : ∀ i, s i = if vis i then (S i : EReal) else ⊥)
    (μ ξ : ℝ) (hξ : 0 < total vis S + ξ) :
    (∑ i, Ideal.div (Ideal.exp (s i - (μ : EReal)))
        ((∑ j, Ideal.exp (s j - (μ : EReal))) + ((ξ * Real.exp (-μ) : ℝ) : EReal)) * v i)
      = average vis S ξ v := by
  set E := Real.exp (-μ) with hE
  have hEpos : 0 < E := Real.exp_pos _
  have he : ∀ i, Ideal.exp (s i - (μ : EReal)) = ((if vis i then Real.exp (S i) * E else 0 : ℝ) : EReal) := by
    intro i
    rw [hs i]
    split_ifs
    · exact exp_score _ _
    · rw [EReal.bot_sub, Ideal.exp_bot, EReal.coe_zero]
  simp only [he]
  have hden : (∑ i, ((if vis i then Real.exp (S i) * E else 0 : ℝ) : EReal)) + ((ξ * E : ℝ) : EReal)
      = (((total vis S + ξ) * E : ℝ) : EReal) := by
    rw [← coe_sum, ← EReal.coe_add, total, add_mul, Finset.sum_mul]
    congr 2
    exact Finset.sum_congr rfl fun i _ => by split_ifs <;> simp
  have hne : (total vis S + ξ) * E ≠ 0 := (mul_pos hξ hEpos).ne'
  rw [hden, average]
  refine Finset.sum_congr rfl fun i _ => ?_
  rw [Ideal.div_coe hne, ← EReal.coe_mul]
  split_ifs
  · congr 2
    field_simp
  · rw [zero_mul, EReal.coe_zero, zero_mul]

/-- The greatest of scores that are real or −∞, at least one of them real, is real. -/
theorem max_real (s : ι → EReal) (hs : ∀ i, s i ≠ ⊤) (h : ∃ i, s i ≠ ⊥) :
    ∃ μ : ℝ, Finset.univ.fold max ⊥ s = (μ : EReal) := by
  have htop : Finset.univ.fold max ⊥ s ≠ ⊤ := by
    have : Finset.univ.fold max ⊥ s < ⊤ := by
      rw [Finset.fold_max_lt]
      exact ⟨bot_lt_top, fun i _ => lt_top_iff_ne_top.mpr (hs i)⟩
    exact this.ne
  have hbot : Finset.univ.fold max ⊥ s ≠ ⊥ := by
    obtain ⟨i, hi⟩ := h
    have : ⊥ < Finset.univ.fold max ⊥ s := by
      rw [Finset.lt_fold_max]
      exact Or.inr ⟨i, Finset.mem_univ _, bot_lt_iff_ne_bot.mpr hi⟩
    exact this.ne'
  exact ⟨_, (EReal.coe_toReal htop hbot).symm⟩

end Row

/-- A sum over the keys of a band, those outside `[lo, hi)` left out, is the sum over `[lo, hi)` when the band, which
    begins at `c`, holds it. -/
theorem band_sum {M : Type} [AddCommMonoid M] (n c lo hi : ℕ) (f : ℕ → M) (hlo : c ≤ lo) (hhi : hi ≤ c + n) :
    (∑ κ : Fin n, if lo ≤ c + κ.val ∧ c + κ.val < hi then f (c + κ.val) else 0) = ∑ t ∈ Finset.Ico lo hi, f t := by
  rw [Fin.sum_univ_eq_sum_range (fun k => if lo ≤ c + k ∧ c + k < hi then f (c + k) else 0) n,
    ← Finset.sum_filter]
  refine Finset.sum_bij (fun k _ => c + k) ?_ ?_ ?_ ?_
  · intro k hk
    simp only [Finset.mem_filter, Finset.mem_range] at hk
    exact Finset.mem_Ico.mpr hk.2
  · intro a _ b _ h
    exact Nat.add_left_cancel h
  · intro t ht
    rw [Finset.mem_Ico] at ht
    refine ⟨t - c, ?_, by omega⟩
    simp only [Finset.mem_filter, Finset.mem_range]
    omega
  · intro _ _; rfl

/-- The row's result does not depend on where the band of keys begins. -/
theorem average_band (n c n' c' lo hi : ℕ) (S : ℕ → ℝ) (ξ : ℝ) (v : ℕ → EReal) (h1 : c ≤ lo) (h2 : hi ≤ c + n)
    (h1' : c' ≤ lo) (h2' : hi ≤ c' + n') :
    average (fun κ : Fin n => lo ≤ c + κ.val ∧ c + κ.val < hi) (fun κ => S (c + κ.val)) ξ (fun κ => v (c + κ.val))
      = average (fun κ : Fin n' => lo ≤ c' + κ.val ∧ c' + κ.val < hi) (fun κ => S (c' + κ.val)) ξ
          (fun κ => v (c' + κ.val)) := by
  unfold average total
  rw [band_sum n c lo hi (fun t => Real.exp (S t)) h1 h2, band_sum n' c' lo hi (fun t => Real.exp (S t)) h1' h2',
    band_sum n c lo hi (fun t => ((Real.exp (S t) / ((∑ t ∈ Finset.Ico lo hi, Real.exp (S t)) + ξ) : ℝ) : EReal) * v t) h1 h2,
    band_sum n' c' lo hi (fun t => ((Real.exp (S t) / ((∑ t ∈ Finset.Ico lo hi, Real.exp (S t)) + ξ) : ℝ) : EReal) * v t) h1' h2']

end Cert.Attn

end
-- ==== Proof.JobA.lean ====
module

public import proofs.«01_k».proof.Proof.Gen.KernelIdeal.Skeleton
public import proofs.«01_k».proof.Proof.Row
public import Idealize.ShloMosaic.Lib.Pointwise

@[expose] public section

set_option maxRecDepth 16384

noncomputable section

/-! What one job of the attention kernel computes, read at an index: a row of softmax weights in base two, the values
    averaged with them. -/

namespace Cert.KernelIdeal.Attn

open Cert.KernelIdeal Cert.KernelIdeal.Gen Idealize.ShloMosaic

section
variable {F : FTy → Type} [FloatOps F] [Named F]

/-- The work on one pair of heads of mixer A for one group of 128 queries: from the two heads' bias slabs, the queries
    split by head, the band's keys and the band's values. -/
def jobA (b0 b1 : Vec F S1x1x128x640 .f32) (q0 q1 : Vec F S128x128 .bf16) (k v : Vec F S640x128 .bf16) :
    FVec F S128x128 .bf16 :=
  k0_pay22 (k0_pay10 (k0_pay5 b0 b1 q0 q1 k)) v

/-- The work on one pair of heads of mixer B for one group of 128 queries, with the two heads' sinks. -/
def jobB (b0 b1 : Vec F S1x1x128x256 .f32) (q0 q1 : Vec F S128x128 .bf16) (k v : Vec F S256x128 .bf16)
    (s0 s1 : Elt F .f32) : FVec F S128x128 .bf16 :=
  k0_pay89 (k0_pay87 (k0_pay62 (k0_pay60 b0 b1) (k0_pay61 q0) q1 k) s0 s1)
    (k0_pay88 (k0_pay62 (k0_pay60 b0 b1) (k0_pay61 q0) q1 k) s0 s1) v
end

/-- A row of mixer A: scores in base two, their greatest taken off, one reciprocal of the weights' sum. -/
def rowA {n : ℕ} (s v : Fin n → EReal) : EReal :=
  (∑ i, Ideal.exp2 (s i - Finset.univ.fold max ⊥ s) * v i)
    * Ideal.div 1 (∑ i, Ideal.exp2 (s i - Finset.univ.fold max ⊥ s))

/-- A row of mixer B: the sink `z` (in base two) joins the greatest score and the weights' sum. -/
def rowB {n : ℕ} (s v : Fin n → EReal) (z : EReal) : EReal :=
  (∑ i, Ideal.exp2 (s i - max (Finset.univ.fold max ⊥ s) z) * v i)
    * Ideal.div 1 ((∑ i, Ideal.exp2 (s i - max (Finset.univ.fold max ⊥ s) z))
        + Ideal.exp2 (z - max (Finset.univ.fold max ⊥ s) z))

/-- The word the maximum starts from is −∞. -/
theorem ofBits_neg_inf : Ideal.ofBits FTy.f32 4286578688#32 = ⊥ := by
  simp [Ideal.ofBits, Ideal.ieee]

/-- The named constant is the reciprocal of the natural logarithm of two. -/
theorem log2e_eq : (Named.named κ "log2e" 1069066811#32 : Ideal .f32) = (((Real.log 2)⁻¹ : ℝ) : EReal) :=
  IdealRules.named_const.ideal_named_scalar _ _ _ _ rfl

/-- Which of the two heads a lane belongs to. -/
theorem lane_half {α : Type} (d : Fin 128) (x y : α) :
    Scalar.select (IntOp.cmpi CmpIPredicate.slt (BitVec.ofNat 32 ↑d) 64#32) x y = if d.val < 64 then x else y := by
  have h : IntOp.cmpi CmpIPredicate.slt (BitVec.ofNat 32 d.val) 64#32 = if d.val < 64 then 1#1 else 0#1 := by
    revert d; decide +kernel
  rw [h]; split_ifs <;> rfl

/-- The first half of the stacked rows takes the first sink. -/
theorem sink_first {α : Type} (r : Fin 128) (x y : α) :
    Scalar.select (IntOp.cmpi CmpIPredicate.slt (BitVec.ofNat 32 ↑r) 128#32) x y = x := by
  have h : IntOp.cmpi CmpIPredicate.slt (BitVec.ofNat 32 r.val) 128#32 = 1#1 := by
    revert r; decide +kernel
  rw [h]; rfl

/-- The second half takes the second sink. -/
theorem sink_second {α : Type} (r : Fin 128) (x y : α) :
    Scalar.select (IntOp.cmpi CmpIPredicate.slt (BitVec.ofNat 32 (128 + ↑r)) 128#32) x y = y := by
  have h : IntOp.cmpi CmpIPredicate.slt (BitVec.ofNat 32 (128 + r.val)) 128#32 = 0#1 := by
    revert r; decide +kernel
  rw [h]; rfl

/-- One job of mixer A at row `r` and lane `d`. -/
theorem jobA_apply (b0 b1 : Vec Ideal S1x1x128x640 .f32) (q0 q1 : Vec Ideal S128x128 .bf16)
    (k v : Vec Ideal S640x128 .bf16) (r : Fin 128) (d : Fin 128) :
    jobA b0 b1 q0 q1 k v (ix2 r d) =
      if d.val < 64 then rowA (fun κ => (∑ x : Fin 128, q0 (ix2 r x) * k (ix2 κ x)) + b0 (ix4 0 0 r κ)) (fun κ => v (ix2 κ d))
      else rowA (fun κ => (∑ x : Fin 128, q1 (ix2 r x) * k (ix2 κ x)) + b1 (ix4 0 0 r κ)) (fun κ => v (ix2 κ d)) := by
  pointwise [jobA, k0_pay22, k0_pay10, k0_pay5]
  rw [lane_half, ofBits_neg_inf]
  rfl

/-- One job of mixer B at row `r` and lane `d`. -/
theorem jobB_apply (b0 b1 : Vec Ideal S1x1x128x256 .f32) (q0 q1 : Vec Ideal S128x128 .bf16)
    (k v : Vec Ideal S256x128 .bf16) (s0 s1 : Elt Ideal .f32) (r : Fin 128) (d : Fin 128) :
    jobB b0 b1 q0 q1 k v s0 s1 (ix2 r d) =
      if d.val < 64 then rowB (fun κ => (∑ x : Fin 128, q0 (ix2 r x) * k (ix2 κ x)) + b0 (ix4 0 0 r κ)) (fun κ => v (ix2 κ d))
        (s0 * (((Real.log 2)⁻¹ : ℝ) : EReal))
      else rowB (fun κ => (∑ x : Fin 128, q1 (ix2 r x) * k (ix2 κ x)) + b1 (ix4 0 0 r κ)) (fun κ => v (ix2 κ d))
        (s1 * (((Real.log 2)⁻¹ : ℝ) : EReal)) := by
  pointwise [jobB, k0_pay89, k0_pay87, k0_pay88, k0_pay62, k0_pay60, k0_pay61, k0_pay85, k0_pay86]
  simp only [sink_first, sink_second]
  rw [lane_half, ofBits_neg_inf, log2e_eq]
  rfl

end Cert.KernelIdeal.Attn
end
-- ==== Proof.At.lean ====
module

public import Idealize.ShloMosaic.Lib.Pointwise

@[expose] public section

noncomputable section

/-! Arrays of extended reals read at natural numbers: zero outside. Equalities of indices become arithmetic. -/

namespace Cert.Attn

open Idealize.ShloMosaic

/-- A vector at a natural number. -/
def at1 {a : ℕ} (x : (⟨1, ![a]⟩ : Shape).Idx → EReal) (i : ℕ) : EReal := if h : i < a then x (ix1 ⟨i, h⟩) else 0

/-- A matrix at two natural numbers. -/
def at2 {a b : ℕ} (x : (⟨2, ![a, b]⟩ : Shape).Idx → EReal) (i j : ℕ) : EReal :=
  if h : i < a ∧ j < b then x (ix2 ⟨i, h.1⟩ ⟨j, h.2⟩) else 0

/-- An array of rank four at four natural numbers. -/
def at4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

/-- Reading by number is reading at an index with that number. -/
theorem at1_of {a : ℕ} (x : (⟨1, ![a]⟩ : Shape).Idx → EReal) (y : (⟨1, ![a]⟩ : Shape).Idx) (i : ℕ) (hi : (y 0).val = i) :
    x y = at1 x i := by
  subst hi
  have h : (y 0).val < a := (y 0).isLt
  rw [at1, dif_pos h]
  congr 1; funext t; match t with | ⟨0, _⟩ => rfl

/-- The same with two axes. -/
theorem at2_of {a b : ℕ} (x : (⟨2, ![a, b]⟩ : Shape).Idx → EReal) (y : (⟨2, ![a, b]⟩ : Shape).Idx) (i j : ℕ)
    (hi : (y 0).val = i) (hj : (y 1).val = j) : x y = at2 x i j := by
  subst hi hj
  have h : (y 0).val < a ∧ (y 1).val < b := ⟨(y 0).isLt, (y 1).isLt⟩
  rw [at2, dif_pos h]
  congr 1; funext t; match t with | ⟨0, _⟩ => rfl | ⟨1, _⟩ => rfl

/-- The same with four axes. -/
theorem at4_of {a b c d : ℕ} (x : (⟨4, ![a, b, c, d]⟩ : Shape).Idx → EReal) (y : (⟨4, ![a, b, c, d]⟩ : Shape).Idx)
    (i j k l : ℕ) (hi : (y 0).val = i) (hj : (y 1).val = j) (hk : (y 2).val = k) (hl : (y 3).val = l) :
    x y = at4 x i j k l := by
  subst hi hj hk hl
  have h : (y 0).val < a ∧ (y 1).val < b ∧ (y 2).val < c ∧ (y 3).val < d :=
    ⟨(y 0).isLt, (y 1).isLt, (y 2).isLt, (y 3).isLt⟩
  rw [at4, dif_pos h]
  congr 1; funext t; match t with | ⟨0, _⟩ => rfl | ⟨1, _⟩ => rfl | ⟨2, _⟩ => rfl | ⟨3, _⟩ => rfl

end Cert.Attn

end
-- ==== Proof.Jobs.lean ====
module

public import proofs.«01_k».proof.Proof.Gen.KernelIdeal.Value
public import proofs.«01_k».proof.Proof.JobA
public import proofs.«01_k».proof.Proof.At
public import Idealize.ShloMosaic.Lib.Pipeline.Value
public import Idealize.ShloMosaic.Lib.Pipeline.ValueKit

@[expose] public section

set_option maxRecDepth 16384

noncomputable section

/-! The attention block that one grid point leaves, as a function of the blocks that it was given. -/

namespace Cert.KernelIdeal.Attn

open Cert.KernelIdeal Cert.KernelIdeal.Gen Cert.Attn Idealize.ShloMosaic Idealize.ShloMosaic.TcCoe Idealize.SL.Sem
open Idealize.ShloMosaic.Pipeline (Dat)

/-- Row `R`, column `C` of mixer A's half of the block: `o` is where the band of keys begins. -/
def blockA (xq : Vec Ideal S256x1024 .bf16) (xk xv : Vec Ideal S768x512 .bf16) (b : Vec Ideal S1x8x128x640 .f32)
    (o R C : ℕ) : EReal :=
  rowA (fun κ : Fin 640 => (∑ x : Fin 128, at2 xq R (C / 64 % 2 * 512 + C / 128 * 128 + x.val)
      * at2 xk (o + κ.val) (C / 128 * 128 + x.val)) + at4 b 0 (C / 64) (R % 128) κ.val)
    (fun κ => at2 xv (o + κ.val) C)

/-- Row `R`, column `C` of mixer B's half of the block. -/
def blockB (xs : Vec Ideal S8 .f32) (xq : Vec Ideal S256x1024 .bf16) (xk xv : Vec Ideal S384x128 .bf16)
    (b : Vec Ideal S1x8x128x256 .f32) (o R C : ℕ) : EReal :=
  rowB (fun κ : Fin 256 => (∑ x : Fin 128, at2 xq R (C / 64 % 2 * 512 + C / 128 * 128 + x.val)
      * at2 xk (o + κ.val) x.val) + at4 b 0 (C / 128 + C / 64 % 2 * 4) (R % 128) κ.val)
    (fun κ => at2 xv (o + κ.val) (C % 128)) (at1 xs (C / 128 + C / 64 % 2 * 4) * (((Real.log 2)⁻¹ : ℝ) : EReal))

/-- A load through a rectangle of a matrix, read at natural numbers. -/
theorem ld_at2 {a b n k : ℕ} (X : (⟨2, ![a, b]⟩ : Shape).Idx → EReal) (off : Fin 2 → ℕ)
    (inb : ∀ t, off t + (![n, k] : Fin 2 → ℕ) t ≤ (⟨2, ![a, b]⟩ : Shape).size t) (r : Fin n) (d : Fin k) :
    View.ld (Val := fun _ => EReal) (e' := EltTy.f32) X (Rect.unit (s := ⟨2, ![a, b]⟩) off ![n, k] inb) (ix2 r d)
      = at2 X (off 0 + r.val) (off 1 + d.val) :=
  at2_of X ((Rect.unit (s := ⟨2, ![a, b]⟩) off ![n, k] inb).emb (ix2 r d)) _ _
    (ValueKit.rect_emb_unit_val _ _ _ _ _) (ValueKit.rect_emb_unit_val _ _ _ _ _)

/-- A load of one head's slab of a table of rank four, read at natural numbers. -/
theorem ld_at4 {a b c n : ℕ} (X : (⟨4, ![a, b, c, n]⟩ : Shape).Idx → EReal) (off : Fin 4 → ℕ)
    (inb : ∀ t, off t + (![1, 1, c, n] : Fin 4 → ℕ) t ≤ (⟨4, ![a, b, c, n]⟩ : Shape).size t) (r : Fin c) (d : Fin n) :
    View.ld (Val := fun _ => EReal) (e' := EltTy.f32) X (Rect.unit (s := ⟨4, ![a, b, c, n]⟩) off ![1, 1, c, n] inb)
        (ix4 0 0 r d)
      = at4 X (off 0) (off 1) (off 2 + r.val) (off 3 + d.val) :=
  at4_of X ((Rect.unit (s := ⟨4, ![a, b, c, n]⟩) off ![1, 1, c, n] inb).emb (ix4 0 0 r d)) _ _ _ _
    (ValueKit.rect_emb_unit_val _ _ _ _ _) (ValueKit.rect_emb_unit_val _ _ _ _ _)
    (ValueKit.rect_emb_unit_val _ _ _ _ _) (ValueKit.rect_emb_unit_val _ _ _ _ _)

/-- A job of mixer A's results are the block's entries of its 128 rows and 128 columns. -/
theorem pieceA (xq : Vec Ideal S256x1024 .bf16) (xk xv : Vec Ideal S768x512 .bf16) (b : Vec Ideal S1x8x128x640 .f32)
    (j p : ℕ) (hj : j < 2) (hp : p < 4) (off : Fin 2 → ℕ) (hoff : off 1 = 128 * p)
    (i0 : ∀ a, (![0, 2 * p, 0, 0] : Fin 4 → ℕ) a + (![1, 1, 128, 640] : Fin 4 → ℕ) a ≤ S1x8x128x640.size a)
    (i1 : ∀ a, (![0, 2 * p + 1, 0, 0] : Fin 4 → ℕ) a + (![1, 1, 128, 640] : Fin 4 → ℕ) a ≤ S1x8x128x640.size a)
    (i2 : ∀ a, (![128 * j, 128 * p] : Fin 2 → ℕ) a + (![128, 128] : Fin 2 → ℕ) a ≤ S256x1024.size a)
    (i3 : ∀ a, (![128 * j, 512 + 128 * p] : Fin 2 → ℕ) a + (![128, 128] : Fin 2 → ℕ) a ≤ S256x1024.size a)
    (i4 : ∀ a, off a + (![640, 128] : Fin 2 → ℕ) a ≤ S768x512.size a) (r d : Fin 128) :
    jobA (View.ld b (Rect.unit ![0, 2 * p, 0, 0] ![1, 1, 128, 640] i0))
        (View.ld b (Rect.unit ![0, 2 * p + 1, 0, 0] ![1, 1, 128, 640] i1))
        (View.ld xq (Rect.unit ![128 * j, 128 * p] ![128, 128] i2))
        (View.ld xq (Rect.unit ![128 * j, 512 + 128 * p] ![128, 128] i3))
        (View.ld xk (Rect.unit off ![640, 128] i4)) (View.ld xv (Rect.unit off ![640, 128] i4)) (ix2 r d)
      = blockA xq xk xv b (off 0) (128 * j + r.val) (128 * p + d.val) := by
  have hr := r.isLt
  have hd := d.isLt
  rw [jobA_apply, blockA]
  have e0 : ∀ (i : Fin 4 → ℕ) h (κ : Fin 640), View.ld b (Rect.unit i ![1, 1, 128, 640] h) (ix4 0 0 r κ)
      = at4 b (i 0) (i 1) (i 2 + r.val) (i 3 + κ.val) := fun i h κ => ld_at4 b i h r κ
  have e1 : ∀ (i : Fin 2 → ℕ) h (l : Fin 128), View.ld xq (Rect.unit i ![128, 128] h) (ix2 r l)
      = at2 xq (i 0 + r.val) (i 1 + l.val) := fun i h l => ld_at2 xq i h r l
  have e2 : ∀ (X : Vec Ideal S768x512 .bf16) (κ : Fin 640) (l : Fin 128), View.ld X (Rect.unit off ![640, 128] i4) (ix2 κ l)
      = at2 X (off 0 + κ.val) (off 1 + l.val) := fun X κ l => ld_at2 X off i4 κ l
  split_ifs with h
  all_goals
    congr 1
    · funext κ
      refine congrArg₂ (· + ·) (Finset.sum_congr rfl fun l _ =>
        congrArg₂ (· * ·) ((e1 _ _ l).trans ?_) ((e2 xk κ l).trans ?_)) ((e0 _ _ κ).trans ?_)
      all_goals
        simp only [hoff, Matrix.cons_val]
        congr 1 <;> omega
    · funext κ
      refine (e2 xv κ d).trans ?_
      rw [hoff]

/-- A job of mixer B's results are the block's entries of its 128 rows and 128 columns. -/
theorem pieceB (xs : Vec Ideal S8 .f32) (xq : Vec Ideal S256x1024 .bf16) (xk xv : Vec Ideal S384x128 .bf16)
    (b : Vec Ideal S1x8x128x256 .f32)
    (j p : ℕ) (hj : j < 2) (hp : p < 4) (off : Fin 2 → ℕ) (hoff : off 1 = 0)
    (i0 : ∀ a, (![0, p, 0, 0] : Fin 4 → ℕ) a + (![1, 1, 128, 256] : Fin 4 → ℕ) a ≤ S1x8x128x256.size a)
    (i1 : ∀ a, (![0, 4 + p, 0, 0] : Fin 4 → ℕ) a + (![1, 1, 128, 256] : Fin 4 → ℕ) a ≤ S1x8x128x256.size a)
    (i2 : ∀ a, (![128 * j, 128 * p] : Fin 2 → ℕ) a + (![128, 128] : Fin 2 → ℕ) a ≤ S256x1024.size a)
    (i3 : ∀ a, (![128 * j, 512 + 128 * p] : Fin 2 → ℕ) a + (![128, 128] : Fin 2 → ℕ) a ≤ S256x1024.size a)
    (i4 : ∀ a, off a + (![256, 128] : Fin 2 → ℕ) a ≤ S384x128.size a) (s0 s1 : EReal)
    (hs0 : s0 = at1 xs p) (hs1 : s1 = at1 xs (4 + p)) (r d : Fin 128) :
    jobB (View.ld b (Rect.unit ![0, p, 0, 0] ![1, 1, 128, 256] i0))
        (View.ld b (Rect.unit ![0, 4 + p, 0, 0] ![1, 1, 128, 256] i1))
        (View.ld xq (Rect.unit ![128 * j, 128 * p] ![128, 128] i2))
        (View.ld xq (Rect.unit ![128 * j, 512 + 128 * p] ![128, 128] i3))
        (View.ld xk (Rect.unit off ![256, 128] i4)) (View.ld xv (Rect.unit off ![256, 128] i4)) s0 s1 (ix2 r d)
      = blockB xs xq xk xv b (off 0) (128 * j + r.val) (128 * p + d.val) := by
  have hr := r.isLt
  have hd := d.isLt
  rw [jobB_apply, blockB]
  have e0 : ∀ (i : Fin 4 → ℕ) h (κ : Fin 256), View.ld b (Rect.unit i ![1, 1, 128, 256] h) (ix4 0 0 r κ)
      = at4 b (i 0) (i 1) (i 2 + r.val) (i 3 + κ.val) := fun i h κ => ld_at4 b i h r κ
  have e1 : ∀ (i : Fin 2 → ℕ) h (l : Fin 128), View.ld xq (Rect.unit i ![128, 128] h) (ix2 r l)
      = at2 xq (i 0 + r.val) (i 1 + l.val) := fun i h l => ld_at2 xq i h r l
  have e2 : ∀ (X : Vec Ideal S384x128 .bf16) (κ : Fin 256) (l : Fin 128), View.ld X (Rect.unit off ![256, 128] i4) (ix2 κ l)
      = at2 X (off 0 + κ.val) (off 1 + l.val) := fun X κ l => ld_at2 X off i4 κ l
  split_ifs with h
  all_goals
    congr 1
    · funext κ
      refine congrArg₂ (· + ·) (Finset.sum_congr rfl fun l _ =>
        congrArg₂ (· * ·) ((e1 _ _ l).trans ?_) ((e2 xk κ l).trans ?_)) ((e0 _ _ κ).trans ?_)
      all_goals
        simp only [hoff, Matrix.cons_val]
        congr 1 <;> omega
    · funext κ
      refine (e2 xv κ d).trans ?_
      rw [hoff]
      congr 1; omega
    · first | rw [hs0] | rw [hs1]
      congr 2; omega

/-- Where the band of keys of job `j` of a point begins in its window. -/
def startA (i : grid0.Coords) (j : ℕ) : ℕ := k0_off1 i (BitVec.ofNat 32 j) 0

/-- Where the band of mixer B starts in its window, for the group `j` of the grid point. -/
def startB (i : grid0.Coords) (j : ℕ) : ℕ := k0_off5 i (BitVec.ofNat 32 j) 0

/-- The attention block of a grid point at row `R` and column `C`. -/
def blockO (i : grid0.Coords) (x0 : Vec Ideal S8 .f32) (x1 x2 : Vec Ideal S256x1024 .bf16)
    (x3 x4 : Vec Ideal S768x512 .bf16) (x5 x6 : Vec Ideal S384x128 .bf16) (x7 x8 : Vec Ideal S1x8x128x640 .f32)
    (x9 x10 : Vec Ideal S1x8x128x256 .f32) (R C : ℕ) : EReal :=
  if C < 512 then blockA x1 x3 x4 (if R < 128 then x7 else x8) (startA i (R / 128)) R C
  else blockB x0 x2 x5 x6 (if R < 128 then x9 else x10) (startB i (R / 128)) R (C - 512)

/-- A sink, read from the window that holds them all. -/
theorem sink_of (x0 : Vec Ideal S8 .f32) (p : ℕ) (inb : ∀ a, (![p] : Fin 1 → ℕ) a + (![1] : Fin 1 → ℕ) a ≤ S8.size a)
    (h : 0 < (Rect.unit (s := S8) ![p] ![1] inb).shape.numel) :
    View.ld x0 (Rect.unit ![p] ![1] inb) (Shape.Idx.first h) = at1 x0 p :=
  at1_of x0 ((Rect.unit (s := S8) ![p] ![1] inb).emb (Shape.Idx.first h)) _ (ValueKit.rect_emb_unit_val _ _ _ _ _)

/-- A lane of the first half of the window is mixer A. -/
theorem blockO_A (i : grid0.Coords) (x0 : Vec Ideal S8 .f32) (x1 x2 : Vec Ideal S256x1024 .bf16) (x3 x4 : Vec Ideal S768x512 .bf16)
    (x5 x6 : Vec Ideal S384x128 .bf16) (x7 x8 : Vec Ideal S1x8x128x640 .f32) (x9 x10 : Vec Ideal S1x8x128x256 .f32)
    (j p R C : ℕ) (hj : j < 2) (hp : p < 4) (r d : Fin 128) (hR : R = 128 * j + r.val) (hC : C = 128 * p + d.val) :
    blockA x1 x3 x4 (if j = 0 then x7 else x8) (startA i j) (128 * j + r.val) (128 * p + d.val)
      = blockO i x0 x1 x2 x3 x4 x5 x6 x7 x8 x9 x10 R C := by
  have hr := r.isLt
  have hd := d.isLt
  subst hR hC
  have hb : (if j = 0 then x7 else x8) = if 128 * j + r.val < 128 then x7 else x8 := by
    split_ifs <;> first | rfl | omega
  rw [hb, blockO, if_pos (show 128 * p + d.val < 512 by omega), show (128 * j + r.val) / 128 = j by omega]

/-- A lane of the second half of the window is mixer B. -/
theorem blockO_B (i : grid0.Coords) (x0 : Vec Ideal S8 .f32) (x1 x2 : Vec Ideal S256x1024 .bf16) (x3 x4 : Vec Ideal S768x512 .bf16)
    (x5 x6 : Vec Ideal S384x128 .bf16) (x7 x8 : Vec Ideal S1x8x128x640 .f32) (x9 x10 : Vec Ideal S1x8x128x256 .f32)
    (j p R C : ℕ) (hj : j < 2) (hp : p < 4) (r d : Fin 128) (hR : R = 128 * j + r.val) (hC : C = 512 + 128 * p + d.val) :
    blockB x0 x2 x5 x6 (if j = 0 then x9 else x10) (startB i j) (128 * j + r.val) (128 * p + d.val)
      = blockO i x0 x1 x2 x3 x4 x5 x6 x7 x8 x9 x10 R C := by
  have hr := r.isLt
  have hd := d.isLt
  subst hR hC
  have hb : (if j = 0 then x9 else x10) = if 128 * j + r.val < 128 then x9 else x10 := by
    split_ifs <;> first | rfl | omega
  rw [hb, blockO, if_neg (show ¬ 512 + 128 * p + d.val < 512 by omega), show (128 * j + r.val) / 128 = j by omega,
    show 512 + 128 * p + d.val - 512 = 128 * p + d.val by omega]

/-- An index with two axes is the pair of its numbers. -/
theorem exists_ix2 {a b : ℕ} (x : (⟨2, ![a, b]⟩ : Shape).Idx) : ∃ r d, x = ix2 r d :=
  ⟨x 0, x 1, by funext t; match t with | ⟨0, _⟩ => rfl | ⟨1, _⟩ => rfl⟩

set_option maxHeartbeats 2000000 in
set_option maxRecDepth 100000 in
/-- What a grid point leaves in the attention's window. -/
theorem out14_apply (c : Dev nD) (t : Fin cfg0.N) (x0 : Vec Ideal S8 .f32) (x1 : Vec Ideal S256x1024 .bf16) (x2 : Vec Ideal S256x1024 .bf16) (x3 : Vec Ideal S768x512 .bf16)
    (x4 : Vec Ideal S768x512 .bf16) (x5 : Vec Ideal S384x128 .bf16) (x6 : Vec Ideal S384x128 .bf16)
    (x7 : Vec Ideal S1x8x128x640 .f32) (x8 : Vec Ideal S1x8x128x640 .f32) (x9 : Vec Ideal S1x8x128x256 .f32)
    (x10 : Vec Ideal S1x8x128x256 .f32) (x11 : Vec Ideal S16x2816 .f32) (x12 : Vec Ideal S16x2816 .f32)
    (x13 : Vec Ideal S176x1024 .f32) (y : S256x1024.Idx) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) x0 x1 x2 x3 x4 x5 x6 x7 x8 x9 x10 x11 x12 x13 y
      = blockO (grid0.coords t) x0 x1 x2 x3 x4 x5 x6 x7 x8 x9 x10 (y 0).val (y 1).val := by
  unfold out0_A_14
  rw [View.read_writes_eq_canon _ _ _ (cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) x0 x1 x2 x3 x4 x5 x6 x7 x8 x9 x10 x11 x12 x13)]
  refine View.canon_apply_of_pieces (fun y : S256x1024.Idx =>
    blockO (grid0.coords t) x0 x1 x2 x3 x4 x5 x6 x7 x8 x9 x10 (y 0).val (y 1).val) _ ?_ y (cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) x0 x1 x2 x3 x4 x5 x6 x7 x8 x9 x10 x11 x12 x13 y)
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, (hs0_9 t).read_unread, (hs0_10 t).read_unread]
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    obtain ⟨r, d, rfl⟩ := exists_ix2 (a := 128) (b := 128) x
    exact (pieceB x0 x2 x5 x6 x10 1 3 (by decide) (by decide) (k0_off5 (grid0.coords t) 1#32) rfl (by decide)
      (by decide) (by decide) (by decide) (k0_off5_inb (grid0.coords t) 1) _ _ (sink_of x0 3 (by decide) (by decide)) (sink_of x0 7 (by decide) (by decide)) r d).trans
      (blockO_B (grid0.coords t) x0 x1 x2 x3 x4 x5 x6 x7 x8 x9 x10 1 3 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceB x0 x2 x5 x6 x10 1 2 (by decide) (by decide) (k0_off5 (grid0.coords t) 1#32) rfl (by decide)
      (by decide) (by decide) (by decide) (k0_off5_inb (grid0.coords t) 1) _ _ (sink_of x0 2 (by decide) (by decide)) (sink_of x0 6 (by decide) (by decide)) r d).trans
      (blockO_B (grid0.coords t) x0 x1 x2 x3 x4 x5 x6 x7 x8 x9 x10 1 2 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceB x0 x2 x5 x6 x10 1 1 (by decide) (by decide) (k0_off5 (grid0.coords t) 1#32) rfl (by decide)
      (by decide) (by decide) (by decide) (k0_off5_inb (grid0.coords t) 1) _ _ (sink_of x0 1 (by decide) (by decide)) (sink_of x0 5 (by decide) (by decide)) r d).trans
      (blockO_B (grid0.coords t) x0 x1 x2 x3 x4 x5 x6 x7 x8 x9 x10 1 1 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceB x0 x2 x5 x6 x10 1 0 (by decide) (by decide) (k0_off5 (grid0.coords t) 1#32) rfl (by decide)
      (by decide) (by decide) (by decide) (k0_off5_inb (grid0.coords t) 1) _ _ (sink_of x0 0 (by decide) (by decide)) (sink_of x0 4 (by decide) (by decide)) r d).trans
      (blockO_B (grid0.coords t) x0 x1 x2 x3 x4 x5 x6 x7 x8 x9 x10 1 0 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceB x0 x2 x5 x6 x9 0 3 (by decide) (by decide) (k0_off5 (grid0.coords t) 0#32) rfl (by decide)
      (by decide) (by decide) (by decide) (k0_off5_inb (grid0.coords t) 0) _ _ (sink_of x0 3 (by decide) (by decide)) (sink_of x0 7 (by decide) (by decide)) r d).trans
      (blockO_B (grid0.coords t) x0 x1 x2 x3 x4 x5 x6 x7 x8 x9 x10 0 3 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceB x0 x2 x5 x6 x9 0 2 (by decide) (by decide) (k0_off5 (grid0.coords t) 0#32) rfl (by decide)
      (by decide) (by decide) (by decide) (k0_off5_inb (grid0.coords t) 0) _ _ (sink_of x0 2 (by decide) (by decide)) (sink_of x0 6 (by decide) (by decide)) r d).trans
      (blockO_B (grid0.coords t) x0 x1 x2 x3 x4 x5 x6 x7 x8 x9 x10 0 2 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceB x0 x2 x5 x6 x9 0 1 (by decide) (by decide) (k0_off5 (grid0.coords t) 0#32) rfl (by decide)
      (by decide) (by decide) (by decide) (k0_off5_inb (grid0.coords t) 0) _ _ (sink_of x0 1 (by decide) (by decide)) (sink_of x0 5 (by decide) (by decide)) r d).trans
      (blockO_B (grid0.coords t) x0 x1 x2 x3 x4 x5 x6 x7 x8 x9 x10 0 1 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceB x0 x2 x5 x6 x9 0 0 (by decide) (by decide) (k0_off5 (grid0.coords t) 0#32) rfl (by decide)
      (by decide) (by decide) (by decide) (k0_off5_inb (grid0.coords t) 0) _ _ (sink_of x0 0 (by decide) (by decide)) (sink_of x0 4 (by decide) (by decide)) r d).trans
      (blockO_B (grid0.coords t) x0 x1 x2 x3 x4 x5 x6 x7 x8 x9 x10 0 0 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceA x1 x3 x4 x8 1 3 (by decide) (by decide) (k0_off4 (grid0.coords t) 1#32) rfl (by decide)
      (by decide) (by decide) (by decide) (k0_off4_inb (grid0.coords t) 1) r d).trans
      (blockO_A (grid0.coords t) x0 x1 x2 x3 x4 x5 x6 x7 x8 x9 x10 1 3 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceA x1 x3 x4 x8 1 2 (by decide) (by decide) (k0_off3 (grid0.coords t) 1#32) rfl (by decide)
      (by decide) (by decide) (by decide) (k0_off3_inb (grid0.coords t) 1) r d).trans
      (blockO_A (grid0.coords t) x0 x1 x2 x3 x4 x5 x6 x7 x8 x9 x10 1 2 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceA x1 x3 x4 x8 1 1 (by decide) (by decide) (k0_off2 (grid0.coords t) 1#32) rfl (by decide)
      (by decide) (by decide) (by decide) (k0_off2_inb (grid0.coords t) 1) r d).trans
      (blockO_A (grid0.coords t) x0 x1 x2 x3 x4 x5 x6 x7 x8 x9 x10 1 1 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceA x1 x3 x4 x8 1 0 (by decide) (by decide) (k0_off1 (grid0.coords t) 1#32) rfl (by decide)
      (by decide) (by decide) (by decide) (k0_off1_inb (grid0.coords t) 1) r d).trans
      (blockO_A (grid0.coords t) x0 x1 x2 x3 x4 x5 x6 x7 x8 x9 x10 1 0 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceA x1 x3 x4 x7 0 3 (by decide) (by decide) (k0_off4 (grid0.coords t) 0#32) rfl (by decide)
      (by decide) (by decide) (by decide) (k0_off4_inb (grid0.coords t) 0) r d).trans
      (blockO_A (grid0.coords t) x0 x1 x2 x3 x4 x5 x6 x7 x8 x9 x10 0 3 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceA x1 x3 x4 x7 0 2 (by decide) (by decide) (k0_off3 (grid0.coords t) 0#32) rfl (by decide)
      (by decide) (by decide) (by decide) (k0_off3_inb (grid0.coords t) 0) r d).trans
      (blockO_A (grid0.coords t) x0 x1 x2 x3 x4 x5 x6 x7 x8 x9 x10 0 2 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceA x1 x3 x4 x7 0 1 (by decide) (by decide) (k0_off2 (grid0.coords t) 0#32) rfl (by decide)
      (by decide) (by decide) (by decide) (k0_off2_inb (grid0.coords t) 0) r d).trans
      (blockO_A (grid0.coords t) x0 x1 x2 x3 x4 x5 x6 x7 x8 x9 x10 0 1 _ _ (by decide) (by decide) r d
        (ValueKit.rect_emb_unit_val _ _ _ _ _) (ValueKit.rect_emb_unit_val _ _ _ _ _))
  · intro x
    obtain ⟨r, d, rfl⟩ := exists_ix2 (a := 128) (b := 128) x
    exact (pieceA x1 x3 x4 x7 0 0 (by decide) (by decide) (k0_off1 (grid0.coords t) 0#32) rfl (by decide)
      (by decide) (by decide) (by decide) (k0_off1_inb (grid0.coords t) 0) r d).trans
      (blockO_A (grid0.coords t) x0 x1 x2 x3 x4 x5 x6 x7 x8 x9 x10 0 0 _ _ (by decide) (by decide) r d
        (ValueKit.rect_emb_unit_val _ _ _ _ _) (ValueKit.rect_emb_unit_val _ _ _ _ _))

end Cert.KernelIdeal.Attn
end
-- ==== Proof.Blocks.lean ====
module

public import proofs.«01_k».proof.Proof.Jobs

@[expose] public section

set_option maxRecDepth 16384

noncomputable section

/-! The input blocks of a grid point, read in the arrays they are cut from. -/

namespace Cert.KernelIdeal.Attn

open Cert.KernelIdeal Cert.KernelIdeal.Gen Cert.Attn Idealize.ShloMosaic Idealize.ShloMosaic.TcCoe Idealize.SL.Sem
open Idealize.ShloMosaic.Pipeline (Dat)

variable (m : (ℓ : Loc nD τ sig) → Buf (Elt Ideal) ℓ)

/-- The queries of a point are its 256 rows. -/
theorem iblk1_at (c : Dev nD) (t : Fin cfg0.N) (i j : ℕ) (hi : i < 256) (hj : j < 1024) :
    at2 (a := 256) (b := 1024) (iblk m c 1 t) i j = at2 (V m c main_v124) (256 * t.val + i) j := by
  have e : ∀ t : Fin cfg0.N, win0_1.index t 0 = t.val := by decide +kernel
  have e1 : ∀ t : Fin cfg0.N, win0_1.index t 1 = 0 := by decide +kernel
  rw [at2, dif_pos ⟨hi, hj⟩]
  blk_simp [iblk]
  refine at2_of _ _ _ _ ?_ ?_
  · blk_simp [e t]
    show t.val * 256 + i = 256 * t.val + i
    omega
  · blk_simp [e1 t]

/-- The queries of a point are its 256 rows. -/
theorem iblk2_at (c : Dev nD) (t : Fin cfg0.N) (i j : ℕ) (hi : i < 256) (hj : j < 1024) :
    at2 (a := 256) (b := 1024) (iblk m c 2 t) i j = at2 (V m c main_v137) (256 * t.val + i) j := by
  have e : ∀ t : Fin cfg0.N, win0_2.index t 0 = t.val := by decide +kernel
  have e1 : ∀ t : Fin cfg0.N, win0_2.index t 1 = 0 := by decide +kernel
  rw [at2, dif_pos ⟨hi, hj⟩]
  blk_simp [iblk]
  refine at2_of _ _ _ _ ?_ ?_
  · blk_simp [e t]
    show t.val * 256 + i = 256 * t.val + i
    omega
  · blk_simp [e1 t]

/-- The band of mixer A's keys (values) begins 512 rows before the point's rows, or where the batch begins. -/
theorem iblk3_at (c : Dev nD) (t : Fin cfg0.N) (i j : ℕ) (hi : i < 768) (hj : j < 512) :
    at2 (a := 768) (b := 512) (iblk m c 3 t) i j = at2 (V m c main_arg2) ((t.val / 32 * 8192 + (t.val % 32 * 256 - 512)) + i) j := by
  have e : ∀ t : Fin cfg0.N, win0_3.index t 0 = t.val / 32 * 8192 + (t.val % 32 * 256 - 512) := by decide +kernel
  have e1 : ∀ t : Fin cfg0.N, win0_3.index t 1 = 0 := by decide +kernel
  rw [at2, dif_pos ⟨hi, hj⟩]
  blk_simp [iblk]
  refine at2_of _ _ _ _ ?_ ?_
  · exact (ValueKit.view_emb_slice_whole_unit_val _ _ _ _ _ _).trans (congrArg (· + i) (e t))
  · exact ((ValueKit.view_emb_slice_whole_unit_val _ _ _ _ _ _).trans (congrArg (· + j) (e1 t))).trans (Nat.zero_add j)

/-- The band of mixer A's keys (values) begins 512 rows before the point's rows, or where the batch begins. -/
theorem iblk4_at (c : Dev nD) (t : Fin cfg0.N) (i j : ℕ) (hi : i < 768) (hj : j < 512) :
    at2 (a := 768) (b := 512) (iblk m c 4 t) i j = at2 (V m c main_arg3) ((t.val / 32 * 8192 + (t.val % 32 * 256 - 512)) + i) j := by
  have e : ∀ t : Fin cfg0.N, win0_4.index t 0 = t.val / 32 * 8192 + (t.val % 32 * 256 - 512) := by decide +kernel
  have e1 : ∀ t : Fin cfg0.N, win0_4.index t 1 = 0 := by decide +kernel
  rw [at2, dif_pos ⟨hi, hj⟩]
  blk_simp [iblk]
  refine at2_of _ _ _ _ ?_ ?_
  · exact (ValueKit.view_emb_slice_whole_unit_val _ _ _ _ _ _).trans (congrArg (· + i) (e t))
  · exact ((ValueKit.view_emb_slice_whole_unit_val _ _ _ _ _ _).trans (congrArg (· + j) (e1 t))).trans (Nat.zero_add j)

/-- The band of mixer B's keys (values) begins 128 rows before the point's rows, or where the batch begins. -/
theorem iblk5_at (c : Dev nD) (t : Fin cfg0.N) (i j : ℕ) (hi : i < 384) (hj : j < 128) :
    at2 (a := 384) (b := 128) (iblk m c 5 t) i j = at2 (V m c main_arg4) ((t.val / 32 * 8192 + (t.val % 32 * 256 - 128)) + i) j := by
  have e : ∀ t : Fin cfg0.N, win0_5.index t 0 = t.val / 32 * 8192 + (t.val % 32 * 256 - 128) := by decide +kernel
  have e1 : ∀ t : Fin cfg0.N, win0_5.index t 1 = 0 := by decide +kernel
  rw [at2, dif_pos ⟨hi, hj⟩]
  blk_simp [iblk]
  refine at2_of _ _ _ _ ?_ ?_
  · exact (ValueKit.view_emb_slice_whole_unit_val _ _ _ _ _ _).trans (congrArg (· + i) (e t))
  · exact ((ValueKit.view_emb_slice_whole_unit_val _ _ _ _ _ _).trans (congrArg (· + j) (e1 t))).trans (Nat.zero_add j)

/-- The band of mixer B's keys (values) begins 128 rows before the point's rows, or where the batch begins. -/
theorem iblk6_at (c : Dev nD) (t : Fin cfg0.N) (i j : ℕ) (hi : i < 384) (hj : j < 128) :
    at2 (a := 384) (b := 128) (iblk m c 6 t) i j = at2 (V m c main_arg5) ((t.val / 32 * 8192 + (t.val % 32 * 256 - 128)) + i) j := by
  have e : ∀ t : Fin cfg0.N, win0_6.index t 0 = t.val / 32 * 8192 + (t.val % 32 * 256 - 128) := by decide +kernel
  have e1 : ∀ t : Fin cfg0.N, win0_6.index t 1 = 0 := by decide +kernel
  rw [at2, dif_pos ⟨hi, hj⟩]
  blk_simp [iblk]
  refine at2_of _ _ _ _ ?_ ?_
  · exact (ValueKit.view_emb_slice_whole_unit_val _ _ _ _ _ _).trans (congrArg (· + i) (e t))
  · exact ((ValueKit.view_emb_slice_whole_unit_val _ _ _ _ _ _).trans (congrArg (· + j) (e1 t))).trans (Nat.zero_add j)

/-- The bias of a point's queries is the slab of the variant that the group of queries names. -/
theorem iblk7_at (c : Dev nD) (t : Fin cfg0.N) (h r κ : ℕ) (hh : h < 8) (hr : r < 128) (hκ : κ < 640) :
    at4 (a := 1) (b := 8) (c := 128) (d := 640) (iblk m c 7 t) 0 h r κ = at4 (V m c main_v36) (min (t.val % 32 * 2) 4) h r κ := by
  have e : ∀ t : Fin cfg0.N, win0_7.index t 0 = min (t.val % 32 * 2) 4 := by decide +kernel
  have e1 : ∀ t : Fin cfg0.N, win0_7.index t 1 = 0 := by decide +kernel
  have e2 : ∀ t : Fin cfg0.N, win0_7.index t 2 = 0 := by decide +kernel
  have e3 : ∀ t : Fin cfg0.N, win0_7.index t 3 = 0 := by decide +kernel
  rw [at4, dif_pos ⟨by decide, hh, hr, hκ⟩]
  blk_simp [iblk]
  refine at4_of _ _ _ _ _ _ ?_ ?_ ?_ ?_
  · blk_simp [e t]
    rfl
  · blk_simp [e1 t]
  · blk_simp [e2 t]
  · blk_simp [e3 t]

/-- The bias of a point's queries is the slab of the variant that the group of queries names. -/
theorem iblk8_at (c : Dev nD) (t : Fin cfg0.N) (h r κ : ℕ) (hh : h < 8) (hr : r < 128) (hκ : κ < 640) :
    at4 (a := 1) (b := 8) (c := 128) (d := 640) (iblk m c 8 t) 0 h r κ = at4 (V m c main_v36) (min (t.val % 32 * 2 + 1) 4) h r κ := by
  have e : ∀ t : Fin cfg0.N, win0_8.index t 0 = min (t.val % 32 * 2 + 1) 4 := by decide +kernel
  have e1 : ∀ t : Fin cfg0.N, win0_8.index t 1 = 0 := by decide +kernel
  have e2 : ∀ t : Fin cfg0.N, win0_8.index t 2 = 0 := by decide +kernel
  have e3 : ∀ t : Fin cfg0.N, win0_8.index t 3 = 0 := by decide +kernel
  rw [at4, dif_pos ⟨by decide, hh, hr, hκ⟩]
  blk_simp [iblk]
  refine at4_of _ _ _ _ _ _ ?_ ?_ ?_ ?_
  · blk_simp [e t]
    rfl
  · blk_simp [e1 t]
  · blk_simp [e2 t]
  · blk_simp [e3 t]

/-- The bias of a point's queries is the slab of the variant that the group of queries names. -/
theorem iblk9_at (c : Dev nD) (t : Fin cfg0.N) (h r κ : ℕ) (hh : h < 8) (hr : r < 128) (hκ : κ < 256) :
    at4 (a := 1) (b := 8) (c := 128) (d := 256) (iblk m c 9 t) 0 h r κ = at4 (V m c main_v111) (min (t.val % 32 * 2) 1) h r κ := by
  have e : ∀ t : Fin cfg0.N, win0_9.index t 0 = min (t.val % 32 * 2) 1 := by decide +kernel
  have e1 : ∀ t : Fin cfg0.N, win0_9.index t 1 = 0 := by decide +kernel
  have e2 : ∀ t : Fin cfg0.N, win0_9.index t 2 = 0 := by decide +kernel
  have e3 : ∀ t : Fin cfg0.N, win0_9.index t 3 = 0 := by decide +kernel
  rw [at4, dif_pos ⟨by decide, hh, hr, hκ⟩]
  blk_simp [iblk]
  refine at4_of _ _ _ _ _ _ ?_ ?_ ?_ ?_
  · blk_simp [e t]
    rfl
  · blk_simp [e1 t]
  · blk_simp [e2 t]
  · blk_simp [e3 t]

/-- The bias of a point's queries is the slab of the variant that the group of queries names. -/
theorem iblk10_at (c : Dev nD) (t : Fin cfg0.N) (h r κ : ℕ) (hh : h < 8) (hr : r < 128) (hκ : κ < 256) :
    at4 (a := 1) (b := 8) (c := 128) (d := 256) (iblk m c 10 t) 0 h r κ = at4 (V m c main_v111) (min (t.val % 32 * 2 + 1) 1) h r κ := by
  have e : ∀ t : Fin cfg0.N, win0_10.index t 0 = min (t.val % 32 * 2 + 1) 1 := by decide +kernel
  have e1 : ∀ t : Fin cfg0.N, win0_10.index t 1 = 0 := by decide +kernel
  have e2 : ∀ t : Fin cfg0.N, win0_10.index t 2 = 0 := by decide +kernel
  have e3 : ∀ t : Fin cfg0.N, win0_10.index t 3 = 0 := by decide +kernel
  rw [at4, dif_pos ⟨by decide, hh, hr, hκ⟩]
  blk_simp [iblk]
  refine at4_of _ _ _ _ _ _ ?_ ?_ ?_ ?_
  · blk_simp [e t]
    rfl
  · blk_simp [e1 t]
  · blk_simp [e2 t]
  · blk_simp [e3 t]

/-- The sinks are the same at every point. -/
theorem iblk0_at (c : Dev nD) (t : Fin cfg0.N) (i : ℕ) (hi : i < 8) :
    at1 (a := 8) (iblk m c 0 t) i = at1 (V m c main_arg8) i := by
  have e : ∀ t : Fin cfg0.N, win0_0.index t 0 = 0 := by decide +kernel
  rw [at1, dif_pos hi]
  blk_simp [iblk]
  refine at1_of _ _ _ ?_
  blk_simp [e t]

end Cert.KernelIdeal.Attn
end
-- ==== Proof.Out.lean ====
module

public import proofs.«01_k».proof.Proof.Blocks

@[expose] public section

set_option maxRecDepth 16384

noncomputable section

/-! The attention array the kernel leaves, at every row and column, from the prepared queries and score tables and the
    keys and values. -/

namespace Cert.KernelIdeal.Attn

open Cert.KernelIdeal Cert.KernelIdeal.Gen Cert.Attn Idealize.ShloMosaic Idealize.ShloMosaic.TcCoe Idealize.SL.Sem
open Idealize.ShloMosaic.Pipeline (Dat)

/-- Where a group's band of mixer A begins within the band of its grid point. -/
theorem startA_eq : ∀ (t : Fin cfg0.N) (j : Fin 2), startA (grid0.coords t) j.val
    = (128 * (2 * (t.val % 32) + j.val) - 512) - (256 * (t.val % 32) - 512) :=
  (by decide +kernel : ∀ (t : Fin 64) (j : Fin 2), startA (grid0.coords t) j.val
    = (128 * (2 * (t.val % 32) + j.val) - 512) - (256 * (t.val % 32) - 512))

/-- Where a group's band of mixer B begins within the band of its grid point. -/
theorem startB_eq : ∀ (t : Fin cfg0.N) (j : Fin 2), startB (grid0.coords t) j.val
    = (128 * (2 * (t.val % 32) + j.val) - 128) - (256 * (t.val % 32) - 128) :=
  (by decide +kernel : ∀ (t : Fin 64) (j : Fin 2), startB (grid0.coords t) j.val
    = (128 * (2 * (t.val % 32) + j.val) - 128) - (256 * (t.val % 32) - 128))

variable (m : (ℓ : Loc nD τ sig) → Buf (Elt Ideal) ℓ)

/-- Mixer A's half of the result at row `R` and column `C`. -/
def outA (c : Dev nD) (R C : ℕ) : EReal :=
  rowA (fun κ : Fin 640 => (∑ x : Fin 128, at2 (a := 16384) (b := 1024) (V m c main_v124) R (C / 64 % 2 * 512 + C / 128 * 128 + x.val)
      * at2 (a := 16384) (b := 512) (V m c main_arg2) ((R / 8192 * 8192 + (128 * (R % 8192 / 128) - 512)) + κ.val) (C / 128 * 128 + x.val))
      + at4 (a := 5) (b := 8) (c := 128) (d := 640) (V m c main_v36) (min (R % 8192 / 128) 4) (C / 64) (R % 128) κ.val)
    (fun κ => at2 (a := 16384) (b := 512) (V m c main_arg3) ((R / 8192 * 8192 + (128 * (R % 8192 / 128) - 512)) + κ.val) C)

/-- Mixer B's half of the result at row `R` and column `C`. -/
def outB (c : Dev nD) (R C : ℕ) : EReal :=
  rowB (fun κ : Fin 256 => (∑ x : Fin 128, at2 (a := 16384) (b := 1024) (V m c main_v137) R (C / 64 % 2 * 512 + C / 128 * 128 + x.val)
      * at2 (a := 16384) (b := 128) (V m c main_arg4) ((R / 8192 * 8192 + (128 * (R % 8192 / 128) - 128)) + κ.val) x.val)
      + at4 (a := 2) (b := 8) (c := 128) (d := 256) (V m c main_v111) (min (R % 8192 / 128) 1) (C / 128 + C / 64 % 2 * 4) (R % 128) κ.val)
    (fun κ => at2 (a := 16384) (b := 128) (V m c main_arg5) ((R / 8192 * 8192 + (128 * (R % 8192 / 128) - 128)) + κ.val) (C % 128))
    (at1 (a := 8) (V m c main_arg8) (C / 128 + C / 64 % 2 * 4) * (((Real.log 2)⁻¹ : ℝ) : EReal))

/-- Mixer A's half of a point's block is its part of the result. -/
theorem blockA_out (c : Dev nD) (t : Fin cfg0.N) (R C : ℕ) (hR : R < 256) (hC : C < 512) :
    blockA (iblk m c 1 t) (iblk m c 3 t) (iblk m c 4 t) (if R < 128 then iblk m c 7 t else iblk m c 8 t)
      (startA (grid0.coords t) (R / 128)) R C = outA m c (256 * t.val + R) C := by
  have ht : t.val < 64 := t.isLt
  have hs := startA_eq t ⟨R / 128, by omega⟩
  dsimp only at hs
  have hb : ∀ κ : ℕ, (t.val / 32 * 8192 + (t.val % 32 * 256 - 512)) + (startA (grid0.coords t) (R / 128) + κ)
      = ((256 * t.val + R) / 8192 * 8192 + (128 * ((256 * t.val + R) % 8192 / 128) - 512)) + κ := by
    intro κ; rw [hs]; omega
  have hl : startA (grid0.coords t) (R / 128) ≤ 128 := by rw [hs]; omega
  have hk : ∀ (κ : Fin 640) (x : Fin 128), at2 (a := 768) (b := 512) (iblk m c 3 t) (startA (grid0.coords t) (R / 128) + κ.val) (C / 128 * 128 + x.val)
      = at2 (a := 16384) (b := 512) (V m c main_arg2) (((256 * t.val + R) / 8192 * 8192 + (128 * ((256 * t.val + R) % 8192 / 128) - 512)) + κ.val) (C / 128 * 128 + x.val) := by
    intro κ x
    rw [iblk3_at m c t _ _ (by omega) (by omega), hb]
  have hv : ∀ (κ : Fin 640), at2 (a := 768) (b := 512) (iblk m c 4 t) (startA (grid0.coords t) (R / 128) + κ.val) C
      = at2 (a := 16384) (b := 512) (V m c main_arg3) (((256 * t.val + R) / 8192 * 8192 + (128 * ((256 * t.val + R) % 8192 / 128) - 512)) + κ.val) C := by
    intro κ
    rw [iblk4_at m c t _ _ (by omega) (by omega), hb]
  have hq : ∀ (x : Fin 128), at2 (a := 256) (b := 1024) (iblk m c 1 t) R (C / 64 % 2 * 512 + C / 128 * 128 + x.val)
      = at2 (a := 16384) (b := 1024) (V m c main_v124) (256 * t.val + R) (C / 64 % 2 * 512 + C / 128 * 128 + x.val) :=
    fun x => iblk1_at m c t _ _ hR (by omega)
  have hz : ∀ (κ : Fin 640), at4 (a := 1) (b := 8) (c := 128) (d := 640) (if R < 128 then iblk m c 7 t else iblk m c 8 t) 0 (C / 64) (R % 128) κ.val
      = at4 (a := 5) (b := 8) (c := 128) (d := 640) (V m c main_v36) (min ((256 * t.val + R) % 8192 / 128) 4) (C / 64) ((256 * t.val + R) % 128) κ.val := by
    intro κ
    have e : (256 * t.val + R) % 128 = R % 128 := by omega
    rw [e]
    split_ifs with h
    · refine (iblk7_at m c t _ _ _ (by omega) (by omega) (by omega)).trans ?_
      congr 1; omega
    · refine (iblk8_at m c t _ _ _ (by omega) (by omega) (by omega)).trans ?_
      congr 1; omega
  unfold blockA outA
  congr 1
  · funext κ
    rw [hz κ]
    congr 1
    exact Finset.sum_congr rfl fun x _ => by rw [hq x, hk κ x]
  · funext κ
    exact hv κ

/-- Mixer B's half of a point's block is its part of the result. -/
theorem blockB_out (c : Dev nD) (t : Fin cfg0.N) (R C : ℕ) (hR : R < 256) (hC : C < 512) :
    blockB (iblk m c 0 t) (iblk m c 2 t) (iblk m c 5 t) (iblk m c 6 t) (if R < 128 then iblk m c 9 t else iblk m c 10 t)
      (startB (grid0.coords t) (R / 128)) R C = outB m c (256 * t.val + R) C := by
  have ht : t.val < 64 := t.isLt
  have hs := startB_eq t ⟨R / 128, by omega⟩
  dsimp only at hs
  have hb : ∀ κ : ℕ, (t.val / 32 * 8192 + (t.val % 32 * 256 - 128)) + (startB (grid0.coords t) (R / 128) + κ)
      = ((256 * t.val + R) / 8192 * 8192 + (128 * ((256 * t.val + R) % 8192 / 128) - 128)) + κ := by
    intro κ; rw [hs]; omega
  have hl : startB (grid0.coords t) (R / 128) ≤ 128 := by rw [hs]; omega
  have hk : ∀ (κ : Fin 256) (x : Fin 128), at2 (a := 384) (b := 128) (iblk m c 5 t) (startB (grid0.coords t) (R / 128) + κ.val) x.val
      = at2 (a := 16384) (b := 128) (V m c main_arg4) (((256 * t.val + R) / 8192 * 8192 + (128 * ((256 * t.val + R) % 8192 / 128) - 128)) + κ.val) x.val := by
    intro κ x
    rw [iblk5_at m c t _ _ (by omega) (by omega), hb]
  have hv : ∀ (κ : Fin 256), at2 (a := 384) (b := 128) (iblk m c 6 t) (startB (grid0.coords t) (R / 128) + κ.val) (C % 128)
      = at2 (a := 16384) (b := 128) (V m c main_arg5) (((256 * t.val + R) / 8192 * 8192 + (128 * ((256 * t.val + R) % 8192 / 128) - 128)) + κ.val) (C % 128) := by
    intro κ
    rw [iblk6_at m c t _ _ (by omega) (by omega), hb]
  have hq : ∀ (x : Fin 128), at2 (a := 256) (b := 1024) (iblk m c 2 t) R (C / 64 % 2 * 512 + C / 128 * 128 + x.val)
      = at2 (a := 16384) (b := 1024) (V m c main_v137) (256 * t.val + R) (C / 64 % 2 * 512 + C / 128 * 128 + x.val) :=
    fun x => iblk2_at m c t _ _ hR (by omega)
  have hz : ∀ (κ : Fin 256), at4 (a := 1) (b := 8) (c := 128) (d := 256) (if R < 128 then iblk m c 9 t else iblk m c 10 t) 0 (C / 128 + C / 64 % 2 * 4) (R % 128) κ.val
      = at4 (a := 2) (b := 8) (c := 128) (d := 256) (V m c main_v111) (min ((256 * t.val + R) % 8192 / 128) 1) (C / 128 + C / 64 % 2 * 4) ((256 * t.val + R) % 128) κ.val := by
    intro κ
    have e : (256 * t.val + R) % 128 = R % 128 := by omega
    rw [e]
    split_ifs with h
    · refine (iblk9_at m c t _ _ _ (by omega) (by omega) (by omega)).trans ?_
      congr 1; omega
    · refine (iblk10_at m c t _ _ _ (by omega) (by omega) (by omega)).trans ?_
      congr 1; omega
  unfold blockB outB
  rw [iblk0_at m c t _ (by omega)]
  congr 1
  · funext κ
    rw [hz κ]
    congr 1
    exact Finset.sum_congr rfl fun x _ => by rw [hq x, hk κ x]
  · funext κ
    exact hv κ

/-- What a point leaves in the attention block's buffer. -/
theorem left14 (c : Dev nD) (t : Fin cfg0.N) (y : S256x1024.Idx) :
    ((outsAt0 m c t).1 : S256x1024.Idx → EReal) y = blockO (grid0.coords t) (iblk m c 0 t) (iblk m c 1 t) (iblk m c 2 t)
      (iblk m c 3 t) (iblk m c 4 t) (iblk m c 5 t) (iblk m c 6 t) (iblk m c 7 t) (iblk m c 8 t) (iblk m c 9 t)
      (iblk m c 10 t) (y 0).val (y 1).val := by
  unfold outsAt0
  exact out14_apply c t (iblk m c 0 t) (iblk m c 1 t) (iblk m c 2 t)
      (iblk m c 3 t) (iblk m c 4 t) (iblk m c 5 t) (iblk m c 6 t) (iblk m c 7 t) (iblk m c 8 t) (iblk m c 9 t)
      (iblk m c 10 t) (iblk m c 11 t) (iblk m c 12 t) (iblk m c 13 t) y

/-- The block of a point is its part of the result. -/
theorem blockO_out (c : Dev nD) (t : Fin cfg0.N) (R C : ℕ) (hR : R < 256) (hC : C < 1024) :
    blockO (grid0.coords t) (iblk m c 0 t) (iblk m c 1 t) (iblk m c 2 t)
      (iblk m c 3 t) (iblk m c 4 t) (iblk m c 5 t) (iblk m c 6 t) (iblk m c 7 t) (iblk m c 8 t) (iblk m c 9 t)
      (iblk m c 10 t) R C = if C < 512 then outA m c (256 * t.val + R) C else outB m c (256 * t.val + R) (C - 512) := by
  unfold blockO
  by_cases h : C < 512
  · rw [if_pos h, if_pos h]
    exact blockA_out m c t R C hR h
  · rw [if_neg h, if_neg h]
    exact blockB_out m c t R (C - 512) hR (by omega)

/-- The attention array after the run. -/
theorem out14 (c : Dev nD) :
    (dats m 0 c).arrAt 14 cfg0.N = (fun i : S16384x1024.Idx =>
      if (i 1).val < 512 then outA m c (i 0).val (i 1).val else outB m c (i 0).val ((i 1).val - 512) : S16384x1024.Idx → EReal) := by
  have e : ∀ t : Fin cfg0.N, win0_14.index t 0 = t.val := by decide +kernel
  have e1 : ∀ t : Fin cfg0.N, win0_14.index t 1 = 0 := by decide +kernel
  refine (dats m 0 c).arrAt_eq_of_covers 14 _ (by decide +kernel) fun t hf y => ?_
  obtain ⟨R, C, hy⟩ := exists_ix2 (a := 256) (b := 1024) y
  subst hy
  blk_simp [e t, e1 t]
  rw [after0_14]
  have hr : t.val * 256 + R.val = 256 * t.val + R.val := by omega
  rw [hr]
  exact (left14 m c t (ix2 R C)).trans (blockO_out m c t R.val C.val R.isLt C.isLt)

end Cert.KernelIdeal.Attn
-- ==== Proof.Words.lean ====
module

public import Idealize.ShloMosaic.Lib.Pointwise

@[expose] public section

set_option maxRecDepth 16384

noncomputable section

/-! The index words of the kernel's host preparation and of the reference, as numbers. -/

namespace Cert.Attn

open Idealize.ShloMosaic

/-- The word of a natural number is that of the integer. -/
theorem word_nat (n : ℕ) : BitVec.ofNat 32 n = BitVec.ofInt 32 (n : ℤ) := (BitVec.ofInt_natCast 32 n).symm

/-- Words add as integers do. -/
theorem word_add (a b : ℤ) : IntOp.addi (BitVec.ofInt 32 a) (BitVec.ofInt 32 b) = BitVec.ofInt 32 (a + b) :=
  (BitVec.ofInt_add a b).symm

/-- Words multiply as integers do. -/
theorem word_mul (a b : ℤ) : IntOp.muli (BitVec.ofInt 32 a) (BitVec.ofInt 32 b) = BitVec.ofInt 32 (a * b) :=
  (BitVec.ofInt_mul a b).symm

/-- Words subtract as integers do. -/
theorem word_sub (a b : ℤ) : IntOp.subi (BitVec.ofInt 32 a) (BitVec.ofInt 32 b) = BitVec.ofInt 32 (a - b) := by
  show BitVec.ofInt 32 a - BitVec.ofInt 32 b = _
  rw [sub_eq_add_neg a b, BitVec.ofInt_add, BitVec.ofInt_neg, BitVec.sub_eq_add_neg]

/-- A selection by a decided word. -/
theorem select_ofBool {α : Type} (b : Bool) (x y : α) : Scalar.select (BitVec.ofBool b) x y = if b then x else y := by
  cases b <;> rfl

/-- A selection by a set bit. -/
theorem select_one {α : Type} (x y : α) : Scalar.select 1#1 x y = x := rfl

/-- An index word as a number no greater than `m`: a negative word first has `w` added. -/
def wrapped (w : BitVec 32) (z : BitVec 32) (m : ℕ) : ℕ :=
  min (BitVec.toInt (Scalar.select (IntOp.cmpi .slt z 0#32) (IntOp.addi z w) z)).toNat m

/-- The clipped relative position as an index word. -/
def clipWord (z : BitVec 32) : BitVec 32 :=
  IntOp.addi (IntOp.minsi (128#32) (IntOp.maxsi (4294967168#32) z)) 128#32

/-- The clipped relative position from `-1300` to `1300`. -/
theorem clipWord_table : ∀ z : Fin 2600,
    wrapped 257#32 (clipWord (BitVec.ofInt 32 ((z.val : ℤ) - 1300))) 256 = min (z.val - 1172) 256 := by
  decide +kernel

/-- The clipped relative position as a number. -/
theorem clipWord_eq (z : ℤ) (h : -1300 ≤ z) (h' : z < 1300) :
    wrapped 257#32 (clipWord (BitVec.ofInt 32 z)) 256 = min (z + 128).toNat 256 := by
  have := clipWord_table ⟨(z + 1300).toNat, by omega⟩
  have e : (((z + 1300).toNat : ℕ) : ℤ) - 1300 = z := by omega
  simp only [e] at this
  rw [this]
  omega

/-- A chunk number as an index word is itself. -/
theorem chunkWord_A : ∀ m : Fin 137, wrapped 136#32 (BitVec.ofInt 32 (m.val : ℤ)) 135 = min m.val 135 := by
  decide +kernel

/-- A chunk number as an index word is itself. -/
theorem chunkWord_B : ∀ m : Fin 131, wrapped 130#32 (BitVec.ofInt 32 (m.val : ℤ)) 129 = min m.val 129 := by
  decide +kernel

/-- The word tested against zero. -/
theorem word_sge (z : ℤ) (h : -100000 ≤ z) (h' : z < 100000) :
    IntOp.cmpi .sge (BitVec.ofInt 32 z) 0#32 = BitVec.ofBool (decide (0 ≤ z)) := by
  show BitVec.ofBool ((0#32).sle (BitVec.ofInt 32 z)) = _
  rw [BitVec.sle_eq_decide, BitVec.toInt_ofInt_eq_self (by decide) (by norm_num; omega) (by norm_num; omega)]
  rfl

/-- The kernel's two comparisons of chunks, from the shifted words. -/
def bandWord (c : BitVec 32) (κ r : BitVec 32) : BitVec 1 :=
  IntOp.andi (IntOp.cmpi .sge (IntOp.shrsi .host κ 6#32) (IntOp.subi (IntOp.shrsi .host r 6#32) c))
    (IntOp.cmpi .sle (IntOp.shrsi .host κ 6#32) (IntOp.shrsi .host r 6#32))

/-- The chunk of a query within its pair of chunks. -/
theorem shift_query : ∀ r : Fin 128,
    IntOp.shrsi .host (BitVec.ofInt 32 (r.val : ℤ)) 6#32 = BitVec.ofInt 32 ((r.val / 64 : ℕ) : ℤ) := by
  decide +kernel

/-- The chunk test of mixer A, word by word. -/
theorem bandWord_tableA : ∀ z : Fin 1152, ∀ a : Fin 2,
    IntOp.andi (IntOp.cmpi .sge (IntOp.shrsi .host (BitVec.ofInt 32 ((z.val : ℤ) - 512)) 6#32)
        (IntOp.subi (BitVec.ofInt 32 (a.val : ℤ)) 8#32))
      (IntOp.cmpi .sle (IntOp.shrsi .host (BitVec.ofInt 32 ((z.val : ℤ) - 512)) 6#32) (BitVec.ofInt 32 (a.val : ℤ)))
      = BitVec.ofBool (decide (64 * a.val ≤ z.val ∧ z.val < 64 * a.val + 576)) := by
  decide +kernel

/-- The chunk test of mixer B, word by word. -/
theorem bandWord_tableB : ∀ z : Fin 384, ∀ a : Fin 2,
    IntOp.andi (IntOp.cmpi .sge (IntOp.shrsi .host (BitVec.ofInt 32 ((z.val : ℤ) - 128)) 6#32)
        (IntOp.subi (BitVec.ofInt 32 (a.val : ℤ)) 2#32))
      (IntOp.cmpi .sle (IntOp.shrsi .host (BitVec.ofInt 32 ((z.val : ℤ) - 128)) 6#32) (BitVec.ofInt 32 (a.val : ℤ)))
      = BitVec.ofBool (decide (64 * a.val ≤ z.val ∧ z.val < 64 * a.val + 192)) := by
  decide +kernel

/-- Mixer A: which keys of the block a query of it sees, in numbers. -/
theorem bandWord_A (z : ℤ) (r : ℕ) (h : -512 ≤ z) (h' : z < 640) (hr : r < 128) :
    bandWord 8#32 (BitVec.ofInt 32 z) (BitVec.ofInt 32 (r : ℤ))
      = BitVec.ofBool (decide (64 * (r / 64) ≤ (z + 512).toNat ∧ (z + 512).toNat < 64 * (r / 64) + 576)) := by
  have := bandWord_tableA ⟨(z + 512).toNat, by omega⟩ ⟨r / 64, by omega⟩
  have e : (((z + 512).toNat : ℕ) : ℤ) - 512 = z := by omega
  simp only [e] at this
  rw [bandWord, shift_query ⟨r, hr⟩]
  exact this

/-- Mixer B: which keys of the block a query of it sees, in numbers. -/
theorem bandWord_B (z : ℤ) (r : ℕ) (h : -128 ≤ z) (h' : z < 256) (hr : r < 128) :
    bandWord 2#32 (BitVec.ofInt 32 z) (BitVec.ofInt 32 (r : ℤ))
      = BitVec.ofBool (decide (64 * (r / 64) ≤ (z + 128).toNat ∧ (z + 128).toNat < 64 * (r / 64) + 192)) := by
  have := bandWord_tableB ⟨(z + 128).toNat, by omega⟩ ⟨r / 64, by omega⟩
  have e : (((z + 128).toNat : ℕ) : ℤ) - 128 = z := by omega
  simp only [e] at this
  rw [bandWord, shift_query ⟨r, hr⟩]
  exact this

/-! ## The logarithmic buckets -/

/-- The bucket of a relative position `z`. -/
def bucket (z : ℤ) : ℕ :=
  (if 0 < z then 16 else 0) + (if z.natAbs < 8 then z.natAbs else min (8 + Nat.log2 (z.natAbs * z.natAbs / 64)) 15)

/-- The kernel's bucket: a count of the squares passed. -/
def kernelBucket (n0 n1 n2 : BitVec 32) : BitVec 32 :=
  IntOp.addi (Scalar.select (IntOp.cmpi .sgt n0 0#32) 16#32 0#32)
    (Scalar.select (IntOp.cmpi .slt n1 8#32) n1
      (IntOp.addi
        (IntOp.addi
          (IntOp.addi
            (IntOp.addi
              (IntOp.addi
                (IntOp.addi
                  (IntOp.addi (8#32) (Scalar.select (IntOp.cmpi .sge n2 128#32) 1#32 0#32))
                  (Scalar.select (IntOp.cmpi .sge n2 256#32) 1#32 0#32))
                (Scalar.select (IntOp.cmpi .sge n2 512#32) 1#32 0#32))
              (Scalar.select (IntOp.cmpi .sge n2 1024#32) 1#32 0#32))
            (Scalar.select (IntOp.cmpi .sge n2 2048#32) 1#32 0#32))
          (Scalar.select (IntOp.cmpi .sge n2 4096#32) 1#32 0#32))
        (Scalar.select (IntOp.cmpi .sge n2 8192#32) 1#32 0#32)))

/-- The kernel's bucket, distance by distance. -/
theorem kernelBucket_table : ∀ z : Fin 511,
    wrapped 32#32 (kernelBucket (BitVec.ofInt 32 ((z.val : ℤ) - 255)) (IntOp.absi (BitVec.ofInt 32 ((z.val : ℤ) - 255)))
      (IntOp.muli (IntOp.absi (BitVec.ofInt 32 ((z.val : ℤ) - 255))) (IntOp.absi (BitVec.ofInt 32 ((z.val : ℤ) - 255))))) 31
      = bucket ((z.val : ℤ) - 255) := by
  decide +kernel

/-- The kernel's bucket word as a number. -/
theorem kernelBucket_eq (z : ℤ) (h : -255 ≤ z) (h' : z ≤ 255) :
    wrapped 32#32 (kernelBucket (BitVec.ofInt 32 z) (IntOp.absi (BitVec.ofInt 32 z))
      (IntOp.muli (IntOp.absi (BitVec.ofInt 32 z)) (IntOp.absi (BitVec.ofInt 32 z)))) 31 = bucket z := by
  have := kernelBucket_table ⟨(z + 255).toNat, by omega⟩
  have e : (((z + 255).toNat : ℕ) : ℤ) - 255 = z := by omega
  simp only [e] at this
  exact this

/-- The reference's bucket with the cut logarithm given. -/
def referenceBucket (z f : BitVec 32) : BitVec 32 :=
  IntOp.addi (Scalar.select (IntOp.cmpi .sgt z 0#32) 16#32 0#32)
    (Scalar.select (IntOp.cmpi .slt (IntOp.absi z) 8#32) (IntOp.absi z) (IntOp.minsi (IntOp.addi (8#32) f) 15#32))

/-- Eight as a constant of the program. -/
theorem ofBits_eight : Ideal.ofBits FTy.f32 1090519040#32 = ((8 : ℝ) : EReal) := by
  simp [Ideal.ofBits, Ideal.ieee, -EReal.coe_mul]; norm_num

/-- The word of sixteen. -/
theorem ofBits_sixteen : Ideal.ofBits FTy.f32 1098907648#32 = ((16 : ℝ) : EReal) := by
  simp [Ideal.ofBits, Ideal.ieee, -EReal.coe_mul]; norm_num

/-- The logarithm cut to an integer is the binary one of the square. -/
theorem log_cut (n : ℕ) (h : 8 ≤ n) :
    ⌊Real.log ((n : ℝ) / 8) / Real.log 16 * 8⌋ = (Nat.log2 (n * n / 64) : ℤ) := by
  have hq : n * n / 64 ≠ 0 := by
    have : 64 ≤ n * n := by nlinarith
    omega
  have h1 := Nat.log2_self_le hq
  have h2 := Nat.lt_log2_self (n := n * n / 64)
  generalize Nat.log2 (n * n / 64) = L at *
  have h3 : 2 ^ L * 64 ≤ n * n := (Nat.le_div_iff_mul_le (by norm_num)).mp h1
  have h4 : n * n < 2 ^ (L + 1) * 64 := (Nat.div_lt_iff_lt_mul (by norm_num)).mp h2
  have hl : 0 < Real.log 2 := Real.log_pos (by norm_num)
  have e16 : Real.log 16 = 4 * Real.log 2 := by
    rw [show (16 : ℝ) = 2 ^ 4 by norm_num, Real.log_pow]; norm_num
  have hn : (0 : ℝ) < (n : ℝ) / 8 := by
    have : (8 : ℝ) ≤ n := by exact_mod_cast h
    positivity
  have e : Real.log ((n : ℝ) / 8) / Real.log 16 * 8 = Real.log (((n : ℝ) / 8) ^ 2) / Real.log 2 := by
    rw [e16, Real.log_pow]; field_simp; push_cast; ring
  rw [e, Int.floor_eq_iff]
  have h3' : (2 : ℝ) ^ L ≤ ((n : ℝ) / 8) ^ 2 := by
    have : ((2 ^ L * 64 : ℕ) : ℝ) ≤ ((n * n : ℕ) : ℝ) := by exact_mod_cast h3
    push_cast at this
    rw [div_pow]; linarith [this, sq (n : ℝ)]
  have h4' : ((n : ℝ) / 8) ^ 2 < (2 : ℝ) ^ (L + 1) := by
    have : ((n * n : ℕ) : ℝ) < ((2 ^ (L + 1) * 64 : ℕ) : ℝ) := by exact_mod_cast h4
    push_cast at this
    rw [div_pow]; linarith [this, sq (n : ℝ)]
  constructor
  · rw [le_div_iff₀ hl]
    have := Real.log_le_log (by positivity) h3'
    rw [Real.log_pow] at this
    exact_mod_cast this
  · rw [div_lt_iff₀ hl]
    have := Real.log_lt_log (by positivity) h4'
    have e2 : Real.log ((2 : ℝ) ^ (L + 1)) = ((L + 1 : ℕ) : ℝ) * Real.log 2 := by rw [Real.log_pow]
    rw [e2] at this
    push_cast at this ⊢
    exact this

/-- The reference's logarithm of a word, cut to an integer. -/
def logWord (w : BitVec 32) : BitVec 32 :=
  FloatOps.fptosi (F := Ideal) 32
    (FloatOps.mulf (F := Ideal) (φ := .f32)
      (FloatOps.hostDivf (F := Ideal)
        (FloatOps.hostUnary (F := Ideal) HostUnaryOp.log
          (FloatOps.hostDivf (F := Ideal) (FloatOps.sitofp (F := Ideal) FTy.f32 w)
            (FloatOps.ofBits (F := Ideal) FTy.f32 1090519040#32)))
        (FloatOps.hostUnary (F := Ideal) HostUnaryOp.log (FloatOps.ofBits (F := Ideal) FTy.f32 1098907648#32)))
      (FloatOps.ofBits (F := Ideal) FTy.f32 1090519040#32))

/-- The cut logarithm of a word of at least eight. -/
theorem logWord_eq (w : BitVec 32) (n : ℕ) (h : w.toInt = (n : ℤ)) (h8 : 8 ≤ n) (h' : n ≤ 255) :
    logWord w = BitVec.ofInt 32 (Nat.log2 (n * n / 64) : ℤ) := by
  have e : logWord w = Ideal.fptosi 32 (Ideal.div (Ideal.log (Ideal.div (((w.toInt : ℤ) : ℝ) : EReal)
      (Ideal.ofBits FTy.f32 1090519040#32))) (Ideal.log (Ideal.ofBits FTy.f32 1098907648#32))
        * Ideal.ofBits FTy.f32 1090519040#32) := rfl
  have hn : (8 : ℝ) ≤ (n : ℝ) := by exact_mod_cast h8
  have h16 : Real.log 16 ≠ 0 := (Real.log_pos (by norm_num)).ne'
  have hl := log_cut n h8
  have h0 : (0 : ℝ) ≤ Real.log ((n : ℝ) / 8) / Real.log 16 * 8 := by
    have : 0 ≤ Real.log ((n : ℝ) / 8) := Real.log_nonneg (by linarith)
    have : 0 < Real.log 16 := Real.log_pos (by norm_num)
    positivity
  have hb : Nat.log2 (n * n / 64) < 11 := by
    by_contra hc
    have h1 := Nat.log2_self_le (n := n * n / 64) (by have : 64 ≤ n * n := by nlinarith
                                                      omega)
    have h2 : 2 ^ 11 ≤ 2 ^ Nat.log2 (n * n / 64) := Nat.pow_le_pow_right (by norm_num) (by omega)
    have h3 : n * n ≤ 255 * 255 := Nat.mul_le_mul h' h'
    omega
  rw [e, h, ofBits_eight, ofBits_sixteen, Int.cast_natCast, Ideal.div_coe, ← EReal.coe_mul, Ideal.log_coe,
    if_neg (by linarith), Ideal.log_coe, if_neg (by norm_num), Ideal.div_coe, ← EReal.coe_mul, ← EReal.coe_mul]
  have e1 : Real.log ((n : ℝ) * (1 / 8)) * (1 / Real.log 16) * 8 = Real.log ((n : ℝ) / 8) / Real.log 16 * 8 := by
    rw [mul_one_div, mul_one_div]
  rw [e1]
  show BitVec.ofInt 32 (max _ (min _ (if 0 ≤ _ then ⌊_⌋ else _))) = _
  rw [if_pos h0, hl]
  congr 1
  · norm_num
    omega
  · exact h16
  · norm_num

/-- The distance, at least one, word by word. -/
theorem maxAbs_table : ∀ z : Fin 511, (IntOp.maxsi (IntOp.absi (BitVec.ofInt 32 ((z.val : ℤ) - 255))) 1#32).toInt
    = max ((z.val : ℤ) - 255).natAbs 1 := by
  decide +kernel

/-- The reference's bucket, distance by distance, once the logarithm is known. -/
theorem referenceBucket_table : ∀ z : Fin 511,
    wrapped 32#32 (referenceBucket (BitVec.ofInt 32 ((z.val : ℤ) - 255))
      (BitVec.ofInt 32 (Nat.log2 (((z.val : ℤ) - 255).natAbs * ((z.val : ℤ) - 255).natAbs / 64) : ℤ))) 31
      = bucket ((z.val : ℤ) - 255) := by
  decide +kernel

/-- At distances below eight the logarithm does not matter. -/
theorem referenceBucket_small : ∀ z : Fin 511, ((z.val : ℤ) - 255).natAbs < 8 →
    IntOp.cmpi .slt (IntOp.absi (BitVec.ofInt 32 ((z.val : ℤ) - 255))) 8#32 = 1#1 := by
  decide +kernel

/-- The reference's bucket word as a number. -/
theorem referenceBucket_eq (z : ℤ) (h : -255 ≤ z) (h' : z ≤ 255) :
    wrapped 32#32 (referenceBucket (BitVec.ofInt 32 z)
      (logWord (IntOp.maxsi (IntOp.absi (BitVec.ofInt 32 z)) 1#32))) 31 = bucket z := by
  have ht := referenceBucket_table ⟨(z + 255).toNat, by omega⟩
  have hm := maxAbs_table ⟨(z + 255).toNat, by omega⟩
  have hs := referenceBucket_small ⟨(z + 255).toNat, by omega⟩
  have e : (((z + 255).toNat : ℕ) : ℤ) - 255 = z := by omega
  simp only [e] at ht hm hs
  by_cases hz : z.natAbs < 8
  · have key : ∀ f g, referenceBucket (BitVec.ofInt 32 z) f = referenceBucket (BitVec.ofInt 32 z) g := by
      intro f g
      unfold referenceBucket
      rw [hs hz, select_one, select_one]
    rw [key _ (BitVec.ofInt 32 (Nat.log2 (z.natAbs * z.natAbs / 64) : ℤ))]
    exact ht
  · rw [logWord_eq _ z.natAbs (by rw [hm]; omega) (by omega) (by omega)]
    exact ht

end Cert.Attn

end
-- ==== Proof.Gathers.lean ====
module

public import proofs.«01_k».proof.Proof.Gen.KernelIdeal
public import proofs.«01_k».proof.Proof.Gen.ReferenceIdeal
public import Idealize.ShloMosaic.Lib.Pointwise

@[expose] public section

set_option maxRecDepth 16384

noncomputable section

/-! The lookups of both programs, read at one element: a lookup along one axis takes the entry whose number is the index
word, read signed and clamped into the axis. -/

namespace Cert.KernelIdeal.Attn

open Cert.KernelIdeal Cert.KernelIdeal.Gen Idealize.ShloMosaic Idealize.ShloMosaic.TcCoe

/-- The kernel's lookup in the table of clipped distances. -/
theorem gather_clip_apply {α : Type} (x : S8x257.Idx → α) (idx : IVec S5x128x640x1 32) (h : Fin 8) (v : Fin 5) (r : Fin 128) (κ : Fin 640) :
    Host.gather gather_S8x257_S5x128x640x1_S8x5x128x640_0_1_n_n_1_3_81 x idx (ix4 h v r κ)
      = x (ix2 h ⟨min (idx (ix4 v r κ 0)).toInt.toNat 256, by omega⟩) := by
  unfold Host.gather
  congr 1
  funext a
  refine Fin.ext ?_
  show GatherDims.start gather_S8x257_S5x128x640x1_S8x5x128x640_0_1_n_n_1_3_81 _ idx a + GatherDims.batchCoord gather_S8x257_S5x128x640x1_S8x5x128x640_0_1_n_n_1_3_81 _ a + GatherDims.offCoord gather_S8x257_S5x128x640x1_S8x5x128x640_0_1_n_n_1_3_81 _ a = _
  rw [GatherDims.batchCoord_eq_zero _ _ _ List.not_mem_nil, Nat.add_zero]
  rcases (show a = 0 ∨ a = 1 from match a with | ⟨0, _⟩ => Or.inl rfl | ⟨1, _⟩ => Or.inr rfl) with rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine congrArg (fun z => min (idx z).toInt.toNat 256) ?_
    funext b
    refine Fin.ext ?_
    match b with
    | ⟨0, _⟩ => rfl
    | ⟨1, _⟩ => rfl
    | ⟨2, _⟩ => rfl
    | ⟨3, _⟩ => rfl

/-- The kernel's lookup in the table of buckets. -/
theorem gather_bucket_apply {α : Type} (x : S8x32.Idx → α) (idx : IVec S2x128x256x1 32) (h : Fin 8) (v : Fin 2) (r : Fin 128) (κ : Fin 256) :
    Host.gather gather_S8x32_S2x128x256x1_S8x2x128x256_0_1_n_n_1_3_81 x idx (ix4 h v r κ)
      = x (ix2 h ⟨min (idx (ix4 v r κ 0)).toInt.toNat 31, by omega⟩) := by
  unfold Host.gather
  congr 1
  funext a
  refine Fin.ext ?_
  show GatherDims.start gather_S8x32_S2x128x256x1_S8x2x128x256_0_1_n_n_1_3_81 _ idx a + GatherDims.batchCoord gather_S8x32_S2x128x256x1_S8x2x128x256_0_1_n_n_1_3_81 _ a + GatherDims.offCoord gather_S8x32_S2x128x256x1_S8x2x128x256_0_1_n_n_1_3_81 _ a = _
  rw [GatherDims.batchCoord_eq_zero _ _ _ List.not_mem_nil, Nat.add_zero]
  rcases (show a = 0 ∨ a = 1 from match a with | ⟨0, _⟩ => Or.inl rfl | ⟨1, _⟩ => Or.inr rfl) with rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine congrArg (fun z => min (idx z).toInt.toNat 31) ?_
    funext b
    refine Fin.ext ?_
    match b with
    | ⟨0, _⟩ => rfl
    | ⟨1, _⟩ => rfl
    | ⟨2, _⟩ => rfl
    | ⟨3, _⟩ => rfl

end Cert.KernelIdeal.Attn

namespace Cert.ReferenceIdeal.Attn

open Cert.ReferenceIdeal Cert.ReferenceIdeal.Gen Idealize.ShloMosaic Idealize.ShloMosaic.TcCoe

/-- The reference's lookup in the table of clipped distances. -/
theorem gather_clip_apply {α : Type} (x : S8x257.Idx → α) (idx : IVec S64x576x1 32) (h : Fin 8) (r : Fin 64) (k : Fin 576) :
    Host.gather gather_S8x257_S64x576x1_S8x64x576_0_1_n_n_1_2_81 x idx (ix3 h r k)
      = x (ix2 h ⟨min (idx (ix3 r k 0)).toInt.toNat 256, by omega⟩) := by
  unfold Host.gather
  congr 1
  funext a
  refine Fin.ext ?_
  show GatherDims.start gather_S8x257_S64x576x1_S8x64x576_0_1_n_n_1_2_81 _ idx a + GatherDims.batchCoord gather_S8x257_S64x576x1_S8x64x576_0_1_n_n_1_2_81 _ a + GatherDims.offCoord gather_S8x257_S64x576x1_S8x64x576_0_1_n_n_1_2_81 _ a = _
  rw [GatherDims.batchCoord_eq_zero _ _ _ List.not_mem_nil, Nat.add_zero]
  rcases (show a = 0 ∨ a = 1 from match a with | ⟨0, _⟩ => Or.inl rfl | ⟨1, _⟩ => Or.inr rfl) with rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine congrArg (fun z => min (idx z).toInt.toNat 256) ?_
    funext b
    refine Fin.ext ?_
    match b with
    | ⟨0, _⟩ => rfl
    | ⟨1, _⟩ => rfl
    | ⟨2, _⟩ => rfl

/-- The reference's lookup in the table of buckets. -/
theorem gather_bucket_apply {α : Type} (x : S8x32.Idx → α) (idx : IVec S64x192x1 32) (h : Fin 8) (r : Fin 64) (k : Fin 192) :
    Host.gather gather_S8x32_S64x192x1_S8x64x192_0_1_n_n_1_2_81 x idx (ix3 h r k)
      = x (ix2 h ⟨min (idx (ix3 r k 0)).toInt.toNat 31, by omega⟩) := by
  unfold Host.gather
  congr 1
  funext a
  refine Fin.ext ?_
  show GatherDims.start gather_S8x32_S64x192x1_S8x64x192_0_1_n_n_1_2_81 _ idx a + GatherDims.batchCoord gather_S8x32_S64x192x1_S8x64x192_0_1_n_n_1_2_81 _ a + GatherDims.offCoord gather_S8x32_S64x192x1_S8x64x192_0_1_n_n_1_2_81 _ a = _
  rw [GatherDims.batchCoord_eq_zero _ _ _ List.not_mem_nil, Nat.add_zero]
  rcases (show a = 0 ∨ a = 1 from match a with | ⟨0, _⟩ => Or.inl rfl | ⟨1, _⟩ => Or.inr rfl) with rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine congrArg (fun z => min (idx z).toInt.toNat 31) ?_
    funext b
    refine Fin.ext ?_
    match b with
    | ⟨0, _⟩ => rfl
    | ⟨1, _⟩ => rfl
    | ⟨2, _⟩ => rfl

/-- The chunks of a band of mixer A, taken from the padded chunks. -/
theorem gather_bandA_apply {α : Type} (x : S2x136x64x8x64.Idx → α) (idx : IVec S128x9x1 32) (b : Fin 2) (n : Fin 128) (w : Fin 9)
    (r : Fin 64) (h : Fin 8) (d : Fin 64) :
    Host.gather gather_S2x136x64x8x64_S128x9x1_S2x128x9x64x8x64_0345_1_n_n_1_2_2164864 x idx (ix6 b n w r h d)
      = x (ix5 b ⟨min (idx (ix3 n w 0)).toInt.toNat 135, by omega⟩ r h d) := by
  unfold Host.gather
  congr 1
  funext a
  refine Fin.ext ?_
  show GatherDims.start gather_S2x136x64x8x64_S128x9x1_S2x128x9x64x8x64_0345_1_n_n_1_2_2164864 _ idx a + GatherDims.batchCoord gather_S2x136x64x8x64_S128x9x1_S2x128x9x64x8x64_0345_1_n_n_1_2_2164864 _ a + GatherDims.offCoord gather_S2x136x64x8x64_S128x9x1_S2x128x9x64x8x64_0345_1_n_n_1_2_2164864 _ a = _
  rw [GatherDims.batchCoord_eq_zero _ _ _ List.not_mem_nil, Nat.add_zero]
  rcases (show a = 0 ∨ a = 1 ∨ a = 2 ∨ a = 3 ∨ a = 4 from match a with
    | ⟨0, _⟩ => Or.inl rfl | ⟨1, _⟩ => Or.inr (Or.inl rfl) | ⟨2, _⟩ => Or.inr (Or.inr (Or.inl rfl))
    | ⟨3, _⟩ => Or.inr (Or.inr (Or.inr (Or.inl rfl))) | ⟨4, _⟩ => Or.inr (Or.inr (Or.inr (Or.inr rfl))))
    with rfl | rfl | rfl | rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine congrArg (fun z => min (idx z).toInt.toNat 135) ?_
    funext b
    refine Fin.ext ?_
    match b with
    | ⟨0, _⟩ => rfl
    | ⟨1, _⟩ => rfl
    | ⟨2, _⟩ => rfl
  · unfold GatherDims.start GatherDims.offCoord
    rw [dif_neg (by decide), dif_pos (by decide), Nat.zero_add]
    rfl
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-- The chunks of a band of mixer B, taken from the padded chunks. -/
theorem gather_bandB_apply {α : Type} (x : S2x130x64x2x64.Idx → α) (idx : IVec S128x3x1 32) (b : Fin 2) (n : Fin 128) (w : Fin 3)
    (r : Fin 64) (h : Fin 2) (d : Fin 64) :
    Host.gather gather_S2x130x64x2x64_S128x3x1_S2x128x3x64x2x64_0345_1_n_n_1_2_2164264 x idx (ix6 b n w r h d)
      = x (ix5 b ⟨min (idx (ix3 n w 0)).toInt.toNat 129, by omega⟩ r h d) := by
  unfold Host.gather
  congr 1
  funext a
  refine Fin.ext ?_
  show GatherDims.start gather_S2x130x64x2x64_S128x3x1_S2x128x3x64x2x64_0345_1_n_n_1_2_2164264 _ idx a + GatherDims.batchCoord gather_S2x130x64x2x64_S128x3x1_S2x128x3x64x2x64_0345_1_n_n_1_2_2164264 _ a + GatherDims.offCoord gather_S2x130x64x2x64_S128x3x1_S2x128x3x64x2x64_0345_1_n_n_1_2_2164264 _ a = _
  rw [GatherDims.batchCoord_eq_zero _ _ _ List.not_mem_nil, Nat.add_zero]
  rcases (show a = 0 ∨ a = 1 ∨ a = 2 ∨ a = 3 ∨ a = 4 from match a with
    | ⟨0, _⟩ => Or.inl rfl | ⟨1, _⟩ => Or.inr (Or.inl rfl) | ⟨2, _⟩ => Or.inr (Or.inr (Or.inl rfl))
    | ⟨3, _⟩ => Or.inr (Or.inr (Or.inr (Or.inl rfl))) | ⟨4, _⟩ => Or.inr (Or.inr (Or.inr (Or.inr rfl))))
    with rfl | rfl | rfl | rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine congrArg (fun z => min (idx z).toInt.toNat 129) ?_
    funext b
    refine Fin.ext ?_
    match b with
    | ⟨0, _⟩ => rfl
    | ⟨1, _⟩ => rfl
    | ⟨2, _⟩ => rfl
  · unfold GatherDims.start GatherDims.offCoord
    rw [dif_neg (by decide), dif_pos (by decide), Nat.zero_add]
    rfl
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

end Cert.ReferenceIdeal.Attn

end
-- ==== Proof.HostBias.lean ====
module

public import proofs.«01_k».proof.Proof.Gen.KernelIdeal.Frame.Runs
public import proofs.«01_k».proof.Proof.At
public import proofs.«01_k».proof.Proof.Words
public import proofs.«01_k».proof.Proof.Gathers
public import Idealize.ShloMosaic.Lib.StableHlo.RunRead
public import Idealize.ShloMosaic.Lib.Pointwise

@[expose] public section

set_option maxRecDepth 16384

noncomputable section

/-! What the host prepares for the attention call: the queries split by head, the bias tables with their hidden keys. -/

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ)

/-- The host's operations in order. -/
abbrev hostOps : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- What the first `n` host operations leave. -/
abbrev U (c : Dev nD) (n : ℕ) : Valuation τ sig (Elt Ideal) := StableHlo.after (hostOps.take n) (fun b => m (c, b))

/-- Two lines of operations one after the other. -/
theorem after_append' (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The host's operations cut in two. -/
theorem V_cut (c : Dev nD) (n : ℕ) (b : Ref sig .tc) : V m c b = StableHlo.after (hostOps.drop n) (U m c n) b := by
  show StableHlo.after hostOps _ _ = _
  conv_lhs => rw [← List.take_append_drop n hostOps]
  exact congrFun (after_append' _ _ _) _

/-- The first operations cut in two. -/
theorem U_cut (c : Dev nD) (n k : ℕ) (h : k ≤ n) (b : DevRef τ sig) :
    U m c n b = StableHlo.after ((hostOps.take n).drop k) (U m c k) b := by
  show StableHlo.after (hostOps.take n) _ _ = _
  conv_lhs => rw [← List.take_append_drop k (hostOps.take n)]
  refine (congrFun (after_append' _ _ _) _).trans ?_
  rw [List.take_take, Nat.min_eq_left h]

/-- The reciprocal of the logarithm of two, as the host computes it. -/
theorem invlog : Ideal.div 1 (Ideal.log (Ideal.ofBits FTy.f32 1073741824#32)) = (((Real.log 2)⁻¹ : ℝ) : EReal) := by
  have h2 : Ideal.ofBits FTy.f32 1073741824#32 = ((2 : ℝ) : EReal) := by
    simp [Ideal.ofBits, Ideal.ieee, -EReal.coe_mul]; norm_num
  rw [h2, Ideal.log_coe, if_neg (by norm_num), Ideal.div_coe (Real.log_pos (by norm_num)).ne', one_mul, one_div]

/-- The key of mixer A within its variant. -/
theorem hostA_key (c : Dev nD) (v : Fin 5) (r : Fin 128) (κ : Fin 640) :
    (U m c 26 main_v10 : IVec S5x128x640 32) (ix3 v r κ) = IntOp.subi (BitVec.ofNat 32 κ.val) (IntOp.muli (BitVec.ofNat 32 v.val) 128#32) := by
  after_reads_simp
  pointwise

/-- The query of mixer A. -/
theorem hostA_query (c : Dev nD) (v : Fin 5) (r : Fin 128) (κ : Fin 640) :
    (U m c 26 main_v6 : IVec S5x128x640 32) (ix3 v r κ) = BitVec.ofNat 32 r.val := by
  after_reads_simp
  pointwise

/-- The clipped relative position of mixer A. -/
theorem hostA_clip (c : Dev nD) (v : Fin 5) (r : Fin 128) (κ : Fin 640) :
    (U m c 26 main_v14 : IVec S5x128x640 32) (ix3 v r κ) = clipWord (IntOp.subi (IntOp.subi (BitVec.ofNat 32 κ.val) (IntOp.muli (BitVec.ofNat 32 v.val) 128#32)) (BitVec.ofNat 32 r.val)) := by
  after_reads_simp
  simp only [StableHlo.TRef.toBuf, StableHlo.TRef.ofBuf, cast_cast, cast_eq, id_eq]
  pointwise
  rfl

/-- The scale of the scores. -/
theorem hostA_scale (c : Dev nD)  :
    (U m c 26 main_v1 : FVec Ideal S_ .f32) ix0 = Ideal.div 1 (Ideal.log (Ideal.ofBits FTy.f32 1073741824#32)) := by
  after_reads_simp
  pointwise

/-- The table of mixer A. -/
theorem hostA_table (c : Dev nD) : (U m c 26 main_arg6 : S8x257.Idx → EReal) = m (c, Proc.tc.devRef main_arg6) := by
  after_reads_simp

/-- The key of mixer B within its variant. -/
theorem hostB_key (c : Dev nD) (v : Fin 2) (r : Fin 128) (κ : Fin 256) :
    (U m c 150 main_v42 : IVec S2x128x256 32) (ix3 v r κ) = IntOp.subi (BitVec.ofNat 32 κ.val) (IntOp.muli (BitVec.ofNat 32 v.val) 128#32) := by
  after_reads_simp
  pointwise

/-- The query of mixer B. -/
theorem hostB_query (c : Dev nD) (v : Fin 2) (r : Fin 128) (κ : Fin 256) :
    (U m c 150 main_v38 : IVec S2x128x256 32) (ix3 v r κ) = BitVec.ofNat 32 r.val := by
  after_reads_simp
  pointwise

/-- The scale of the scores. -/
theorem hostB_scale (c : Dev nD)  :
    (U m c 150 main_v1 : FVec Ideal S_ .f32) ix0 = Ideal.div 1 (Ideal.log (Ideal.ofBits FTy.f32 1073741824#32)) := by
  after_reads_simp
  pointwise

/-- The table of mixer B. -/
theorem hostB_table (c : Dev nD) : (U m c 150 main_arg7 : S8x32.Idx → EReal) = m (c, Proc.tc.devRef main_arg7) := by
  after_reads_simp

/-- The relative position of mixer B. -/
theorem hostB_rel (c : Dev nD) (v : Fin 2) (r : Fin 128) (κ : Fin 256) :
    (U m c 64 main_v43 : IVec S2x128x256 32) (ix3 v r κ) = IntOp.subi (IntOp.subi (BitVec.ofNat 32 κ.val) (IntOp.muli (BitVec.ofNat 32 v.val) 128#32)) (BitVec.ofNat 32 r.val) := by
  after_reads_simp
  pointwise

/-- Its absolute value. -/
theorem hostB_abs (c : Dev nD) (v : Fin 2) (r : Fin 128) (κ : Fin 256) :
    (U m c 64 main_v44 : IVec S2x128x256 32) (ix3 v r κ) = IntOp.absi (IntOp.subi (IntOp.subi (BitVec.ofNat 32 κ.val) (IntOp.muli (BitVec.ofNat 32 v.val) 128#32)) (BitVec.ofNat 32 r.val)) := by
  after_reads_simp
  pointwise

/-- Its square. -/
theorem hostB_square (c : Dev nD) (v : Fin 2) (r : Fin 128) (κ : Fin 256) :
    (U m c 64 main_v45 : IVec S2x128x256 32) (ix3 v r κ) = IntOp.muli (IntOp.absi (IntOp.subi (IntOp.subi (BitVec.ofNat 32 κ.val) (IntOp.muli (BitVec.ofNat 32 v.val) 128#32)) (BitVec.ofNat 32 r.val))) (IntOp.absi (IntOp.subi (IntOp.subi (BitVec.ofNat 32 κ.val) (IntOp.muli (BitVec.ofNat 32 v.val) 128#32)) (BitVec.ofNat 32 r.val))) := by
  after_reads_simp
  pointwise

/-- The bucket of mixer B. -/
theorem hostB_bucket (c : Dev nD) (v : Fin 2) (r : Fin 128) (κ : Fin 256) :
    (U m c 150 main_v89 : IVec S2x128x256 32) (ix3 v r κ)
      = kernelBucket ((U m c 64 main_v43 : IVec S2x128x256 32) (ix3 v r κ)) ((U m c 64 main_v44 : IVec S2x128x256 32) (ix3 v r κ))
          ((U m c 64 main_v45 : IVec S2x128x256 32) (ix3 v r κ)) := by
  rw [U_cut m c 150 64 (by decide)]
  generalize U m c 64 = W
  after_reads_simp
  generalize W (Proc.tc.devRef main_v45) = n2 at *
  generalize W (Proc.tc.devRef main_v44) = n1 at *
  generalize W (Proc.tc.devRef main_v43) = n0 at *
  simp only [StableHlo.TRef.toBuf, StableHlo.TRef.ofBuf, cast_cast, cast_eq, id_eq]
  pointwise
  rfl

/-- The relative word as an integer. -/
theorem rel_word (v κ r : ℕ) : IntOp.subi (IntOp.subi (BitVec.ofNat 32 κ) (IntOp.muli (BitVec.ofNat 32 v) 128#32)) (BitVec.ofNat 32 r)
    = BitVec.ofInt 32 ((κ : ℤ) - v * 128 - r) := by
  rw [show (128#32) = BitVec.ofNat 32 128 from rfl]
  simp only [word_nat, word_mul, word_sub]
  rfl

/-- The key's word as an integer. -/
theorem key_word (v κ : ℕ) : IntOp.subi (BitVec.ofNat 32 κ) (IntOp.muli (BitVec.ofNat 32 v) 128#32)
    = BitVec.ofInt 32 ((κ : ℤ) - v * 128) := by
  rw [show (128#32) = BitVec.ofNat 32 128 from rfl]
  simp only [word_nat, word_mul, word_sub]
  rfl

/-- A masked entry of mixer A's bias from its words. -/
theorem maskedA (kw qw cw : BitVec 32) (s : EReal) (T T' : S8x257.Idx → EReal) (v : Fin 5) (h : Fin 8) (r : Fin 128) (κ : Fin 640)
    (hk : kw = IntOp.subi (BitVec.ofNat 32 κ.val) (IntOp.muli (BitVec.ofNat 32 v.val) 128#32)) (hq : qw = BitVec.ofNat 32 r.val)
    (hc : cw = clipWord (IntOp.subi (IntOp.subi (BitVec.ofNat 32 κ.val) (IntOp.muli (BitVec.ofNat 32 v.val) 128#32)) (BitVec.ofNat 32 r.val)))
    (hs : s = Ideal.div 1 (Ideal.log (Ideal.ofBits FTy.f32 1073741824#32))) (hT : T = T') (hw : wrapped 257#32 cw 256 < 257) :
    Scalar.select (bandWord 8#32 kw qw) (T (ix2 h ⟨wrapped 257#32 cw 256, hw⟩) * s) (Ideal.ofBits FTy.f32 4286578688#32)
      = if 64 * (r.val / 64) ≤ κ.val + 512 - 128 * v.val ∧ κ.val + 512 - 128 * v.val < 64 * (r.val / 64) + 576 then
          at2 (a := 8) (b := 257) T' h.val (min (κ.val + 128 - (128 * v.val + r.val)) 256) * (((Real.log 2)⁻¹ : ℝ) : EReal)
        else (⊥ : EReal) := by
  have hv := v.isLt
  have hr := r.isLt
  have hκ := κ.isLt
  have e0 : ((κ.val : ℤ) - v.val * 128 + 512).toNat = κ.val + 512 - 128 * v.val := by omega
  subst hT
  rw [hk, key_word, hq, word_nat r.val, bandWord_A _ _ (by omega) (by omega) hr, select_ofBool, hs, invlog,
    show Ideal.ofBits FTy.f32 4286578688#32 = ⊥ by simp [Ideal.ofBits, Ideal.ieee], e0]
  simp only [decide_eq_true_eq]
  congr 2
  refine at2_of _ _ _ _ rfl ?_
  show wrapped 257#32 cw 256 = _
  rw [hc, rel_word, clipWord_eq _ (by omega) (by omega)]
  omega

/-- A masked entry of mixer B's bias from its words. -/
theorem maskedB (kw qw cw : BitVec 32) (s : EReal) (T T' : S8x32.Idx → EReal) (v : Fin 2) (h : Fin 8) (r : Fin 128) (κ : Fin 256)
    (hk : kw = IntOp.subi (BitVec.ofNat 32 κ.val) (IntOp.muli (BitVec.ofNat 32 v.val) 128#32)) (hq : qw = BitVec.ofNat 32 r.val)
    (hc : cw = kernelBucket (IntOp.subi (IntOp.subi (BitVec.ofNat 32 κ.val) (IntOp.muli (BitVec.ofNat 32 v.val) 128#32)) (BitVec.ofNat 32 r.val)) (IntOp.absi (IntOp.subi (IntOp.subi (BitVec.ofNat 32 κ.val) (IntOp.muli (BitVec.ofNat 32 v.val) 128#32)) (BitVec.ofNat 32 r.val))) (IntOp.muli (IntOp.absi (IntOp.subi (IntOp.subi (BitVec.ofNat 32 κ.val) (IntOp.muli (BitVec.ofNat 32 v.val) 128#32)) (BitVec.ofNat 32 r.val))) (IntOp.absi (IntOp.subi (IntOp.subi (BitVec.ofNat 32 κ.val) (IntOp.muli (BitVec.ofNat 32 v.val) 128#32)) (BitVec.ofNat 32 r.val)))))
    (hs : s = Ideal.div 1 (Ideal.log (Ideal.ofBits FTy.f32 1073741824#32))) (hT : T = T') (hw : wrapped 32#32 cw 31 < 32) :
    Scalar.select (bandWord 2#32 kw qw) (T (ix2 h ⟨wrapped 32#32 cw 31, hw⟩) * s) (Ideal.ofBits FTy.f32 4286578688#32)
      = if 64 * (r.val / 64) ≤ κ.val + 128 - 128 * v.val ∧ κ.val + 128 - 128 * v.val < 64 * (r.val / 64) + 192 then
          at2 (a := 8) (b := 32) T' h.val (bucket ((κ.val : ℤ) - v.val * 128 - r.val)) * (((Real.log 2)⁻¹ : ℝ) : EReal)
        else (⊥ : EReal) := by
  have hv := v.isLt
  have hr := r.isLt
  have hκ := κ.isLt
  have e0 : ((κ.val : ℤ) - v.val * 128 + 128).toNat = κ.val + 128 - 128 * v.val := by omega
  subst hT
  rw [hk, key_word, hq, word_nat r.val, bandWord_B _ _ (by omega) (by omega) hr, select_ofBool, hs, invlog,
    show Ideal.ofBits FTy.f32 4286578688#32 = ⊥ by simp [Ideal.ofBits, Ideal.ieee], e0]
  simp only [decide_eq_true_eq]
  congr 2
  refine at2_of _ _ _ _ rfl ?_
  show wrapped 32#32 cw 31 = _
  rw [hc, rel_word, kernelBucket_eq _ (by omega) (by omega)]

/-- Mixer A's bias and mask, as the host lays them out. -/
theorem V36_apply (c : Dev nD) (v : Fin 5) (h : Fin 8) (r : Fin 128) (κ : Fin 640) :
    (V m c main_v36 : S5x8x128x640.Idx → EReal) (ix4 v h r κ)
      = if 64 * (r.val / 64) ≤ κ.val + 512 - 128 * v.val ∧ κ.val + 512 - 128 * v.val < 64 * (r.val / 64) + 576 then
          at2 (a := 8) (b := 257) (m (c, Proc.tc.devRef main_arg6)) h.val (min (κ.val + 128 - (128 * v.val + r.val)) 256)
            * (((Real.log 2)⁻¹ : ℝ) : EReal)
        else (⊥ : EReal) := by
  have e10 := hostA_key m c v r κ
  have e6 := hostA_query m c v r κ
  have e14 := hostA_clip m c v r κ
  have e1 := hostA_scale m c
  have ea := hostA_table m c
  rw [V_cut m c 26]
  generalize U m c 26 = W at *
  after_reads_simp
  pointwise
  rw [gather_clip_apply]
  pointwise
  exact maskedA _ _ _ _ _ _ v h r κ e10 e6 e14 e1 ea _

/-- Mixer B's bias and mask, as the host lays them out. -/
theorem V111_apply (c : Dev nD) (v : Fin 2) (h : Fin 8) (r : Fin 128) (κ : Fin 256) :
    (V m c main_v111 : S2x8x128x256.Idx → EReal) (ix4 v h r κ)
      = if 64 * (r.val / 64) ≤ κ.val + 128 - 128 * v.val ∧ κ.val + 128 - 128 * v.val < 64 * (r.val / 64) + 192 then
          at2 (a := 8) (b := 32) (m (c, Proc.tc.devRef main_arg7)) h.val (bucket ((κ.val : ℤ) - v.val * 128 - r.val))
            * (((Real.log 2)⁻¹ : ℝ) : EReal)
        else (⊥ : EReal) := by
  have e42 := hostB_key m c v r κ
  have e38 := hostB_query m c v r κ
  have e89 := hostB_bucket m c v r κ
  rw [hostB_rel, hostB_abs, hostB_square] at e89
  have e1 := hostB_scale m c
  have ea := hostB_table m c
  rw [V_cut m c 150]
  generalize U m c 150 = W at *
  after_reads_simp
  pointwise
  rw [gather_bucket_apply]
  pointwise
  exact maskedB _ _ _ _ _ _ v h r κ e42 e38 e89 e1 ea _

end Cert.KernelIdeal.Attn
end
-- ==== Proof.HostQuery.lean ====
module

public import proofs.«01_k».proof.Proof.Gen.KernelIdeal.Frame.Runs
public import proofs.«01_k».proof.Proof.HostBias
public import proofs.«01_k».proof.Proof.Gathers
public import Idealize.ShloMosaic.Lib.StableHlo.RunRead
public import Idealize.ShloMosaic.Lib.Pointwise

@[expose] public section

set_option maxRecDepth 16384

noncomputable section

/-! What the host prepares for the attention call: the queries split by head, the bias tables with their hidden keys. -/

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ)

/-- The bit of a lane that tells its head. -/
theorem lane_parity {α : Type} (j : Fin 512) (x y : α) :
    Scalar.select (IntOp.cmpi CmpIPredicate.eq (IntOp.andi (BitVec.ofNat 32 j.val) 64#32) 0#32) x y
      = if j.val / 64 % 2 = 0 then x else y := by
  have h : IntOp.cmpi CmpIPredicate.eq (IntOp.andi (BitVec.ofNat 32 j.val) 64#32) 0#32
      = if j.val / 64 % 2 = 0 then 1#1 else 0#1 := by
    revert j; decide +kernel
  rw [h]; split_ifs <;> rfl

/-- The scale of the queries, kept to the end. -/
theorem scale_late (c : Dev nD) (n : ℕ) (hn : n = 178 ∨ n = 195) :
    (U m c n main_v1 : FVec Ideal S_ .f32) ix0 = (((Real.log 2)⁻¹ : ℝ) : EReal) := by
  rw [← invlog]
  rcases hn with rfl | rfl
  · after_reads_simp
    pointwise
  · after_reads_simp
    pointwise

/-- Mixer A's queries as given. -/
theorem query_late (c : Dev nD) : (U m c 178 main_arg0 : S16384x512.Idx → EReal) = m (c, Proc.tc.devRef main_arg0) := by
  after_reads_simp

/-- Mixer B's queries with the heads of a pair side by side. -/
theorem queryB_late (c : Dev nD) (r : Fin 16384) (j : Fin 512) :
    (U m c 195 main_v4 : S16384x512.Idx → EReal) (ix2 r j)
      = at2 (a := 16384) (b := 512) (m (c, Proc.tc.devRef main_arg1)) r.val
          (j.val / 64 % 2 * 256 + j.val / 128 * 64 + j.val % 64) := by
  have hr := r.isLt
  have hj := j.isLt
  after_reads_simp
  pointwise
  exact at2_of _ _ _ _ rfl rfl

/-- The two halves of the split queries, from the value at a lane. -/
theorem halves (f f' : Fin 512 → EReal) (g : ℕ → EReal) (j : Fin 1024)
    (hf : ∀ j : Fin 512, f j = if j.val / 64 % 2 = 0 then g j.val else 0)
    (hf' : ∀ j : Fin 512, f' j = if j.val / 64 % 2 = 0 then 0 else g j.val)
    (h2 : ¬ j.val < 512 → j.val - 512 < 512) :
    (if h : j.val < 512 then f ⟨j.val, h⟩ else f' ⟨j.val - 512, h2 h⟩)
      = if j.val / 64 % 2 = j.val / 512 then g (j.val % 512) else 0 := by
  have hj := j.isLt
  by_cases h : j.val < 512
  · have e0 : j.val / 512 = 0 := by omega
    have e1 : j.val % 512 = j.val := by omega
    rw [dif_pos h, hf, e0, e1]
  · have e0 : j.val / 512 = 1 := by omega
    have e1 : j.val % 512 = j.val - 512 := by omega
    have e2 : (j.val - 512) / 64 % 2 = j.val / 64 % 2 := by omega
    rw [dif_neg h, hf', e0, e1]
    simp only [e2]
    by_cases hp : j.val / 64 % 2 = 0
    · rw [if_pos hp, if_neg (by omega)]
    · rw [if_neg hp, if_pos (by omega)]

/-- A lane of the first half from its words. -/
theorem lane_first (j : Fin 512) (x y s t L : EReal) (hx : x = y) (hs : s = L) :
    Scalar.select (IntOp.cmpi CmpIPredicate.eq (IntOp.andi (BitVec.ofNat 32 j.val) 64#32) 0#32) (x * (t * s)) 0
      = if j.val / 64 % 2 = 0 then y * (t * L) else 0 := by
  subst hx hs
  exact lane_parity j _ _

/-- A lane of the second half from its words. -/
theorem lane_second (j : Fin 512) (x y s t L : EReal) (hx : x = y) (hs : s = L) :
    Scalar.select (IntOp.cmpi CmpIPredicate.eq (IntOp.andi (BitVec.ofNat 32 j.val) 64#32) 0#32) 0 (x * (t * s))
      = if j.val / 64 % 2 = 0 then 0 else y * (t * L) := by
  subst hx hs
  exact lane_parity j _ _

/-- Mixer A's queries, the two heads of a pair of columns in two halves. -/
theorem V124_apply (c : Dev nD) (r : Fin 16384) (j : Fin 1024) :
    (V m c main_v124 : S16384x1024.Idx → EReal) (ix2 r j)
      = if j.val / 64 % 2 = j.val / 512 then
          at2 (a := 16384) (b := 512) (m (c, Proc.tc.devRef main_arg0)) r.val (j.val % 512)
            * (Ideal.ofBits FTy.f32 1040187392#32 * (((Real.log 2)⁻¹ : ℝ) : EReal))
        else (0 : EReal) := by
  have e1 := scale_late m c 178 (Or.inl rfl)
  have e0 := query_late m c
  rw [V_cut m c 178]
  generalize U m c 178 = W at *
  after_reads_simp
  pointwise
  refine halves (fun j' => (StableHlo.upto (List.drop 178 hostOps) W 15 (Proc.tc.devRef main_v121) : S16384x512.Idx → EReal) (ix2 r j'))
    (fun j' => (StableHlo.upto (List.drop 178 hostOps) W 15 (Proc.tc.devRef main_v122) : S16384x512.Idx → EReal) (ix2 r j'))
    (fun j => at2 (a := 16384) (b := 512) (m (c, Proc.tc.devRef main_arg0)) r.val j * (Ideal.ofBits FTy.f32 1040187392#32 * (((Real.log 2)⁻¹ : ℝ) : EReal))) j ?_ ?_ _
  · intro j
    after_reads_simp
    pointwise
    exact lane_first j _ _ _ _ _ ((congrFun e0 _).trans (at2_of _ _ _ _ rfl rfl)) e1
  · intro j
    after_reads_simp
    pointwise
    exact lane_second j _ _ _ _ _ ((congrFun e0 _).trans (at2_of _ _ _ _ rfl rfl)) e1

/-- Mixer B's queries, the two heads of a pair of columns in two halves. -/
theorem V137_apply (c : Dev nD) (r : Fin 16384) (j : Fin 1024) :
    (V m c main_v137 : S16384x1024.Idx → EReal) (ix2 r j)
      = if j.val / 64 % 2 = j.val / 512 then
          at2 (a := 16384) (b := 512) (m (c, Proc.tc.devRef main_arg1)) r.val
              (j.val % 512 / 64 % 2 * 256 + j.val % 512 / 128 * 64 + j.val % 512 % 64)
            * (Ideal.ofBits FTy.f32 1040187392#32 * (((Real.log 2)⁻¹ : ℝ) : EReal))
        else (0 : EReal) := by
  have e1 := scale_late m c 195 (Or.inr rfl)
  have e0 := queryB_late m c r
  rw [V_cut m c 195]
  generalize U m c 195 = W at *
  after_reads_simp
  pointwise
  refine halves (fun j' => (StableHlo.upto (List.drop 195 hostOps) W 15 (Proc.tc.devRef main_v134) : S16384x512.Idx → EReal) (ix2 r j'))
    (fun j' => (StableHlo.upto (List.drop 195 hostOps) W 15 (Proc.tc.devRef main_v135) : S16384x512.Idx → EReal) (ix2 r j'))
    (fun j => at2 (a := 16384) (b := 512) (m (c, Proc.tc.devRef main_arg1)) r.val (j / 64 % 2 * 256 + j / 128 * 64 + j % 64) * (Ideal.ofBits FTy.f32 1040187392#32 * (((Real.log 2)⁻¹ : ℝ) : EReal))) j ?_ ?_ _
  · intro j
    after_reads_simp
    pointwise
    exact lane_first j _ _ _ _ _ (e0 j) e1
  · intro j
    after_reads_simp
    pointwise
    exact lane_second j _ _ _ _ _ (e0 j) e1

end Cert.KernelIdeal.Attn
end
-- ==== Proof.RowMath.lean ====
module

public import proofs.«01_k».proof.Proof.JobA

@[expose] public section

noncomputable section

/-! The kernel's row and the reference's row, over bands that begin at different keys, are one average. -/

namespace Cert.Attn

open Idealize.ShloMosaic Cert.KernelIdeal.Attn

/-- Values that agree on the keys that are seen give the same average. -/
theorem average_congr {ι : Type} [Fintype ι] (vis : ι → Prop) [DecidablePred vis] (S : ι → ℝ) (ξ : ℝ) (v w : ι → EReal)
    (h : ∀ i, vis i → v i = w i) : average vis S ξ v = average vis S ξ w := by
  unfold average
  refine Finset.sum_congr rfl fun i _ => ?_
  split_ifs with hi
  · rw [h i hi]
  · rfl

/-- The greatest of a band's scores is real when a key of the band is seen. -/
theorem band_max (n c lo hi : ℕ) (S : ℕ → ℝ) (s : Fin n → EReal)
    (hs : ∀ κ : Fin n, s κ = if lo ≤ c + κ.val ∧ c + κ.val < hi then (S (c + κ.val) : EReal) else ⊥)
    (hlt : lo < hi) (h1 : c ≤ lo) (h2 : hi ≤ c + n) : ∃ μ : ℝ, Finset.univ.fold max ⊥ s = (μ : EReal) := by
  refine max_real s (fun i => ?_) ⟨⟨lo - c, by omega⟩, ?_⟩
  · rw [hs i]
    split_ifs
    · exact EReal.coe_ne_top _
    · exact bot_ne_top
  · rw [hs, if_pos (by dsimp only; omega)]
    exact EReal.coe_ne_bot _

/-- A band in which a key is seen has a positive denominator. -/
theorem band_pos (n c lo hi : ℕ) (S : ℕ → ℝ) (hlt : lo < hi) (h1 : c ≤ lo) (h2 : hi ≤ c + n) :
    0 < total (fun κ : Fin n => lo ≤ c + κ.val ∧ c + κ.val < hi) (fun κ => S (c + κ.val)) :=
  total_pos _ _ ⟨⟨lo - c, by omega⟩, by dsimp only; omega⟩

variable (n c n' c' lo hi : ℕ) (S : ℕ → ℝ) (v : ℕ → EReal)

/-- Without a sink: the kernel's row is the reference's. -/
theorem rows_agree (hlt : lo < hi) (h1 : c ≤ lo) (h2 : hi ≤ c + n) (h1' : c' ≤ lo) (h2' : hi ≤ c' + n')
    (s w : Fin n → EReal) (s' w' : Fin n' → EReal)
    (hs : ∀ κ : Fin n, s κ = if lo ≤ c + κ.val ∧ c + κ.val < hi then ((S (c + κ.val) * (Real.log 2)⁻¹ : ℝ) : EReal) else ⊥)
    (hs' : ∀ κ : Fin n', s' κ = if lo ≤ c' + κ.val ∧ c' + κ.val < hi then (S (c' + κ.val) : EReal) else ⊥)
    (hw : ∀ κ : Fin n, w κ = v (c + κ.val))
    (hw' : ∀ κ : Fin n', lo ≤ c' + κ.val ∧ c' + κ.val < hi → w' κ = v (c' + κ.val)) :
    rowA s w = ∑ k, w' k * Ideal.div (Ideal.exp (s' k - Finset.univ.fold max ⊥ s'))
      (∑ i, Ideal.exp (s' i - Finset.univ.fold max ⊥ s')) := by
  obtain ⟨μ, hμ⟩ := band_max n c lo hi (fun i => S i * (Real.log 2)⁻¹) s hs hlt h1 h2
  obtain ⟨μ', hμ'⟩ := band_max n' c' lo hi S s' hs' hlt h1' h2'
  have hp := band_pos n c lo hi S hlt h1 h2
  have hp' := band_pos n' c' lo hi S hlt h1' h2'
  have k := kernel_row (fun κ : Fin n => lo ≤ c + κ.val ∧ c + κ.val < hi) (fun κ => S (c + κ.val)) s w hs μ 0
    (by rw [add_zero]; exact hp)
  have r := reference_row (fun κ : Fin n' => lo ≤ c' + κ.val ∧ c' + κ.val < hi) (fun κ => S (c' + κ.val)) s' w' hs' μ' 0
    (by rw [add_zero]; exact hp')
  rw [zero_mul, EReal.coe_zero, add_zero] at k
  simp only [zero_mul, EReal.coe_zero, add_zero] at r
  unfold rowA
  rw [hμ, hμ', k]
  simp only [mul_comm (w' _)]
  rw [r, average_congr _ _ _ w' _ hw', show w = fun κ => v (c + κ.val) from funext hw]
  exact average_band n c n' c' lo hi S 0 v h1 h2 h1' h2'

/-- With a sink: the kernel's row is the reference's, whatever real the reference subtracts. -/
theorem rows_agree_sink (hlt : lo < hi) (h1 : c ≤ lo) (h2 : hi ≤ c + n) (h1' : c' ≤ lo) (h2' : hi ≤ c' + n')
    (s w : Fin n → EReal) (s' w' : Fin n' → EReal) (z M : ℝ)
    (hs : ∀ κ : Fin n, s κ = if lo ≤ c + κ.val ∧ c + κ.val < hi then ((S (c + κ.val) * (Real.log 2)⁻¹ : ℝ) : EReal) else ⊥)
    (hs' : ∀ κ : Fin n', s' κ = if lo ≤ c' + κ.val ∧ c' + κ.val < hi then (S (c' + κ.val) : EReal) else ⊥)
    (hw : ∀ κ : Fin n, w κ = v (c + κ.val))
    (hw' : ∀ κ : Fin n', lo ≤ c' + κ.val ∧ c' + κ.val < hi → w' κ = v (c' + κ.val)) :
    rowB s w (((z * (Real.log 2)⁻¹ : ℝ)) : EReal) = ∑ k, w' k * Ideal.div (Ideal.exp (s' k - (M : EReal)))
      ((∑ i, Ideal.exp (s' i - (M : EReal))) + Ideal.exp ((z : EReal) - (M : EReal))) := by
  obtain ⟨μ, hμ⟩ := band_max n c lo hi (fun i => S i * (Real.log 2)⁻¹) s hs hlt h1 h2
  have hp := band_pos n c lo hi S hlt h1 h2
  have hp' := band_pos n' c' lo hi S hlt h1' h2'
  have hm : max (μ : EReal) ((z * (Real.log 2)⁻¹ : ℝ) : EReal) = ((max μ (z * (Real.log 2)⁻¹) : ℝ) : EReal) :=
    (EReal.coe_strictMono.monotone.map_max).symm
  have k := kernel_row (fun κ : Fin n => lo ≤ c + κ.val ∧ c + κ.val < hi) (fun κ => S (c + κ.val)) s w hs
    (max μ (z * (Real.log 2)⁻¹)) (Real.exp z) (add_pos hp (Real.exp_pos z))
  have r := reference_row (fun κ : Fin n' => lo ≤ c' + κ.val ∧ c' + κ.val < hi) (fun κ => S (c' + κ.val)) s' w' hs' M
    (Real.exp z) (add_pos hp' (Real.exp_pos z))
  unfold rowB
  rw [hμ, hm, exp2_score, exp_score, k]
  simp only [mul_comm (w' _)]
  rw [r, average_congr _ _ _ w' _ hw', show w = fun κ => v (c + κ.val) from funext hw]
  exact average_band n c n' c' lo hi S _ v h1 h2 h1' h2'

/-- A sum over two heads' lanes in which one head's lanes count is the sum over that head's lanes. -/
theorem half_sum (f : ℕ → ℝ) (s : ℕ) (hs : s < 2) :
    (∑ x : Fin 128, if x.val / 64 = s then f x.val else 0) = ∑ d : Fin 64, f (s * 64 + d.val) := by
  rw [Fin.sum_univ_eq_sum_range (fun x => if x / 64 = s then f x else 0) 128,
    Fin.sum_univ_eq_sum_range (fun d => f (s * 64 + d)) 64, show 128 = 64 + 64 from rfl, Finset.sum_range_add]
  have e0 : s = 0 ∨ s = 1 := by omega
  rcases e0 with rfl | rfl
  · rw [Finset.sum_congr rfl fun x hx => if_pos (by have := Finset.mem_range.mp hx; omega : x / 64 = 0),
      Finset.sum_congr rfl fun x hx => if_neg (by have := Finset.mem_range.mp hx; omega : ¬ (64 + x) / 64 = 0),
      Finset.sum_const_zero, add_zero]
    exact Finset.sum_congr rfl fun x _ => by congr 1; omega
  · rw [Finset.sum_congr rfl fun x hx => if_neg (by have := Finset.mem_range.mp hx; omega : ¬ x / 64 = 1),
      Finset.sum_congr rfl fun x hx => if_pos (by have := Finset.mem_range.mp hx; omega : (64 + x) / 64 = 1),
      Finset.sum_const_zero, zero_add]

end Cert.Attn
-- ==== Proof.RefOut.lean ====
module

public import proofs.«01_k».proof.Proof.Gen.ReferenceIdeal.Read
public import proofs.«01_k».proof.Proof.Gathers
public import proofs.«01_k».proof.Proof.At
public import Idealize.ShloMosaic.Lib.Pointwise

@[expose] public section

set_option maxRecDepth 16384

noncomputable section

/-! The reference's two results before they are joined: every element is an average with the weights of its softmax. -/

namespace Cert.ReferenceIdeal.Attn

open Cert.ReferenceIdeal Cert.ReferenceIdeal.Gen Cert.ReferenceIdeal.Read Cert.Attn Idealize.ShloMosaic Idealize.ShloMosaic.TcCoe

/-- A weight of mixer A before it is divided. -/
theorem expA_apply (x0 x2 : S16384x512.Idx → EReal) (x6 : S8x257.Idx → EReal) (b : Fin 2) (n : Fin 128) (h : Fin 8)
    (q : Fin 64) (k : Fin 576) :
    (val_main_v87 (F := Ideal) x0 x2 x6 : S2x128x8x64x576.Idx → EReal) (ix5 b n h q k)
      = Ideal.exp ((val_main_v80 (F := Ideal) x0 x2 x6 : S2x128x8x64x576.Idx → EReal) (ix5 b n h q k)
        - max (Ideal.ofBits FTy.f32 4286578688#32) ((val_main_v81 (F := Ideal) x0 x2 x6 : S2x128x8x64.Idx → EReal) (ix4 b n h q))) := by
  rw [val_main_v87_apply, val_main_v86_apply, val_main_v85_apply, val_main_v84_apply, val_main_v83_apply, val_main_v82_apply,
    val_main_cst_16_apply]
  rw [show idx_main_v84 (idx_main_v85 (ix5 b n h q k)) = ix4 b n h q from (funext fun a => Fin.ext (by match a with | ⟨0, _⟩ => rfl | ⟨1, _⟩ => rfl | ⟨2, _⟩ => rfl | ⟨3, _⟩ => rfl))]
  rfl

/-- An element of mixer A. -/
theorem v93_apply (x0 x2 x3 : S16384x512.Idx → EReal) (x6 : S8x257.Idx → EReal) (b : Fin 2) (n : Fin 128) (q : Fin 64)
    (h : Fin 8) (d : Fin 64) (S : Fin 576 → EReal) (M : EReal) (W : Fin 576 → EReal)
    (hS : ∀ k, (val_main_v80 (F := Ideal) x0 x2 x6 : S2x128x8x64x576.Idx → EReal) (ix5 b n h q k) = S k)
    (hM : max (Ideal.ofBits FTy.f32 4286578688#32) ((val_main_v81 (F := Ideal) x0 x2 x6 : S2x128x8x64.Idx → EReal) (ix4 b n h q)) = M)
    (hW : ∀ k, (val_main_v58 (F := Ideal) x3 : S2x128x576x8x64.Idx → EReal) (ix5 b n k h d) = W k) :
    (val_main_v93 (F := Ideal) x0 x2 x3 x6 : S2x128x64x8x64.Idx → EReal) (ix5 b n q h d)
      = ∑ k, W k * Ideal.div (Ideal.exp (S k - M)) (∑ i, Ideal.exp (S i - M)) := by
  have he : ∀ k, (val_main_v87 (F := Ideal) x0 x2 x6 : S2x128x8x64x576.Idx → EReal) (ix5 b n h q k) = Ideal.exp (S k - M) :=
    fun k => by rw [expA_apply, hS, hM]
  rw [val_main_v93_apply, val_main_v92_apply]
  refine Finset.sum_congr rfl fun k _ => ?_
  rw [show lidx_main_v92 (idx_main_v93 (ix5 b n q h d)) k = ix5 b n k h d from (funext fun a => Fin.ext (by match a with | ⟨0, _⟩ => rfl | ⟨1, _⟩ => rfl | ⟨2, _⟩ => rfl | ⟨3, _⟩ => rfl | ⟨4, _⟩ => rfl)),
    show ridx_main_v92 (idx_main_v93 (ix5 b n q h d)) k = ix5 b n h q k from (funext fun a => Fin.ext (by match a with | ⟨0, _⟩ => rfl | ⟨1, _⟩ => rfl | ⟨2, _⟩ => rfl | ⟨3, _⟩ => rfl | ⟨4, _⟩ => rfl)), hW,
    val_main_v91_apply, he, val_main_v90_apply, val_main_v89_apply, val_main_v88_apply]
  refine congrArg (fun z => W k * Ideal.div (Ideal.exp (S k - M)) z) ?_
  rw [val_main_cst_17_apply]
  refine (congrArg₂ (· + ·) (Ideal.ofBits_zero .f32) (Finset.sum_congr rfl fun i _ => ?_)).trans (zero_add _)
  rw [show idx_main_v88 (idx_main_v89 (idx_main_v90 (ix5 b n h q k))) i = ix5 b n h q i from (funext fun a => Fin.ext (by match a with | ⟨0, _⟩ => rfl | ⟨1, _⟩ => rfl | ⟨2, _⟩ => rfl | ⟨3, _⟩ => rfl | ⟨4, _⟩ => rfl)), he]

/-- Where an element of mixer A stands in the result. -/
theorem v221_apply (x0 x2 x3 : S16384x512.Idx → EReal) (x6 : S8x257.Idx → EReal) (r : Fin 16384) (j : Fin 512) :
    (val_main_v221 (F := Ideal) x0 x2 x3 x6 : S16384x512.Idx → EReal) (ix2 r j)
      = (val_main_v93 (F := Ideal) x0 x2 x3 x6 : S2x128x64x8x64.Idx → EReal)
        (ix5 ⟨r.val / 8192, by omega⟩ ⟨r.val / 64 % 128, by omega⟩ ⟨r.val % 64, by omega⟩ ⟨j.val / 64, by omega⟩ ⟨j.val % 64, by omega⟩) := by
  rw [val_main_v221_apply]
  refine congrArg (val_main_v93 (F := Ideal) x0 x2 x3 x6) (funext fun a => Fin.ext ?_)
  match a with
  | ⟨0, _⟩ => show (r.val * 512 + j.val) / 4194304 = r.val / 8192; omega
  | ⟨1, _⟩ => show (r.val * 512 + j.val) / 32768 % 128 = r.val / 64 % 128; omega
  | ⟨2, _⟩ => show (r.val * 512 + j.val) / 512 % 64 = r.val % 64; omega
  | ⟨3, _⟩ => show (r.val * 512 + j.val) / 64 % 8 = j.val / 64; omega
  | ⟨4, _⟩ => show (r.val * 512 + j.val) % 64 = j.val % 64; omega

/-- The larger of a row's largest score of mixer B and its sink. -/
theorem v204_apply (x1 : S16384x512.Idx → EReal) (x4 : S16384x128.Idx → EReal) (x7 : S8x32.Idx → EReal) (x8 : S8.Idx → EReal)
    (b : Fin 2) (n : Fin 128) (c : Fin 2) (p : Fin 4) (q : Fin 64) :
    (val_main_v204 (F := Ideal) x1 x4 x7 x8 : S2x128x2x4x64x1.Idx → EReal) (ix6 b n c p q 0)
      = max ((val_main_v200 (F := Ideal) x1 x4 x7 : S2x128x2x4x64.Idx → EReal) (ix5 b n c p q)) (x8 (ix1 ⟨c.val * 4 + p.val, by omega⟩)) := by
  rw [val_main_v204_apply, val_main_v203_apply, val_main_v202_apply, val_main_v201_apply, val_main_v199_apply]
  refine congrArg₂ max (congrArg _ (funext fun a => Fin.ext (by match a with | ⟨0, _⟩ => rfl | ⟨1, _⟩ => rfl | ⟨2, _⟩ => rfl | ⟨3, _⟩ => rfl | ⟨4, _⟩ => rfl))) (congrArg x8 (funext fun a => Fin.ext ?_))
  match a with
  | ⟨0, _⟩ => show ((c.val * 4 + p.val) * 1 + 0) * 1 + 0 = c.val * 4 + p.val; omega

/-- The sink of a row of mixer B. -/
theorem v211_apply (x8 : S8.Idx → EReal) (b : Fin 2) (n : Fin 128) (c : Fin 2) (p : Fin 4) (q : Fin 64) :
    (val_main_v211 (F := Ideal) x8 : S2x128x2x4x64x1.Idx → EReal) (ix6 b n c p q 0) = x8 (ix1 ⟨c.val * 4 + p.val, by omega⟩) := by
  rw [val_main_v211_apply, val_main_v210_apply, val_main_v199_apply]
  refine congrArg x8 (funext fun a => Fin.ext ?_)
  match a with
  | ⟨0, _⟩ => show ((c.val * 4 + p.val) * 1 + 0) * 1 + 0 = c.val * 4 + p.val; omega

/-- An element of mixer B. -/
theorem v218_apply (x1 : S16384x512.Idx → EReal) (x4 x5 : S16384x128.Idx → EReal) (x7 : S8x32.Idx → EReal) (x8 : S8.Idx → EReal)
    (b : Fin 2) (n : Fin 128) (q : Fin 64) (c : Fin 2) (p : Fin 4) (d : Fin 64) (S : Fin 192 → EReal) (M : EReal) (W : Fin 192 → EReal)
    (hS : ∀ k, (val_main_v198 (F := Ideal) x1 x4 x7 : S2x128x2x4x64x192.Idx → EReal) (ix6 b n c p q k) = S k)
    (hM : max ((val_main_v200 (F := Ideal) x1 x4 x7 : S2x128x2x4x64.Idx → EReal) (ix5 b n c p q)) (x8 (ix1 ⟨c.val * 4 + p.val, by omega⟩)) = M)
    (hW : ∀ k, (val_main_v174 (F := Ideal) x5 : S2x128x192x2x64.Idx → EReal) (ix5 b n k c d) = W k) :
    (val_main_v218 (F := Ideal) x1 x4 x5 x7 x8 : S2x128x64x2x4x64.Idx → EReal) (ix6 b n q c p d)
      = ∑ k, W k * Ideal.div (Ideal.exp (S k - M))
        ((∑ i, Ideal.exp (S i - M)) + Ideal.exp (x8 (ix1 ⟨c.val * 4 + p.val, by omega⟩) - M)) := by
  have hm : (val_main_v204 (F := Ideal) x1 x4 x7 x8 : S2x128x2x4x64x1.Idx → EReal) (ix6 b n c p q 0) = M := by
    rw [v204_apply, hM]
  have he : ∀ k, (val_main_v207 (F := Ideal) x1 x4 x7 x8 : S2x128x2x4x64x192.Idx → EReal) (ix6 b n c p q k) = Ideal.exp (S k - M) := by
    intro k
    rw [val_main_v207_apply, val_main_v206_apply, hS, val_main_v205_apply,
      show idx_main_v205 (ix6 b n c p q k) = ix6 b n c p q 0 from (funext fun a => Fin.ext (by match a with | ⟨0, _⟩ => rfl | ⟨1, _⟩ => rfl | ⟨2, _⟩ => rfl | ⟨3, _⟩ => rfl | ⟨4, _⟩ => rfl | ⟨5, _⟩ => rfl)), hm]
    rfl
  rw [val_main_v218_apply, val_main_v217_apply]
  refine Finset.sum_congr rfl fun k _ => ?_
  rw [show lidx_main_v217 (idx_main_v218 (ix6 b n q c p d)) k = ix5 b n k c d from (funext fun a => Fin.ext (by match a with | ⟨0, _⟩ => rfl | ⟨1, _⟩ => rfl | ⟨2, _⟩ => rfl | ⟨3, _⟩ => rfl | ⟨4, _⟩ => rfl)),
    show ridx_main_v217 (idx_main_v218 (ix6 b n q c p d)) k = ix6 b n c p q k from (funext fun a => Fin.ext (by match a with | ⟨0, _⟩ => rfl | ⟨1, _⟩ => rfl | ⟨2, _⟩ => rfl | ⟨3, _⟩ => rfl | ⟨4, _⟩ => rfl | ⟨5, _⟩ => rfl)), hW,
    val_main_v216_apply, he, val_main_v215_apply,
    show idx_main_v215 (ix6 b n c p q k) = ix6 b n c p q 0 from (funext fun a => Fin.ext (by match a with | ⟨0, _⟩ => rfl | ⟨1, _⟩ => rfl | ⟨2, _⟩ => rfl | ⟨3, _⟩ => rfl | ⟨4, _⟩ => rfl | ⟨5, _⟩ => rfl)), val_main_v214_apply, val_main_v213_apply,
    val_main_v212_apply, hm, v211_apply, val_main_v209_apply, val_main_v208_apply, val_main_cst_43_apply]
  refine congrArg (fun z => W k * Ideal.div (Ideal.exp (S k - M)) (z + Ideal.exp (x8 (ix1 ⟨c.val * 4 + p.val, by omega⟩) - M))) ?_
  refine (congrArg₂ (· + ·) (Ideal.ofBits_zero .f32) (Finset.sum_congr rfl fun i _ => ?_)).trans (zero_add _)
  rw [show idx_main_v208 (idx_main_v209 (ix6 b n c p q 0)) i = ix6 b n c p q i from (funext fun a => Fin.ext (by match a with | ⟨0, _⟩ => rfl | ⟨1, _⟩ => rfl | ⟨2, _⟩ => rfl | ⟨3, _⟩ => rfl | ⟨4, _⟩ => rfl | ⟨5, _⟩ => rfl)), he]

/-- Where an element of mixer B stands in the result. -/
theorem v222_apply (x1 : S16384x512.Idx → EReal) (x4 x5 : S16384x128.Idx → EReal) (x7 : S8x32.Idx → EReal) (x8 : S8.Idx → EReal)
    (r : Fin 16384) (j : Fin 512) :
    (val_main_v222 (F := Ideal) x1 x4 x5 x7 x8 : S16384x512.Idx → EReal) (ix2 r j)
      = (val_main_v218 (F := Ideal) x1 x4 x5 x7 x8 : S2x128x64x2x4x64.Idx → EReal)
        (ix6 ⟨r.val / 8192, by omega⟩ ⟨r.val / 64 % 128, by omega⟩ ⟨r.val % 64, by omega⟩ ⟨j.val / 64 % 2, by omega⟩
          ⟨j.val / 128, by omega⟩ ⟨j.val % 64, by omega⟩) := by
  unfold val_main_v222 val_main_v220 val_main_v219
  generalize val_main_v218 (F := Ideal) x1 x4 x5 x7 x8 = y
  pointwise

/-- The two mixers side by side. -/
theorem v224_apply (x0 x1 x2 x3 : S16384x512.Idx → EReal) (x4 x5 : S16384x128.Idx → EReal) (x6 : S8x257.Idx → EReal)
    (x7 : S8x32.Idx → EReal) (x8 : S8.Idx → EReal) (r : Fin 16384) (j : Fin 1024) :
    (val_main_v224 (F := Ideal) x0 x1 x2 x3 x4 x5 x6 x7 x8 : S16384x1024.Idx → EReal) (ix2 r j)
      = if hj : j.val < 512 then (val_main_v221 (F := Ideal) x0 x2 x3 x6 : S16384x512.Idx → EReal) (ix2 r ⟨j.val, hj⟩)
        else (val_main_v222 (F := Ideal) x1 x4 x5 x7 x8 : S16384x512.Idx → EReal) (ix2 r ⟨j.val - 512, by omega⟩) := by
  unfold val_main_v224 val_main_v223
  generalize val_main_v221 (F := Ideal) x0 x2 x3 x6 = y
  generalize val_main_v222 (F := Ideal) x1 x4 x5 x7 x8 = z
  pointwise

end Cert.ReferenceIdeal.Attn
end
-- ==== Proof.RefA.lean ====
module

public import proofs.«01_k».proof.Proof.Gen.ReferenceIdeal.Read
public import proofs.«01_k».proof.Proof.Gathers
public import proofs.«01_k».proof.Proof.At
public import proofs.«01_k».proof.Proof.Words
public import Idealize.ShloMosaic.Lib.Pointwise

@[expose] public section

set_option maxRecDepth 16384

noncomputable section

/-! The reference's mixer A, read at one element. -/

namespace Cert.ReferenceIdeal.Attn

open Cert.ReferenceIdeal Cert.ReferenceIdeal.Gen Cert.ReferenceIdeal.Read Cert.Attn Idealize.ShloMosaic Idealize.ShloMosaic.TcCoe

/-- The bias of mixer A: the table at the clipped relative position. -/
theorem biasA_apply (x6 : S8x257.Idx → EReal) (h : Fin 8) (r : Fin 64) (k : Fin 576) :
    (val_main_v18 (F := Ideal) x6 : S8x64x576.Idx → EReal) (ix3 h r k)
      = at2 (a := 8) (b := 257) x6 h.val (min (k.val - (r.val + 384)) 256) := by
  have hr := r.isLt
  have hk := k.isLt
  unfold val_main_v18
  rw [gather_clip_apply]
  refine at2_of _ _ _ _ rfl ?_
  dsimp only
  simp -implicitDefEqProofs only [val_main_v0_apply, val_main_v1_apply, val_main_v2_apply, val_main_c_apply, val_main_v3_apply, val_main_v4_apply, val_main_v5_apply, val_main_v6_apply, val_main_v7_apply, val_main_v8_apply, val_main_c_0_apply, val_main_c_1_apply, val_main_call0_v0_apply, val_main_call0_v1_apply, val_main_call0_v2_apply, val_main_call0_v3_apply, val_main_call0_v4_apply, val_main_v9_apply, val_main_c_2_apply, val_main_v10_apply, val_main_v11_apply, val_main_c_3_apply, val_main_v12_apply, val_main_v13_apply, val_main_c_4_apply, val_main_v14_apply, val_main_v15_apply, val_main_v16_apply, val_main_v17_apply]
  show wrapped 257#32 (clipWord (IntOp.subi (BitVec.ofNat 32 k.val) (IntOp.addi (BitVec.ofNat 32 r.val) 512#32))) 256 = _
  rw [show (512#32) = BitVec.ofInt 32 512 from rfl, word_nat k.val, word_nat r.val, word_add, word_sub,
    clipWord_eq _ (by omega) (by omega)]
  omega

/-- The band of keys (values) before a chunk: zero where there is no such row. -/
theorem bandK_apply (x : S16384x512.Idx → EReal) (b : Fin 2) (n : Fin 128) (k : Fin 576) (h : Fin 8) (d : Fin 64) :
    (val_main_v39 (F := Ideal) x : S2x128x576x8x64.Idx → EReal) (ix5 b n k h d)
      = if 512 ≤ 64 * n.val + k.val then
          at2 (a := 16384) (b := 512) x (b.val * 8192 + (64 * n.val + k.val - 512)) (h.val * 64 + d.val)
        else (0 : EReal) := by
  have hb := b.isLt
  have hn := n.isLt
  have hk := k.isLt
  have hh := h.isLt
  have hd := d.isLt
  have hw : wrapped 136#32 (IntOp.addi (BitVec.ofNat 32 n.val) (BitVec.ofNat 32 (k.val / 64))) 135 = n.val + k.val / 64 := by
    rw [word_nat n.val, word_nat (k.val / 64), word_add]
    have := chunkWord_A ⟨n.val + k.val / 64, by omega⟩
    rw [← Nat.cast_add]
    exact this.trans (by dsimp; omega)
  unfold wrapped at hw
  unfold val_main_v39
  pointwise
  unfold val_main_v38
  rw [gather_bandA_apply]
  pointwise [val_main_v21, val_main_v22, val_main_v23, val_main_c_5, val_main_call1_v0, val_main_v24, val_main_v25, val_main_v26, val_main_v27, val_main_v28, val_main_v29, val_main_v30, val_main_v31, val_main_c_6, val_main_v32, val_main_v33, val_main_c_7, val_main_v34, val_main_v35, val_main_v36, val_main_v37]
  simp only [hw]
  by_cases hc : 512 ≤ 64 * n.val + k.val
  · refine (dif_pos ⟨⟨by omega, by omega⟩, by omega⟩).trans (Eq.trans ?_ (if_pos hc).symm)
    refine at2_of _ _ _ _ ?_ ?_
    · dsimp
      omega
    · rfl
  · refine (dif_neg (by omega)).trans (Eq.trans ?_ (if_neg hc).symm)
    show ((((0#32 : BitVec 32).toInt : ℤ) : ℝ) : EReal) = 0
    simp

/-- The band of keys (values) before a chunk: zero where there is no such row. -/
theorem bandV_apply (x : S16384x512.Idx → EReal) (b : Fin 2) (n : Fin 128) (k : Fin 576) (h : Fin 8) (d : Fin 64) :
    (val_main_v58 (F := Ideal) x : S2x128x576x8x64.Idx → EReal) (ix5 b n k h d)
      = if 512 ≤ 64 * n.val + k.val then
          at2 (a := 16384) (b := 512) x (b.val * 8192 + (64 * n.val + k.val - 512)) (h.val * 64 + d.val)
        else (0 : EReal) := by
  have hb := b.isLt
  have hn := n.isLt
  have hk := k.isLt
  have hh := h.isLt
  have hd := d.isLt
  have hw : wrapped 136#32 (IntOp.addi (BitVec.ofNat 32 n.val) (BitVec.ofNat 32 (k.val / 64))) 135 = n.val + k.val / 64 := by
    rw [word_nat n.val, word_nat (k.val / 64), word_add]
    have := chunkWord_A ⟨n.val + k.val / 64, by omega⟩
    rw [← Nat.cast_add]
    exact this.trans (by dsimp; omega)
  unfold wrapped at hw
  unfold val_main_v58
  pointwise
  unfold val_main_v57
  rw [gather_bandA_apply]
  pointwise [val_main_v40, val_main_v41, val_main_v42, val_main_c_8, val_main_call2_v0, val_main_v43, val_main_v44, val_main_v45, val_main_v46, val_main_v47, val_main_v48, val_main_v49, val_main_v50, val_main_c_9, val_main_v51, val_main_v52, val_main_c_10, val_main_v53, val_main_v54, val_main_v55, val_main_v56]
  simp only [hw]
  by_cases hc : 512 ≤ 64 * n.val + k.val
  · refine (dif_pos ⟨⟨by omega, by omega⟩, by omega⟩).trans (Eq.trans ?_ (if_pos hc).symm)
    refine at2_of _ _ _ _ ?_ ?_
    · dsimp
      omega
    · rfl
  · refine (dif_neg (by omega)).trans (Eq.trans ?_ (if_neg hc).symm)
    show ((((0#32 : BitVec 32).toInt : ℤ) : ℝ) : EReal) = 0
    simp

/-- The maximum of mixer A. -/
theorem maxA_apply (x0 x2 : S16384x512.Idx → EReal) (x6 : S8x257.Idx → EReal) (b : Fin 2) (n : Fin 128) (k : Fin 64) (h : Fin 8) :
    (val_main_v81 (F := Ideal) x0 x2 x6 : S2x128x8x64.Idx → EReal) (ix4 b n h k)
      = Finset.fold max (Ideal.ofBits FTy.f32 4286578688#32)
          (fun x : Fin 576 => (val_main_v80 (F := Ideal) x0 x2 x6 : S2x128x8x64x576.Idx → EReal) (ix5 b n h k x)) Finset.univ := by
  unfold val_main_v81
  generalize val_main_v80 (F := Ideal) x0 x2 x6 = y
  pointwise [val_main_cst_15]

/-- The queries of mixer A in chunks. -/
theorem queryA_apply (x0 : S16384x512.Idx → EReal) (b : Fin 2) (n : Fin 128) (q : Fin 64) (h : Fin 8) (x : Fin 64) :
    (val_main_v20 (F := Ideal) x0 : S2x128x64x8x64.Idx → EReal) (ix5 b n q h x)
      = at2 (a := 16384) (b := 512) x0 (b.val * 8192 + (n.val * 64 + q.val)) (h.val * 64 + x.val) := by
  pointwise [val_main_v19, val_main_v20]
  exact at2_of _ _ _ _ rfl rfl

/-- The products of mixer A. -/
theorem dotA_apply (x0 x2 : S16384x512.Idx → EReal) (b : Fin 2) (n : Fin 128) (q : Fin 64) (h : Fin 8) (k : Fin 576) :
    (val_main_v73 (F := Ideal) x0 x2 : S2x128x8x64x576.Idx → EReal) (ix5 b n h q k)
     = ∑ x : Fin 64, (val_main_v20 (F := Ideal) x0 : S2x128x64x8x64.Idx → EReal) (ix5 b n q h x)
      * (val_main_v39 (F := Ideal) x2 : S2x128x576x8x64.Idx → EReal) (ix5 b n k h x) := by
  rw [val_main_v73_apply]
  refine Finset.sum_congr rfl fun x _ => ?_
  exact congrArg₂ (· * ·) (congrArg _ (funext fun a => Fin.ext (by match a with | ⟨0, _⟩ => rfl | ⟨1, _⟩ => rfl | ⟨2, _⟩ => rfl | ⟨3, _⟩ => rfl | ⟨4, _⟩ => rfl)))
    (congrArg _ (funext fun a => Fin.ext (by match a with | ⟨0, _⟩ => rfl | ⟨1, _⟩ => rfl | ⟨2, _⟩ => rfl | ⟨3, _⟩ => rfl | ⟨4, _⟩ => rfl)))

/-- Which keys of a band lie within the sequence. -/
theorem valid_A (n k : ℕ) (hn : n < 128) (hk : k < 576) :
    IntOp.cmpi .sge (IntOp.addi (IntOp.muli (IntOp.subi (BitVec.ofNat 32 n) 8#32) 64#32) (BitVec.ofNat 32 k)) 0#32
      = BitVec.ofBool (decide (512 ≤ 64 * n + k)) := by
  rw [show (8#32) = BitVec.ofInt 32 8 from rfl, show (64#32) = BitVec.ofInt 32 64 from rfl, word_nat n, word_nat k, word_sub,
    word_mul, word_add, word_sge _ (by omega) (by omega)]
  congr 1
  exact decide_eq_decide.mpr (by omega)

/-- The scores of mixer A: the product with the key in view, the bias; a hidden key's score is -∞. -/
theorem scoreA_apply (x0 x2 : S16384x512.Idx → EReal) (x6 : S8x257.Idx → EReal) (b : Fin 2) (n : Fin 128) (q : Fin 64) (h : Fin 8) (k : Fin 576) :
    (val_main_v80 (F := Ideal) x0 x2 x6 : S2x128x8x64x576.Idx → EReal) (ix5 b n h q k)
      = if 512 ≤ 64 * n.val + k.val then
          (∑ x : Fin 64, at2 (a := 16384) (b := 512) x0 (b.val * 8192 + (n.val * 64 + q.val)) (h.val * 64 + x.val)
              * at2 (a := 16384) (b := 512) x2 (b.val * 8192 + (64 * n.val + k.val - 512)) (h.val * 64 + x.val))
            * Ideal.ofBits FTy.f32 1040187392#32 + at2 (a := 8) (b := 257) x6 h.val (min (k.val - (q.val + 384)) 256)
        else (⊥ : EReal) := by
  have hb := b.isLt
  have hn := n.isLt
  have hk := k.isLt
  have hh := h.isLt
  simp -implicitDefEqProofs only [val_main_v59_apply, val_main_v60_apply, val_main_c_11_apply, val_main_v61_apply, val_main_v62_apply, val_main_c_12_apply, val_main_v63_apply, val_main_v64_apply, val_main_v65_apply, val_main_v66_apply, val_main_v67_apply, val_main_v68_apply, val_main_v69_apply, val_main_c_13_apply, val_main_v70_apply, val_main_v71_apply, val_main_v72_apply, val_main_cst_apply, val_main_v75_apply, val_main_v76_apply, val_main_v77_apply, val_main_v78_apply, val_main_v79_apply, val_main_cst_14_apply, val_main_call3_v0_apply, val_main_call3_v1_apply, val_main_call3_v2_apply, val_main_v80_apply]
  have eb := biasA_apply x6 h q k
  have ed := dotA_apply x0 x2 b n q h k
  have hi : idx_main_v76 (idx_main_v77 (ix5 b n h q k)) = ix3 h q k :=
    funext fun a => Fin.ext (by match a with | ⟨0, _⟩ => rfl | ⟨1, _⟩ => rfl | ⟨2, _⟩ => rfl)
  rw [hi, eb, ed]
  refine (congrArg (fun w => Scalar.select w _ _) (valid_A n.val k.val hn hk)).trans ?_
  rw [select_ofBool]
  by_cases hc : 512 ≤ 64 * n.val + k.val
  · rw [if_pos hc, if_pos (decide_eq_true hc)]
    refine congrArg₂ (· + ·) (congrArg₂ (· * ·) ?_ ?_) rfl
    · refine Finset.sum_congr rfl fun x _ => ?_
      rw [queryA_apply, bandK_apply, if_pos hc]
    · rw [val_main_v74_apply, val_main_cst_apply]
      rfl
  · rw [if_neg hc, if_neg (by simpa using hc)]
    simp [FloatOps.ofBits, Ideal.ofBits, Ideal.ieee]

end Cert.ReferenceIdeal.Attn
end
-- ==== Proof.AgreeA.lean ====
module

public import proofs.«01_k».proof.Proof.Out
public import proofs.«01_k».proof.Proof.HostQuery
public import proofs.«01_k».proof.Proof.RowMath
public import proofs.«01_k».proof.Proof.RefOut
public import proofs.«01_k».proof.Proof.RefA

@[expose] public section

set_option maxRecDepth 16384

noncomputable section

/-! Mixer A: the kernel's half of the result is the reference's. -/

namespace Cert.Attn

open Idealize.ShloMosaic

/-- The scale of the scores is an eighth. -/
theorem ofBits_eighth : Ideal.ofBits FTy.f32 1040187392#32 = ((1 / 8 : ℝ) : EReal) := by
  simp [Ideal.ofBits, Ideal.ieee, -EReal.coe_mul]
  norm_num

/-- The kernel's product of a query and a key over two heads' lanes, the query being zero in the other head's. -/
theorem split_dot (q k : ℕ → ℝ) (s : ℕ) (hs : s < 2) (L : ℝ) :
    (∑ x : Fin 128, (if x.val / 64 = s then (q x.val : EReal) * (Ideal.ofBits FTy.f32 1040187392#32 * (L : EReal)) else 0) * (k x.val : EReal))
      = (((∑ d : Fin 64, q (s * 64 + d.val) * k (s * 64 + d.val)) * (1 / 8) * L : ℝ) : EReal) := by
  have h : ∀ x : Fin 128, (if x.val / 64 = s then (q x.val : EReal) * (Ideal.ofBits FTy.f32 1040187392#32 * (L : EReal)) else 0) * (k x.val : EReal)
      = ((if x.val / 64 = s then q x.val * k x.val * (1 / 8) * L else 0 : ℝ) : EReal) := by
    intro x
    rw [ofBits_eighth]
    split_ifs
    · rw [← EReal.coe_mul, ← EReal.coe_mul, ← EReal.coe_mul]
      congr 1
      ring
    · rw [zero_mul, EReal.coe_zero]
  rw [Finset.sum_congr rfl fun x _ => h x, ← coe_sum, half_sum (fun x => q x * k x * (1 / 8) * L) s hs, Finset.sum_mul, Finset.sum_mul]

/-- Which lane of the split queries is which. -/
theorem lane_split (s p x : ℕ) (hs : s < 2) (hp : p < 4) (hx : x < 128) :
    (s * 512 + p * 128 + x) / 64 % 2 = x / 64 ∧ (s * 512 + p * 128 + x) / 512 = s ∧ (s * 512 + p * 128 + x) % 512 = p * 128 + x := by
  omega

end Cert.Attn

namespace Cert.KernelIdeal.Attn

open Cert.KernelIdeal Cert.KernelIdeal.Gen Cert.Attn Idealize.ShloMosaic Idealize.ShloMosaic.TcCoe Idealize.SL.Sem
open Cert.ReferenceIdeal.Read Cert.ReferenceIdeal.Attn

variable (m : (ℓ : Loc nD τ sig) → Buf (Elt Ideal) ℓ)

/-- Mixer A's score of key `i` (counted from 512 keys before the batch) for head `h` of row `R`. -/
def scoreA (q k b : ℕ → ℕ → ℝ) (R h i : ℕ) : ℝ :=
  (∑ d : Fin 64, q R (h * 64 + d.val) * k (R / 8192 * 8192 + (i - 512)) (h * 64 + d.val)) * (1 / 8)
    + b h (min (i - (R % 8192 + 384)) 256)

/-- The kernel's scores of mixer A, in base two. -/
theorem kernelA (c : Dev nD) (x0 x2 : S16384x512.Idx → EReal) (x6 : S8x257.Idx → EReal)
    (e0 : (m (c, Proc.tc.devRef main_arg0) : S16384x512.Idx → EReal) = x0)
    (e2 : (m (c, Proc.tc.devRef main_arg2) : S16384x512.Idx → EReal) = x2)
    (e6 : (m (c, Proc.tc.devRef main_arg6) : S8x257.Idx → EReal) = x6)
    (q k b : ℕ → ℕ → ℝ) (hq : ∀ i j, at2 (a := 16384) (b := 512) x0 i j = (q i j : EReal))
    (hk : ∀ i j, at2 (a := 16384) (b := 512) x2 i j = (k i j : EReal)) (hb : ∀ i j, at2 (a := 8) (b := 257) x6 i j = (b i j : EReal))
    (R : Fin 16384) (C : Fin 512)
    (κ : Fin 640) :
    (∑ x : Fin 128, at2 (a := 16384) (b := 1024) (V m c main_v124) R.val (C.val / 64 % 2 * 512 + C.val / 128 * 128 + x.val)
      * at2 (a := 16384) (b := 512) (V m c main_arg2) ((R.val / 8192 * 8192 + (128 * (R.val % 8192 / 128) - 512)) + κ.val) (C.val / 128 * 128 + x.val))
      + at4 (a := 5) (b := 8) (c := 128) (d := 640) (V m c main_v36) (min (R.val % 8192 / 128) 4) (C.val / 64) (R.val % 128) κ.val
      = if max (64 * (R.val / 64 % 128)) 512 ≤ (128 * (R.val % 8192 / 128) - 512 + 512) + κ.val
          ∧ (128 * (R.val % 8192 / 128) - 512 + 512) + κ.val < 64 * (R.val / 64 % 128) + 576 then
        ((scoreA q k b R.val (C.val / 64) ((128 * (R.val % 8192 / 128) - 512 + 512) + κ.val) * (Real.log 2)⁻¹ : ℝ) : EReal) else ⊥ := by
  have hR := R.isLt
  have hC := C.isLt
  have hκ := κ.isLt
  have hd : (∑ x : Fin 128, at2 (a := 16384) (b := 1024) (V m c main_v124) R.val (C.val / 64 % 2 * 512 + C.val / 128 * 128 + x.val)
      * at2 (a := 16384) (b := 512) (V m c main_arg2) ((R.val / 8192 * 8192 + (128 * (R.val % 8192 / 128) - 512)) + κ.val) (C.val / 128 * 128 + x.val))
      = (((∑ d : Fin 64, q R.val (C.val / 128 * 128 + (C.val / 64 % 2 * 64 + d.val))
          * k ((R.val / 8192 * 8192 + (128 * (R.val % 8192 / 128) - 512)) + κ.val) (C.val / 128 * 128 + (C.val / 64 % 2 * 64 + d.val))) * (1 / 8) * (Real.log 2)⁻¹ : ℝ) : EReal) := by
    rw [← split_dot (fun x => q R.val (C.val / 128 * 128 + x)) (fun x => k ((R.val / 8192 * 8192 + (128 * (R.val % 8192 / 128) - 512)) + κ.val) (C.val / 128 * 128 + x)) (C.val / 64 % 2) (by omega) (Real.log 2)⁻¹]
    refine Finset.sum_congr rfl fun x _ => ?_
    have hx := x.isLt
    congr 1
    · refine ((at2_of (a := 16384) (b := 1024) (V m c main_v124) (ix2 R ⟨C.val / 64 % 2 * 512 + C.val / 128 * 128 + x.val, by omega⟩) R.val (C.val / 64 % 2 * 512 + C.val / 128 * 128 + x.val) rfl rfl).symm.trans (V124_apply m c R _)).trans ?_
      dsimp only
      rw [e0, hq]
      obtain ⟨l1, l2, l3⟩ := lane_split (C.val / 64 % 2) (C.val / 128) x.val (by omega) (by omega) hx
      rw [l1, l2, l3]
    · rw [V_main_arg2, e2, hk]
  have hz : at4 (a := 5) (b := 8) (c := 128) (d := 640) (V m c main_v36) (min (R.val % 8192 / 128) 4) (C.val / 64) (R.val % 128) κ.val
      = if 64 * (R.val % 128 / 64) ≤ κ.val + 512 - 128 * min (R.val % 8192 / 128) 4
          ∧ κ.val + 512 - 128 * min (R.val % 8192 / 128) 4 < 64 * (R.val % 128 / 64) + 576 then
        ((b (C.val / 64) (min (κ.val + 128 - (128 * min (R.val % 8192 / 128) 4 + R.val % 128)) 256) * (Real.log 2)⁻¹ : ℝ) : EReal) else ⊥ := by
    refine ((at4_of (a := 5) (b := 8) (c := 128) (d := 640) (V m c main_v36) (ix4 ⟨min (R.val % 8192 / 128) 4, by omega⟩ ⟨C.val / 64, by omega⟩ ⟨R.val % 128, by omega⟩ κ) _ _ _ _ rfl rfl rfl rfl).symm.trans (V36_apply m c _ _ _ _)).trans ?_
    dsimp only
    rw [e6, hb, EReal.coe_mul]
  rw [hd, hz]
  by_cases h : max (64 * (R.val / 64 % 128)) 512 ≤ (128 * (R.val % 8192 / 128) - 512 + 512) + κ.val
        ∧ (128 * (R.val % 8192 / 128) - 512 + 512) + κ.val < 64 * (R.val / 64 % 128) + 576
  · rw [if_pos h, if_pos (by omega), ← EReal.coe_add]
    congr 1
    unfold scoreA
    rw [show min (κ.val + 128 - (128 * min (R.val % 8192 / 128) 4 + R.val % 128)) 256
        = min ((128 * (R.val % 8192 / 128) - 512 + 512) + κ.val - (R.val % 8192 + 384)) 256 by omega,
      show (R.val / 8192 * 8192 + (128 * (R.val % 8192 / 128) - 512)) + κ.val
        = R.val / 8192 * 8192 + ((128 * (R.val % 8192 / 128) - 512 + 512) + κ.val - 512) by omega,
      Finset.sum_congr rfl fun d _ => by rw [show C.val / 128 * 128 + (C.val / 64 % 2 * 64 + d.val) = C.val / 64 * 64 + d.val by omega]]
    ring
  · rw [if_neg h, if_neg (by omega), EReal.add_bot]

/-- The reference's scores of mixer A. -/
theorem referenceA (x0 x2 : S16384x512.Idx → EReal) (x6 : S8x257.Idx → EReal)
    (q k b : ℕ → ℕ → ℝ) (hq : ∀ i j, at2 (a := 16384) (b := 512) x0 i j = (q i j : EReal))
    (hk : ∀ i j, at2 (a := 16384) (b := 512) x2 i j = (k i j : EReal)) (hb : ∀ i j, at2 (a := 8) (b := 257) x6 i j = (b i j : EReal))
    (R : Fin 16384) (C : Fin 512)
    (κ : Fin 576) :
    (val_main_v80 (F := Ideal) x0 x2 x6 : Cert.ReferenceIdeal.S2x128x8x64x576.Idx → EReal)
      (ix5 ⟨R.val / 8192, by omega⟩ ⟨R.val / 64 % 128, by omega⟩ ⟨C.val / 64, by omega⟩ ⟨R.val % 64, by omega⟩ κ)
      = if max (64 * (R.val / 64 % 128)) 512 ≤ 64 * (R.val / 64 % 128) + κ.val
          ∧ 64 * (R.val / 64 % 128) + κ.val < 64 * (R.val / 64 % 128) + 576 then
        (scoreA q k b R.val (C.val / 64) (64 * (R.val / 64 % 128) + κ.val) : EReal) else ⊥ := by
  have hR := R.isLt
  have hC := C.isLt
  have hκ := κ.isLt
  rw [scoreA_apply]
  dsimp only
  by_cases h : 512 ≤ 64 * (R.val / 64 % 128) + κ.val
  · rw [if_pos h, if_pos (by omega), ofBits_eighth, hb]
    unfold scoreA
    rw [EReal.coe_add, EReal.coe_mul, coe_sum,
      show min (κ.val - (R.val % 64 + 384)) 256 = min (64 * (R.val / 64 % 128) + κ.val - (R.val % 8192 + 384)) 256 by omega,
      show R.val / 8192 * 8192 + (R.val / 64 % 128 * 64 + R.val % 64) = R.val by omega]
    congr 2
    exact Finset.sum_congr rfl fun x _ => by rw [hq, hk, EReal.coe_mul]
  · rw [if_neg h, if_neg (by omega)]

/-- A row of mixer A, as the reference has it. -/
theorem referenceA_row (x0 x2 x3 : S16384x512.Idx → EReal) (x6 : S8x257.Idx → EReal) (R : Fin 16384) (C : Fin 512)
    (S W : Fin 576 → EReal)
    (hS : ∀ κ : Fin 576, (val_main_v80 (F := Ideal) x0 x2 x6 : Cert.ReferenceIdeal.S2x128x8x64x576.Idx → EReal)
      (ix5 ⟨R.val / 8192, by omega⟩ ⟨R.val / 64 % 128, by omega⟩ ⟨C.val / 64, by omega⟩ ⟨R.val % 64, by omega⟩ κ) = S κ)
    (hW : ∀ κ : Fin 576, (val_main_v58 (F := Ideal) x3 : Cert.ReferenceIdeal.S2x128x576x8x64.Idx → EReal)
      (ix5 ⟨R.val / 8192, by omega⟩ ⟨R.val / 64 % 128, by omega⟩ κ ⟨C.val / 64, by omega⟩ ⟨C.val % 64, by omega⟩) = W κ) :
    (val_main_v221 (F := Ideal) x0 x2 x3 x6 : S16384x512.Idx → EReal) (ix2 R C)
      = ∑ κ, W κ * Ideal.div (Ideal.exp (S κ - Finset.univ.fold max ⊥ S)) (∑ i, Ideal.exp (S i - Finset.univ.fold max ⊥ S)) := by
  refine (v221_apply x0 x2 x3 x6 R C).trans (v93_apply x0 x2 x3 x6 _ _ _ _ _ S (Finset.univ.fold max ⊥ S) W hS ?_ hW)
  rw [maxA_apply, ofBits_neg_inf, show (fun κ : Fin 576 => (val_main_v80 (F := Ideal) x0 x2 x6 : Cert.ReferenceIdeal.S2x128x8x64x576.Idx → EReal)
      (ix5 ⟨R.val / 8192, by omega⟩ ⟨R.val / 64 % 128, by omega⟩ ⟨C.val / 64, by omega⟩ ⟨R.val % 64, by omega⟩ κ)) = S from funext hS]
  exact max_eq_right bot_le

/-- Mixer A's half of the kernel's result is the reference's. -/
theorem agreeA (c : Dev nD) (x0 x2 x3 : S16384x512.Idx → EReal) (x6 : S8x257.Idx → EReal)
    (e0 : (m (c, Proc.tc.devRef main_arg0) : S16384x512.Idx → EReal) = x0)
    (e2 : (m (c, Proc.tc.devRef main_arg2) : S16384x512.Idx → EReal) = x2)
    (e3 : (m (c, Proc.tc.devRef main_arg3) : S16384x512.Idx → EReal) = x3)
    (e6 : (m (c, Proc.tc.devRef main_arg6) : S8x257.Idx → EReal) = x6)
    (q k b : ℕ → ℕ → ℝ) (hq : ∀ i j, at2 (a := 16384) (b := 512) x0 i j = (q i j : EReal))
    (hk : ∀ i j, at2 (a := 16384) (b := 512) x2 i j = (k i j : EReal)) (hb : ∀ i j, at2 (a := 8) (b := 257) x6 i j = (b i j : EReal))
    (R : Fin 16384) (C : Fin 512) :
    outA m c R.val C.val = (val_main_v221 (F := Ideal) x0 x2 x3 x6 : S16384x512.Idx → EReal) (ix2 R C) := by
  have hR := R.isLt
  have hC := C.isLt
  refine Eq.trans ?_ (referenceA_row x0 x2 x3 x6 R C _ _ (referenceA x0 x2 x6 q k b hq hk hb R C) (fun κ => rfl)).symm
  unfold outA
  refine rows_agree 640 (128 * (R.val % 8192 / 128) - 512 + 512) 576 (64 * (R.val / 64 % 128)) (max (64 * (R.val / 64 % 128)) 512)
    (64 * (R.val / 64 % 128) + 576) (scoreA q k b R.val (C.val / 64))
    (fun i => at2 (a := 16384) (b := 512) x3 (R.val / 8192 * 8192 + (i - 512)) C.val)
    (by omega) (by omega) (by omega) (by omega) (by omega) _ _ _ _ (kernelA m c x0 x2 x6 e0 e2 e6 q k b hq hk hb R C) (fun κ => rfl)
    (fun κ => ?_) (fun κ hκ => ?_)
  · rw [V_main_arg3, e3, show R.val / 8192 * 8192 + (128 * (R.val % 8192 / 128) - 512) + κ.val
      = R.val / 8192 * 8192 + (128 * (R.val % 8192 / 128) - 512 + 512 + κ.val - 512) by omega]
  · rw [bandV_apply]
    dsimp only
    rw [if_pos (by omega), show C.val / 64 * 64 + C.val % 64 = C.val by omega]

end Cert.KernelIdeal.Attn
-- ==== Proof.RefB.lean ====
module

public import proofs.«01_k».proof.Proof.Gen.ReferenceIdeal.Read
public import proofs.«01_k».proof.Proof.Gathers
public import proofs.«01_k».proof.Proof.At
public import proofs.«01_k».proof.Proof.Words
public import Idealize.ShloMosaic.Lib.Pointwise

@[expose] public section

set_option maxRecDepth 16384

noncomputable section

/-! The reference's mixer B, read at one element. -/

namespace Cert.ReferenceIdeal.Attn

open Cert.ReferenceIdeal Cert.ReferenceIdeal.Gen Cert.ReferenceIdeal.Read Cert.Attn Idealize.ShloMosaic Idealize.ShloMosaic.TcCoe

/-- The relative position of mixer B. -/
theorem rel_apply (r : Fin 64) (k : Fin 192) : val_main_v102 (F := Ideal) (ix2 r k) = IntOp.subi (BitVec.ofNat 32 k.val) (IntOp.addi (BitVec.ofNat 32 r.val) 128#32) := by
  pointwise [val_main_v94, val_main_v95, val_main_v96, val_main_c_18, val_main_v97, val_main_v98, val_main_v99, val_main_v100, val_main_v101, val_main_v102]

/-- The bucket of mixer B as a word. -/
theorem wordB_apply (i : S64x192.Idx) (z : BitVec 32) (hz : val_main_v102 (F := Ideal) i = z) :
    val_main_v132 (F := Ideal) i
      = Scalar.select (IntOp.cmpi .slt (referenceBucket z (logWord (IntOp.maxsi (IntOp.absi z) 1#32))) 0#32)
          (IntOp.addi (referenceBucket z (logWord (IntOp.maxsi (IntOp.absi z) 1#32))) 32#32)
          (referenceBucket z (logWord (IntOp.maxsi (IntOp.absi z) 1#32))) := by
  have e : val_main_v127 (F := Ideal) i = referenceBucket z (logWord (IntOp.maxsi (IntOp.absi z) 1#32)) := by
    unfold referenceBucket logWord
    simp -implicitDefEqProofs only [val_main_v103_apply, val_main_c_19_apply, val_main_v104_apply, val_main_v105_apply, val_main_c_20_apply, val_main_c_21_apply, val_main_call4_v0_apply, val_main_call4_v1_apply, val_main_v106_apply, val_main_c_22_apply, val_main_v107_apply, val_main_v108_apply, val_main_v109_apply, val_main_cst_23_apply, val_main_v110_apply, val_main_v111_apply, val_main_v112_apply, val_main_cst_24_apply, val_main_v113_apply, val_main_v114_apply, val_main_v115_apply, val_main_cst_25_apply, val_main_v116_apply, val_main_v117_apply, val_main_v118_apply, val_main_c_26_apply, val_main_v119_apply, val_main_v120_apply, val_main_c_27_apply, val_main_v121_apply, val_main_v122_apply, val_main_c_28_apply, val_main_v123_apply, val_main_v124_apply, val_main_v125_apply, val_main_v126_apply, val_main_v127_apply, val_main_c_29_apply, val_main_v129_apply, val_main_c_30_apply, val_main_v130_apply, val_main_v131_apply, val_main_v132_apply, hz]
  simp -implicitDefEqProofs only [val_main_v132_apply, val_main_v131_apply, val_main_v130_apply, val_main_v129_apply, val_main_v128_apply, val_main_c_29_apply, val_main_c_30_apply, e]

/-- The bias of mixer B: the table at the bucket of the relative position. -/
theorem biasB_apply (x7 : S8x32.Idx → EReal) (h : Fin 8) (r : Fin 64) (k : Fin 192) :
    (val_main_v134 (F := Ideal) x7 : S8x64x192.Idx → EReal) (ix3 h r k)
      = at2 (a := 8) (b := 32) x7 h.val (bucket ((k.val : ℤ) - (r.val + 128))) := by
  have hr := r.isLt
  have hk := k.isLt
  unfold val_main_v134
  rw [gather_bucket_apply]
  refine at2_of _ _ _ _ rfl ?_
  have hi : idx_main_v133 (ix3 r k 0) = ix2 r k :=
    funext fun a => Fin.ext (by match a with | ⟨0, _⟩ => rfl | ⟨1, _⟩ => rfl)
  have hz : val_main_v102 (F := Ideal) (ix2 r k) = BitVec.ofInt 32 ((k.val : ℤ) - (r.val + 128)) := by
    rw [rel_apply, show (128#32) = BitVec.ofInt 32 128 from rfl, word_nat k.val, word_nat r.val, word_add, word_sub]
  have e : val_main_v133 (F := Ideal) (ix3 r k 0) = _ :=
    (val_main_v133_apply (F := Ideal) (ix3 r k 0)).trans ((congrArg _ hi).trans (wordB_apply _ _ hz))
  have hb := referenceBucket_eq ((k.val : ℤ) - (r.val + 128)) (by omega) (by omega)
  unfold wrapped at hb
  rw [← e] at hb
  exact hb

/-- The band of keys (values) before a chunk: zero where there is no such row. -/
theorem bandKB_apply (x : S16384x128.Idx → EReal) (b : Fin 2) (n : Fin 128) (k : Fin 192) (h : Fin 2) (d : Fin 64) :
    (val_main_v155 (F := Ideal) x : S2x128x192x2x64.Idx → EReal) (ix5 b n k h d)
      = if 128 ≤ 64 * n.val + k.val then
          at2 (a := 16384) (b := 128) x (b.val * 8192 + (64 * n.val + k.val - 128)) (h.val * 64 + d.val)
        else (0 : EReal) := by
  have hb := b.isLt
  have hn := n.isLt
  have hk := k.isLt
  have hh := h.isLt
  have hd := d.isLt
  have hw : wrapped 130#32 (IntOp.addi (BitVec.ofNat 32 n.val) (BitVec.ofNat 32 (k.val / 64))) 129 = n.val + k.val / 64 := by
    rw [word_nat n.val, word_nat (k.val / 64), word_add]
    have := chunkWord_B ⟨n.val + k.val / 64, by omega⟩
    rw [← Nat.cast_add]
    exact this.trans (by dsimp; omega)
  unfold wrapped at hw
  unfold val_main_v155
  pointwise
  unfold val_main_v154
  rw [gather_bandB_apply]
  pointwise [val_main_v137, val_main_v138, val_main_v139, val_main_c_31, val_main_call6_v0, val_main_v140, val_main_v141, val_main_v142, val_main_v143, val_main_v144, val_main_v145, val_main_v146, val_main_v147, val_main_c_32, val_main_v148, val_main_v149, val_main_c_33, val_main_v150, val_main_v151, val_main_v152, val_main_v153]
  simp only [hw]
  by_cases hc : 128 ≤ 64 * n.val + k.val
  · refine (dif_pos ⟨⟨by omega, by omega⟩, by omega⟩).trans (Eq.trans ?_ (if_pos hc).symm)
    refine at2_of _ _ _ _ ?_ ?_
    · dsimp
      omega
    · rfl
  · refine (dif_neg (by omega)).trans (Eq.trans ?_ (if_neg hc).symm)
    show ((((0#32 : BitVec 32).toInt : ℤ) : ℝ) : EReal) = 0
    simp

/-- The band of keys (values) before a chunk: zero where there is no such row. -/
theorem bandVB_apply (x : S16384x128.Idx → EReal) (b : Fin 2) (n : Fin 128) (k : Fin 192) (h : Fin 2) (d : Fin 64) :
    (val_main_v174 (F := Ideal) x : S2x128x192x2x64.Idx → EReal) (ix5 b n k h d)
      = if 128 ≤ 64 * n.val + k.val then
          at2 (a := 16384) (b := 128) x (b.val * 8192 + (64 * n.val + k.val - 128)) (h.val * 64 + d.val)
        else (0 : EReal) := by
  have hb := b.isLt
  have hn := n.isLt
  have hk := k.isLt
  have hh := h.isLt
  have hd := d.isLt
  have hw : wrapped 130#32 (IntOp.addi (BitVec.ofNat 32 n.val) (BitVec.ofNat 32 (k.val / 64))) 129 = n.val + k.val / 64 := by
    rw [word_nat n.val, word_nat (k.val / 64), word_add]
    have := chunkWord_B ⟨n.val + k.val / 64, by omega⟩
    rw [← Nat.cast_add]
    exact this.trans (by dsimp; omega)
  unfold wrapped at hw
  unfold val_main_v174
  pointwise
  unfold val_main_v173
  rw [gather_bandB_apply]
  pointwise [val_main_v156, val_main_v157, val_main_v158, val_main_c_34, val_main_call7_v0, val_main_v159, val_main_v160, val_main_v161, val_main_v162, val_main_v163, val_main_v164, val_main_v165, val_main_v166, val_main_c_35, val_main_v167, val_main_v168, val_main_c_36, val_main_v169, val_main_v170, val_main_v171, val_main_v172]
  simp only [hw]
  by_cases hc : 128 ≤ 64 * n.val + k.val
  · refine (dif_pos ⟨⟨by omega, by omega⟩, by omega⟩).trans (Eq.trans ?_ (if_pos hc).symm)
    refine at2_of _ _ _ _ ?_ ?_
    · dsimp
      omega
    · rfl
  · refine (dif_neg (by omega)).trans (Eq.trans ?_ (if_neg hc).symm)
    show ((((0#32 : BitVec 32).toInt : ℤ) : ℝ) : EReal) = 0
    simp

/-- The maximum of mixer B. -/
theorem maxB_apply (x1 : S16384x512.Idx → EReal) (x4 : S16384x128.Idx → EReal) (x7 : S8x32.Idx → EReal) (b : Fin 2) (n : Fin 128) (k : Fin 64) (c : Fin 2) (p : Fin 4) :
    ∃ s : Finset S2x128x2x4x64x192.Idx, (val_main_v200 (F := Ideal) x1 x4 x7 : S2x128x2x4x64.Idx → EReal) (ix5 b n c p k)
      = Finset.fold max (Ideal.ofBits FTy.f32 4286578688#32)
          (val_main_v198 (F := Ideal) x1 x4 x7 : S2x128x2x4x64x192.Idx → EReal) s := by
  unfold val_main_v200
  generalize val_main_v198 (F := Ideal) x1 x4 x7 = y
  pointwise [val_main_cst_42]
  exact ⟨_, rfl⟩

/-- The products of mixer B. -/
theorem dotB_apply (x1 : S16384x512.Idx → EReal) (x4 : S16384x128.Idx → EReal) (b : Fin 2) (n : Fin 128) (q : Fin 64) (c : Fin 2) (p : Fin 4) (k : Fin 192) :
    (val_main_v190 (F := Ideal) x1 x4 : S2x128x2x4x64x192.Idx → EReal) (ix6 b n c p q k)
     = ∑ x : Fin 64, (val_main_v155 (F := Ideal) x4 : S2x128x192x2x64.Idx → EReal) (ix5 b n k c x)
      * (val_main_v136 (F := Ideal) x1 : S2x128x64x2x4x64.Idx → EReal) (ix6 b n q c p x) := by
  rw [val_main_v190_apply, val_main_v189_apply]
  refine Finset.sum_congr rfl fun x _ => ?_
  exact congrArg₂ (· * ·) (congrArg _ (funext fun a => Fin.ext (by match a with | ⟨0, _⟩ => rfl | ⟨1, _⟩ => rfl | ⟨2, _⟩ => rfl | ⟨3, _⟩ => rfl | ⟨4, _⟩ => rfl))) (congrArg _ (funext fun a => Fin.ext (by match a with | ⟨0, _⟩ => rfl | ⟨1, _⟩ => rfl | ⟨2, _⟩ => rfl | ⟨3, _⟩ => rfl | ⟨4, _⟩ => rfl | ⟨5, _⟩ => rfl)))

/-- The queries of mixer B in chunks and groups of heads. -/
theorem queryB_apply (x1 : S16384x512.Idx → EReal) (b : Fin 2) (n : Fin 128) (q : Fin 64) (c : Fin 2) (p : Fin 4) (x : Fin 64) :
    (val_main_v136 (F := Ideal) x1 : S2x128x64x2x4x64.Idx → EReal) (ix6 b n q c p x)
      = at2 (a := 16384) (b := 512) x1 (b.val * 8192 + (n.val * 64 + q.val)) ((c.val * 4 + p.val) * 64 + x.val) := by
  pointwise [val_main_v135, val_main_v136]
  exact at2_of _ _ _ _ rfl rfl

/-- Which keys of a band lie within the sequence. -/
theorem valid_B (n k : ℕ) (hn : n < 128) (hk : k < 192) :
    IntOp.cmpi .sge (IntOp.addi (IntOp.muli (IntOp.subi (BitVec.ofNat 32 n) 2#32) 64#32) (BitVec.ofNat 32 k)) 0#32
      = BitVec.ofBool (decide (128 ≤ 64 * n + k)) := by
  rw [show (2#32) = BitVec.ofInt 32 2 from rfl, show (64#32) = BitVec.ofInt 32 64 from rfl, word_nat n, word_nat k, word_sub,
    word_mul, word_add, word_sge _ (by omega) (by omega)]
  congr 1
  exact decide_eq_decide.mpr (by omega)

/-- The scores of mixer B: the product with the key in view, the bias; a hidden key's score is -∞. -/
theorem scoreB_apply (x1 : S16384x512.Idx → EReal) (x4 : S16384x128.Idx → EReal) (x7 : S8x32.Idx → EReal)
    (b : Fin 2) (n : Fin 128) (c : Fin 2) (p : Fin 4) (q : Fin 64) (k : Fin 192) :
    (val_main_v198 (F := Ideal) x1 x4 x7 : S2x128x2x4x64x192.Idx → EReal) (ix6 b n c p q k)
      = if 128 ≤ 64 * n.val + k.val then
          (∑ x : Fin 64, at2 (a := 16384) (b := 128) x4 (b.val * 8192 + (64 * n.val + k.val - 128)) (c.val * 64 + x.val)
              * at2 (a := 16384) (b := 512) x1 (b.val * 8192 + (n.val * 64 + q.val)) ((c.val * 4 + p.val) * 64 + x.val))
            * Ideal.ofBits FTy.f32 1040187392#32
            + at2 (a := 8) (b := 32) x7 (c.val * 4 + p.val) (bucket ((k.val : ℤ) - (q.val + 128)))
        else (⊥ : EReal) := by
  have hb := b.isLt
  have hn := n.isLt
  have hk := k.isLt
  have hc' := c.isLt
  have hp' := p.isLt
  have hq' := q.isLt
  simp -implicitDefEqProofs only [val_main_v175_apply, val_main_v176_apply, val_main_c_37_apply, val_main_v177_apply, val_main_v178_apply, val_main_c_38_apply, val_main_v179_apply, val_main_v180_apply, val_main_v181_apply, val_main_v182_apply, val_main_v183_apply, val_main_v184_apply, val_main_v185_apply, val_main_c_39_apply, val_main_v186_apply, val_main_v187_apply, val_main_v188_apply, val_main_cst_40_apply, val_main_v192_apply, val_main_v193_apply, val_main_v194_apply, val_main_v195_apply, val_main_v196_apply, val_main_v197_apply, val_main_cst_41_apply, val_main_call8_v0_apply, val_main_call8_v1_apply, val_main_call8_v2_apply, val_main_v198_apply]
  have eb := biasB_apply x7 ⟨c.val * 4 + p.val, by omega⟩ q k
  have ed := dotB_apply x1 x4 b n q c p k
  have hi : idx_main_v193 (idx_main_v194 (idx_main_v195 (ix6 b n c p q k))) = ix3 ⟨c.val * 4 + p.val, by omega⟩ q k :=
    funext fun a => Fin.ext (by
      match a with
      | ⟨0, _⟩ =>
        show (((c.val * 4 + p.val) * 64 + q.val) * 192 + k.val) / 12288 = c.val * 4 + p.val
        omega
      | ⟨1, _⟩ =>
        show (((c.val * 4 + p.val) * 64 + q.val) * 192 + k.val) / 192 % 64 = q.val
        omega
      | ⟨2, _⟩ =>
        show (((c.val * 4 + p.val) * 64 + q.val) * 192 + k.val) % 192 = k.val
        omega)
  rw [hi, eb, ed]
  refine (congrArg (fun w => Scalar.select w _ _) (valid_B n.val k.val hn hk)).trans ?_
  rw [select_ofBool]
  by_cases hc : 128 ≤ 64 * n.val + k.val
  · rw [if_pos hc, if_pos (decide_eq_true hc)]
    refine congrArg₂ (· + ·) (congrArg₂ (· * ·) ?_ ?_) rfl
    · refine Finset.sum_congr rfl fun x _ => ?_
      rw [queryB_apply, bandKB_apply, if_pos hc]
    · rw [val_main_v191_apply, val_main_cst_40_apply]
      rfl
  · rw [if_neg hc, if_neg (by simpa using hc)]
    simp [FloatOps.ofBits, Ideal.ofBits, Ideal.ieee]

end Cert.ReferenceIdeal.Attn
end
-- ==== Proof.AgreeB.lean ====
module

public import proofs.«01_k».proof.Proof.AgreeA
public import proofs.«01_k».proof.Proof.RefB

@[expose] public section

set_option maxRecDepth 16384

noncomputable section

/-! Mixer B: the kernel's half of the result is the reference's. -/

namespace Cert.KernelIdeal.Attn

open Cert.KernelIdeal Cert.KernelIdeal.Gen Cert.Attn Idealize.ShloMosaic Idealize.ShloMosaic.TcCoe Idealize.SL.Sem
open Cert.ReferenceIdeal.Read Cert.ReferenceIdeal.Attn

variable (m : (ℓ : Loc nD τ sig) → Buf (Elt Ideal) ℓ)

/-- Mixer B's score of key `i` (counted from 128 keys before the batch) for head `h` of row `R`, the head sharing the keys
    of group `s`. -/
def scoreB (q k b : ℕ → ℕ → ℝ) (R h s i : ℕ) : ℝ :=
  (∑ d : Fin 64, q R (h * 64 + d.val) * k (R / 8192 * 8192 + (i - 128)) (s * 64 + d.val)) * (1 / 8)
    + b h (bucket ((i : ℤ) - ((R % 8192 : ℕ) + 128)))

/-- The kernel's scores of mixer B, in base two. -/
theorem kernelB (c : Dev nD) (x1 : S16384x512.Idx → EReal) (x4 : S16384x128.Idx → EReal) (x7 : S8x32.Idx → EReal)
    (e1 : (m (c, Proc.tc.devRef main_arg1) : S16384x512.Idx → EReal) = x1)
    (e4 : (m (c, Proc.tc.devRef main_arg4) : S16384x128.Idx → EReal) = x4)
    (e7 : (m (c, Proc.tc.devRef main_arg7) : S8x32.Idx → EReal) = x7)
    (q k b : ℕ → ℕ → ℝ) (hq : ∀ i j, at2 (a := 16384) (b := 512) x1 i j = (q i j : EReal))
    (hk : ∀ i j, at2 (a := 16384) (b := 128) x4 i j = (k i j : EReal)) (hb : ∀ i j, at2 (a := 8) (b := 32) x7 i j = (b i j : EReal))
    (R : Fin 16384) (C : Fin 512) (κ : Fin 256) :
    (∑ x : Fin 128, at2 (a := 16384) (b := 1024) (V m c main_v137) R.val (C.val / 64 % 2 * 512 + C.val / 128 * 128 + x.val)
      * at2 (a := 16384) (b := 128) (V m c main_arg4) ((R.val / 8192 * 8192 + (128 * (R.val % 8192 / 128) - 128)) + κ.val) x.val)
      + at4 (a := 2) (b := 8) (c := 128) (d := 256) (V m c main_v111) (min (R.val % 8192 / 128) 1) (C.val / 128 + C.val / 64 % 2 * 4) (R.val % 128) κ.val
      = if max (64 * (R.val / 64 % 128)) 128 ≤ (128 * (R.val % 8192 / 128) - 128 + 128) + κ.val ∧ (128 * (R.val % 8192 / 128) - 128 + 128) + κ.val < 64 * (R.val / 64 % 128) + 192 then
        ((scoreB q k b R.val (C.val / 128 + C.val / 64 % 2 * 4) (C.val / 64 % 2) ((128 * (R.val % 8192 / 128) - 128 + 128) + κ.val) * (Real.log 2)⁻¹ : ℝ) : EReal) else ⊥ := by
  have hR := R.isLt
  have hC := C.isLt
  have hκ := κ.isLt
  have hd : (∑ x : Fin 128, at2 (a := 16384) (b := 1024) (V m c main_v137) R.val (C.val / 64 % 2 * 512 + C.val / 128 * 128 + x.val)
      * at2 (a := 16384) (b := 128) (V m c main_arg4) ((R.val / 8192 * 8192 + (128 * (R.val % 8192 / 128) - 128)) + κ.val) x.val)
      = (((∑ d : Fin 64, q R.val ((C.val / 64 % 2 * 64 + d.val) / 64 * 256 + C.val / 128 * 64 + (C.val / 64 % 2 * 64 + d.val) % 64)
          * k ((R.val / 8192 * 8192 + (128 * (R.val % 8192 / 128) - 128)) + κ.val) (C.val / 64 % 2 * 64 + d.val)) * (1 / 8) * (Real.log 2)⁻¹ : ℝ) : EReal) := by
    rw [← split_dot (fun x => q R.val (x / 64 * 256 + C.val / 128 * 64 + x % 64)) (fun x => k ((R.val / 8192 * 8192 + (128 * (R.val % 8192 / 128) - 128)) + κ.val) x) (C.val / 64 % 2) (by omega) (Real.log 2)⁻¹]
    refine Finset.sum_congr rfl fun x _ => ?_
    have hx := x.isLt
    congr 1
    · refine ((at2_of (a := 16384) (b := 1024) (V m c main_v137) (ix2 R ⟨C.val / 64 % 2 * 512 + C.val / 128 * 128 + x.val, by omega⟩) R.val (C.val / 64 % 2 * 512 + C.val / 128 * 128 + x.val) rfl rfl).symm.trans (V137_apply m c R _)).trans ?_
      dsimp only
      rw [e1, hq]
      obtain ⟨l1, l2, l3⟩ := lane_split (C.val / 64 % 2) (C.val / 128) x.val (by omega) (by omega) hx
      rw [l1, l2, l3, show (C.val / 128 * 128 + x.val) / 64 % 2 = x.val / 64 by omega,
        show (C.val / 128 * 128 + x.val) / 128 = C.val / 128 by omega, show (C.val / 128 * 128 + x.val) % 64 = x.val % 64 by omega]
    · rw [V_main_arg4, e4, hk]
  have hz : at4 (a := 2) (b := 8) (c := 128) (d := 256) (V m c main_v111) (min (R.val % 8192 / 128) 1) (C.val / 128 + C.val / 64 % 2 * 4) (R.val % 128) κ.val
      = if 64 * (R.val % 128 / 64) ≤ κ.val + 128 - 128 * min (R.val % 8192 / 128) 1
          ∧ κ.val + 128 - 128 * min (R.val % 8192 / 128) 1 < 64 * (R.val % 128 / 64) + 192 then
        ((b (C.val / 128 + C.val / 64 % 2 * 4) (bucket ((κ.val : ℤ) - ((min (R.val % 8192 / 128) 1 : ℕ) : ℤ) * 128 - ((R.val % 128 : ℕ) : ℤ))) * (Real.log 2)⁻¹ : ℝ) : EReal) else ⊥ := by
    refine ((at4_of (a := 2) (b := 8) (c := 128) (d := 256) (V m c main_v111) (ix4 ⟨min (R.val % 8192 / 128) 1, by omega⟩ ⟨(C.val / 128 + C.val / 64 % 2 * 4), by omega⟩ ⟨R.val % 128, by omega⟩ κ) _ _ _ _ rfl rfl rfl rfl).symm.trans (V111_apply m c _ _ _ _)).trans ?_
    dsimp only
    rw [e7, hb, EReal.coe_mul]
  rw [hd, hz]
  by_cases h : max (64 * (R.val / 64 % 128)) 128 ≤ (128 * (R.val % 8192 / 128) - 128 + 128) + κ.val ∧ (128 * (R.val % 8192 / 128) - 128 + 128) + κ.val < 64 * (R.val / 64 % 128) + 192
  · rw [if_pos h, if_pos (by omega), ← EReal.coe_add]
    congr 1
    unfold scoreB
    rw [show (κ.val : ℤ) - ((min (R.val % 8192 / 128) 1 : ℕ) : ℤ) * 128 - ((R.val % 128 : ℕ) : ℤ)
        = (((128 * (R.val % 8192 / 128) - 128 + 128) + κ.val : ℕ) : ℤ) - ((R.val % 8192 : ℕ) + 128) by omega,
      show (R.val / 8192 * 8192 + (128 * (R.val % 8192 / 128) - 128)) + κ.val
        = R.val / 8192 * 8192 + ((128 * (R.val % 8192 / 128) - 128 + 128) + κ.val - 128) by omega,
      Finset.sum_congr rfl fun d _ => by rw [show (C.val / 64 % 2 * 64 + d.val) / 64 * 256 + C.val / 128 * 64 + (C.val / 64 % 2 * 64 + d.val) % 64 = (C.val / 128 + C.val / 64 % 2 * 4) * 64 + d.val by have := d.isLt; omega]]
    ring
  · rw [if_neg h, if_neg (by omega), EReal.add_bot]

/-- The reference's scores of mixer B. -/
theorem referenceB (x1 : S16384x512.Idx → EReal) (x4 : S16384x128.Idx → EReal) (x7 : S8x32.Idx → EReal)
    (q k b : ℕ → ℕ → ℝ) (hq : ∀ i j, at2 (a := 16384) (b := 512) x1 i j = (q i j : EReal))
    (hk : ∀ i j, at2 (a := 16384) (b := 128) x4 i j = (k i j : EReal)) (hb : ∀ i j, at2 (a := 8) (b := 32) x7 i j = (b i j : EReal))
    (R : Fin 16384) (C : Fin 512) (κ : Fin 192) :
    (val_main_v198 (F := Ideal) x1 x4 x7 : Cert.ReferenceIdeal.S2x128x2x4x64x192.Idx → EReal)
      (ix6 ⟨R.val / 8192, by omega⟩ ⟨R.val / 64 % 128, by omega⟩ ⟨C.val / 64 % 2, by omega⟩ ⟨C.val / 128, by omega⟩ ⟨R.val % 64, by omega⟩ κ)
      = if max (64 * (R.val / 64 % 128)) 128 ≤ 64 * (R.val / 64 % 128) + κ.val ∧ 64 * (R.val / 64 % 128) + κ.val < 64 * (R.val / 64 % 128) + 192 then
        (scoreB q k b R.val (C.val / 128 + C.val / 64 % 2 * 4) (C.val / 64 % 2) (64 * (R.val / 64 % 128) + κ.val) : EReal) else ⊥ := by
  have hR := R.isLt
  have hC := C.isLt
  have hκ := κ.isLt
  rw [scoreB_apply]
  dsimp only
  by_cases h : 128 ≤ 64 * (R.val / 64 % 128) + κ.val
  · rw [if_pos h, if_pos (by omega), ofBits_eighth, hb]
    unfold scoreB
    rw [EReal.coe_add, EReal.coe_mul, coe_sum,
      show (κ.val : ℤ) - (((R.val % 64 : ℕ) : ℤ) + 128) = ((64 * (R.val / 64 % 128) + κ.val : ℕ) : ℤ) - ((R.val % 8192 : ℕ) + 128) by omega,
      show R.val / 8192 * 8192 + (R.val / 64 % 128 * 64 + R.val % 64) = R.val by omega,
      show C.val / 64 % 2 * 4 + C.val / 128 = C.val / 128 + C.val / 64 % 2 * 4 by omega]
    congr 2
    exact Finset.sum_congr rfl fun x _ => by rw [hq, hk, EReal.coe_mul, mul_comm]
  · rw [if_neg h, if_neg (by omega)]

/-- No score of mixer B is plus infinity. -/
theorem referenceB_ne_top (x1 : S16384x512.Idx → EReal) (x4 : S16384x128.Idx → EReal) (x7 : S8x32.Idx → EReal)
    (q k b : ℕ → ℕ → ℝ) (hq : ∀ i j, at2 (a := 16384) (b := 512) x1 i j = (q i j : EReal))
    (hk : ∀ i j, at2 (a := 16384) (b := 128) x4 i j = (k i j : EReal)) (hb : ∀ i j, at2 (a := 8) (b := 32) x7 i j = (b i j : EReal))
    (i : Cert.ReferenceIdeal.S2x128x2x4x64x192.Idx) : (val_main_v198 (F := Ideal) x1 x4 x7 : Cert.ReferenceIdeal.S2x128x2x4x64x192.Idx → EReal) i ≠ ⊤ := by
  obtain ⟨i0, i1, i2, i3, i4, i5, hi⟩ : ∃ (i0 : Fin 2) (i1 : Fin 128) (i2 : Fin 2) (i3 : Fin 4) (i4 : Fin 64) (i5 : Fin 192),
      i = ix6 i0 i1 i2 i3 i4 i5 :=
    ⟨i 0, i 1, i 2, i 3, i 4, i 5, funext fun a => by match a with | ⟨0, _⟩ => rfl | ⟨1, _⟩ => rfl | ⟨2, _⟩ => rfl | ⟨3, _⟩ => rfl | ⟨4, _⟩ => rfl | ⟨5, _⟩ => rfl⟩
  subst hi
  rw [scoreB_apply x1 x4 x7 i0 i1 i2 i3 i4 i5]
  split_ifs
  · rw [ofBits_eighth, hb, Finset.sum_congr rfl fun x _ => by rw [hk, hq, ← EReal.coe_mul], ← coe_sum, ← EReal.coe_mul, ← EReal.coe_add]
    exact EReal.coe_ne_top _
  · exact bot_ne_top

/-- What the reference subtracts in a row of mixer B, the larger of its largest score and its sink, is a real number. -/
theorem referenceB_max (x1 : S16384x512.Idx → EReal) (x4 : S16384x128.Idx → EReal) (x7 : S8x32.Idx → EReal)
    (q k b : ℕ → ℕ → ℝ) (hq : ∀ i j, at2 (a := 16384) (b := 512) x1 i j = (q i j : EReal))
    (hk : ∀ i j, at2 (a := 16384) (b := 128) x4 i j = (k i j : EReal)) (hb : ∀ i j, at2 (a := 8) (b := 32) x7 i j = (b i j : EReal))
    (b' : Fin 2) (n : Fin 128) (r : Fin 64) (g : Fin 2) (p : Fin 4) (z : ℝ) :
    ∃ M : ℝ, max ((val_main_v200 (F := Ideal) x1 x4 x7 : Cert.ReferenceIdeal.S2x128x2x4x64.Idx → EReal) (ix5 b' n g p r)) (z : EReal) = (M : EReal) := by
  obtain ⟨s, hs⟩ := maxB_apply x1 x4 x7 b' n r g p
  rw [hs, ofBits_neg_inf]
  have htop : max (Finset.fold max ⊥ (val_main_v198 (F := Ideal) x1 x4 x7 : Cert.ReferenceIdeal.S2x128x2x4x64x192.Idx → EReal) s) (z : EReal) ≠ ⊤ := by
    have h : Finset.fold max ⊥ (val_main_v198 (F := Ideal) x1 x4 x7 : Cert.ReferenceIdeal.S2x128x2x4x64x192.Idx → EReal) s < ⊤ := by
      rw [Finset.fold_max_lt]
      exact ⟨bot_lt_top, fun i _ => lt_top_iff_ne_top.mpr (referenceB_ne_top x1 x4 x7 q k b hq hk hb i)⟩
    exact (max_lt h (EReal.coe_lt_top z)).ne
  have hbot : max (Finset.fold max ⊥ (val_main_v198 (F := Ideal) x1 x4 x7 : Cert.ReferenceIdeal.S2x128x2x4x64x192.Idx → EReal) s) (z : EReal) ≠ ⊥ :=
    ((EReal.bot_lt_coe z).trans_le (le_max_right _ _)).ne'
  exact ⟨_, (EReal.coe_toReal htop hbot).symm⟩

/-- Mixer B's half of the kernel's result is the reference's. -/
theorem agreeB (c : Dev nD) (x1 : S16384x512.Idx → EReal) (x4 x5 : S16384x128.Idx → EReal) (x7 : S8x32.Idx → EReal) (x8 : S8.Idx → EReal)
    (e1 : (m (c, Proc.tc.devRef main_arg1) : S16384x512.Idx → EReal) = x1)
    (e4 : (m (c, Proc.tc.devRef main_arg4) : S16384x128.Idx → EReal) = x4)
    (e5 : (m (c, Proc.tc.devRef main_arg5) : S16384x128.Idx → EReal) = x5)
    (e7 : (m (c, Proc.tc.devRef main_arg7) : S8x32.Idx → EReal) = x7)
    (e8 : (m (c, Proc.tc.devRef main_arg8) : S8.Idx → EReal) = x8)
    (q k b : ℕ → ℕ → ℝ) (hq : ∀ i j, at2 (a := 16384) (b := 512) x1 i j = (q i j : EReal))
    (hk : ∀ i j, at2 (a := 16384) (b := 128) x4 i j = (k i j : EReal)) (hb : ∀ i j, at2 (a := 8) (b := 32) x7 i j = (b i j : EReal))
    (z : ℕ → ℝ) (hz : ∀ i, at1 (a := 8) x8 i = (z i : EReal))
    (R : Fin 16384) (C : Fin 512) :
    outB m c R.val C.val = (val_main_v222 (F := Ideal) x1 x4 x5 x7 x8 : S16384x512.Idx → EReal) (ix2 R C) := by
  have hR := R.isLt
  have hC := C.isLt
  have hsink : x8 (ix1 ⟨C.val / 64 % 2 * 4 + C.val / 128, by omega⟩) = (z (C.val / 128 + C.val / 64 % 2 * 4) : EReal) := by
    rw [← hz]
    exact at1_of (a := 8) x8 _ _ (by show C.val / 64 % 2 * 4 + C.val / 128 = _; omega)
  obtain ⟨M, hM⟩ := referenceB_max x1 x4 x7 q k b hq hk hb ⟨R.val / 8192, by omega⟩ ⟨R.val / 64 % 128, by omega⟩ ⟨R.val % 64, by omega⟩
    ⟨C.val / 64 % 2, by omega⟩ ⟨C.val / 128, by omega⟩ (z (C.val / 128 + C.val / 64 % 2 * 4))
  have hr := (v222_apply x1 x4 x5 x7 x8 R C).trans (v218_apply x1 x4 x5 x7 x8 _ _ _ _ _ _ _ (M : EReal) _
    (referenceB x1 x4 x7 q k b hq hk hb R C) ((congrArg (max _) hsink).trans hM) (fun κ => rfl))
  rw [hsink] at hr
  refine Eq.trans ?_ hr.symm
  unfold outB
  rw [V_main_arg8, e8, hz, ← EReal.coe_mul]
  refine rows_agree_sink 256 (128 * (R.val % 8192 / 128) - 128 + 128) 192 (64 * (R.val / 64 % 128)) (max (64 * (R.val / 64 % 128)) 128)
    (64 * (R.val / 64 % 128) + 192) (scoreB q k b R.val (C.val / 128 + C.val / 64 % 2 * 4) (C.val / 64 % 2))
    (fun i => at2 (a := 16384) (b := 128) x5 (R.val / 8192 * 8192 + (i - 128)) (C.val % 128))
    (by omega) (by omega) (by omega) (by omega) (by omega) _ _ _ _ (z (C.val / 128 + C.val / 64 % 2 * 4)) M (kernelB m c x1 x4 x7 e1 e4 e7 q k b hq hk hb R C) (fun κ => rfl)
    (fun κ => ?_) (fun κ hκ => ?_)
  · rw [V_main_arg5, e5, show (R.val / 8192 * 8192 + (128 * (R.val % 8192 / 128) - 128)) + κ.val
      = R.val / 8192 * 8192 + ((128 * (R.val % 8192 / 128) - 128 + 128) + κ.val - 128) by omega]
  · rw [bandVB_apply]
    dsimp only
    rw [if_pos (by omega), show C.val / 64 % 2 * 64 + C.val % 64 = C.val % 128 by omega]

end Cert.KernelIdeal.Attn
-- ==== Proof.Copies.lean ====
module

public import proofs.«01_k».proof.Proof.Jobs

@[expose] public section

set_option maxRecDepth 16384

noncomputable section

/-! The three weight matrices, which the kernel copies in its narrower type: over the ideal numbers, unchanged. -/

namespace Cert.KernelIdeal.Attn

open Cert.KernelIdeal Cert.KernelIdeal.Gen Cert.Attn Idealize.ShloMosaic Idealize.ShloMosaic.TcCoe Idealize.SL.Sem
open Idealize.ShloMosaic.Pipeline (Dat)

variable (m : (ℓ : Loc nD τ sig) → Buf (Elt Ideal) ℓ)

/-- A matrix, read at natural numbers, is the matrix. -/
theorem at2_self {a b : ℕ} (x : (⟨2, ![a, b]⟩ : Shape).Idx → EReal) : (fun i : (⟨2, ![a, b]⟩ : Shape).Idx => at2 x (i 0).val (i 1).val) = x :=
  funext fun i => (at2_of x i _ _ rfl rfl).symm

/-- The rows of the gate matrix a point reads. -/
theorem iblk11_at (c : Dev nD) (t : Fin cfg0.N) (i j : ℕ) (hi : i < 16) (hj : j < 2816) :
    at2 (a := 16) (b := 2816) (iblk m c 11 t) i j = at2 (V m c main_arg9) (16 * t.val + i) j := by
  have e : ∀ t : Fin cfg0.N, win0_11.index t 0 = t.val := by decide +kernel
  have e1 : ∀ t : Fin cfg0.N, win0_11.index t 1 = 0 := by decide +kernel
  rw [at2, dif_pos ⟨hi, hj⟩]
  blk_simp [iblk]
  refine at2_of _ _ _ _ ?_ ?_
  · blk_simp [e t]
    show t.val * 16 + i = 16 * t.val + i
    omega
  · blk_simp [e1 t]

/-- The gate matrix comes out as it went in. -/
theorem copy15 (c : Dev nD) :
    (dats m 0 c).arrAt 15 cfg0.N = (m (c, Proc.tc.devRef main_arg9) : S1024x2816.Idx → EReal) := by
  rw [← V_main_arg9 m c]
  have e : ∀ t : Fin cfg0.N, win0_15.index t 0 = t.val := by decide +kernel
  have e1 : ∀ t : Fin cfg0.N, win0_15.index t 1 = 0 := by decide +kernel
  refine Eq.trans ?_ (at2_self (a := 1024) (b := 2816) (V m c main_arg9))
  refine (dats m 0 c).arrAt_eq_of_covers 15 _ (by decide +kernel) fun t hf y => ?_
  obtain ⟨R, C, hy⟩ := exists_ix2 (a := 16) (b := 2816) y
  subst hy
  blk_simp [e t, e1 t]
  rw [after0_15]
  frame_out
  refine (show k0_pay2 (F := Ideal) (iblk m c 11 t) (ix2 R C) = (iblk m c 11 t : S16x2816.Idx → EReal) (ix2 R C) from rfl).trans ?_
  refine (at2_of (a := 16) (b := 2816) (iblk m c 11 t) (ix2 R C) R.val C.val rfl rfl).trans ?_
  refine (iblk11_at m c t R.val C.val R.isLt C.isLt).trans ?_
  rw [Nat.mul_comm]

/-- The rows of the up matrix a point reads. -/
theorem iblk12_at (c : Dev nD) (t : Fin cfg0.N) (i j : ℕ) (hi : i < 16) (hj : j < 2816) :
    at2 (a := 16) (b := 2816) (iblk m c 12 t) i j = at2 (V m c main_arg10) (16 * t.val + i) j := by
  have e : ∀ t : Fin cfg0.N, win0_12.index t 0 = t.val := by decide +kernel
  have e1 : ∀ t : Fin cfg0.N, win0_12.index t 1 = 0 := by decide +kernel
  rw [at2, dif_pos ⟨hi, hj⟩]
  blk_simp [iblk]
  refine at2_of _ _ _ _ ?_ ?_
  · blk_simp [e t]
    show t.val * 16 + i = 16 * t.val + i
    omega
  · blk_simp [e1 t]

/-- The up matrix comes out as it went in. -/
theorem copy16 (c : Dev nD) :
    (dats m 0 c).arrAt 16 cfg0.N = (m (c, Proc.tc.devRef main_arg10) : S1024x2816.Idx → EReal) := by
  rw [← V_main_arg10 m c]
  have e : ∀ t : Fin cfg0.N, win0_16.index t 0 = t.val := by decide +kernel
  have e1 : ∀ t : Fin cfg0.N, win0_16.index t 1 = 0 := by decide +kernel
  refine Eq.trans ?_ (at2_self (a := 1024) (b := 2816) (V m c main_arg10))
  refine (dats m 0 c).arrAt_eq_of_covers 16 _ (by decide +kernel) fun t hf y => ?_
  obtain ⟨R, C, hy⟩ := exists_ix2 (a := 16) (b := 2816) y
  subst hy
  blk_simp [e t, e1 t]
  rw [after0_16]
  frame_out
  refine (show k0_pay3 (F := Ideal) (iblk m c 12 t) (ix2 R C) = (iblk m c 12 t : S16x2816.Idx → EReal) (ix2 R C) from rfl).trans ?_
  refine (at2_of (a := 16) (b := 2816) (iblk m c 12 t) (ix2 R C) R.val C.val rfl rfl).trans ?_
  refine (iblk12_at m c t R.val C.val R.isLt C.isLt).trans ?_
  rw [Nat.mul_comm]

/-- The rows of the down matrix a point reads. -/
theorem iblk13_at (c : Dev nD) (t : Fin cfg0.N) (i j : ℕ) (hi : i < 176) (hj : j < 1024) :
    at2 (a := 176) (b := 1024) (iblk m c 13 t) i j = at2 (V m c main_arg11) (176 * (min t.val 15) + i) j := by
  have e : ∀ t : Fin cfg0.N, win0_13.index t 0 = min t.val 15 := by decide +kernel
  have e1 : ∀ t : Fin cfg0.N, win0_13.index t 1 = 0 := by decide +kernel
  rw [at2, dif_pos ⟨hi, hj⟩]
  blk_simp [iblk]
  refine at2_of _ _ _ _ ?_ ?_
  · blk_simp [e t]
    show (min t.val 15) * 176 + i = 176 * (min t.val 15) + i
    omega
  · blk_simp [e1 t]

/-- The down matrix comes out as it went in. -/
theorem copy17 (c : Dev nD) :
    (dats m 0 c).arrAt 17 cfg0.N = (m (c, Proc.tc.devRef main_arg11) : S2816x1024.Idx → EReal) := by
  rw [← V_main_arg11 m c]
  have e : ∀ t : Fin cfg0.N, win0_17.index t 0 = min t.val 15 := by decide +kernel
  have e1 : ∀ t : Fin cfg0.N, win0_17.index t 1 = 0 := by decide +kernel
  refine Eq.trans ?_ (at2_self (a := 2816) (b := 1024) (V m c main_arg11))
  refine (dats m 0 c).arrAt_eq_of_covers 17 _ (by decide +kernel) fun t hf y => ?_
  obtain ⟨R, C, hy⟩ := exists_ix2 (a := 176) (b := 1024) y
  subst hy
  blk_simp [e t, e1 t]
  rw [after0_17]
  frame_out
  refine (show k0_pay4 (F := Ideal) (iblk m c 13 t) (ix2 R C) = (iblk m c 13 t : S176x1024.Idx → EReal) (ix2 R C) from rfl).trans ?_
  refine (at2_of (a := 176) (b := 1024) (iblk m c 13 t) (ix2 R C) R.val C.val rfl rfl).trans ?_
  refine (iblk13_at m c t R.val C.val R.isLt C.isLt).trans ?_
  rw [Nat.mul_comm]

end Cert.KernelIdeal.Attn
-- ==== Proof.Finite.lean ====
module

public import proofs.«01_k».proof.Defs
public import proofs.«01_k».proof.Proof.At
public import proofs.«01_k».proof.Proof.Gen.Pre_finite_scores
public import Idealize.ShloMosaic.Lib.Pointwise

@[expose] public section

set_option maxRecDepth 16384

noncomputable section

/-! What the precondition says: the queries, keys, biases and sinks are real numbers. -/

namespace Cert.Attn

open Idealize.ShloMosaic Idealize.SL.Sem

/-- The word of plus infinity is the greatest extended real. -/
theorem ofBits_inf : Ideal.ofBits FTy.f32 (0x7F800000#32) = ⊤ := by
  simp [Ideal.ofBits, Ideal.ieee, -EReal.coe_mul]

/-- A number whose absolute value is below plus infinity is real. -/
theorem real_of_abs (x : Ideal FTy.f32)
    (h : BitVec.ofBool (decide ((FloatOps.absf x : EReal) < Ideal.ofBits FTy.f32 0x7F800000#32)) = 1#1) :
    (x : EReal) ≠ ⊥ ∧ (x : EReal) ≠ ⊤ := by
  rw [ofBits_inf] at h
  have h' : (FloatOps.absf x : EReal) < ⊤ := by
    by_contra hn
    rw [decide_eq_false hn] at h
    exact absurd h (by decide)
  have h'' : max (x : EReal) (-(x : EReal)) < ⊤ := h'
  constructor
  · rintro rfl
    simp at h''
  · rintro rfl
    simp at h''

/-- A vector of real numbers, read at natural numbers. -/
theorem real_at1 {a : ℕ} (x : (⟨1, ![a]⟩ : Shape).Idx → EReal) (h : ∀ i, x i ≠ ⊥ ∧ x i ≠ ⊤) :
    ∃ f : ℕ → ℝ, ∀ i, at1 x i = (f i : EReal) := by
  refine ⟨fun i => (at1 x i).toReal, fun i => ?_⟩
  have : at1 x i ≠ ⊥ ∧ at1 x i ≠ ⊤ := by
    unfold at1
    split_ifs
    · exact h _
    · exact ⟨EReal.zero_ne_bot, EReal.zero_ne_top⟩
  exact (EReal.coe_toReal this.2 this.1).symm

/-- A matrix of real numbers, read at natural numbers. -/
theorem real_at2 {a b : ℕ} (x : (⟨2, ![a, b]⟩ : Shape).Idx → EReal) (h : ∀ i, x i ≠ ⊥ ∧ x i ≠ ⊤) :
    ∃ f : ℕ → ℕ → ℝ, ∀ i j, at2 x i j = (f i j : EReal) := by
  refine ⟨fun i j => (at2 x i j).toReal, fun i j => ?_⟩
  have : at2 x i j ≠ ⊥ ∧ at2 x i j ≠ ⊤ := by
    unfold at2
    split_ifs
    · exact h _
    · exact ⟨EReal.zero_ne_bot, EReal.zero_ne_top⟩
  exact (EReal.coe_toReal this.2 this.1).symm

open Cert.Pre_finite_scores in
/-- The precondition, at the elements. -/
theorem finite_of (x0 x1 : FVec Ideal S16384x512 .f32) (x2 x3 : FVec Ideal S16384x512 .bf16) (x4 x5 : FVec Ideal S16384x128 .bf16)
    (x6 : FVec Ideal S8x257 .f32) (x7 : FVec Ideal S8x32 .f32) (x8 : FVec Ideal S8 .f32) (x9 x10 : FVec Ideal S1024x2816 .f32)
    (x11 : FVec Ideal S2816x1024 .f32)
    (h : fn (F := Ideal) x0 x1 x2 x3 x4 x5 x6 x7 x8 x9 x10 x11 = (fun _ => 1#1, fun _ => 1#1, fun _ => 1#1, fun _ => 1#1, fun _ => 1#1, fun _ => 1#1, fun _ => 1#1)) :
    (∀ i, x0 i ≠ ⊥ ∧ x0 i ≠ ⊤) ∧ (∀ i, x1 i ≠ ⊥ ∧ x1 i ≠ ⊤) ∧ (∀ i, x2 i ≠ ⊥ ∧ x2 i ≠ ⊤) ∧ (∀ i, x4 i ≠ ⊥ ∧ x4 i ≠ ⊤)
      ∧ (∀ i, x6 i ≠ ⊥ ∧ x6 i ≠ ⊤) ∧ (∀ i, x7 i ≠ ⊥ ∧ x7 i ≠ ⊤) ∧ (∀ i, x8 i ≠ ⊥ ∧ x8 i ≠ ⊤) := by
  unfold fn fn_part1 at h
  dsimp only at h
  simp only [Prod.mk.injEq] at h
  obtain ⟨h0, h1, h2, h4, h6, h7, h8⟩ := h
  refine ⟨fun i => ?_, fun i => ?_, fun i => ?_, fun i => ?_, fun i => ?_, fun i => ?_, fun i => ?_⟩
  · have := congrFun h0 i
    pointwise at this
    exact real_of_abs _ this
  · have := congrFun h1 i
    pointwise at this
    exact real_of_abs _ this
  · have := congrFun h2 i
    pointwise at this
    exact real_of_abs _ this
  · have := congrFun h4 i
    pointwise at this
    exact real_of_abs _ this
  · have := congrFun h6 i
    pointwise at this
    exact real_of_abs _ this
  · have := congrFun h7 i
    pointwise at this
    exact real_of_abs _ this
  · have := congrFun h8 i
    pointwise at this
    exact real_of_abs _ this

end Cert.Attn
-- ==== Proof.Final.lean ====
module

public import proofs.«01_k».proof.Proof.AgreeB
public import proofs.«01_k».proof.Proof.Copies
public import proofs.«01_k».proof.Proof.Finite
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

set_option maxRecDepth 16384

noncomputable section

/-! The claims: the frames, the named constants, and the kernel's arrays against the reference's. -/

namespace Cert.KernelIdeal.Attn

open Cert.KernelIdeal Cert.KernelIdeal.Gen Cert.Attn Idealize.ShloMosaic Idealize.ShloMosaic.TcCoe Idealize.SL.Sem
open Cert.ReferenceIdeal.Read Cert.ReferenceIdeal.Attn

variable (m : (ℓ : Loc nD τ sig) → Buf (Elt Ideal) ℓ)

/-- On finite queries, keys, biases and sinks the kernel's attention is the reference's, the two mixers side by side. -/
theorem attention_agrees (c : Dev nD) (x0 x1 x2 x3 : S16384x512.Idx → EReal) (x4 x5 : S16384x128.Idx → EReal)
    (x6 : S8x257.Idx → EReal) (x7 : S8x32.Idx → EReal) (x8 : S8.Idx → EReal)
    (e0 : (m (c, Proc.tc.devRef main_arg0) : S16384x512.Idx → EReal) = x0)
    (e1 : (m (c, Proc.tc.devRef main_arg1) : S16384x512.Idx → EReal) = x1)
    (e2 : (m (c, Proc.tc.devRef main_arg2) : S16384x512.Idx → EReal) = x2)
    (e3 : (m (c, Proc.tc.devRef main_arg3) : S16384x512.Idx → EReal) = x3)
    (e4 : (m (c, Proc.tc.devRef main_arg4) : S16384x128.Idx → EReal) = x4)
    (e5 : (m (c, Proc.tc.devRef main_arg5) : S16384x128.Idx → EReal) = x5)
    (e6 : (m (c, Proc.tc.devRef main_arg6) : S8x257.Idx → EReal) = x6)
    (e7 : (m (c, Proc.tc.devRef main_arg7) : S8x32.Idx → EReal) = x7)
    (e8 : (m (c, Proc.tc.devRef main_arg8) : S8.Idx → EReal) = x8)
    (h0 : ∀ i, x0 i ≠ ⊥ ∧ x0 i ≠ ⊤) (h1 : ∀ i, x1 i ≠ ⊥ ∧ x1 i ≠ ⊤) (h2 : ∀ i, x2 i ≠ ⊥ ∧ x2 i ≠ ⊤)
    (h4 : ∀ i, x4 i ≠ ⊥ ∧ x4 i ≠ ⊤) (h6 : ∀ i, x6 i ≠ ⊥ ∧ x6 i ≠ ⊤) (h7 : ∀ i, x7 i ≠ ⊥ ∧ x7 i ≠ ⊤)
    (h8 : ∀ i, x8 i ≠ ⊥ ∧ x8 i ≠ ⊤) :
    (fun i : S16384x1024.Idx => if (i 1).val < 512 then outA m c (i 0).val (i 1).val else outB m c (i 0).val ((i 1).val - 512))
      = (val_main_v224 (F := Ideal) x0 x1 x2 x3 x4 x5 x6 x7 x8 : S16384x1024.Idx → EReal) := by
  obtain ⟨qa, hqa⟩ := real_at2 x0 h0
  obtain ⟨qb, hqb⟩ := real_at2 x1 h1
  obtain ⟨ka, hka⟩ := real_at2 x2 h2
  obtain ⟨kb, hkb⟩ := real_at2 x4 h4
  obtain ⟨ba, hba⟩ := real_at2 x6 h6
  obtain ⟨bb, hbb⟩ := real_at2 x7 h7
  obtain ⟨z, hz⟩ := real_at1 x8 h8
  funext i
  obtain ⟨R, C, rfl⟩ := exists_ix2 (a := 16384) (b := 1024) i
  rw [v224_apply]
  show (if C.val < 512 then outA m c R.val C.val else outB m c R.val (C.val - 512)) = _
  by_cases hC : C.val < 512
  · rw [if_pos hC, dif_pos hC]
    exact agreeA m c x0 x2 x3 x6 e0 e2 e3 e6 qa ka ba hqa hka hba R ⟨C.val, hC⟩
  · rw [if_neg hC, dif_neg hC]
    exact agreeB m c x1 x4 x5 x7 x8 e1 e4 e5 e7 e8 qb kb bb hqb hkb hbb z hz R ⟨C.val - 512, by omega⟩

end Cert.KernelIdeal.Attn

namespace Cert.Attn

open Idealize.ShloMosaic Idealize.ShloMosaic.TcCoe Idealize.SL.Sem

/-- The kernel changes none of its arguments and leaves every counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does it under the precondition. -/
theorem frame_ideal_pre : Cert.quiescent_KernelIdeal_pre_finite_scores := fun m ρ _ => Cert.KernelIdeal.Gen.frame m ρ

/-- The reference changes none of its arguments and leaves every counter at zero. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- So does it under the precondition. -/
theorem frame_reference_pre : Cert.quiescent_ReferenceIdeal_pre_finite_scores := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The one constant the ideal kernel names is the reciprocal of the logarithm of two, which its table gives it. -/
theorem preserves : Cert.preserves_Kernel_KernelIdeal :=
  IdealRules.named_const.statement Cert.KernelIdeal.κ "log2e" .f32 0x3FB8AA3B#32 (((Real.log 2)⁻¹ : ℝ) : EReal) rfl

/-- What the reference leaves: the attention its stages spell out, the three weights, and its arguments. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
      r.2.mem ((c.tc : Thread Cert.ReferenceIdeal.nD Cert.ReferenceIdeal.τ).loc Cert.ReferenceIdeal.main_v224)
        = Cert.ReferenceIdeal.Read.val_main_v224 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_v225) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_v226) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_v227) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11) :=
  (θ_run Cert.ReferenceIdeal.defs _ _).mono (fun r h c =>
    ⟨(h c).1.trans (Cert.ReferenceIdeal.Read.val_main_v224_eq (StableHlo.launchContents m c)), (h c).2.1, (h c).2.2.1, (h c).2.2.2.1,
      (h c).2.2.2.2⟩) (Cert.ReferenceIdeal.Value.run (F := Ideal) m ρ)

/-- From memories that agree on the arguments, under the precondition, kernel and reference leave the same four arrays. -/
theorem algebraic : Cert.algebraic_KernelIdeal_ReferenceIdeal_pre_finite_scores := by
  intro m ρ m' ρ' hpre hag
  refine ⟨fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    fun c => (Cert.KernelIdeal.Gen.dats m 0 c).arrAt 17 Cert.KernelIdeal.cfg0.N, Cert.KernelIdeal.Value.run_blocks m ρ, ?_⟩
  refine (θ_run Cert.ReferenceIdeal.defs _ _).mono (fun r h c => ?_) (reference_run m' ρ')
  obtain ⟨a0, a1, a2, a3, a4, a5, a6, a7, a8, a9, a10, a11⟩ := hag c
  obtain ⟨p0, p1, p2, p3, p4, p5, p6⟩ := hpre c
  obtain ⟨h0, h1, h2, h4, h6, h7, h8⟩ := finite_of _ _ _ _ _ _ _ _ _ _ _ _
    (Prod.ext p0 (Prod.ext p1 (Prod.ext p2 (Prod.ext p3 (Prod.ext p4 (Prod.ext p5 p6))))))
  obtain ⟨r0, r1, r2, r3, hr⟩ := h c
  refine ⟨r0.trans ?_, r1.trans ?_, r2.trans ?_, r3.trans ?_, hr⟩
  · refine Eq.trans ?_ (Cert.KernelIdeal.Attn.out14 m c).symm
    exact (Cert.KernelIdeal.Attn.attention_agrees m c _ _ _ _ _ _ _ _ _ a0.symm a1.symm a2.symm a3.symm a4.symm a5.symm
      a6.symm a7.symm a8.symm (a0 ▸ h0) (a1 ▸ h1) (a2 ▸ h2) (a4 ▸ h4) (a6 ▸ h6) (a7 ▸ h7) (a8 ▸ h8)).symm
  · exact a9.trans (Cert.KernelIdeal.Attn.copy15 m c).symm
  · exact a10.trans (Cert.KernelIdeal.Attn.copy16 m c).symm
  · exact a11.trans (Cert.KernelIdeal.Attn.copy17 m c).symm

end Cert.Attn
end
-- ==== Proof.FfnStages.lean ====
module

public import proofs.«01_k».proof.Proof.Gen.Kernel2Ideal.Skeleton
public import Idealize.ShloMosaic.Lib.Pointwise

@[expose] public section

set_option maxRecDepth 16384

noncomputable section

/-! The stages of one tile of 256 rows of the output and feed-forward kernel, each read at an index. -/

namespace Cert.Ffn

open Idealize.ShloMosaic

/-- One entry of a row normalized by its root mean square: `d` is the row's length as a number, `e` the small number added. -/
def rms {n : ℕ} (d e : EReal) (x g : Fin n → EReal) (j : Fin n) : EReal :=
  x j * Ideal.rsqrt (Ideal.div (∑ k, x k * x k) d + e) * g j

/-- The number 512, as its word is read. -/
def c512 : EReal := Ideal.ofBits .f32 0x44000000#32
/-- The number 1024, as its word is read. -/
def c1024 : EReal := Ideal.ofBits .f32 0x44800000#32
/-- The small number of the normalizations, as its word is read. -/
def ceps : EReal := Ideal.ofBits .f32 0x358637BD#32
/-- One half, as its word is read. -/
def chalf : EReal := Ideal.ofBits .f32 0x3F000000#32

/-- The gate `u / (1 + exp (-u))` times `v`. -/
def gate (u v : EReal) : EReal := u * Ideal.logistic u * v

end Cert.Ffn

namespace Cert.Kernel2Ideal.Ffn

open Cert.Kernel2Ideal Cert.Kernel2Ideal.Gen Idealize.ShloMosaic Cert.Ffn

/-- The first half of the attention's output, normalized. -/
theorem half_first (g : Vec Ideal S1x1024 .f32) (o : Vec Ideal S256x1024 .bf16) (r : Fin 256) (j : Fin 512) :
    k0_pay4 g o (ix2 r j) = rms c512 ceps (fun k : Fin 512 => o (ix2 r ⟨k.val, by omega⟩)) (fun k : Fin 512 => g (ix2 0 ⟨k.val, by omega⟩)) j := by
  pointwise [k0_pay4, k0_pay3, k0_pay2]
  rfl

/-- The second half of the attention's output, normalized. -/
theorem half_second (g : Vec Ideal S1x1024 .f32) (o : Vec Ideal S256x1024 .bf16) (r : Fin 256) (j : Fin 512) :
    k0_pay5 g o (ix2 r j) = rms c512 ceps (fun k : Fin 512 => o (ix2 r ⟨512 + k.val, by omega⟩)) (fun k : Fin 512 => g (ix2 0 ⟨512 + k.val, by omega⟩)) j := by
  pointwise [k0_pay5, k0_pay3, k0_pay2]
  rfl

/-- The two halves side by side. -/
theorem halves (a b : FVec Ideal S256x512 .f32) (r : Fin 256) (j : Fin 1024) :
    k0_pay6 a b (ix2 r j) = if h : j.val < 512 then a (ix2 r ⟨j.val, h⟩) else b (ix2 r ⟨j.val - 512, by omega⟩) := by
  pointwise [k0_pay6]

/-- The rows after the projection of the attention: normalized, scaled and added. -/
theorem mixed (x : Vec Ideal S1x256x1024 .f32) (o : FVec Ideal S256x1024 .bf16) (w : Vec Ideal S1024x1024 .bf16)
    (m : Vec Ideal S1x1x1x1024 .f32) (g : Vec Ideal S1x1024 .f32) (r : Fin 256) (j : Fin 1024) :
    k0_pay19 x o w m g (ix3 0 r j) = x (ix3 0 r j) + m (ix4 0 0 0 j) * rms c1024 ceps (fun k => ∑ l : Fin 1024, o (ix2 r l) * w (ix2 l k)) (fun k => g (ix2 0 k)) j := by
  pointwise [k0_pay19]
  rfl

/-- The rows going into the feed-forward layer: normalized, scaled and shifted. -/
theorem modulated (x : FVec Ideal S1x256x1024 .f32) (g : Vec Ideal S1x1024 .f32) (sh sc : Vec Ideal S1x1x1x1024 .f32) (r : Fin 256) (j : Fin 1024) :
    k0_pay25 (k0_pay24 x g sh sc) (ix2 r j) = rms c1024 ceps (fun k => x (ix3 0 r k)) (fun k => g (ix2 0 k)) j * (1 + sc (ix4 0 0 0 j)) + sh (ix4 0 0 0 j) := by
  pointwise [k0_pay25, k0_pay24]
  rfl

/-- The hidden units of the feed-forward layer, computed in two parts of its columns, and projected back. -/
theorem gated (h : FVec Ideal S256x1024 .bf16) (ga ua : Vec Ideal S1024x1536 .bf16) (gb ub : Vec Ideal S1024x1280 .bf16)
    (da : Vec Ideal S1536x1024 .bf16) (db : Vec Ideal S1280x1024 .bf16) (r : Fin 256) (j : Fin 1024) :
    k0_pay33 h ga ua gb ub da db (ix3 0 r j) =
      (∑ k : Fin 1536, gate (∑ l : Fin 1024, h (ix2 r l) * ga (ix2 l k)) (∑ l : Fin 1024, h (ix2 r l) * ua (ix2 l k)) * da (ix2 k j))
      + ∑ k : Fin 1280, gate (∑ l : Fin 1024, h (ix2 r l) * gb (ix2 l k)) (∑ l : Fin 1024, h (ix2 r l) * ub (ix2 l k)) * db (ix2 k j) := by
  pointwise [k0_pay33]
  simp only [zero_sub]
  rfl

/-- The half step: the projection scaled, normalized and added. -/
theorem stepped (x f : FVec Ideal S1x256x1024 .f32) (m : Vec Ideal S1x1x1x1024 .f32) (g : Vec Ideal S1x1024 .f32) (r : Fin 256) (j : Fin 1024) :
    k0_pay38 x f (k0_pay37 m) g (ix3 0 r j) = x (ix3 0 r j) + chalf * m (ix4 0 0 0 j) * rms c1024 ceps (fun k => f (ix3 0 r k)) (fun k => g (ix2 0 k)) j := by
  pointwise [k0_pay38, k0_pay37]
  rfl

end Cert.Kernel2Ideal.Ffn
end
-- ==== Proof.FfnTile.lean ====
module

public import proofs.«01_k».proof.Proof.FfnStages

@[expose] public section

set_option maxRecDepth 16384

noncomputable section

/-! One tile of 256 rows of the output and feed-forward kernel. The program spells its four tiles differently: each is
    this one. -/

namespace Cert.Kernel2Ideal.Ffn

open Cert.Kernel2Ideal Cert.Kernel2Ideal.Gen Idealize.ShloMosaic Cert.Ffn

section
variable {F : FTy → Type} [FloatOps F] [Named F]

/-- The residual stream of one tile after the attention's output is added. -/
def mid (x : Vec F S1x256x1024 .f32) (o : Vec F S256x1024 .bf16) (gg : Vec F S1x1024 .f32) (w : Vec F S1024x1024 .bf16)
    (m : Vec F S1x1x1x1024 .f32) (g : Vec F S1x1024 .f32) : FVec F S1x256x1024 .f32 :=
  k0_pay19 x (k0_pay6 (k0_pay4 gg o) (k0_pay5 gg o)) w m g

/-- The second half step of the feed-forward layer on one tile. -/
def step (x : FVec F S1x256x1024 .f32) (g : Vec F S1x1024 .f32) (sh sc : Vec F S1x1x1x1024 .f32)
    (ga ua : Vec F S1024x1536 .bf16) (gb ub : Vec F S1024x1280 .bf16) (da : Vec F S1536x1024 .bf16)
    (db : Vec F S1280x1024 .bf16) (m : Vec F S1x1x1x1024 .f32) (g' : Vec F S1x1024 .f32) : FVec F S1x256x1024 .f32 :=
  k0_pay38 x (k0_pay33 (k0_pay25 (k0_pay24 x g sh sc)) ga ua gb ub da db) (k0_pay37 m) g'

variable (x : Vec F S1x256x1024 .f32) (o : Vec F S256x1024 .bf16) (gg : Vec F S1x1024 .f32) (w : Vec F S1024x1024 .bf16)
  (m : Vec F S1x1x1x1024 .f32) (g g' : Vec F S1x1024 .f32) (sh sc : Vec F S1x1x1x1024 .f32)
  (ga ua : Vec F S1024x1536 .bf16) (gb ub : Vec F S1024x1280 .bf16) (da : Vec F S1536x1024 .bf16)
  (db : Vec F S1280x1024 .bf16) (y : FVec F S1x256x1024 .f32)

/-- The second tile's first part. -/
theorem mid_second : k0_pay20 x (k0_pay16 (k0_pay7 (k0_pay2 gg) o) w) m g = mid x o gg w m g := rfl

/-- The third tile's first part. -/
theorem mid_third : k0_pay21 x (k0_pay17 (k0_pay12 (k0_pay2 gg) (k0_pay8 o) (k0_pay9 o) (k0_pay10 (k0_pay2 gg)) (k0_pay11 o)) w) m g
    = mid x o gg w m g := rfl

/-- The fourth tile's first part. -/
theorem mid_fourth : k0_pay23 x (k0_pay18 (k0_pay14 (k0_pay2 gg) o) (k0_pay15 (k0_pay2 gg) o) w) (k0_pay22 m) g
    = mid x o gg w m g := rfl

/-- The second tile's half step. -/
theorem step_second : k0_pay40 y (k0_pay39 (k0_pay34 (k0_pay26 y g sh sc) ga ua gb ub da db) m g')
    = step y g sh sc ga ua gb ub da db m g' := rfl

/-- The third tile's half step. -/
theorem step_third : k0_pay41 y (k0_pay35 (k0_pay30 y g (k0_pay27 sh) (k0_pay28 sc) (k0_pay29 y)) ga ua gb ub da db) m g'
    = step y g sh sc ga ua gb ub da db m g' := rfl

/-- The fourth tile's half step. -/
theorem step_fourth : k0_pay1 y (k0_pay36 (k0_pay32 (k0_pay31 y g sh sc)) ga (constant S256x1536 .f32 0x00000000#32) ua gb ub da db)
      (k0_pay42 m) g' (k0_pay43 (k0_pay36 (k0_pay32 (k0_pay31 y g sh sc)) ga (constant S256x1536 .f32 0x00000000#32) ua gb ub da db))
      (k0_pay44 (F := F))
    = step y g sh sc ga ua gb ub da db m g' := rfl
end

end Cert.Kernel2Ideal.Ffn
end
-- ==== Proof.FfnRow.lean ====
module

public import proofs.«01_k».proof.Proof.FfnTile
public import proofs.«01_k».proof.Proof.At

@[expose] public section

set_option maxRecDepth 16384

noncomputable section

/-! One row of the output and feed-forward layer, of functions of natural numbers; a tile of the kernel computes it in
    each of its rows. -/

namespace Cert.Ffn

open Idealize.ShloMosaic

/-- An array of rank three at three natural numbers: zero outside. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- Reading by numbers is reading at an index with those numbers. -/
theorem at3_of {a b c : ℕ} (x : (⟨3, ![a, b, c]⟩ : Shape).Idx → EReal) (y : (⟨3, ![a, b, c]⟩ : Shape).Idx) (i j k : ℕ)
    (hi : (y 0).val = i) (hj : (y 1).val = j) (hk : (y 2).val = k) : x y = at3 x i j k := by
  subst hi hj hk
  have h : (y 0).val < a ∧ (y 1).val < b ∧ (y 2).val < c := ⟨(y 0).isLt, (y 1).isLt, (y 2).isLt⟩
  rw [at3, dif_pos h]
  congr 1; funext t; match t with | ⟨0, _⟩ => rfl | ⟨1, _⟩ => rfl | ⟨2, _⟩ => rfl

/-- One entry of a row of length `n` normalized by its root mean square; `d` is `n` as a number. -/
def rmsN (n : ℕ) (d : EReal) (x g : ℕ → EReal) (j : ℕ) : EReal :=
  x j * Ideal.rsqrt (Ideal.div (∑ k : Fin n, x k.val * x k.val) d + ceps) * g j

/-- The attention's two halves, each normalized. -/
def joined (o g : ℕ → EReal) (j : ℕ) : EReal :=
  if j < 512 then rmsN 512 c512 o g j else rmsN 512 c512 (fun k => o (512 + k)) (fun k => g (512 + k)) (j - 512)

/-- The residual stream after the attention: the normalized halves through the output weights, normalized, gated, added. -/
def mixRow (x o gg : ℕ → EReal) (w : ℕ → ℕ → EReal) (m g : ℕ → EReal) (j : ℕ) : EReal :=
  x j + m j * rmsN 1024 c1024 (fun k => ∑ l : Fin 1024, joined o gg l.val * w l.val k) g j

/-- The modulated input of the feed-forward layer. -/
def hRow (x g sh sc : ℕ → EReal) (j : ℕ) : EReal := rmsN 1024 c1024 x g j * (1 + sc j) + sh j

/-- The gated product of the feed-forward layer. -/
def actRow (x g sh sc : ℕ → EReal) (wg wu : ℕ → ℕ → EReal) (i : ℕ) : EReal :=
  gate (∑ l : Fin 1024, hRow x g sh sc l.val * wg l.val i) (∑ l : Fin 1024, hRow x g sh sc l.val * wu l.val i)

/-- The half step of the feed-forward layer. -/
def stepRow (x g sh sc : ℕ → EReal) (wg wu wd : ℕ → ℕ → EReal) (m g' : ℕ → EReal) (j : ℕ) : EReal :=
  x j + chalf * m j * rmsN 1024 c1024 (fun k => ∑ i : Fin 2816, actRow x g sh sc wg wu i.val * wd i.val k) g' j

/-- A sum over 2816 in the two parts the kernel takes. -/
theorem sum_parts (f : ℕ → EReal) :
    (∑ i : Fin 1536, f i.val) + (∑ i : Fin 1280, f (1536 + i.val)) = ∑ i : Fin 2816, f i.val :=
  (Fin.sum_univ_add (a := 1536) (b := 1280) (fun i : Fin (1536 + 1280) => f i.val)).symm

/-- A sum over 1024 in two halves. -/
theorem sum_halves (f : ℕ → EReal) :
    ∑ i : Fin 1024, f i.val = (∑ i : Fin 512, f i.val) + (∑ i : Fin 512, f (512 + i.val)) :=
  Fin.sum_univ_add (a := 512) (b := 512) (fun i : Fin (512 + 512) => f i.val)

end Cert.Ffn

namespace Cert.Kernel2Ideal.Ffn

open Cert.Kernel2Ideal Cert.Kernel2Ideal.Gen Idealize.ShloMosaic Cert.Ffn

/-- The two normalized halves of a tile's row. -/
theorem joined_apply (gg : Vec Ideal S1x1024 .f32) (o : Vec Ideal S256x1024 .bf16) (r : Fin 256) (O G : ℕ → EReal)
    (ho : ∀ l : Fin 1024, o (ix2 r l) = O l.val) (hg : ∀ l : Fin 1024, gg (ix2 0 l) = G l.val) (j : Fin 1024) :
    k0_pay6 (k0_pay4 gg o) (k0_pay5 gg o) (ix2 r j) = joined O G j.val := by
  rw [halves]
  unfold joined
  by_cases h : j.val < 512
  · rw [dif_pos h, if_pos h, half_first]
    simp only [ho, hg]
    rfl
  · rw [dif_neg h, if_neg h, half_second]
    simp only [ho, hg]
    rfl

/-- A row of a tile after the attention's output is added. -/
theorem mid_apply (x : Vec Ideal S1x256x1024 .f32) (o : Vec Ideal S256x1024 .bf16) (gg : Vec Ideal S1x1024 .f32)
    (w : Vec Ideal S1024x1024 .bf16) (m : Vec Ideal S1x1x1x1024 .f32) (g : Vec Ideal S1x1024 .f32) (r : Fin 256)
    (X O GG M G : ℕ → EReal) (W : ℕ → ℕ → EReal) (hx : ∀ j : Fin 1024, x (ix3 0 r j) = X j.val)
    (ho : ∀ l : Fin 1024, o (ix2 r l) = O l.val) (hgg : ∀ l : Fin 1024, gg (ix2 0 l) = GG l.val)
    (hw : ∀ l k : Fin 1024, w (ix2 l k) = W l.val k.val) (hm : ∀ j : Fin 1024, m (ix4 0 0 0 j) = M j.val)
    (hg : ∀ j : Fin 1024, g (ix2 0 j) = G j.val) (j : Fin 1024) :
    mid x o gg w m g (ix3 0 r j) = mixRow X O GG W M G j.val := by
  unfold mid
  rw [mixed]
  simp only [joined_apply gg o r O GG ho hgg, hx, hw, hm, hg]
  rfl

/-- A row of a tile after the half step. -/
theorem step_apply (x : FVec Ideal S1x256x1024 .f32) (g : Vec Ideal S1x1024 .f32) (sh sc : Vec Ideal S1x1x1x1024 .f32)
    (ga ua : Vec Ideal S1024x1536 .bf16) (gb ub : Vec Ideal S1024x1280 .bf16) (da : Vec Ideal S1536x1024 .bf16)
    (db : Vec Ideal S1280x1024 .bf16) (m : Vec Ideal S1x1x1x1024 .f32) (g' : Vec Ideal S1x1024 .f32) (r : Fin 256)
    (X G SH SC M G' : ℕ → EReal) (WG WU WD : ℕ → ℕ → EReal) (hx : ∀ j : Fin 1024, x (ix3 0 r j) = X j.val)
    (hg : ∀ j : Fin 1024, g (ix2 0 j) = G j.val) (hsh : ∀ j : Fin 1024, sh (ix4 0 0 0 j) = SH j.val)
    (hsc : ∀ j : Fin 1024, sc (ix4 0 0 0 j) = SC j.val)
    (hga : ∀ (l : Fin 1024) (i : Fin 1536), ga (ix2 l i) = WG l.val i.val)
    (hua : ∀ (l : Fin 1024) (i : Fin 1536), ua (ix2 l i) = WU l.val i.val)
    (hgb : ∀ (l : Fin 1024) (i : Fin 1280), gb (ix2 l i) = WG l.val (1536 + i.val))
    (hub : ∀ (l : Fin 1024) (i : Fin 1280), ub (ix2 l i) = WU l.val (1536 + i.val))
    (hda : ∀ (i : Fin 1536) (j : Fin 1024), da (ix2 i j) = WD i.val j.val)
    (hdb : ∀ (i : Fin 1280) (j : Fin 1024), db (ix2 i j) = WD (1536 + i.val) j.val)
    (hm : ∀ j : Fin 1024, m (ix4 0 0 0 j) = M j.val) (hg' : ∀ j : Fin 1024, g' (ix2 0 j) = G' j.val) (j : Fin 1024) :
    step x g sh sc ga ua gb ub da db m g' (ix3 0 r j) = stepRow X G SH SC WG WU WD M G' j.val := by
  have hh : ∀ l : Fin 1024, k0_pay25 (k0_pay24 x g sh sc) (ix2 r l) = hRow X G SH SC l.val := fun l => by
    rw [modulated]
    simp only [hx, hg, hsh, hsc]
    rfl
  unfold step
  rw [stepped]
  simp only [gated, hh, hx, hga, hua, hgb, hub, hda, hdb, hm, hg']
  unfold stepRow
  simp only [← fun k => sum_parts fun i => actRow X G SH SC WG WU i * WD i k]
  rfl

end Cert.Kernel2Ideal.Ffn
end
-- ==== Proof.FfnBlock.lean ====
module

public import proofs.«01_k».proof.Proof.FfnRow
public import proofs.«01_k».proof.Proof.Gen.Kernel2Ideal.Frame
public import Idealize.ShloMosaic.Lib.Pipeline.ValueKit.Geometry

@[expose] public section

set_option maxRecDepth 16384

noncomputable section

/-! One block of 1024 rows of the output and feed-forward call: its four tiles, each row the layer's row. -/

namespace Cert.Kernel2Ideal.Ffn

open Cert.Kernel2Ideal Cert.Kernel2Ideal.Gen Idealize.ShloMosaic Cert.Ffn

/-- An index of rank three whose first axis has one element. -/
theorem exists_ix3 {a b : ℕ} (x : (⟨3, ![1, a, b]⟩ : Shape).Idx) : ∃ r d, x = ix3 0 r d :=
  ⟨x 1, x 2, by
    have h : x 0 = (0 : Fin 1) := Subsingleton.elim (α := Fin 1) (x 0) 0
    funext t; match t with | ⟨0, _⟩ => exact h | ⟨1, _⟩ => rfl | ⟨2, _⟩ => rfl⟩

/-- The coordinate of an index inside a rectangle: the offset and the place in it. -/
theorem emb_val {s : Shape} (off size : Fin s.rank → ℕ) (inb) (j : (Rect.unit off size inb).shape.Idx) (a : Fin s.rank)
    (n : ℕ) (h : off a + (j a).val = n) : ((Rect.unit off size inb).emb j a : ℕ) = n :=
  (ValueKit.rect_emb_unit_val off size inb j a).trans h

/-- A row of the block, from the arrays it reads as functions of natural numbers. -/
def blockRow (X O : ℕ → ℕ → EReal) (MOD GA : ℕ → ℕ → EReal) (GG : ℕ → EReal) (W WG WU WD : ℕ → ℕ → EReal) (R C : ℕ) : EReal :=
  stepRow (mixRow (X R) (O R) GG W (MOD 5) (GA 3)) (GA 4) (MOD 6) (MOD 7) WG WU WD (MOD 8) (GA 5) C

section
variable (x0 : Vec Ideal S1x1024x1024 .f32) (x1 : Vec Ideal S1024x1024 .bf16) (x2 : Vec Ideal S9x1x1x1024 .f32)
  (x3 : Vec Ideal S6x1024 .f32) (x4 : Vec Ideal S1x1024 .f32) (x5 : Vec Ideal S1024x1024 .bf16)
  (x6 x7 : Vec Ideal S1024x2816 .bf16) (x8 : Vec Ideal S2816x1024 .bf16)
  (X O MOD GA : ℕ → ℕ → EReal) (GG : ℕ → EReal) (W WG WU WD : ℕ → ℕ → EReal)
  (h0 : ∀ y : S1x1024x1024.Idx, x0 y = X (y 1).val (y 2).val)
  (h1 : ∀ y : S1024x1024.Idx, x1 y = O (y 0).val (y 1).val)
  (h2 : ∀ y : S9x1x1x1024.Idx, x2 y = MOD (y 0).val (y 3).val)
  (h3 : ∀ y : S6x1024.Idx, x3 y = GA (y 0).val (y 1).val)
  (h4 : ∀ y : S1x1024.Idx, x4 y = GG (y 1).val)
  (h5 : ∀ y : S1024x1024.Idx, x5 y = W (y 0).val (y 1).val)
  (h6 : ∀ y : S1024x2816.Idx, x6 y = WG (y 0).val (y 1).val)
  (h7 : ∀ y : S1024x2816.Idx, x7 y = WU (y 0).val (y 1).val)
  (h8 : ∀ y : S2816x1024.Idx, x8 y = WD (y 0).val (y 1).val)
include h0 h1 h2 h3 h4 h5 h6 h7 h8

/-- A tile of the block, starting at row `ρ`. -/
theorem tile_apply (ρ : ℕ)
    (i0 : ∀ a, (![0, ρ, 0] : Fin 3 → ℕ) a + S1x256x1024.size a ≤ S1x1024x1024.size a)
    (i1 : ∀ a, (![ρ, 0] : Fin 2 → ℕ) a + S256x1024.size a ≤ S1024x1024.size a) (r : Fin 256) (j : Fin 1024) :
    step (mid (View.ld x0 (Rect.unit (s := S1x1024x1024) ![0, ρ, 0] S1x256x1024.size i0))
        (View.ld x1 (Rect.unit (s := S1024x1024) ![ρ, 0] S256x1024.size i1)) (View.ld x4 r0_0) (View.ld x5 r0_9)
        (View.ld x2 r0_10) (View.ld x3 r0_11)) (View.ld x3 r0_12) (View.ld x2 r0_13) (View.ld x2 r0_14)
      (View.ld x6 r0_15) (View.ld x7 r0_15) (View.ld x6 r0_16) (View.ld x7 r0_16) (View.ld x8 r0_17) (View.ld x8 r0_18)
      (View.ld x2 r0_19) (View.ld x3 r0_20) (ix3 0 r j)
      = blockRow X O MOD GA GG W WG WU WD (ρ + r.val) j.val := by
  have z : ∀ n : ℕ, 0 + n = n := Nat.zero_add
  refine step_apply _ _ _ _ _ _ _ _ _ _ _ _ r _ _ _ _ _ _ WG WU WD (fun j => ?_) (fun j => ?_) (fun j => ?_) (fun j => ?_)
    (fun l i => ?_) (fun l i => ?_) (fun l i => ?_) (fun l i => ?_) (fun i j => ?_) (fun i j => ?_) (fun j => ?_) (fun j => ?_) j
  · refine mid_apply _ _ _ _ _ _ r (X (ρ + r.val)) (O (ρ + r.val)) GG (MOD 5) (GA 3) W (fun j => ?_) (fun j => ?_) (fun j => ?_)
      (fun j k => ?_) (fun j => ?_) (fun j => ?_) j
    · exact (h0 _).trans (congrArg₂ X (emb_val _ _ _ _ _ _ rfl) (emb_val _ _ _ _ _ _ (z _)))
    · exact (h1 _).trans (congrArg₂ O (emb_val _ _ _ _ _ _ rfl) (emb_val _ _ _ _ _ _ (z _)))
    · exact (h4 _).trans (congrArg GG (emb_val _ _ _ _ _ _ (z _)))
    · exact (h5 _).trans (congrArg₂ W (emb_val _ _ _ _ _ _ (z _)) (emb_val _ _ _ _ _ _ (z _)))
    · exact (h2 _).trans (congrArg₂ MOD (emb_val _ _ _ _ _ _ rfl) (emb_val _ _ _ _ _ _ (z _)))
    · exact (h3 _).trans (congrArg₂ GA (emb_val _ _ _ _ _ _ rfl) (emb_val _ _ _ _ _ _ (z _)))
  · exact (h3 _).trans (congrArg₂ GA (emb_val _ _ _ _ _ _ rfl) (emb_val _ _ _ _ _ _ (z _)))
  · exact (h2 _).trans (congrArg₂ MOD (emb_val _ _ _ _ _ _ rfl) (emb_val _ _ _ _ _ _ (z _)))
  · exact (h2 _).trans (congrArg₂ MOD (emb_val _ _ _ _ _ _ rfl) (emb_val _ _ _ _ _ _ (z _)))
  · exact (h6 _).trans (congrArg₂ WG (emb_val _ _ _ _ _ _ (z _)) (emb_val _ _ _ _ _ _ (z _)))
  · exact (h7 _).trans (congrArg₂ WU (emb_val _ _ _ _ _ _ (z _)) (emb_val _ _ _ _ _ _ (z _)))
  · exact (h6 _).trans (congrArg₂ WG (emb_val _ _ _ _ _ _ (z _)) (emb_val _ _ _ _ _ _ rfl))
  · exact (h7 _).trans (congrArg₂ WU (emb_val _ _ _ _ _ _ (z _)) (emb_val _ _ _ _ _ _ rfl))
  · exact (h8 _).trans (congrArg₂ WD (emb_val _ _ _ _ _ _ (z _)) (emb_val _ _ _ _ _ _ (z _)))
  · exact (h8 _).trans (congrArg₂ WD (emb_val _ _ _ _ _ _ rfl) (emb_val _ _ _ _ _ _ (z _)))
  · exact (h2 _).trans (congrArg₂ MOD (emb_val _ _ _ _ _ _ rfl) (emb_val _ _ _ _ _ _ (z _)))
  · exact (h3 _).trans (congrArg₂ GA (emb_val _ _ _ _ _ _ rfl) (emb_val _ _ _ _ _ _ (z _)))

/-- The block after the body. -/
theorem block_apply (y : S1x1024x1024.Idx) :
    out0_9 x0 x1 x2 x3 x4 x5 x6 x7 x8 y = blockRow X O MOD GA GG W WG WU WD (y 1).val (y 2).val := by
  have key := tile_apply x0 x1 x2 x3 x4 x5 x6 x7 x8 X O MOD GA GG W WG WU WD h0 h1 h2 h3 h4 h5 h6 h7 h8
  unfold out0_9
  refine View.canon_apply_of_pieces (Val := Elt Ideal) (e := .f32) (fun y : S1x1024x1024.Idx => blockRow X O MOD GA GG W WG WU WD (y 1).val (y 2).val) _ ?_ y
    (cover0_9 _ _ _ _ y)
  simp only [List.forall_mem_cons, List.not_mem_nil, false_imp_iff, implies_true, and_true]
  refine ⟨?_, ?_, ?_, ?_⟩
  · intro x
    obtain ⟨r, d, rfl⟩ := exists_ix3 (a := 256) (b := 1024) x
    refine Eq.trans ?_ ((key 768 inb_S1x1024x1024_S1x256x1024_0_768_0 inb_S1024x1024_S256x1024_768_0 r d).trans
      (congrArg₂ _ (emb_val (s := S1x1024x1024) ![0, 768, 0] S1x256x1024.size inb_S1x1024x1024_S1x256x1024_0_768_0 (ix3 0 r d) 1 _ rfl).symm
        (emb_val (s := S1x1024x1024) ![0, 768, 0] S1x256x1024.size inb_S1x1024x1024_S1x256x1024_0_768_0 (ix3 0 r d) 2 _ (Nat.zero_add _)).symm))
    unfold k0_pay50 k0_pay49 k0_pay45
    rw [mid_fourth, step_fourth]
  · intro x
    obtain ⟨r, d, rfl⟩ := exists_ix3 (a := 256) (b := 1024) x
    refine Eq.trans ?_ ((key 512 inb_S1x1024x1024_S1x256x1024_0_512_0 inb_S1024x1024_S256x1024_512_0 r d).trans
      (congrArg₂ _ (emb_val (s := S1x1024x1024) ![0, 512, 0] S1x256x1024.size inb_S1x1024x1024_S1x256x1024_0_512_0 (ix3 0 r d) 1 _ rfl).symm
        (emb_val (s := S1x1024x1024) ![0, 512, 0] S1x256x1024.size inb_S1x1024x1024_S1x256x1024_0_512_0 (ix3 0 r d) 2 _ (Nat.zero_add _)).symm))
    unfold k0_pay48 k0_pay45
    rw [mid_third, step_third]
  · intro x
    obtain ⟨r, d, rfl⟩ := exists_ix3 (a := 256) (b := 1024) x
    refine Eq.trans ?_ ((key 256 inb_S1x1024x1024_S1x256x1024_0_256_0 inb_S1024x1024_S256x1024_256_0 r d).trans
      (congrArg₂ _ (emb_val (s := S1x1024x1024) ![0, 256, 0] S1x256x1024.size inb_S1x1024x1024_S1x256x1024_0_256_0 (ix3 0 r d) 1 _ rfl).symm
        (emb_val (s := S1x1024x1024) ![0, 256, 0] S1x256x1024.size inb_S1x1024x1024_S1x256x1024_0_256_0 (ix3 0 r d) 2 _ (Nat.zero_add _)).symm))
    unfold k0_pay47 k0_pay45
    rw [mid_second, step_second]
  · intro x
    obtain ⟨r, d, rfl⟩ := exists_ix3 (a := 256) (b := 1024) x
    refine Eq.trans ?_ ((key 0 inb_S1x1024x1024_S1x256x1024_0_0_0 inb_S1024x1024_S256x1024_0_0 r d).trans
      (congrArg₂ _ (emb_val (s := S1x1024x1024) ![0, 0, 0] S1x256x1024.size inb_S1x1024x1024_S1x256x1024_0_0_0 (ix3 0 r d) 1 _ rfl).symm
        (emb_val (s := S1x1024x1024) ![0, 0, 0] S1x256x1024.size inb_S1x1024x1024_S1x256x1024_0_0_0 (ix3 0 r d) 2 _ (Nat.zero_add _)).symm))
    rfl
end

end Cert.Kernel2Ideal.Ffn
end
-- ==== Proof.FfnPair.lean ====
module

public import proofs.«01_k».proof.Proof.FfnRow

@[expose] public section

set_option maxRecDepth 16384

noncomputable section

/-! Two orders of mixer B's heads. The attention stores them head of the group first; the reference puts them back, the
    kernel puts the rows of the weights and the gains in the stored order: the same sums. -/

namespace Cert.Ffn

open Idealize.ShloMosaic

/-- The row of the weights that stands at row `p` of mixer B's half, once the heads are in the stored order. -/
def pairRow (p : ℕ) : ℕ := p / 64 % 2 * 256 + p / 128 * 64 + p % 64

/-- The row of the weights that stands at row `l`. -/
def orderedRow (l : ℕ) : ℕ := if l < 512 then l else 512 + pairRow (l - 512)

/-- The stored column that the plain column `q` of mixer B's half comes from. -/
def plainCol (q : ℕ) : ℕ := q / 64 % 4 * 128 + q / 256 * 64 + q % 64

/-- The stored column that the plain column `l` comes from. -/
def storedCol (l : ℕ) : ℕ := if l < 512 then l else 512 + plainCol (l - 512)

/-- Back and forth is where one was. -/
theorem plain_pair (p : ℕ) (h : p < 512) : plainCol (pairRow p) = p := by
  have a : ∀ p : Fin 512, plainCol (pairRow p.val) = p.val := by decide +kernel
  exact a ⟨p, h⟩

/-- Forth and back too. -/
theorem pair_plain (q : ℕ) (h : q < 512) : pairRow (plainCol q) = q := by
  have a : ∀ q : Fin 512, pairRow (plainCol q.val) = q.val := by decide +kernel
  exact a ⟨q, h⟩

/-- The two orders as one permutation. -/
def pairPerm : Fin 512 ≃ Fin 512 where
  toFun p := ⟨pairRow p.val, by have := p.isLt; unfold pairRow; omega⟩
  invFun q := ⟨plainCol q.val, by have := q.isLt; unfold plainCol; omega⟩
  left_inv p := Fin.ext (plain_pair p.val p.isLt)
  right_inv q := Fin.ext (pair_plain q.val q.isLt)

/-- A sum over mixer B's half in the other order. -/
theorem sum_pair (f : ℕ → EReal) : ∑ k : Fin 512, f (pairRow k.val) = ∑ k : Fin 512, f k.val :=
  Equiv.sum_comp pairPerm fun k => f k.val

/-- The same, the other way. -/
theorem sum_plain (f : ℕ → EReal) : ∑ k : Fin 512, f (plainCol k.val) = ∑ k : Fin 512, f k.val :=
  Equiv.sum_comp pairPerm.symm fun k => f k.val

/-- The first half is the same in both orders. -/
theorem joined_first (o g : ℕ → EReal) (l : ℕ) (h : l < 512) :
    joined o (fun l => g (orderedRow l)) l = joined (fun l => o (storedCol l)) g l := by
  unfold joined
  rw [if_pos h, if_pos h]
  unfold rmsN orderedRow storedCol
  simp only [if_pos h, Fin.is_lt, if_true]

/-- The second half of one order at a place is that of the other at the place it comes from. -/
theorem joined_second (o g : ℕ → EReal) (p : ℕ) (h : p < 512) :
    joined o (fun l => g (orderedRow l)) (512 + p) = joined (fun l => o (storedCol l)) g (512 + pairRow p) := by
  have n : ∀ k : ℕ, ¬ 512 + k < 512 := fun k => by omega
  have a : ∀ k : ℕ, 512 + k - 512 = k := fun k => by omega
  unfold joined
  rw [if_neg (n _), if_neg (n _)]
  unfold rmsN orderedRow storedCol
  simp only [if_neg (n _), a, plain_pair p h]
  rw [sum_plain fun k => o (512 + k) * o (512 + k)]

/-- The product with the output weights in both orders. -/
theorem sum_orders (o g : ℕ → EReal) (w : ℕ → ℕ → EReal) (k : ℕ) :
    ∑ l : Fin 1024, joined o (fun l => g (orderedRow l)) l.val * w (orderedRow l.val) k
      = ∑ l : Fin 1024, joined (fun l => o (storedCol l)) g l.val * w l.val k := by
  refine (sum_halves fun l => joined o (fun l => g (orderedRow l)) l * w (orderedRow l) k).trans
    (Eq.trans ?_ (sum_halves fun l => joined (fun l => o (storedCol l)) g l * w l k).symm)
  refine congrArg₂ (· + ·) (Finset.sum_congr rfl fun l _ => ?_) ?_
  · exact congrArg₂ (· * ·) (joined_first o g l.val l.isLt) (congrArg (w · k) (if_pos l.isLt))
  · refine Eq.trans (Finset.sum_congr rfl fun l _ => ?_) (sum_pair fun p => joined (fun l => o (storedCol l)) g (512 + p) * w (512 + p) k)
    refine congrArg₂ (· * ·) (joined_second o g l.val l.isLt) (congrArg (w · k) ?_)
    exact (if_neg (by omega)).trans (by rw [Nat.add_sub_cancel_left])

/-- The residual stream after the attention, in both orders. -/
theorem mixRow_orders (x o gg : ℕ → EReal) (w : ℕ → ℕ → EReal) (m g : ℕ → EReal) :
    mixRow x o (fun l => gg (orderedRow l)) (fun l => w (orderedRow l)) m g = mixRow x (fun l => o (storedCol l)) gg w m g := by
  funext j
  unfold mixRow
  rw [funext fun k => sum_orders o gg w k]

end Cert.Ffn
end
-- ==== Proof.FfnHost.lean ====
module

public import proofs.«01_k».proof.Proof.Gen.Kernel2Ideal.Frame
public import Idealize.ShloMosaic.Lib.StableHlo.RunRead
public import proofs.«01_k».proof.Proof.At
public import proofs.«01_k».proof.Proof.FfnPair

@[expose] public section

set_option maxRecDepth 16384

noncomputable section

/-! What the output and feed-forward call is given: weights and gains of mixer B in the order the attention stores its
    heads, the modulation with one more axis. -/

namespace Cert.Kernel2Ideal.Ffn

open Cert.Kernel2Ideal Cert.Kernel2Ideal.Gen Cert.Attn Cert.Ffn Idealize.ShloMosaic Idealize.ShloMosaic.TcCoe Idealize.SL.Sem

variable (m : (ℓ : Loc nD τ sig) → Buf (Elt Ideal) ℓ)

/-- The output weights as the call is given them. -/
theorem wout_at (c : Dev nD) (l k : Fin 1024) :
    (V m c main_v6 : S1024x1024.Idx → EReal) (ix2 l k)
      = at2 (a := 1024) (b := 1024) (m (c, Proc.tc.devRef main_arg4)) (orderedRow l.val) k.val := by
  unfold V
  after_reads_simp
  pointwise
  have hl := l.isLt
  unfold orderedRow pairRow
  by_cases h : l.val < 512
  · rw [dif_pos h, if_pos h]
    after_reads_simp
    pointwise
    exact at2_of _ _ _ _ rfl rfl
  · rw [dif_neg h, if_neg h]
    after_reads_simp
    pointwise
    exact at2_of _ _ _ _ rfl rfl

/-- The gains of the attention's halves as the call is given them. -/
theorem gains_at (c : Dev nD) (l : Fin 1024) :
    (V m c main_v13 : S1x1024.Idx → EReal) (ix2 0 l)
      = at1 (a := 1024) (m (c, Proc.tc.devRef main_arg5)) (orderedRow l.val) := by
  unfold V
  after_reads_simp
  pointwise
  have hl := l.isLt
  unfold orderedRow pairRow
  by_cases h : l.val < 512
  · rw [dif_pos h, if_pos h]
    after_reads_simp
    pointwise
    exact at1_of _ _ _ rfl
  · rw [dif_neg h, if_neg h]
    after_reads_simp
    pointwise
    exact at1_of _ _ _ rfl

/-- The modulation as the call is given it. -/
theorem mod_at (c : Dev nD) (k : Fin 9) (b : Fin 2) (j : Fin 1024) :
    (V m c main_v14 : S9x2x1x1024.Idx → EReal) (ix4 k b 0 j)
      = (m (c, Proc.tc.devRef main_arg2) : S9x2x1024.Idx → EReal) (ix3 k b j) := by
  unfold V
  after_reads_simp
  pointwise

end Cert.Kernel2Ideal.Ffn
end
-- ==== Proof.FfnOut.lean ====
module

public import proofs.«01_k».proof.Proof.FfnBlock
public import proofs.«01_k».proof.Proof.FfnHost

@[expose] public section

set_option maxRecDepth 16384

noncomputable section

/-! The array the output and feed-forward call leaves: each point of the grid writes one block of 1024 rows. -/

namespace Cert.Kernel2Ideal.Ffn

open Cert.Kernel2Ideal Cert.Kernel2Ideal.Gen Cert.Attn Cert.Ffn Idealize.ShloMosaic Idealize.ShloMosaic.TcCoe Idealize.SL.Sem
open Idealize.ShloMosaic.Pipeline (Dat)

variable (m : (ℓ : Loc nD τ sig) → Buf (Elt Ideal) ℓ)

/-- The rows of the residual stream a point reads. -/
theorem iblk0_at (c : Dev nD) (t : Fin cfg0.N) (y : S1x1024x1024.Idx) :
    iblk m c 0 t y = at3 (a := 2) (b := 8192) (c := 1024) (m (c, Proc.tc.devRef main_arg0)) (t.val / 8) (t.val % 8 * 1024 + (y 1).val) (y 2).val := by
  have e0 : ∀ t : Fin cfg0.N, win0_0.index t 0 = t.val / 8 := by decide +kernel
  have e1 : ∀ t : Fin cfg0.N, win0_0.index t 1 = t.val % 8 := by decide +kernel
  have e2 : ∀ t : Fin cfg0.N, win0_0.index t 2 = 0 := by decide +kernel
  obtain ⟨R, C, rfl⟩ := exists_ix3 (a := 1024) (b := 1024) y
  rw [← show V m c main_arg0 = m (c, Proc.tc.devRef main_arg0) from V_main_arg0 m c]
  blk_simp [iblk]
  refine at3_of _ _ _ _ _ ?_ ?_ ?_
  · blk_simp [e0 t]
    exact Nat.add_zero _
  · blk_simp [e1 t]
  · blk_simp [e2 t]

/-- The rows of the attention's output a point reads. -/
theorem iblk1_at (c : Dev nD) (t : Fin cfg0.N) (y : S1024x1024.Idx) :
    iblk m c 1 t y = at2 (a := 16384) (b := 1024) (m (c, Proc.tc.devRef main_arg1)) (t.val * 1024 + (y 0).val) (y 1).val := by
  have e0 : ∀ t : Fin cfg0.N, win0_1.index t 0 = t.val := by decide +kernel
  have e1 : ∀ t : Fin cfg0.N, win0_1.index t 1 = 0 := by decide +kernel
  rw [← show V m c main_arg1 = m (c, Proc.tc.devRef main_arg1) from V_main_arg1 m c]
  blk_simp [iblk]
  refine at2_of _ _ _ _ ?_ ?_
  · blk_simp [e0 t]
  · blk_simp [e1 t]

/-- The modulation of a point's batch entry. -/
theorem iblk2_at (c : Dev nD) (t : Fin cfg0.N) (y : S9x1x1x1024.Idx) :
    iblk m c 2 t y = at3 (a := 9) (b := 2) (c := 1024) (m (c, Proc.tc.devRef main_arg2)) (y 0).val (t.val / 8) (y 3).val := by
  have e0 : ∀ t : Fin cfg0.N, win0_2.index t 0 = 0 := by decide +kernel
  have e1 : ∀ t : Fin cfg0.N, win0_2.index t 1 = t.val / 8 := by decide +kernel
  have e2 : ∀ t : Fin cfg0.N, win0_2.index t 2 = 0 := by decide +kernel
  have e3 : ∀ t : Fin cfg0.N, win0_2.index t 3 = 0 := by decide +kernel
  have hb : t.val / 8 < 2 := by have : t.val < 16 := t.isLt; omega
  have key : ∀ (k : Fin 9) (j : Fin 1024), at4 (a := 9) (b := 2) (c := 1) (d := 1024) (V m c main_v14) k.val (t.val / 8) 0 j.val
      = at3 (a := 9) (b := 2) (c := 1024) (m (c, Proc.tc.devRef main_arg2)) k.val (t.val / 8) j.val := fun k j =>
    ((at4_of (a := 9) (b := 2) (c := 1) (d := 1024) (V m c main_v14) (ix4 k ⟨t.val / 8, hb⟩ 0 j) _ _ _ _ rfl rfl rfl rfl).symm.trans
      (mod_at m c k ⟨t.val / 8, hb⟩ j)).trans (at3_of _ _ _ _ _ rfl rfl rfl)
  refine Eq.trans ?_ (key (y 0) (y 3))
  have h1 : (y 1).val = 0 := by have : (y 1).val < 1 := (y 1).isLt; omega
  have h2 : (y 2).val = 0 := by have : (y 2).val < 1 := (y 2).isLt; omega
  blk_simp [iblk]
  refine at4_of _ _ _ _ _ _ ?_ ?_ ?_ ?_
  · blk_simp [e0 t]
  · blk_simp [e1 t, h1]
  · blk_simp [e2 t, h2]
  · blk_simp [e3 t]

/-- The gains, whole. -/
theorem iblk3_at (c : Dev nD) (t : Fin cfg0.N) (y : S6x1024.Idx) :
    iblk m c 3 t y = at2 (a := 6) (b := 1024) (m (c, Proc.tc.devRef main_arg3)) (y 0).val (y 1).val := by
  have e0 : ∀ t : Fin cfg0.N, win0_3.index t 0 = 0 := by decide +kernel
  have e1 : ∀ t : Fin cfg0.N, win0_3.index t 1 = 0 := by decide +kernel
  rw [← show V m c main_arg3 = m (c, Proc.tc.devRef main_arg3) from V_main_arg3 m c]
  blk_simp [iblk]
  refine at2_of _ _ _ _ ?_ ?_
  · blk_simp [e0 t]
  · blk_simp [e1 t]

/-- The gains of the attention's halves, in the stored order. -/
theorem iblk4_at (c : Dev nD) (t : Fin cfg0.N) (y : S1x1024.Idx) :
    iblk m c 4 t y = at1 (a := 1024) (m (c, Proc.tc.devRef main_arg5)) (orderedRow (y 1).val) := by
  have e0 : ∀ t : Fin cfg0.N, win0_4.index t 0 = 0 := by decide +kernel
  have e1 : ∀ t : Fin cfg0.N, win0_4.index t 1 = 0 := by decide +kernel
  have h0 : (y 0).val = 0 := by have : (y 0).val < 1 := (y 0).isLt; omega
  refine Eq.trans ?_ (gains_at m c (y 1))
  refine Eq.trans ?_ (at2_of (a := 1) (b := 1024) (V m c main_v13) (ix2 0 (y 1)) 0 (y 1).val rfl rfl).symm
  blk_simp [iblk]
  refine at2_of _ _ _ _ ?_ ?_
  · blk_simp [e0 t, h0]
  · blk_simp [e1 t]

/-- The output weights, their rows in the stored order. -/
theorem iblk5_at (c : Dev nD) (t : Fin cfg0.N) (y : S1024x1024.Idx) :
    iblk m c 5 t y = at2 (a := 1024) (b := 1024) (m (c, Proc.tc.devRef main_arg4)) (orderedRow (y 0).val) (y 1).val := by
  have e0 : ∀ t : Fin cfg0.N, win0_5.index t 0 = 0 := by decide +kernel
  have e1 : ∀ t : Fin cfg0.N, win0_5.index t 1 = 0 := by decide +kernel
  refine Eq.trans ?_ (wout_at m c (y 0) (y 1))
  refine Eq.trans ?_ (at2_of (a := 1024) (b := 1024) (V m c main_v6) (ix2 (y 0) (y 1)) (y 0).val (y 1).val rfl rfl).symm
  blk_simp [iblk]
  refine at2_of _ _ _ _ ?_ ?_
  · blk_simp [e0 t]
  · blk_simp [e1 t]

/-- The gate weights, whole. -/
theorem iblk6_at (c : Dev nD) (t : Fin cfg0.N) (y : S1024x2816.Idx) :
    iblk m c 6 t y = at2 (a := 1024) (b := 2816) (m (c, Proc.tc.devRef main_arg6)) (y 0).val (y 1).val := by
  have e0 : ∀ t : Fin cfg0.N, win0_6.index t 0 = 0 := by decide +kernel
  have e1 : ∀ t : Fin cfg0.N, win0_6.index t 1 = 0 := by decide +kernel
  rw [← show V m c main_arg6 = m (c, Proc.tc.devRef main_arg6) from V_main_arg6 m c]
  blk_simp [iblk]
  refine at2_of _ _ _ _ ?_ ?_
  · blk_simp [e0 t]
  · blk_simp [e1 t]

/-- The up weights, whole. -/
theorem iblk7_at (c : Dev nD) (t : Fin cfg0.N) (y : S1024x2816.Idx) :
    iblk m c 7 t y = at2 (a := 1024) (b := 2816) (m (c, Proc.tc.devRef main_arg7)) (y 0).val (y 1).val := by
  have e0 : ∀ t : Fin cfg0.N, win0_7.index t 0 = 0 := by decide +kernel
  have e1 : ∀ t : Fin cfg0.N, win0_7.index t 1 = 0 := by decide +kernel
  rw [← show V m c main_arg7 = m (c, Proc.tc.devRef main_arg7) from V_main_arg7 m c]
  blk_simp [iblk]
  refine at2_of _ _ _ _ ?_ ?_
  · blk_simp [e0 t]
  · blk_simp [e1 t]

/-- The down weights, whole. -/
theorem iblk8_at (c : Dev nD) (t : Fin cfg0.N) (y : S2816x1024.Idx) :
    iblk m c 8 t y = at2 (a := 2816) (b := 1024) (m (c, Proc.tc.devRef main_arg8)) (y 0).val (y 1).val := by
  have e0 : ∀ t : Fin cfg0.N, win0_8.index t 0 = 0 := by decide +kernel
  have e1 : ∀ t : Fin cfg0.N, win0_8.index t 1 = 0 := by decide +kernel
  rw [← show V m c main_arg8 = m (c, Proc.tc.devRef main_arg8) from V_main_arg8 m c]
  blk_simp [iblk]
  refine at2_of _ _ _ _ ?_ ?_
  · blk_simp [e0 t]
  · blk_simp [e1 t]

/-- The result at batch entry `b`, position `p`, lane `j`. -/
def outRow (c : Dev nD) (b p j : ℕ) : EReal :=
  stepRow (mixRow (at3 (a := 2) (b := 8192) (c := 1024) (m (c, Proc.tc.devRef main_arg0)) b p)
      (at2 (a := 16384) (b := 1024) (m (c, Proc.tc.devRef main_arg1)) (b * 8192 + p))
      (fun l => at1 (a := 1024) (m (c, Proc.tc.devRef main_arg5)) (orderedRow l))
      (fun l => at2 (a := 1024) (b := 1024) (m (c, Proc.tc.devRef main_arg4)) (orderedRow l))
      (at3 (a := 9) (b := 2) (c := 1024) (m (c, Proc.tc.devRef main_arg2)) 5 b)
      (at2 (a := 6) (b := 1024) (m (c, Proc.tc.devRef main_arg3)) 3))
    (at2 (a := 6) (b := 1024) (m (c, Proc.tc.devRef main_arg3)) 4)
    (at3 (a := 9) (b := 2) (c := 1024) (m (c, Proc.tc.devRef main_arg2)) 6 b)
    (at3 (a := 9) (b := 2) (c := 1024) (m (c, Proc.tc.devRef main_arg2)) 7 b)
    (at2 (a := 1024) (b := 2816) (m (c, Proc.tc.devRef main_arg6)))
    (at2 (a := 1024) (b := 2816) (m (c, Proc.tc.devRef main_arg7)))
    (at2 (a := 2816) (b := 1024) (m (c, Proc.tc.devRef main_arg8)))
    (at3 (a := 9) (b := 2) (c := 1024) (m (c, Proc.tc.devRef main_arg2)) 8 b)
    (at2 (a := 6) (b := 1024) (m (c, Proc.tc.devRef main_arg3)) 5) j

/-- What a point of the grid leaves in its block. -/
theorem point_apply (c : Dev nD) (t : Fin cfg0.N) (y : S1x1024x1024.Idx) :
    out0_9 (iblk m c 0 t) (iblk m c 1 t) (iblk m c 2 t) (iblk m c 3 t) (iblk m c 4 t) (iblk m c 5 t) (iblk m c 6 t)
        (iblk m c 7 t) (iblk m c 8 t) y
      = outRow m c (t.val / 8) (t.val % 8 * 1024 + (y 1).val) (y 2).val := by
  refine (block_apply _ _ _ _ _ _ _ _ _
    (fun R => at3 (a := 2) (b := 8192) (c := 1024) (m (c, Proc.tc.devRef main_arg0)) (t.val / 8) (t.val % 8 * 1024 + R))
    (fun R => at2 (a := 16384) (b := 1024) (m (c, Proc.tc.devRef main_arg1)) (t.val * 1024 + R))
    (fun k => at3 (a := 9) (b := 2) (c := 1024) (m (c, Proc.tc.devRef main_arg2)) k (t.val / 8))
    (at2 (a := 6) (b := 1024) (m (c, Proc.tc.devRef main_arg3)))
    (fun l => at1 (a := 1024) (m (c, Proc.tc.devRef main_arg5)) (orderedRow l))
    (fun l => at2 (a := 1024) (b := 1024) (m (c, Proc.tc.devRef main_arg4)) (orderedRow l)) _ _ _
    (iblk0_at m c t) (iblk1_at m c t) (iblk2_at m c t) (iblk3_at m c t) (iblk4_at m c t) (iblk5_at m c t) (iblk6_at m c t)
    (iblk7_at m c t) (iblk8_at m c t) y).trans ?_
  unfold blockRow outRow
  dsimp only
  rw [show t.val * 1024 + (y 1).val = t.val / 8 * 8192 + (t.val % 8 * 1024 + (y 1).val) by omega]

/-- The array the call leaves. -/
theorem out9 (c : Dev nD) :
    (dats m 0 c).arrAt 9 cfg0.N = (fun i : S2x8192x1024.Idx => outRow m c (i 0).val (i 1).val (i 2).val : S2x8192x1024.Idx → EReal) := by
  have e0 : ∀ t : Fin cfg0.N, win0_9.index t 0 = t.val / 8 := by decide +kernel
  have e1 : ∀ t : Fin cfg0.N, win0_9.index t 1 = t.val % 8 := by decide +kernel
  have e2 : ∀ t : Fin cfg0.N, win0_9.index t 2 = 0 := by decide +kernel
  refine (dats m 0 c).arrAt_eq_of_covers 9 _ (by decide +kernel) fun t hf y => ?_
  obtain ⟨R, C, hy⟩ := exists_ix3 (a := 1024) (b := 1024) y
  subst hy
  blk_simp [e0 t, e1 t, e2 t]
  rw [after0_9]
  exact point_apply m c t (ix3 0 R C)

end Cert.Kernel2Ideal.Ffn
end
-- ==== Proof.FfnRef.lean ====
module

public import proofs.«01_k».proof.Proof.Gen.Reference2Ideal.Read
public import proofs.«01_k».proof.Proof.FfnPair
public import proofs.«01_k».proof.Proof.At
public import Idealize.ShloMosaic.Lib.Pointwise

@[expose] public section

set_option maxRecDepth 16384

noncomputable section

/-! The reference of the output and feed-forward call, read at an index. -/

namespace Cert.Reference2Ideal.Ffn

open Cert.Reference2Ideal Cert.Reference2Ideal.Gen Cert.Reference2Ideal.Read Cert.Attn Cert.Ffn Idealize.ShloMosaic Idealize.ShloMosaic.TcCoe

/-- The first half's normalization. -/
theorem norm_first (x1 : S16384x1024.Idx → EReal) (x5 : S1024.Idx → EReal) (b : Fin 2) (s : Fin 8192) (j : Fin 512) :
    (val_main_v38 (F := Ideal) x1 x5 : S2x8192x512.Idx → EReal) (ix3 b s j)
      = rmsN 512 c512 (fun k => at2 (a := 16384) (b := 1024) x1 (b.val * 8192 + s.val) (storedCol k)) (at1 (a := 1024) x5) j.val := by
  pointwise [val_main_v18, val_main_v19, val_main_v20, val_main_v25, val_main_v26, val_main_cst, val_main_v27, val_main_v28, val_main_cst_0, val_main_v29, val_main_v30, val_main_cst_1, val_main_v31, val_main_v32, val_main_v33, val_main_v34, val_main_v35, val_main_v36, val_main_v37, val_main_v38]
  have e1 : ∀ r k, x1 (ix2 r k) = at2 (a := 16384) (b := 1024) x1 r.val k.val := fun r k => at2_of _ _ _ _ rfl rfl
  have e5 : ∀ k, x5 (ix1 k) = at1 (a := 1024) x5 k.val := fun k => at1_of _ _ _ rfl
  unfold rmsN storedCol
  simp only [e1, e5, Fin.is_lt, if_true]
  rfl

/-- The second half's normalization, its heads put back in the plain order. -/
theorem norm_second (x1 : S16384x1024.Idx → EReal) (x5 : S1024.Idx → EReal) (b : Fin 2) (s : Fin 8192) (j : Fin 512) :
    (val_main_v52 (F := Ideal) x1 x5 : S2x8192x512.Idx → EReal) (ix3 b s j)
      = rmsN 512 c512 (fun k => at2 (a := 16384) (b := 1024) x1 (b.val * 8192 + s.val) (storedCol (512 + k)))
          (fun k => at1 (a := 1024) x5 (512 + k)) j.val := by
  pointwise [val_main_v18, val_main_v19, val_main_v21, val_main_v22, val_main_v23, val_main_v24, val_main_v39, val_main_v40, val_main_cst_2, val_main_v41, val_main_v42, val_main_cst_3, val_main_v43, val_main_v44, val_main_cst_4, val_main_v45, val_main_v46, val_main_v47, val_main_v48, val_main_v49, val_main_v50, val_main_v51, val_main_v52]
  have e1 : ∀ r k, x1 (ix2 r k) = at2 (a := 16384) (b := 1024) x1 r.val k.val := fun r k => at2_of _ _ _ _ rfl rfl
  have e5 : ∀ k, x5 (ix1 k) = at1 (a := 1024) x5 k.val := fun k => at1_of _ _ _ rfl
  have n : ∀ k : ℕ, ¬ 512 + k < 512 := fun k => by omega
  have a : ∀ k : ℕ, 512 + k - 512 = k := fun k => by omega
  unfold rmsN storedCol plainCol
  simp only [e1, e5, if_neg (n _), a]
  rfl

/-- The two normalized halves side by side. -/
theorem norm_both (x1 : S16384x1024.Idx → EReal) (x5 : S1024.Idx → EReal) (b : Fin 2) (s : Fin 8192) (j : Fin 1024) :
    (val_main_v53 (F := Ideal) x1 x5 : S2x8192x1024.Idx → EReal) (ix3 b s j)
      = joined (fun k => at2 (a := 16384) (b := 1024) x1 (b.val * 8192 + s.val) (storedCol k)) (at1 (a := 1024) x5) j.val := by
  pointwise [val_main_v53]
  unfold joined
  by_cases h : j.val < 512
  · rw [dif_pos h, if_pos h, norm_first]
  · rw [dif_neg h, if_neg h, norm_second]

/-- The residual stream of the reference after the attention. -/
theorem mid_ref (x0 : S2x8192x1024.Idx → EReal) (x1 : S16384x1024.Idx → EReal) (x2 : S9x2x1024.Idx → EReal)
    (x3 : S6x1024.Idx → EReal) (x4 : S1024x1024.Idx → EReal) (x5 : S1024.Idx → EReal) (b : Fin 2) (s : Fin 8192) (j : Fin 1024) :
    (val_main_v73 (F := Ideal) x0 x1 x2 x3 x4 x5 : S2x8192x1024.Idx → EReal) (ix3 b s j)
      = mixRow (at3 (a := 2) (b := 8192) (c := 1024) x0 b.val s.val)
          (fun k => at2 (a := 16384) (b := 1024) x1 (b.val * 8192 + s.val) (storedCol k)) (at1 (a := 1024) x5)
          (at2 (a := 1024) (b := 1024) x4) (at3 (a := 9) (b := 2) (c := 1024) x2 5 b.val) (at2 (a := 6) (b := 1024) x3 3) j.val := by
  pointwise [val_main_v10, val_main_v11, val_main_v54, val_main_v55, val_main_v56, val_main_v57, val_main_v58, val_main_cst_5, val_main_v59, val_main_v60, val_main_cst_6, val_main_v61, val_main_v62, val_main_cst_7, val_main_v63, val_main_v64, val_main_v65, val_main_v66, val_main_v67, val_main_v68, val_main_v69, val_main_v70, val_main_v71, val_main_v72, val_main_v73]
  have e0 : ∀ p q r, x0 (ix3 p q r) = at3 (a := 2) (b := 8192) (c := 1024) x0 p.val q.val r.val := fun p q r => at3_of _ _ _ _ _ rfl rfl rfl
  have e2 : ∀ p q r, x2 (ix3 p q r) = at3 (a := 9) (b := 2) (c := 1024) x2 p.val q.val r.val := fun p q r => at3_of _ _ _ _ _ rfl rfl rfl
  have e3 : ∀ p q, x3 (ix2 p q) = at2 (a := 6) (b := 1024) x3 p.val q.val := fun p q => at2_of _ _ _ _ rfl rfl
  have e4 : ∀ p q, x4 (ix2 p q) = at2 (a := 1024) (b := 1024) x4 p.val q.val := fun p q => at2_of _ _ _ _ rfl rfl
  simp only [norm_both, e0, e2, e3, e4]
  rfl

/-- The modulated input of the feed-forward layer in the reference. -/
theorem h_ref (x0 : S2x8192x1024.Idx → EReal) (x1 : S16384x1024.Idx → EReal) (x2 : S9x2x1024.Idx → EReal)
    (x3 : S6x1024.Idx → EReal) (x4 : S1024x1024.Idx → EReal) (x5 : S1024.Idx → EReal) (b : Fin 2) (s : Fin 8192) (X : ℕ → EReal)
    (hX : ∀ j : Fin 1024, (val_main_v73 (F := Ideal) x0 x1 x2 x3 x4 x5 : S2x8192x1024.Idx → EReal) (ix3 b s j) = X j.val) (j : Fin 1024) :
    (val_main_v96 (F := Ideal) x0 x1 x2 x3 x4 x5 : S2x8192x1024.Idx → EReal) (ix3 b s j)
      = hRow X (at2 (a := 6) (b := 1024) x3 4) (at3 (a := 9) (b := 2) (c := 1024) x2 6 b.val)
          (at3 (a := 9) (b := 2) (c := 1024) x2 7 b.val) j.val := by
  pointwise [val_main_v12, val_main_v13, val_main_v14, val_main_v15, val_main_v74, val_main_v75, val_main_v76, val_main_cst_8, val_main_v77, val_main_v78, val_main_cst_9, val_main_v79, val_main_v80, val_main_cst_10, val_main_v81, val_main_v82, val_main_v83, val_main_v84, val_main_v85, val_main_v86, val_main_v87, val_main_v88, val_main_v89, val_main_cst_11, val_main_v90, val_main_v91, val_main_v92, val_main_v93, val_main_v94, val_main_v95, val_main_v96]
  have e2 : ∀ p q r, x2 (ix3 p q r) = at3 (a := 9) (b := 2) (c := 1024) x2 p.val q.val r.val := fun p q r => at3_of _ _ _ _ _ rfl rfl rfl
  have e3 : ∀ p q, x3 (ix2 p q) = at2 (a := 6) (b := 1024) x3 p.val q.val := fun p q => at2_of _ _ _ _ rfl rfl
  simp only [hX, e2, e3]
  rfl

/-- The gated product in the reference. -/
theorem act_ref (x0 : S2x8192x1024.Idx → EReal) (x1 : S16384x1024.Idx → EReal) (x2 : S9x2x1024.Idx → EReal)
    (x3 : S6x1024.Idx → EReal) (x4 : S1024x1024.Idx → EReal) (x5 : S1024.Idx → EReal) (x6 x7 : S1024x2816.Idx → EReal) (b : Fin 2) (s : Fin 8192) (X : ℕ → EReal)
    (hX : ∀ j : Fin 1024, (val_main_v73 (F := Ideal) x0 x1 x2 x3 x4 x5 : S2x8192x1024.Idx → EReal) (ix3 b s j) = X j.val) (j : Fin 2816) :
    (val_main_v106 (F := Ideal) x0 x1 x2 x3 x4 x5 x6 x7 : S2x8192x2816.Idx → EReal) (ix3 b s j)
      = actRow X (at2 (a := 6) (b := 1024) x3 4) (at3 (a := 9) (b := 2) (c := 1024) x2 6 b.val)
          (at3 (a := 9) (b := 2) (c := 1024) x2 7 b.val) (at2 (a := 1024) (b := 2816) x6) (at2 (a := 1024) (b := 2816) x7) j.val := by
  pointwise [val_main_v100, val_main_v101, val_main_v103, val_main_call0_v0, val_main_call0_v1, val_main_call0_cst, val_main_call0_v2, val_main_call0_v3, val_main_call0_cst_0, val_main_call0_v4, val_main_call0_v5, val_main_v104, val_main_v105, val_main_v106]
  have e6 : ∀ p q, x6 (ix2 p q) = at2 (a := 1024) (b := 2816) x6 p.val q.val := fun p q => at2_of _ _ _ _ rfl rfl
  have e7 : ∀ p q, x7 (ix2 p q) = at2 (a := 1024) (b := 2816) x7 p.val q.val := fun p q => at2_of _ _ _ _ rfl rfl
  simp only [h_ref x0 x1 x2 x3 x4 x5 b s X hX, e6, e7]
  rfl

/-- The reference's result at an index. -/
theorem result_ref (x0 : S2x8192x1024.Idx → EReal) (x1 : S16384x1024.Idx → EReal) (x2 : S9x2x1024.Idx → EReal)
    (x3 : S6x1024.Idx → EReal) (x4 : S1024x1024.Idx → EReal) (x5 : S1024.Idx → EReal) (x6 x7 : S1024x2816.Idx → EReal) (x8 : S2816x1024.Idx → EReal) (b : Fin 2) (s : Fin 8192) (j : Fin 1024) :
    (val_main_v125 (F := Ideal) x0 x1 x2 x3 x4 x5 x6 x7 x8 : S2x8192x1024.Idx → EReal) (ix3 b s j)
      = stepRow (mixRow (at3 (a := 2) (b := 8192) (c := 1024) x0 b.val s.val)
          (fun k => at2 (a := 16384) (b := 1024) x1 (b.val * 8192 + s.val) (storedCol k)) (at1 (a := 1024) x5)
          (at2 (a := 1024) (b := 1024) x4) (at3 (a := 9) (b := 2) (c := 1024) x2 5 b.val) (at2 (a := 6) (b := 1024) x3 3))
        (at2 (a := 6) (b := 1024) x3 4) (at3 (a := 9) (b := 2) (c := 1024) x2 6 b.val)
        (at3 (a := 9) (b := 2) (c := 1024) x2 7 b.val) (at2 (a := 1024) (b := 2816) x6) (at2 (a := 1024) (b := 2816) x7)
        (at2 (a := 2816) (b := 1024) x8) (at3 (a := 9) (b := 2) (c := 1024) x2 8 b.val) (at2 (a := 6) (b := 1024) x3 5) j.val := by
  pointwise [val_main_v16, val_main_v17, val_main_v97, val_main_cst_12, val_main_v98, val_main_v99, val_main_v102, val_main_v107, val_main_v108, val_main_v109, val_main_v110, val_main_cst_13, val_main_v111, val_main_v112, val_main_cst_14, val_main_v113, val_main_v114, val_main_cst_15, val_main_v115, val_main_v116, val_main_v117, val_main_v118, val_main_v119, val_main_v120, val_main_v121, val_main_v122, val_main_v123, val_main_v124, val_main_v125]
  have e2 : ∀ p q r, x2 (ix3 p q r) = at3 (a := 9) (b := 2) (c := 1024) x2 p.val q.val r.val := fun p q r => at3_of _ _ _ _ _ rfl rfl rfl
  have e3 : ∀ p q, x3 (ix2 p q) = at2 (a := 6) (b := 1024) x3 p.val q.val := fun p q => at2_of _ _ _ _ rfl rfl
  have e8 : ∀ p q, x8 (ix2 p q) = at2 (a := 2816) (b := 1024) x8 p.val q.val := fun p q => at2_of _ _ _ _ rfl rfl
  simp only [act_ref x0 x1 x2 x3 x4 x5 x6 x7 b s _ (mid_ref x0 x1 x2 x3 x4 x5 b s), mid_ref, e2, e3, e8]
  rfl

end Cert.Reference2Ideal.Ffn
end
-- ==== Proof.FfnFinal.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.FfnOut
public import proofs.«01_k».proof.Proof.FfnRef
public import proofs.«01_k».proof.Proof.Gen.Kernel2.Frame
public import proofs.«01_k».proof.Proof.Gen.Kernel2Ideal.Value
public import proofs.«01_k».proof.Proof.Gen.Reference2Ideal.Run
public import Idealize.ShloMosaic.Adequacy
public import Idealize.ShloMosaic.Init

@[expose] public section

set_option maxRecDepth 16384

noncomputable section

/-! The claims about the output and feed-forward call: the frames, and the kernel's array against the reference's. -/

namespace Cert.Ffn

open Cert.Attn Idealize.ShloMosaic Idealize.ShloMosaic.TcCoe Idealize.SL.Sem

/-- An index of rank three from its coordinates. -/
theorem exists_ix3' {a b d : ℕ} (x : (⟨3, ![a, b, d]⟩ : Shape).Idx) : ∃ p q r, x = ix3 p q r :=
  ⟨x 0, x 1, x 2, by funext t; match t with | ⟨0, _⟩ => rfl | ⟨1, _⟩ => rfl | ⟨2, _⟩ => rfl⟩

/-- The kernel changes none of its arguments and leaves every counter at zero. -/
theorem frame_kernel : Cert.quiescent_Kernel2 := fun m ρ _ => Cert.Kernel2.Gen.frame m ρ

/-- So does the kernel over the extended reals. -/
theorem frame_ideal : Cert.quiescent_Kernel2Ideal := fun m ρ _ => Cert.Kernel2Ideal.Gen.frame m ρ

/-- The reference changes none of its arguments and leaves every counter at zero. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- No constant is named here: the ideal kernel is the kernel's own text. -/
theorem preserves : Cert.preserves_Kernel2_Kernel2Ideal := trivial

/-- What the reference leaves: the result its stages spell out, and its arguments. -/
theorem reference_run (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r =>
      ∀ c : Dev Cert.Reference2Ideal.nD,
      r.2.mem ((c.tc : Thread Cert.Reference2Ideal.nD Cert.Reference2Ideal.τ).loc Cert.Reference2Ideal.main_v125)
        = Cert.Reference2Ideal.Read.val_main_v125 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8) :=
  (θ_run Cert.Reference2Ideal.defs _ _).mono (fun r h c =>
    ⟨(h c).1.trans (Cert.Reference2Ideal.Read.val_main_v125_eq (StableHlo.launchContents m c)), (h c).2⟩) (Cert.Reference2Ideal.Value.run (F := Ideal) m ρ)

section
open Cert.Kernel2Ideal

/-- On the same arguments the kernel's array is the reference's. -/
theorem result_agrees (m : (ℓ : Loc nD τ sig) → Buf (Elt Ideal) ℓ) (c : Dev nD) (x0 : S2x8192x1024.Idx → EReal) (x1 : S16384x1024.Idx → EReal) (x2 : S9x2x1024.Idx → EReal)
    (x3 : S6x1024.Idx → EReal) (x4 : S1024x1024.Idx → EReal) (x5 : S1024.Idx → EReal) (x6 x7 : S1024x2816.Idx → EReal)
    (x8 : S2816x1024.Idx → EReal)
    (e0 : (m (c, Proc.tc.devRef main_arg0) : S2x8192x1024.Idx → EReal) = x0)
    (e1 : (m (c, Proc.tc.devRef main_arg1) : S16384x1024.Idx → EReal) = x1)
    (e2 : (m (c, Proc.tc.devRef main_arg2) : S9x2x1024.Idx → EReal) = x2)
    (e3 : (m (c, Proc.tc.devRef main_arg3) : S6x1024.Idx → EReal) = x3)
    (e4 : (m (c, Proc.tc.devRef main_arg4) : S1024x1024.Idx → EReal) = x4)
    (e5 : (m (c, Proc.tc.devRef main_arg5) : S1024.Idx → EReal) = x5)
    (e6 : (m (c, Proc.tc.devRef main_arg6) : S1024x2816.Idx → EReal) = x6)
    (e7 : (m (c, Proc.tc.devRef main_arg7) : S1024x2816.Idx → EReal) = x7)
    (e8 : (m (c, Proc.tc.devRef main_arg8) : S2816x1024.Idx → EReal) = x8) :
    (fun i : S2x8192x1024.Idx => Cert.Kernel2Ideal.Ffn.outRow m c (i 0).val (i 1).val (i 2).val)
      = (Cert.Reference2Ideal.Read.val_main_v125 (F := Ideal) x0 x1 x2 x3 x4 x5 x6 x7 x8 : S2x8192x1024.Idx → EReal) := by
  funext i
  obtain ⟨b, s, j, rfl⟩ := exists_ix3' (a := 2) (b := 8192) (d := 1024) i
  refine Eq.trans ?_ (Cert.Reference2Ideal.Ffn.result_ref x0 x1 x2 x3 x4 x5 x6 x7 x8 b s j).symm
  show Cert.Kernel2Ideal.Ffn.outRow m c b.val s.val j.val = _
  unfold Cert.Kernel2Ideal.Ffn.outRow
  rw [e0, e1, e2, e3, e4, e5, e6, e7, e8, mixRow_orders]
end

/-- From memories that agree on the arguments, kernel and reference leave the same array. -/
theorem algebraic : Cert.algebraic_Kernel2Ideal_Reference2Ideal := by
  intro m ρ m' ρ' _ hag
  refine ⟨fun c => (Cert.Kernel2Ideal.Gen.dats m 0 c).arrAt 9 Cert.Kernel2Ideal.cfg0.N, Cert.Kernel2Ideal.Value.run_blocks m ρ, ?_⟩
  refine (θ_run Cert.Reference2Ideal.defs _ _).mono (fun r h c => ?_) (reference_run m' ρ')
  obtain ⟨a0, a1, a2, a3, a4, a5, a6, a7, a8⟩ := hag c
  obtain ⟨r0, hr⟩ := h c
  refine ⟨r0.trans ?_, hr⟩
  refine Eq.trans ?_ (Cert.Kernel2Ideal.Ffn.out9 m c).symm
  exact (result_agrees m c _ _ _ _ _ _ _ _ _ a0.symm a1.symm a2.symm a3.symm a4.symm a5.symm a6.symm a7.symm a8.symm).symm

end Cert.Ffn
end
-- ==== Proof.QkvStages.lean ====
module

public import proofs.«01_k».proof.Proof.Gen.Kernel3Ideal.Skeleton
public import proofs.«01_k».proof.Proof.FfnRow
public import Idealize.ShloMosaic.Lib.Pointwise

@[expose] public section

set_option maxRecDepth 16384

noncomputable section

/-! The stages of one tile of 256 rows of the call before the mixers, each read at an index. -/

namespace Cert.Ffn

/-- The scale of the queries: one over the logarithm of 256. -/
def qscale : EReal := (((Real.log 256)⁻¹ : ℝ) : EReal)

end Cert.Ffn

namespace Cert.Kernel3Ideal.Qkv

open Cert.Kernel3Ideal Cert.Kernel3Ideal.Gen Idealize.ShloMosaic Cert.Ffn

/-- The kernel's named constant is that number. -/
theorem qscale_eq : (Named.named κ "log2e_scaled" 0x3E38AA3B#32 : Ideal .f32) = qscale :=
  IdealRules.named_const.ideal_named_scalar _ _ _ _ rfl

/-- The rows going into the feed-forward layer: normalized, scaled and shifted. -/
theorem modulated (x : Vec Ideal S1x256x1024 .f32) (g : Vec Ideal S1x1024 .f32) (sh sc : Vec Ideal S1x1x1x1024 .f32) (r : Fin 256) (j : Fin 1024) :
    k0_pay5 x g sh sc (ix2 r j) = rms c1024 ceps (fun k => x (ix3 0 r k)) (fun k => g (ix2 0 k)) j * (1 + sc (ix4 0 0 0 j)) + sh (ix4 0 0 0 j) := by
  pointwise [k0_pay5]
  rfl

/-- The hidden units of the feed-forward layer, computed in two parts of its columns, and projected back. -/
theorem gated (h : FVec Ideal S256x1024 .bf16) (ga ua : Vec Ideal S1024x1536 .bf16) (gb ub : Vec Ideal S1024x1280 .bf16)
    (da : Vec Ideal S1536x1024 .bf16) (db : Vec Ideal S1280x1024 .bf16) (r : Fin 256) (j : Fin 1024) :
    k0_pay10 h (k0_pay8 h ga ua) (k0_pay9 h gb) ub da db (ix3 0 r j) =
      (∑ k : Fin 1536, gate (∑ l : Fin 1024, h (ix2 r l) * ga (ix2 l k)) (∑ l : Fin 1024, h (ix2 r l) * ua (ix2 l k)) * da (ix2 k j))
      + ∑ k : Fin 1280, gate (∑ l : Fin 1024, h (ix2 r l) * gb (ix2 l k)) (∑ l : Fin 1024, h (ix2 r l) * ub (ix2 l k)) * db (ix2 k j) := by
  pointwise [k0_pay10, k0_pay9, k0_pay8]
  simp only [zero_sub]
  rfl

/-- The half step: the projection scaled, normalized and added. -/
theorem stepped (x f : FVec Ideal S1x256x1024 .f32) (m : Vec Ideal S1x1x1x1024 .f32) (g : Vec Ideal S1x1024 .f32) (r : Fin 256) (j : Fin 1024) :
    k0_pay14 x f m g (ix3 0 r j) = x (ix3 0 r j) + chalf * m (ix4 0 0 0 j) * rms c1024 ceps (fun k => f (ix3 0 r k)) (fun k => g (ix2 0 k)) j := by
  pointwise [k0_pay14]
  rfl

/-- The rows going into the projections of the mixers. -/
theorem remodulated (x : FVec Ideal S1x256x1024 .f32) (g : Vec Ideal S1x1024 .f32) (sh sc : Vec Ideal S1x1x1x1024 .f32) (r : Fin 256) (j : Fin 1024) :
    k0_pay15 x g sh sc (ix2 r j) = rms c1024 ceps (fun k => x (ix3 0 r k)) (fun k => g (ix2 0 k)) j * (1 + sc (ix4 0 0 0 j)) + sh (ix4 0 0 0 j) := by
  pointwise [k0_pay15]
  rfl

/-- A projection of 512 columns. -/
theorem wide (h : FVec Ideal S256x1024 .bf16) (w : Vec Ideal S1024x512 .bf16) (r : Fin 256) (j : Fin 512) :
    k0_pay25 h w (ix2 r j) = ∑ l : Fin 1024, h (ix2 r l) * w (ix2 l j) := by
  pointwise [k0_pay25]

/-- The keys of mixer B. -/
theorem narrow_first (h : FVec Ideal S256x1024 .bf16) (w : Vec Ideal S1024x256 .bf16) (r : Fin 256) (j : Fin 128) :
    k0_pay36 h w (ix2 r j) = ∑ l : Fin 1024, h (ix2 r l) * w (ix2 l ⟨j.val, by omega⟩) := by
  pointwise [k0_pay36, k0_pay33]

/-- The values of mixer B. -/
theorem narrow_second (h : FVec Ideal S256x1024 .bf16) (w : Vec Ideal S1024x256 .bf16) (r : Fin 256) (j : Fin 128) :
    k0_pay37 h w (ix2 r j) = ∑ l : Fin 1024, h (ix2 r l) * w (ix2 l ⟨128 + j.val, by omega⟩) := by
  pointwise [k0_pay37, k0_pay33]

/-- The scaled projection of queries. -/
theorem scaled (h : FVec Ideal S256x1024 .bf16) (w : Vec Ideal S1024x512 .bf16) (r : Fin 256) (j : Fin 512) :
    k0_pay21 h w (ix2 r j) = (∑ l : Fin 1024, h (ix2 r l) * w (ix2 l j)) * qscale := by
  pointwise [k0_pay21]
  rw [qscale_eq]

/-- The queries of mixer A, the first head of each pair kept. -/
theorem qa_first (h : FVec Ideal S256x1024 .bf16) (w : Vec Ideal S1024x512 .bf16) (r : Fin 256) (j : Fin 512) :
    k0_pay23 h w (ix2 r j) = if j.val % 128 < 64 then k0_pay21 h w (ix2 r j) else 0 := by
  have hj := j.isLt
  by_cases hc : j.val % 128 < 64
  · rw [if_pos hc]
    pointwise [k0_pay23, k0_pay22]
    split_ifs <;> first | omega | rfl | exact congrArg (fun k => k0_pay21 h w (ix2 r k)) (Fin.ext (by dsimp only; omega)) | exact congrArg (fun k => k0_pay21 h w (ix2 r k)) (Fin.ext (by dsimp only))
  · rw [if_neg hc]
    pointwise [k0_pay23, k0_pay22]
    split_ifs <;> first | omega | rfl | exact congrArg (fun k => k0_pay21 h w (ix2 r k)) (Fin.ext (by dsimp only; omega)) | exact congrArg (fun k => k0_pay21 h w (ix2 r k)) (Fin.ext (by dsimp only))

/-- The queries of mixer A, the second head of each pair kept. -/
theorem qa_second (h : FVec Ideal S256x1024 .bf16) (w : Vec Ideal S1024x512 .bf16) (r : Fin 256) (j : Fin 512) :
    k0_pay24 h w (ix2 r j) = if j.val % 128 ≥ 64 then k0_pay21 h w (ix2 r j) else 0 := by
  have hj := j.isLt
  by_cases hc : j.val % 128 ≥ 64
  · rw [if_pos hc]
    pointwise [k0_pay24, k0_pay22]
    split_ifs <;> first | omega | rfl | exact congrArg (fun k => k0_pay21 h w (ix2 r k)) (Fin.ext (by dsimp only; omega)) | exact congrArg (fun k => k0_pay21 h w (ix2 r k)) (Fin.ext (by dsimp only))
  · rw [if_neg hc]
    pointwise [k0_pay24, k0_pay22]
    split_ifs <;> first | omega | rfl | exact congrArg (fun k => k0_pay21 h w (ix2 r k)) (Fin.ext (by dsimp only; omega)) | exact congrArg (fun k => k0_pay21 h w (ix2 r k)) (Fin.ext (by dsimp only))

/-- The queries of mixer B of the first key-value head. -/
theorem qb_first (h : FVec Ideal S256x1024 .bf16) (w : Vec Ideal S1024x512 .bf16) (r : Fin 256) (j : Fin 512) :
    k0_pay29 h w (ix2 r j) = if j.val % 128 < 64 then k0_pay27 h w (ix2 r ⟨j.val / 128 * 64 + j.val % 64, by omega⟩) else 0 := by
  have hj := j.isLt
  by_cases hc : j.val % 128 < 64
  · rw [if_pos hc]
    pointwise [k0_pay29, k0_pay28]
    split_ifs <;> first | omega | rfl | exact congrArg (fun k => k0_pay27 h w (ix2 r k)) (Fin.ext (by dsimp only; omega)) | exact congrArg (fun k => k0_pay27 h w (ix2 r k)) (Fin.ext (by dsimp only))
  · rw [if_neg hc]
    pointwise [k0_pay29, k0_pay28]
    split_ifs <;> first | omega | rfl | exact congrArg (fun k => k0_pay27 h w (ix2 r k)) (Fin.ext (by dsimp only; omega)) | exact congrArg (fun k => k0_pay27 h w (ix2 r k)) (Fin.ext (by dsimp only))

/-- The queries of mixer B of the second key-value head. -/
theorem qb_second (h : FVec Ideal S256x1024 .bf16) (w : Vec Ideal S1024x512 .bf16) (r : Fin 256) (j : Fin 512) :
    k0_pay32 (k0_pay27 h w) k0_pay28 (k0_pay30 h w) (k0_pay31 h w) (ix2 r j) = if j.val % 128 ≥ 64 then k0_pay27 h w (ix2 r ⟨256 + (j.val / 128 * 64 + j.val % 64), by omega⟩) else 0 := by
  have hj := j.isLt
  by_cases hc : j.val % 128 ≥ 64
  · rw [if_pos hc]
    pointwise [k0_pay32, k0_pay30, k0_pay31, k0_pay28]
    split_ifs <;> first | omega | rfl | exact congrArg (fun k => k0_pay27 h w (ix2 r k)) (Fin.ext (by dsimp only; omega)) | exact congrArg (fun k => k0_pay27 h w (ix2 r k)) (Fin.ext (by dsimp only))
  · rw [if_neg hc]
    pointwise [k0_pay32, k0_pay30, k0_pay31, k0_pay28]
    split_ifs <;> first | omega | rfl | exact congrArg (fun k => k0_pay27 h w (ix2 r k)) (Fin.ext (by dsimp only; omega)) | exact congrArg (fun k => k0_pay27 h w (ix2 r k)) (Fin.ext (by dsimp only))

/-- Both scaled projections are one. -/
theorem scaled_same (h : FVec Ideal S256x1024 .bf16) (w : Vec Ideal S1024x512 .bf16) : k0_pay27 h w = k0_pay21 h w := rfl

end Cert.Kernel3Ideal.Qkv
end
-- ==== Proof.QkvRow.lean ====
module

public import proofs.«01_k».proof.Proof.QkvStages

@[expose] public section

set_option maxRecDepth 16384

noncomputable section

/-! One tile of 256 rows of the call before the mixers. The program spells its two tiles differently: each is this one,
    and each of its rows is the layer's row. -/

namespace Cert.Ffn

open Idealize.ShloMosaic

/-- The residual stream after the first half step. -/
def firstRow (x : ℕ → EReal) (md ga : ℕ → ℕ → EReal) (wg wu wd : ℕ → ℕ → EReal) (j : ℕ) : EReal :=
  stepRow x (ga 0) (md 0) (md 1) wg wu wd (md 2) (ga 1) j

/-- A column of the projection of the mixers' input. -/
def projRow (x : ℕ → EReal) (md ga : ℕ → ℕ → EReal) (wg wu wd win : ℕ → ℕ → EReal) (k : ℕ) : EReal :=
  ∑ l : Fin 1024, hRow (firstRow x md ga wg wu wd) (ga 2) (md 3) (md 4) l.val * win l.val k

/-- Mixer A's queries as they are stored: pairs of heads, once with the first kept, once with the second. -/
def queryA (p : ℕ → EReal) (k : ℕ) : EReal :=
  if k < 512 then (if k % 128 < 64 then p k * qscale else 0) else (if (k - 512) % 128 ≥ 64 then p (k - 512) * qscale else 0)

/-- Mixer B's queries as they are stored: pairs of heads over the two key-value heads, once with the first kept, once with
    the second. -/
def queryB (p : ℕ → EReal) (k : ℕ) : EReal :=
  if k < 512 then (if k % 128 < 64 then p (1536 + (k / 128 * 64 + k % 64)) * qscale else 0)
  else (if (k - 512) % 128 ≥ 64 then p (1792 + ((k - 512) / 128 * 64 + (k - 512) % 64)) * qscale else 0)

end Cert.Ffn

namespace Cert.Kernel3Ideal.Qkv

open Cert.Kernel3Ideal Cert.Kernel3Ideal.Gen Idealize.ShloMosaic Cert.Ffn

section
variable {F : FTy → Type} [FloatOps F] [Named F]

/-- The residual stream of one tile after the half step. -/
def tileX (x : Vec F S1x256x1024 .f32) (g : Vec F S1x1024 .f32) (sh sc : Vec F S1x1x1x1024 .f32)
    (ga ua : Vec F S1024x1536 .bf16) (gb ub : Vec F S1024x1280 .bf16) (da : Vec F S1536x1024 .bf16)
    (db : Vec F S1280x1024 .bf16) (m : Vec F S1x1x1x1024 .f32) (g' : Vec F S1x1024 .f32) : FVec F S1x256x1024 .f32 :=
  k0_pay14 x (k0_pay10 (k0_pay5 x g sh sc) (k0_pay8 (k0_pay5 x g sh sc) ga ua) (k0_pay9 (k0_pay5 x g sh sc) gb) ub da db) m g'

variable (x : Vec F S1x256x1024 .f32) (m sh sc sh' sc' : Vec F S1x1x1x1024 .f32) (g g' g'' : Vec F S1x1024 .f32)
  (ga ua : Vec F S1024x1536 .bf16) (gb ub : Vec F S1024x1280 .bf16) (da : Vec F S1536x1024 .bf16)
  (db : Vec F S1280x1024 .bf16) (h : FVec F S256x1024 .bf16) (w : Vec F S1024x512 .bf16) (v : Vec F S1024x256 .bf16)

/-- The feed-forward layer of the second tile. -/
abbrev second (x : Vec F S1x256x1024 .f32) (g : Vec F S1x1024 .f32) (sh sc : Vec F S1x1x1x1024 .f32)
    (ga ua : Vec F S1024x1536 .bf16) (gb ub : Vec F S1024x1280 .bf16) (da : Vec F S1536x1024 .bf16)
    (db : Vec F S1280x1024 .bf16) : FVec F S1x256x1024 .f32 :=
  k0_pay13 (k0_pay7 x g (k0_pay6 sh) sc) (k0_pay11 (k0_pay7 x g (k0_pay6 sh) sc) ga ua)
    (k0_pay12 (k0_pay7 x g (k0_pay6 sh) sc) gb) ub (constant S256x1280 .f32 0x00000000#32) da db

/-- The second tile's residual stream. -/
theorem second_x : k0_pay19 x (second x g sh sc ga ua gb ub da db) (k0_pay16 m) g' (k0_pay17 (second x g sh sc ga ua gb ub da db))
      (k0_pay18 (F := F)) = tileX x g sh sc ga ua gb ub da db m g' := rfl

/-- The second tile's input of the mixers. -/
theorem second_h : k0_pay20 x (second x g sh sc ga ua gb ub da db) (k0_pay16 m) g' (k0_pay17 (second x g sh sc ga ua gb ub da db))
      (k0_pay18 (F := F)) g'' sh' sc' = k0_pay15 (tileX x g sh sc ga ua gb ub da db m g') g'' sh' sc' := rfl

/-- The second tile's queries of mixer A, first heads. -/
theorem second_qa : k0_pay45 (k0_pay40 h w) (k0_pay41 (F := F)) (k0_pay42 h w) (k0_pay43 h w) (k0_pay44 h w) = k0_pay23 h w := rfl

/-- The second tile's queries of mixer A, second heads. -/
theorem second_qa' : k0_pay46 (k0_pay40 h w) (k0_pay41 (F := F)) = k0_pay24 h w := rfl

/-- The second tile's queries of mixer B, first heads. -/
theorem second_qb : k0_pay51 h w = k0_pay29 h w := rfl

/-- The second tile's queries of mixer B, second heads. -/
theorem second_qb' : k0_pay52 h w = k0_pay32 (k0_pay27 h w) (k0_pay28 (F := F)) (k0_pay30 h w) (k0_pay31 h w) := rfl

/-- The second tile's keys of mixer B. -/
theorem second_kb : k0_pay58 h v = k0_pay36 h v := rfl

/-- The second tile's values of mixer B. -/
theorem second_vb : k0_pay59 h v = k0_pay37 h v := rfl
end

/-- A row of a tile after the half step. -/
theorem tileX_apply (x : FVec Ideal S1x256x1024 .f32) (g : Vec Ideal S1x1024 .f32) (sh sc : Vec Ideal S1x1x1x1024 .f32)
    (ga ua : Vec Ideal S1024x1536 .bf16) (gb ub : Vec Ideal S1024x1280 .bf16) (da : Vec Ideal S1536x1024 .bf16)
    (db : Vec Ideal S1280x1024 .bf16) (m : Vec Ideal S1x1x1x1024 .f32) (g' : Vec Ideal S1x1024 .f32) (r : Fin 256)
    (X G SH SC M G' : ℕ → EReal) (WG WU WD : ℕ → ℕ → EReal) (hx : ∀ j : Fin 1024, x (ix3 0 r j) = X j.val)
    (hg : ∀ j : Fin 1024, g (ix2 0 j) = G j.val) (hsh : ∀ j : Fin 1024, sh (ix4 0 0 0 j) = SH j.val)
    (hsc : ∀ j : Fin 1024, sc (ix4 0 0 0 j) = SC j.val)
    (hga : ∀ (l : Fin 1024) (i : Fin 1536), ga (ix2 l i) = WG l.val i.val)
    (hua : ∀ (l : Fin 1024) (i : Fin 1536), ua (ix2 l i) = WU l.val i.val)
    (hgb : ∀ (l : Fin 1024) (i : Fin 1280), gb (ix2 l i) = WG l.val (1536 + i.val))
    (hub : ∀ (l : Fin 1024) (i : Fin 1280), ub (ix2 l i) = WU l.val (1536 + i.val))
    (hda : ∀ (i : Fin 1536) (j : Fin 1024), da (ix2 i j) = WD i.val j.val)
    (hdb : ∀ (i : Fin 1280) (j : Fin 1024), db (ix2 i j) = WD (1536 + i.val) j.val)
    (hm : ∀ j : Fin 1024, m (ix4 0 0 0 j) = M j.val) (hg' : ∀ j : Fin 1024, g' (ix2 0 j) = G' j.val) (j : Fin 1024) :
    tileX x g sh sc ga ua gb ub da db m g' (ix3 0 r j) = stepRow X G SH SC WG WU WD M G' j.val := by
  have hh : ∀ l : Fin 1024, k0_pay5 x g sh sc (ix2 r l) = hRow X G SH SC l.val := fun l => by
    rw [modulated]
    simp only [hx, hg, hsh, hsc]
    rfl
  unfold tileX
  rw [stepped]
  simp only [gated, hh, hx, hga, hua, hgb, hub, hda, hdb, hm, hg']
  unfold stepRow
  simp only [← fun k => sum_parts fun i => actRow X G SH SC WG WU i * WD i k]
  rfl

/-- A row of a tile's input of the mixers. -/
theorem tileH_apply (x : FVec Ideal S1x256x1024 .f32) (g : Vec Ideal S1x1024 .f32) (sh sc : Vec Ideal S1x1x1x1024 .f32) (r : Fin 256)
    (X G SH SC : ℕ → EReal) (hx : ∀ j : Fin 1024, x (ix3 0 r j) = X j.val)
    (hg : ∀ j : Fin 1024, g (ix2 0 j) = G j.val) (hsh : ∀ j : Fin 1024, sh (ix4 0 0 0 j) = SH j.val)
    (hsc : ∀ j : Fin 1024, sc (ix4 0 0 0 j) = SC j.val) (j : Fin 1024) :
    k0_pay15 x g sh sc (ix2 r j) = hRow X G SH SC j.val := by
  rw [remodulated]
  simp only [hx, hg, hsh, hsc]
  rfl

/-- Storing a projection changes nothing. -/
theorem stored_same (v : FVec Ideal S256x512 .f32) (i : S256x512.Idx) : k0_pay34 v i = v i := rfl

end Cert.Kernel3Ideal.Qkv
end
-- ==== Proof.QkvTile.lean ====
module

public import proofs.«01_k».proof.Proof.QkvRow
public import proofs.«01_k».proof.Proof.FfnBlock
public import proofs.«01_k».proof.Proof.Gen.Kernel3Ideal.Frame
public import Idealize.ShloMosaic.Lib.Pipeline.ValueKit.Geometry

@[expose] public section

set_option maxRecDepth 100000

noncomputable section

/-! The two tiles of a block of 512 rows of the call before the mixers, read from the block's arrays. -/

namespace Cert.Kernel3Ideal.Qkv

open Cert.Kernel3Ideal Cert.Kernel3Ideal.Gen Idealize.ShloMosaic Idealize.ShloMosaic.TcCoe Cert.Ffn

open Cert.Kernel2Ideal.Ffn (exists_ix3 emb_val)

section
variable (x0 : Vec Ideal S1x512x1024 .f32) (x1 : Vec Ideal S9x1x1x1024 .f32) (x2 : Vec Ideal S6x1024 .f32)
  (x3 x4 : Vec Ideal S1024x2816 .bf16) (x5 : Vec Ideal S2816x1024 .bf16) (x6 : Vec Ideal S1024x2304 .bf16)
  (X MOD GA WG WU WD WIN : ℕ → ℕ → EReal)
  (h0 : ∀ y : S1x512x1024.Idx, x0 y = X (y 1).val (y 2).val)
  (h1 : ∀ y : S9x1x1x1024.Idx, x1 y = MOD (y 0).val (y 3).val)
  (h2 : ∀ y : S6x1024.Idx, x2 y = GA (y 0).val (y 1).val)
  (h3 : ∀ y : S1024x2816.Idx, x3 y = WG (y 0).val (y 1).val)
  (h4 : ∀ y : S1024x2816.Idx, x4 y = WU (y 0).val (y 1).val)
  (h5 : ∀ y : S2816x1024.Idx, x5 y = WD (y 0).val (y 1).val)
  (h6 : ∀ y : S1024x2304.Idx, x6 y = WIN (y 0).val (y 1).val)

/-- The tile at row `ρ` after the half step. -/
def tX (ρ : ℕ) (i : ∀ a, (![0, ρ, 0] : Fin 3 → ℕ) a + S1x256x1024.size a ≤ S1x512x1024.size a) : FVec Ideal S1x256x1024 .f32 :=
  tileX (View.ld x0 (Rect.unit (s := S1x512x1024) ![0, ρ, 0] S1x256x1024.size i)) (View.ld x2 (Rect.unit (s := S6x1024) ![0, 0] S1x1024.size inb_S6x1024_S1x1024_0_0)) (View.ld x1 (Rect.unit (s := S9x1x1x1024) ![0, 0, 0, 0] S1x1x1x1024.size inb_S9x1x1x1024_S1x1x1x1024_0_0_0_0)) (View.ld x1 (Rect.unit (s := S9x1x1x1024) ![1, 0, 0, 0] S1x1x1x1024.size inb_S9x1x1x1024_S1x1x1x1024_1_0_0_0)) (View.ld x3 (Rect.unit (s := S1024x2816) ![0, 0] S1024x1536.size inb_S1024x2816_S1024x1536_0_0)) (View.ld x4 (Rect.unit (s := S1024x2816) ![0, 0] S1024x1536.size inb_S1024x2816_S1024x1536_0_0)) (View.ld x3 (Rect.unit (s := S1024x2816) ![0, 1536] S1024x1280.size inb_S1024x2816_S1024x1280_0_1536)) (View.ld x4 (Rect.unit (s := S1024x2816) ![0, 1536] S1024x1280.size inb_S1024x2816_S1024x1280_0_1536)) (View.ld x5 (Rect.unit (s := S2816x1024) ![0, 0] S1536x1024.size inb_S2816x1024_S1536x1024_0_0)) (View.ld x5 (Rect.unit (s := S2816x1024) ![1536, 0] S1280x1024.size inb_S2816x1024_S1280x1024_1536_0)) (View.ld x1 (Rect.unit (s := S9x1x1x1024) ![2, 0, 0, 0] S1x1x1x1024.size inb_S9x1x1x1024_S1x1x1x1024_2_0_0_0)) (View.ld x2 (Rect.unit (s := S6x1024) ![1, 0] S1x1024.size inb_S6x1024_S1x1024_1_0))

/-- The tile at row `ρ`, the mixers' input. -/
def tH (ρ : ℕ) (i : ∀ a, (![0, ρ, 0] : Fin 3 → ℕ) a + S1x256x1024.size a ≤ S1x512x1024.size a) : FVec Ideal S256x1024 .bf16 :=
  k0_pay15 (tX x0 x1 x2 x3 x4 x5 ρ i) (View.ld x2 (Rect.unit (s := S6x1024) ![2, 0] S1x1024.size inb_S6x1024_S1x1024_2_0)) (View.ld x1 (Rect.unit (s := S9x1x1x1024) ![3, 0, 0, 0] S1x1x1x1024.size inb_S9x1x1x1024_S1x1x1x1024_3_0_0_0)) (View.ld x1 (Rect.unit (s := S9x1x1x1024) ![4, 0, 0, 0] S1x1x1x1024.size inb_S9x1x1x1024_S1x1x1x1024_4_0_0_0))

/-- A column of the projection of row `R`. -/
def proj (R : ℕ) : ℕ → EReal := projRow (X R) MOD GA WG WU WD WIN

include h0 h1 h2 h3 h4 h5

/-- A row of the tile after the half step. -/
theorem tX_apply (ρ : ℕ) (i : ∀ a, (![0, ρ, 0] : Fin 3 → ℕ) a + S1x256x1024.size a ≤ S1x512x1024.size a) (r : Fin 256) (j : Fin 1024) :
    tX x0 x1 x2 x3 x4 x5 ρ i (ix3 0 r j) = firstRow (X (ρ + r.val)) MOD GA WG WU WD j.val := by
  have z : ∀ n : ℕ, 0 + n = n := Nat.zero_add
  refine tileX_apply _ _ _ _ _ _ _ _ _ _ _ _ r _ _ _ _ _ _ WG WU WD (fun j => ?_) (fun j => ?_) (fun j => ?_) (fun j => ?_)
    (fun l i => ?_) (fun l i => ?_) (fun l i => ?_) (fun l i => ?_) (fun i j => ?_) (fun i j => ?_) (fun j => ?_) (fun j => ?_) j
  · exact (h0 _).trans (congrArg₂ X (emb_val _ _ _ _ _ _ rfl) (emb_val _ _ _ _ _ _ (z _)))
  · exact (h2 _).trans (congrArg₂ GA (emb_val _ _ _ _ _ _ rfl) (emb_val _ _ _ _ _ _ (z _)))
  · exact (h1 _).trans (congrArg₂ MOD (emb_val _ _ _ _ _ _ rfl) (emb_val _ _ _ _ _ _ (z _)))
  · exact (h1 _).trans (congrArg₂ MOD (emb_val _ _ _ _ _ _ rfl) (emb_val _ _ _ _ _ _ (z _)))
  · exact (h3 _).trans (congrArg₂ WG (emb_val _ _ _ _ _ _ (z _)) (emb_val _ _ _ _ _ _ (z _)))
  · exact (h4 _).trans (congrArg₂ WU (emb_val _ _ _ _ _ _ (z _)) (emb_val _ _ _ _ _ _ (z _)))
  · exact (h3 _).trans (congrArg₂ WG (emb_val _ _ _ _ _ _ (z _)) (emb_val _ _ _ _ _ _ rfl))
  · exact (h4 _).trans (congrArg₂ WU (emb_val _ _ _ _ _ _ (z _)) (emb_val _ _ _ _ _ _ rfl))
  · exact (h5 _).trans (congrArg₂ WD (emb_val _ _ _ _ _ _ (z _)) (emb_val _ _ _ _ _ _ (z _)))
  · exact (h5 _).trans (congrArg₂ WD (emb_val _ _ _ _ _ _ rfl) (emb_val _ _ _ _ _ _ (z _)))
  · exact (h1 _).trans (congrArg₂ MOD (emb_val _ _ _ _ _ _ rfl) (emb_val _ _ _ _ _ _ (z _)))
  · exact (h2 _).trans (congrArg₂ GA (emb_val _ _ _ _ _ _ rfl) (emb_val _ _ _ _ _ _ (z _)))

/-- A row of the mixers' input. -/
theorem tH_apply (ρ : ℕ) (i : ∀ a, (![0, ρ, 0] : Fin 3 → ℕ) a + S1x256x1024.size a ≤ S1x512x1024.size a) (r : Fin 256) (j : Fin 1024) :
    tH x0 x1 x2 x3 x4 x5 ρ i (ix2 r j) = hRow (firstRow (X (ρ + r.val)) MOD GA WG WU WD) (GA 2) (MOD 3) (MOD 4) j.val := by
  have z : ∀ n : ℕ, 0 + n = n := Nat.zero_add
  refine tileH_apply _ _ _ _ r _ _ _ _ (tX_apply x0 x1 x2 x3 x4 x5 X MOD GA WG WU WD h0 h1 h2 h3 h4 h5 ρ i r) (fun j => ?_) (fun j => ?_) (fun j => ?_) j
  · exact (h2 _).trans (congrArg₂ GA (emb_val _ _ _ _ _ _ rfl) (emb_val _ _ _ _ _ _ (z _)))
  · exact (h1 _).trans (congrArg₂ MOD (emb_val _ _ _ _ _ _ rfl) (emb_val _ _ _ _ _ _ (z _)))
  · exact (h1 _).trans (congrArg₂ MOD (emb_val _ _ _ _ _ _ rfl) (emb_val _ _ _ _ _ _ (z _)))

include h6

/-- A column of the projection as a sum over a tile's row. -/
theorem proj_sum (ρ : ℕ) (i : ∀ a, (![0, ρ, 0] : Fin 3 → ℕ) a + S1x256x1024.size a ≤ S1x512x1024.size a) (r : Fin 256) (k : ℕ) (w : Fin 1024 → EReal) (hw : ∀ l, w l = WIN l.val k) :
    ∑ l : Fin 1024, tH x0 x1 x2 x3 x4 x5 ρ i (ix2 r l) * w l = proj X MOD GA WG WU WD WIN (ρ + r.val) k :=
  Finset.sum_congr rfl fun l _ => congrArg₂ (· * ·)
    (tH_apply x0 x1 x2 x3 x4 x5 X MOD GA WG WU WD h0 h1 h2 h3 h4 h5 ρ i r l) (hw l)

/-- The keys of mixer A. -/
theorem ka_apply (ρ : ℕ) (i : ∀ a, (![0, ρ, 0] : Fin 3 → ℕ) a + S1x256x1024.size a ≤ S1x512x1024.size a) (r : Fin 256) (d : Fin 512) :
    k0_pay25 (tH x0 x1 x2 x3 x4 x5 ρ i) (View.ld x6 (Rect.unit (s := S1024x2304) ![0, 512] S1024x512.size inb_S1024x2304_S1024x512_0_512)) (ix2 r d) = (proj X MOD GA WG WU WD WIN (ρ + r.val)) (512 + d.val) :=
  (wide _ _ r d).trans (proj_sum x0 x1 x2 x3 x4 x5 x6 X MOD GA WG WU WD WIN h0 h1 h2 h3 h4 h5 h6 ρ i r _ _ (fun l => (h6 _).trans (congrArg₂ WIN (emb_val _ _ _ _ _ _ (Nat.zero_add _)) (emb_val _ _ _ _ _ _ rfl))))

/-- The values of mixer A. -/
theorem va_apply (ρ : ℕ) (i : ∀ a, (![0, ρ, 0] : Fin 3 → ℕ) a + S1x256x1024.size a ≤ S1x512x1024.size a) (r : Fin 256) (d : Fin 512) :
    k0_pay25 (tH x0 x1 x2 x3 x4 x5 ρ i) (View.ld x6 (Rect.unit (s := S1024x2304) ![0, 1024] S1024x512.size inb_S1024x2304_S1024x512_0_1024)) (ix2 r d) = (proj X MOD GA WG WU WD WIN (ρ + r.val)) (1024 + d.val) :=
  (wide _ _ r d).trans (proj_sum x0 x1 x2 x3 x4 x5 x6 X MOD GA WG WU WD WIN h0 h1 h2 h3 h4 h5 h6 ρ i r _ _ (fun l => (h6 _).trans (congrArg₂ WIN (emb_val _ _ _ _ _ _ (Nat.zero_add _)) (emb_val _ _ _ _ _ _ rfl))))

/-- The keys of mixer B. -/
theorem kb_apply (ρ : ℕ) (i : ∀ a, (![0, ρ, 0] : Fin 3 → ℕ) a + S1x256x1024.size a ≤ S1x512x1024.size a) (r : Fin 256) (d : Fin 128) :
    k0_pay36 (tH x0 x1 x2 x3 x4 x5 ρ i) (View.ld x6 (Rect.unit (s := S1024x2304) ![0, 2048] S1024x256.size inb_S1024x2304_S1024x256_0_2048)) (ix2 r d) = (proj X MOD GA WG WU WD WIN (ρ + r.val)) (2048 + d.val) :=
  (narrow_first _ _ r d).trans (proj_sum x0 x1 x2 x3 x4 x5 x6 X MOD GA WG WU WD WIN h0 h1 h2 h3 h4 h5 h6 ρ i r _ _ (fun l => (h6 _).trans (congrArg₂ WIN (emb_val _ _ _ _ _ _ (Nat.zero_add _)) (emb_val _ _ _ _ _ _ rfl))))

/-- The values of mixer B. -/
theorem vb_apply (ρ : ℕ) (i : ∀ a, (![0, ρ, 0] : Fin 3 → ℕ) a + S1x256x1024.size a ≤ S1x512x1024.size a) (r : Fin 256) (d : Fin 128) :
    k0_pay37 (tH x0 x1 x2 x3 x4 x5 ρ i) (View.ld x6 (Rect.unit (s := S1024x2304) ![0, 2048] S1024x256.size inb_S1024x2304_S1024x256_0_2048)) (ix2 r d) = (proj X MOD GA WG WU WD WIN (ρ + r.val)) (2176 + d.val) :=
  (narrow_second _ _ r d).trans (proj_sum x0 x1 x2 x3 x4 x5 x6 X MOD GA WG WU WD WIN h0 h1 h2 h3 h4 h5 h6 ρ i r _ _
    (fun l => (h6 _).trans (congrArg₂ WIN (emb_val _ _ _ _ _ _ (Nat.zero_add _)) (emb_val _ _ _ _ _ _ (show (2048 : ℕ) + (128 + d.val) = 2176 + d.val by omega)))))

/-- The scaled queries of mixer A. -/
theorem sa_apply (ρ : ℕ) (i : ∀ a, (![0, ρ, 0] : Fin 3 → ℕ) a + S1x256x1024.size a ≤ S1x512x1024.size a) (r : Fin 256) (d : Fin 512) :
    k0_pay21 (tH x0 x1 x2 x3 x4 x5 ρ i) (View.ld x6 (Rect.unit (s := S1024x2304) ![0, 0] S1024x512.size inb_S1024x2304_S1024x512_0_0)) (ix2 r d) = (proj X MOD GA WG WU WD WIN (ρ + r.val)) d.val * qscale :=
  (scaled _ _ r d).trans (congrArg (· * qscale) (proj_sum x0 x1 x2 x3 x4 x5 x6 X MOD GA WG WU WD WIN h0 h1 h2 h3 h4 h5 h6 ρ i r _ _ (fun l => (h6 _).trans (congrArg₂ WIN (emb_val _ _ _ _ _ _ (Nat.zero_add _)) (emb_val _ _ _ _ _ _ (Nat.zero_add _))))))

/-- The scaled queries of mixer B. -/
theorem sb_apply (ρ : ℕ) (i : ∀ a, (![0, ρ, 0] : Fin 3 → ℕ) a + S1x256x1024.size a ≤ S1x512x1024.size a) (r : Fin 256) (d : Fin 512) :
    k0_pay27 (tH x0 x1 x2 x3 x4 x5 ρ i) (View.ld x6 (Rect.unit (s := S1024x2304) ![0, 1536] S1024x512.size inb_S1024x2304_S1024x512_0_1536)) (ix2 r d) = (proj X MOD GA WG WU WD WIN (ρ + r.val)) (1536 + d.val) * qscale :=
  (congrFun (scaled_same _ _) _).trans ((scaled _ _ r d).trans (congrArg (· * qscale) (proj_sum x0 x1 x2 x3 x4 x5 x6 X MOD GA WG WU WD WIN h0 h1 h2 h3 h4 h5 h6 ρ i r _ _ (fun l => (h6 _).trans (congrArg₂ WIN (emb_val _ _ _ _ _ _ (Nat.zero_add _)) (emb_val _ _ _ _ _ _ rfl))))))

/-- The stored queries of mixer A, first heads. -/
theorem qa_apply (ρ : ℕ) (i : ∀ a, (![0, ρ, 0] : Fin 3 → ℕ) a + S1x256x1024.size a ≤ S1x512x1024.size a) (r : Fin 256) (d : Fin 512) :
    k0_pay23 (tH x0 x1 x2 x3 x4 x5 ρ i) (View.ld x6 (Rect.unit (s := S1024x2304) ![0, 0] S1024x512.size inb_S1024x2304_S1024x512_0_0)) (ix2 r d) = queryA (proj X MOD GA WG WU WD WIN (ρ + r.val)) d.val := by
  refine (qa_first _ _ r d).trans ?_
  rw [sa_apply x0 x1 x2 x3 x4 x5 x6 X MOD GA WG WU WD WIN h0 h1 h2 h3 h4 h5 h6]
  unfold queryA
  rw [if_pos d.isLt]

/-- The stored queries of mixer A, second heads. -/
theorem qa_apply' (ρ : ℕ) (i : ∀ a, (![0, ρ, 0] : Fin 3 → ℕ) a + S1x256x1024.size a ≤ S1x512x1024.size a) (r : Fin 256) (d : Fin 512) :
    k0_pay24 (tH x0 x1 x2 x3 x4 x5 ρ i) (View.ld x6 (Rect.unit (s := S1024x2304) ![0, 0] S1024x512.size inb_S1024x2304_S1024x512_0_0)) (ix2 r d) = queryA (proj X MOD GA WG WU WD WIN (ρ + r.val)) (512 + d.val) := by
  refine (qa_second _ _ r d).trans ?_
  rw [sa_apply x0 x1 x2 x3 x4 x5 x6 X MOD GA WG WU WD WIN h0 h1 h2 h3 h4 h5 h6]
  unfold queryA
  rw [if_neg (show ¬ 512 + d.val < 512 by omega), show 512 + d.val - 512 = d.val by omega]

/-- The stored queries of mixer B, first heads. -/
theorem qb_apply (ρ : ℕ) (i : ∀ a, (![0, ρ, 0] : Fin 3 → ℕ) a + S1x256x1024.size a ≤ S1x512x1024.size a) (r : Fin 256) (d : Fin 512) :
    k0_pay29 (tH x0 x1 x2 x3 x4 x5 ρ i) (View.ld x6 (Rect.unit (s := S1024x2304) ![0, 1536] S1024x512.size inb_S1024x2304_S1024x512_0_1536)) (ix2 r d) = queryB (proj X MOD GA WG WU WD WIN (ρ + r.val)) d.val := by
  refine (qb_first _ _ r d).trans ?_
  rw [sb_apply x0 x1 x2 x3 x4 x5 x6 X MOD GA WG WU WD WIN h0 h1 h2 h3 h4 h5 h6]
  unfold queryB
  rw [if_pos d.isLt]

/-- The stored queries of mixer B, second heads. -/
theorem qb_apply' (ρ : ℕ) (i : ∀ a, (![0, ρ, 0] : Fin 3 → ℕ) a + S1x256x1024.size a ≤ S1x512x1024.size a) (r : Fin 256) (d : Fin 512) :
    k0_pay32 (k0_pay27 (tH x0 x1 x2 x3 x4 x5 ρ i) (View.ld x6 (Rect.unit (s := S1024x2304) ![0, 1536] S1024x512.size inb_S1024x2304_S1024x512_0_1536))) (k0_pay28 (F := Ideal)) (k0_pay30 (tH x0 x1 x2 x3 x4 x5 ρ i) (View.ld x6 (Rect.unit (s := S1024x2304) ![0, 1536] S1024x512.size inb_S1024x2304_S1024x512_0_1536))) (k0_pay31 (tH x0 x1 x2 x3 x4 x5 ρ i) (View.ld x6 (Rect.unit (s := S1024x2304) ![0, 1536] S1024x512.size inb_S1024x2304_S1024x512_0_1536))) (ix2 r d)
      = queryB (proj X MOD GA WG WU WD WIN (ρ + r.val)) (512 + d.val) := by
  refine (qb_second _ _ r d).trans ?_
  rw [sb_apply x0 x1 x2 x3 x4 x5 x6 X MOD GA WG WU WD WIN h0 h1 h2 h3 h4 h5 h6]
  unfold queryB
  rw [if_neg (show ¬ 512 + d.val < 512 by omega), show 512 + d.val - 512 = d.val by omega]
  rw [show 1536 + (256 + (d.val / 128 * 64 + d.val % 64)) = 1792 + (d.val / 128 * 64 + d.val % 64) by omega]
end

end Cert.Kernel3Ideal.Qkv
end
-- ==== Proof.QkvWord.lean ====
module

public import proofs.«01_k».proof.Proof.QkvTile

@[expose] public section

set_option maxRecDepth 100000

noncomputable section

/-! What the body computes of a block, in both of its cases: the two tiles. -/

namespace Cert.Kernel3Ideal.Qkv

open Cert.Kernel3Ideal Cert.Kernel3Ideal.Gen Idealize.ShloMosaic Idealize.ShloMosaic.TcCoe Cert.Ffn

section
variable (x0 : Vec Ideal S1x512x1024 .f32) (x1 : Vec Ideal S9x1x1x1024 .f32) (x2 : Vec Ideal S6x1024 .f32)
  (x3 x4 : Vec Ideal S1024x2816 .bf16) (x5 : Vec Ideal S2816x1024 .bf16) (x6 : Vec Ideal S1024x2304 .bf16)
/-- The first tile after the half step. -/
theorem v142_A (c : Dev nD) (t : Fin cfg0.N) :
    kernelRun0_A.sl.v142 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5
      = tX x0 x1 x2 x3 x4 x5 0 inb_S1x512x1024_S1x256x1024_0_0_0 := by
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread]
  rfl

/-- The first tile, the mixers' input. -/
theorem v169_A (c : Dev nD) (t : Fin cfg0.N) :
    kernelRun0_A.sl.v169 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5
      = tH x0 x1 x2 x3 x4 x5 0 inb_S1x512x1024_S1x256x1024_0_0_0 := by
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread]
  rfl

/-- The second tile after the half step. -/
theorem v190_A (c : Dev nD) (t : Fin cfg0.N) :
    kernelRun0_A.sl.v190 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5
      = tX x0 x1 x2 x3 x4 x5 256 inb_S1x512x1024_S1x256x1024_0_256_0 := by
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread]
  rfl

/-- The second tile, the mixers' input. -/
theorem v217_A (c : Dev nD) (t : Fin cfg0.N) :
    kernelRun0_A.sl.v217 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5
      = tH x0 x1 x2 x3 x4 x5 256 inb_S1x512x1024_S1x256x1024_0_256_0 := by
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread]
  rfl

/-- The first tile after the half step. -/
theorem v142_B (c : Dev nD) (t : Fin cfg0.N) :
    kernelRun0_B.sl.v142 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5
      = tX x0 x1 x2 x3 x4 x5 0 inb_S1x512x1024_S1x256x1024_0_0_0 := by
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread]
  rfl

/-- The first tile, the mixers' input. -/
theorem v169_B (c : Dev nD) (t : Fin cfg0.N) :
    kernelRun0_B.sl.v169 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5
      = tH x0 x1 x2 x3 x4 x5 0 inb_S1x512x1024_S1x256x1024_0_0_0 := by
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread]
  rfl

/-- The second tile after the half step. -/
theorem v190_B (c : Dev nD) (t : Fin cfg0.N) :
    kernelRun0_B.sl.v190 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5
      = tX x0 x1 x2 x3 x4 x5 256 inb_S1x512x1024_S1x256x1024_0_256_0 := by
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread]
  rfl

/-- The second tile, the mixers' input. -/
theorem v217_B (c : Dev nD) (t : Fin cfg0.N) :
    kernelRun0_B.sl.v217 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5
      = tH x0 x1 x2 x3 x4 x5 256 inb_S1x512x1024_S1x256x1024_0_256_0 := by
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread]
  rfl

end

end Cert.Kernel3Ideal.Qkv
end
-- ==== Proof.QkvBlockA.lean ====
module

public import proofs.«01_k».proof.Proof.QkvWord
public import proofs.«01_k».proof.Proof.Jobs

@[expose] public section

set_option maxRecDepth 100000

noncomputable section

/-! The blocks the body leaves. -/

namespace Cert.Kernel3Ideal.Qkv

open Cert.Kernel3Ideal Cert.Kernel3Ideal.Gen Idealize.ShloMosaic Idealize.ShloMosaic.TcCoe Cert.Ffn

open Cert.Kernel2Ideal.Ffn (exists_ix3 emb_val)
open Cert.KernelIdeal.Attn (exists_ix2)

section
variable (x0 : Vec Ideal S1x512x1024 .f32) (x1 : Vec Ideal S9x1x1x1024 .f32) (x2 : Vec Ideal S6x1024 .f32)
  (x3 x4 : Vec Ideal S1024x2816 .bf16) (x5 : Vec Ideal S2816x1024 .bf16) (x6 : Vec Ideal S1024x2304 .bf16)
  (X MOD GA WG WU WD WIN : ℕ → ℕ → EReal)
  (h0 : ∀ y : S1x512x1024.Idx, x0 y = X (y 1).val (y 2).val)
  (h1 : ∀ y : S9x1x1x1024.Idx, x1 y = MOD (y 0).val (y 3).val)
  (h2 : ∀ y : S6x1024.Idx, x2 y = GA (y 0).val (y 1).val)
  (h3 : ∀ y : S1024x2816.Idx, x3 y = WG (y 0).val (y 1).val)
  (h4 : ∀ y : S1024x2816.Idx, x4 y = WU (y 0).val (y 1).val)
  (h5 : ∀ y : S2816x1024.Idx, x5 y = WD (y 0).val (y 1).val)
  (h6 : ∀ y : S1024x2304.Idx, x6 y = WIN (y 0).val (y 1).val)
include h0 h1 h2 h3 h4 h5 in
/-- The residual stream of a block. -/
theorem out7_A (c : Dev nD) (t : Fin cfg0.N) (hc : ¬cond0_0 (grid0.coords t)) (y : S1x512x1024.Idx) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => firstRow (X a) MOD GA WG WU WD b) (y 1).val (y 2).val := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .f32) (fun y : S1x512x1024.Idx => (fun a b : ℕ => firstRow (X a) MOD GA WG WU WD b) (y 1).val (y 2).val) _ ?_ y (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_A
  dsimp only
  simp only [List.forall_mem_cons, List.not_mem_nil, false_imp_iff, implies_true, and_true]
  refine ⟨?_, ?_⟩
  · intro x
    obtain ⟨r, d, rfl⟩ := exists_ix3 (a := 256) (b := 1024) x
    exact (congrFun (v190_A x0 x1 x2 x3 x4 x5 c t) _).trans ((tX_apply x0 x1 x2 x3 x4 x5 X MOD GA WG WU WD h0 h1 h2 h3 h4 h5 256 inb_S1x512x1024_S1x256x1024_0_256_0 r d).trans
      (congrArg₂ (fun a b : ℕ => firstRow (X a) MOD GA WG WU WD b) (emb_val (s := S1x512x1024) ![0, 256, 0] S1x256x1024.size inb_S1x512x1024_S1x256x1024_0_256_0 (ix3 0 r d) 1 _ rfl).symm (emb_val (s := S1x512x1024) ![0, 256, 0] S1x256x1024.size inb_S1x512x1024_S1x256x1024_0_256_0 (ix3 0 r d) 2 _ (Nat.zero_add _)).symm))
  · intro x
    obtain ⟨r, d, rfl⟩ := exists_ix3 (a := 256) (b := 1024) x
    exact (congrFun (v142_A x0 x1 x2 x3 x4 x5 c t) _).trans ((tX_apply x0 x1 x2 x3 x4 x5 X MOD GA WG WU WD h0 h1 h2 h3 h4 h5 0 inb_S1x512x1024_S1x256x1024_0_0_0 r d).trans
      (congrArg₂ (fun a b : ℕ => firstRow (X a) MOD GA WG WU WD b) (emb_val (s := S1x512x1024) ![0, 0, 0] S1x256x1024.size inb_S1x512x1024_S1x256x1024_0_0_0 (ix3 0 r d) 1 _ rfl).symm (emb_val (s := S1x512x1024) ![0, 0, 0] S1x256x1024.size inb_S1x512x1024_S1x256x1024_0_0_0 (ix3 0 r d) 2 _ (Nat.zero_add _)).symm))

include h0 h1 h2 h3 h4 h5 h6 in
/-- Mixer A's queries of a block. -/
theorem out8_A (c : Dev nD) (t : Fin cfg0.N) (hc : ¬cond0_0 (grid0.coords t)) (y : S512x1024.Idx) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => queryA (proj X MOD GA WG WU WD WIN a) b) (y 0).val (y 1).val := by
  unfold out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x1024.Idx => (fun a b : ℕ => queryA (proj X MOD GA WG WU WD WIN a) b) (y 0).val (y 1).val) _ ?_ y (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_A
  dsimp only
  simp only [List.forall_mem_cons, List.not_mem_nil, false_imp_iff, implies_true, and_true]
  simp only [kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, (hs0_0 t).read_unread, (hs0_1 t).read_unread, (hs0_2 t).read_unread, (hs0_3 t).read_unread, (hs0_4 t).read_unread, (hs0_5 t).read_unread, (hs0_6 t).read_unread, v169_A, v217_A]
  refine ⟨?_, ?_, ?_, ?_⟩
  · intro x
    obtain ⟨r, d, rfl⟩ := exists_ix2 (a := 256) (b := 512) x
    refine Eq.trans ?_ ((qa_apply' x0 x1 x2 x3 x4 x5 x6 X MOD GA WG WU WD WIN h0 h1 h2 h3 h4 h5 h6 256 inb_S1x512x1024_S1x256x1024_0_256_0 r d).trans
      (congrArg₂ (fun a b : ℕ => queryA (proj X MOD GA WG WU WD WIN a) b) (emb_val (s := S512x1024) ![256, 512] S256x512.size inb_S512x1024_S256x512_256_512 (ix2 r d) 0 _ rfl).symm (emb_val (s := S512x1024) ![256, 512] S256x512.size inb_S512x1024_S256x512_256_512 (ix2 r d) 1 _ rfl).symm))
    exact congrFun (second_qa' _ _) _
  · intro x
    obtain ⟨r, d, rfl⟩ := exists_ix2 (a := 256) (b := 512) x
    refine Eq.trans ?_ ((qa_apply x0 x1 x2 x3 x4 x5 x6 X MOD GA WG WU WD WIN h0 h1 h2 h3 h4 h5 h6 256 inb_S1x512x1024_S1x256x1024_0_256_0 r d).trans
      (congrArg₂ (fun a b : ℕ => queryA (proj X MOD GA WG WU WD WIN a) b) (emb_val (s := S512x1024) ![256, 0] S256x512.size inb_S512x1024_S256x512_256_0 (ix2 r d) 0 _ rfl).symm (emb_val (s := S512x1024) ![256, 0] S256x512.size inb_S512x1024_S256x512_256_0 (ix2 r d) 1 _ (Nat.zero_add _)).symm))
    exact congrFun (second_qa _ _) _
  · intro x
    obtain ⟨r, d, rfl⟩ := exists_ix2 (a := 256) (b := 512) x
    refine Eq.trans ?_ ((qa_apply' x0 x1 x2 x3 x4 x5 x6 X MOD GA WG WU WD WIN h0 h1 h2 h3 h4 h5 h6 0 inb_S1x512x1024_S1x256x1024_0_0_0 r d).trans
      (congrArg₂ (fun a b : ℕ => queryA (proj X MOD GA WG WU WD WIN a) b) (emb_val (s := S512x1024) ![0, 512] S256x512.size inb_S512x1024_S256x512_0_512 (ix2 r d) 0 _ rfl).symm (emb_val (s := S512x1024) ![0, 512] S256x512.size inb_S512x1024_S256x512_0_512 (ix2 r d) 1 _ rfl).symm))
    exact rfl
  · intro x
    obtain ⟨r, d, rfl⟩ := exists_ix2 (a := 256) (b := 512) x
    refine Eq.trans ?_ ((qa_apply x0 x1 x2 x3 x4 x5 x6 X MOD GA WG WU WD WIN h0 h1 h2 h3 h4 h5 h6 0 inb_S1x512x1024_S1x256x1024_0_0_0 r d).trans
      (congrArg₂ (fun a b : ℕ => queryA (proj X MOD GA WG WU WD WIN a) b) (emb_val (s := S512x1024) ![0, 0] S256x512.size inb_S512x1024_S256x512_0_0 (ix2 r d) 0 _ rfl).symm (emb_val (s := S512x1024) ![0, 0] S256x512.size inb_S512x1024_S256x512_0_0 (ix2 r d) 1 _ (Nat.zero_add _)).symm))
    exact rfl

include h0 h1 h2 h3 h4 h5 h6 in
/-- Mixer A's keys of a block. -/
theorem out9_A (c : Dev nD) (t : Fin cfg0.N) (hc : ¬cond0_0 (grid0.coords t)) (y : S512x512.Idx) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN a (512 + b)) (y 0).val (y 1).val := by
  unfold out0_A_9
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x512.Idx => (fun a b : ℕ => proj X MOD GA WG WU WD WIN a (512 + b)) (y 0).val (y 1).val) _ ?_ y (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_A
  dsimp only
  simp only [List.forall_mem_cons, List.not_mem_nil, false_imp_iff, implies_true, and_true]
  simp only [kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, (hs0_0 t).read_unread, (hs0_1 t).read_unread, (hs0_2 t).read_unread, (hs0_3 t).read_unread, (hs0_4 t).read_unread, (hs0_5 t).read_unread, (hs0_6 t).read_unread, v169_A, v217_A]
  refine ⟨?_, ?_⟩
  · intro x
    obtain ⟨r, d, rfl⟩ := exists_ix2 (a := 256) (b := 512) x
    refine Eq.trans ?_ ((ka_apply x0 x1 x2 x3 x4 x5 x6 X MOD GA WG WU WD WIN h0 h1 h2 h3 h4 h5 h6 256 inb_S1x512x1024_S1x256x1024_0_256_0 r d).trans
      (congrArg₂ (fun a b : ℕ => proj X MOD GA WG WU WD WIN a (512 + b)) (emb_val (s := S512x512) ![256, 0] S256x512.size inb_S512x512_S256x512_256_0 (ix2 r d) 0 _ rfl).symm (emb_val (s := S512x512) ![256, 0] S256x512.size inb_S512x512_S256x512_256_0 (ix2 r d) 1 _ (Nat.zero_add _)).symm))
    exact rfl
  · intro x
    obtain ⟨r, d, rfl⟩ := exists_ix2 (a := 256) (b := 512) x
    refine Eq.trans ?_ ((ka_apply x0 x1 x2 x3 x4 x5 x6 X MOD GA WG WU WD WIN h0 h1 h2 h3 h4 h5 h6 0 inb_S1x512x1024_S1x256x1024_0_0_0 r d).trans
      (congrArg₂ (fun a b : ℕ => proj X MOD GA WG WU WD WIN a (512 + b)) (emb_val (s := S512x512) ![0, 0] S256x512.size inb_S512x512_S256x512_0_0 (ix2 r d) 0 _ rfl).symm (emb_val (s := S512x512) ![0, 0] S256x512.size inb_S512x512_S256x512_0_0 (ix2 r d) 1 _ (Nat.zero_add _)).symm))
    exact rfl

include h0 h1 h2 h3 h4 h5 h6 in
/-- Mixer A's values of a block. -/
theorem out10_A (c : Dev nD) (t : Fin cfg0.N) (hc : ¬cond0_0 (grid0.coords t)) (y : S512x512.Idx) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN a (1024 + b)) (y 0).val (y 1).val := by
  unfold out0_A_10
  rw [View.read_writes_eq_canon _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x512.Idx => (fun a b : ℕ => proj X MOD GA WG WU WD WIN a (1024 + b)) (y 0).val (y 1).val) _ ?_ y (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_A
  dsimp only
  simp only [List.forall_mem_cons, List.not_mem_nil, false_imp_iff, implies_true, and_true]
  simp only [kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, (hs0_0 t).read_unread, (hs0_1 t).read_unread, (hs0_2 t).read_unread, (hs0_3 t).read_unread, (hs0_4 t).read_unread, (hs0_5 t).read_unread, (hs0_6 t).read_unread, v169_A, v217_A]
  refine ⟨?_, ?_⟩
  · intro x
    obtain ⟨r, d, rfl⟩ := exists_ix2 (a := 256) (b := 512) x
    refine Eq.trans ?_ ((va_apply x0 x1 x2 x3 x4 x5 x6 X MOD GA WG WU WD WIN h0 h1 h2 h3 h4 h5 h6 256 inb_S1x512x1024_S1x256x1024_0_256_0 r d).trans
      (congrArg₂ (fun a b : ℕ => proj X MOD GA WG WU WD WIN a (1024 + b)) (emb_val (s := S512x512) ![256, 0] S256x512.size inb_S512x512_S256x512_256_0 (ix2 r d) 0 _ rfl).symm (emb_val (s := S512x512) ![256, 0] S256x512.size inb_S512x512_S256x512_256_0 (ix2 r d) 1 _ (Nat.zero_add _)).symm))
    exact rfl
  · intro x
    obtain ⟨r, d, rfl⟩ := exists_ix2 (a := 256) (b := 512) x
    refine Eq.trans ?_ ((va_apply x0 x1 x2 x3 x4 x5 x6 X MOD GA WG WU WD WIN h0 h1 h2 h3 h4 h5 h6 0 inb_S1x512x1024_S1x256x1024_0_0_0 r d).trans
      (congrArg₂ (fun a b : ℕ => proj X MOD GA WG WU WD WIN a (1024 + b)) (emb_val (s := S512x512) ![0, 0] S256x512.size inb_S512x512_S256x512_0_0 (ix2 r d) 0 _ rfl).symm (emb_val (s := S512x512) ![0, 0] S256x512.size inb_S512x512_S256x512_0_0 (ix2 r d) 1 _ (Nat.zero_add _)).symm))
    exact rfl

include h0 h1 h2 h3 h4 h5 h6 in
/-- Mixer B's queries of a block. -/
theorem out11_A (c : Dev nD) (t : Fin cfg0.N) (hc : ¬cond0_0 (grid0.coords t)) (y : S512x1024.Idx) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => queryB (proj X MOD GA WG WU WD WIN a) b) (y 0).val (y 1).val := by
  unfold out0_A_11
  rw [View.read_writes_eq_canon _ _ _ (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x1024.Idx => (fun a b : ℕ => queryB (proj X MOD GA WG WU WD WIN a) b) (y 0).val (y 1).val) _ ?_ y (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_A
  dsimp only
  simp only [List.forall_mem_cons, List.not_mem_nil, false_imp_iff, implies_true, and_true]
  simp only [kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, (hs0_0 t).read_unread, (hs0_1 t).read_unread, (hs0_2 t).read_unread, (hs0_3 t).read_unread, (hs0_4 t).read_unread, (hs0_5 t).read_unread, (hs0_6 t).read_unread, v169_A, v217_A]
  refine ⟨?_, ?_, ?_, ?_⟩
  · intro x
    obtain ⟨r, d, rfl⟩ := exists_ix2 (a := 256) (b := 512) x
    refine Eq.trans ?_ ((qb_apply' x0 x1 x2 x3 x4 x5 x6 X MOD GA WG WU WD WIN h0 h1 h2 h3 h4 h5 h6 256 inb_S1x512x1024_S1x256x1024_0_256_0 r d).trans
      (congrArg₂ (fun a b : ℕ => queryB (proj X MOD GA WG WU WD WIN a) b) (emb_val (s := S512x1024) ![256, 512] S256x512.size inb_S512x1024_S256x512_256_512 (ix2 r d) 0 _ rfl).symm (emb_val (s := S512x1024) ![256, 512] S256x512.size inb_S512x1024_S256x512_256_512 (ix2 r d) 1 _ rfl).symm))
    exact congrFun (second_qb' _ _) _
  · intro x
    obtain ⟨r, d, rfl⟩ := exists_ix2 (a := 256) (b := 512) x
    refine Eq.trans ?_ ((qb_apply x0 x1 x2 x3 x4 x5 x6 X MOD GA WG WU WD WIN h0 h1 h2 h3 h4 h5 h6 256 inb_S1x512x1024_S1x256x1024_0_256_0 r d).trans
      (congrArg₂ (fun a b : ℕ => queryB (proj X MOD GA WG WU WD WIN a) b) (emb_val (s := S512x1024) ![256, 0] S256x512.size inb_S512x1024_S256x512_256_0 (ix2 r d) 0 _ rfl).symm (emb_val (s := S512x1024) ![256, 0] S256x512.size inb_S512x1024_S256x512_256_0 (ix2 r d) 1 _ (Nat.zero_add _)).symm))
    exact congrFun (second_qb _ _) _
  · intro x
    obtain ⟨r, d, rfl⟩ := exists_ix2 (a := 256) (b := 512) x
    refine Eq.trans ?_ ((qb_apply' x0 x1 x2 x3 x4 x5 x6 X MOD GA WG WU WD WIN h0 h1 h2 h3 h4 h5 h6 0 inb_S1x512x1024_S1x256x1024_0_0_0 r d).trans
      (congrArg₂ (fun a b : ℕ => queryB (proj X MOD GA WG WU WD WIN a) b) (emb_val (s := S512x1024) ![0, 512] S256x512.size inb_S512x1024_S256x512_0_512 (ix2 r d) 0 _ rfl).symm (emb_val (s := S512x1024) ![0, 512] S256x512.size inb_S512x1024_S256x512_0_512 (ix2 r d) 1 _ rfl).symm))
    exact rfl
  · intro x
    obtain ⟨r, d, rfl⟩ := exists_ix2 (a := 256) (b := 512) x
    refine Eq.trans ?_ ((qb_apply x0 x1 x2 x3 x4 x5 x6 X MOD GA WG WU WD WIN h0 h1 h2 h3 h4 h5 h6 0 inb_S1x512x1024_S1x256x1024_0_0_0 r d).trans
      (congrArg₂ (fun a b : ℕ => queryB (proj X MOD GA WG WU WD WIN a) b) (emb_val (s := S512x1024) ![0, 0] S256x512.size inb_S512x1024_S256x512_0_0 (ix2 r d) 0 _ rfl).symm (emb_val (s := S512x1024) ![0, 0] S256x512.size inb_S512x1024_S256x512_0_0 (ix2 r d) 1 _ (Nat.zero_add _)).symm))
    exact rfl

include h0 h1 h2 h3 h4 h5 h6 in
/-- Mixer B's keys of a block. -/
theorem out12_A (c : Dev nD) (t : Fin cfg0.N) (hc : ¬cond0_0 (grid0.coords t)) (y : S512x128.Idx) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN a (2048 + b)) (y 0).val (y 1).val := by
  unfold out0_A_12
  rw [View.read_writes_eq_canon _ _ _ (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x128.Idx => (fun a b : ℕ => proj X MOD GA WG WU WD WIN a (2048 + b)) (y 0).val (y 1).val) _ ?_ y (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_A
  dsimp only
  simp only [List.forall_mem_cons, List.not_mem_nil, false_imp_iff, implies_true, and_true]
  simp only [kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, (hs0_0 t).read_unread, (hs0_1 t).read_unread, (hs0_2 t).read_unread, (hs0_3 t).read_unread, (hs0_4 t).read_unread, (hs0_5 t).read_unread, (hs0_6 t).read_unread, v169_A, v217_A]
  refine ⟨?_, ?_⟩
  · intro x
    obtain ⟨r, d, rfl⟩ := exists_ix2 (a := 256) (b := 128) x
    refine Eq.trans ?_ ((kb_apply x0 x1 x2 x3 x4 x5 x6 X MOD GA WG WU WD WIN h0 h1 h2 h3 h4 h5 h6 256 inb_S1x512x1024_S1x256x1024_0_256_0 r d).trans
      (congrArg₂ (fun a b : ℕ => proj X MOD GA WG WU WD WIN a (2048 + b)) (emb_val (s := S512x128) ![256, 0] S256x128.size inb_S512x128_S256x128_256_0 (ix2 r d) 0 _ rfl).symm (emb_val (s := S512x128) ![256, 0] S256x128.size inb_S512x128_S256x128_256_0 (ix2 r d) 1 _ (Nat.zero_add _)).symm))
    exact congrFun (second_kb _ _) _
  · intro x
    obtain ⟨r, d, rfl⟩ := exists_ix2 (a := 256) (b := 128) x
    refine Eq.trans ?_ ((kb_apply x0 x1 x2 x3 x4 x5 x6 X MOD GA WG WU WD WIN h0 h1 h2 h3 h4 h5 h6 0 inb_S1x512x1024_S1x256x1024_0_0_0 r d).trans
      (congrArg₂ (fun a b : ℕ => proj X MOD GA WG WU WD WIN a (2048 + b)) (emb_val (s := S512x128) ![0, 0] S256x128.size inb_S512x128_S256x128_0_0 (ix2 r d) 0 _ rfl).symm (emb_val (s := S512x128) ![0, 0] S256x128.size inb_S512x128_S256x128_0_0 (ix2 r d) 1 _ (Nat.zero_add _)).symm))
    exact rfl

include h0 h1 h2 h3 h4 h5 h6 in
/-- Mixer B's values of a block. -/
theorem out13_A (c : Dev nD) (t : Fin cfg0.N) (hc : ¬cond0_0 (grid0.coords t)) (y : S512x128.Idx) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN a (2176 + b)) (y 0).val (y 1).val := by
  unfold out0_A_13
  rw [View.read_writes_eq_canon _ _ _ (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x128.Idx => (fun a b : ℕ => proj X MOD GA WG WU WD WIN a (2176 + b)) (y 0).val (y 1).val) _ ?_ y (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_A
  dsimp only
  simp only [List.forall_mem_cons, List.not_mem_nil, false_imp_iff, implies_true, and_true]
  simp only [kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, (hs0_0 t).read_unread, (hs0_1 t).read_unread, (hs0_2 t).read_unread, (hs0_3 t).read_unread, (hs0_4 t).read_unread, (hs0_5 t).read_unread, (hs0_6 t).read_unread, v169_A, v217_A]
  refine ⟨?_, ?_⟩
  · intro x
    obtain ⟨r, d, rfl⟩ := exists_ix2 (a := 256) (b := 128) x
    refine Eq.trans ?_ ((vb_apply x0 x1 x2 x3 x4 x5 x6 X MOD GA WG WU WD WIN h0 h1 h2 h3 h4 h5 h6 256 inb_S1x512x1024_S1x256x1024_0_256_0 r d).trans
      (congrArg₂ (fun a b : ℕ => proj X MOD GA WG WU WD WIN a (2176 + b)) (emb_val (s := S512x128) ![256, 0] S256x128.size inb_S512x128_S256x128_256_0 (ix2 r d) 0 _ rfl).symm (emb_val (s := S512x128) ![256, 0] S256x128.size inb_S512x128_S256x128_256_0 (ix2 r d) 1 _ (Nat.zero_add _)).symm))
    exact congrFun (second_vb _ _) _
  · intro x
    obtain ⟨r, d, rfl⟩ := exists_ix2 (a := 256) (b := 128) x
    refine Eq.trans ?_ ((vb_apply x0 x1 x2 x3 x4 x5 x6 X MOD GA WG WU WD WIN h0 h1 h2 h3 h4 h5 h6 0 inb_S1x512x1024_S1x256x1024_0_0_0 r d).trans
      (congrArg₂ (fun a b : ℕ => proj X MOD GA WG WU WD WIN a (2176 + b)) (emb_val (s := S512x128) ![0, 0] S256x128.size inb_S512x128_S256x128_0_0 (ix2 r d) 0 _ rfl).symm (emb_val (s := S512x128) ![0, 0] S256x128.size inb_S512x128_S256x128_0_0 (ix2 r d) 1 _ (Nat.zero_add _)).symm))
    exact rfl

end

end Cert.Kernel3Ideal.Qkv
end
-- ==== Proof.QkvBlockB.lean ====
module

public import proofs.«01_k».proof.Proof.QkvWord
public import proofs.«01_k».proof.Proof.Jobs

@[expose] public section

set_option maxRecDepth 100000

noncomputable section

/-! The blocks the body leaves at the last block of a batch entry. -/

namespace Cert.Kernel3Ideal.Qkv

open Cert.Kernel3Ideal Cert.Kernel3Ideal.Gen Idealize.ShloMosaic Idealize.ShloMosaic.TcCoe Cert.Ffn

open Cert.Kernel2Ideal.Ffn (exists_ix3 emb_val)
open Cert.KernelIdeal.Attn (exists_ix2)

section
variable (x0 : Vec Ideal S1x512x1024 .f32) (x1 : Vec Ideal S9x1x1x1024 .f32) (x2 : Vec Ideal S6x1024 .f32)
  (x3 x4 : Vec Ideal S1024x2816 .bf16) (x5 : Vec Ideal S2816x1024 .bf16) (x6 : Vec Ideal S1024x2304 .bf16)
  (X MOD GA WG WU WD WIN : ℕ → ℕ → EReal)
  (h0 : ∀ y : S1x512x1024.Idx, x0 y = X (y 1).val (y 2).val)
  (h1 : ∀ y : S9x1x1x1024.Idx, x1 y = MOD (y 0).val (y 3).val)
  (h2 : ∀ y : S6x1024.Idx, x2 y = GA (y 0).val (y 1).val)
  (h3 : ∀ y : S1024x2816.Idx, x3 y = WG (y 0).val (y 1).val)
  (h4 : ∀ y : S1024x2816.Idx, x4 y = WU (y 0).val (y 1).val)
  (h5 : ∀ y : S2816x1024.Idx, x5 y = WD (y 0).val (y 1).val)
  (h6 : ∀ y : S1024x2304.Idx, x6 y = WIN (y 0).val (y 1).val)
include h0 h1 h2 h3 h4 h5 in
/-- The residual stream of a block, at the last block of a batch entry. -/
theorem out7_B (c : Dev nD) (t : Fin cfg0.N) (hc : cond0_0 (grid0.coords t)) (y : S1x512x1024.Idx) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => firstRow (X a) MOD GA WG WU WD b) (y 1).val (y 2).val := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .f32) (fun y : S1x512x1024.Idx => (fun a b : ℕ => firstRow (X a) MOD GA WG WU WD b) (y 1).val (y 2).val) _ ?_ y (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  refine ⟨?_, ?_⟩
  · intro x
    obtain ⟨r, d, rfl⟩ := exists_ix3 (a := 256) (b := 1024) x
    exact (congrFun (v190_B x0 x1 x2 x3 x4 x5 c t) _).trans ((tX_apply x0 x1 x2 x3 x4 x5 X MOD GA WG WU WD h0 h1 h2 h3 h4 h5 256 inb_S1x512x1024_S1x256x1024_0_256_0 r d).trans
      (congrArg₂ (fun a b : ℕ => firstRow (X a) MOD GA WG WU WD b) (emb_val (s := S1x512x1024) ![0, 256, 0] S1x256x1024.size inb_S1x512x1024_S1x256x1024_0_256_0 (ix3 0 r d) 1 _ rfl).symm (emb_val (s := S1x512x1024) ![0, 256, 0] S1x256x1024.size inb_S1x512x1024_S1x256x1024_0_256_0 (ix3 0 r d) 2 _ (Nat.zero_add _)).symm))
  · intro x
    obtain ⟨r, d, rfl⟩ := exists_ix3 (a := 256) (b := 1024) x
    exact (congrFun (v142_B x0 x1 x2 x3 x4 x5 c t) _).trans ((tX_apply x0 x1 x2 x3 x4 x5 X MOD GA WG WU WD h0 h1 h2 h3 h4 h5 0 inb_S1x512x1024_S1x256x1024_0_0_0 r d).trans
      (congrArg₂ (fun a b : ℕ => firstRow (X a) MOD GA WG WU WD b) (emb_val (s := S1x512x1024) ![0, 0, 0] S1x256x1024.size inb_S1x512x1024_S1x256x1024_0_0_0 (ix3 0 r d) 1 _ rfl).symm (emb_val (s := S1x512x1024) ![0, 0, 0] S1x256x1024.size inb_S1x512x1024_S1x256x1024_0_0_0 (ix3 0 r d) 2 _ (Nat.zero_add _)).symm))

include h0 h1 h2 h3 h4 h5 h6 in
/-- Mixer A's queries of a block, at the last block of a batch entry. -/
theorem out8_B (c : Dev nD) (t : Fin cfg0.N) (hc : cond0_0 (grid0.coords t)) (y : S512x1024.Idx) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => queryA (proj X MOD GA WG WU WD WIN a) b) (y 0).val (y 1).val := by
  unfold out0_B_8
  rw [View.read_writes_eq_canon _ _ _ (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x1024.Idx => (fun a b : ℕ => queryA (proj X MOD GA WG WU WD WIN a) b) (y 0).val (y 1).val) _ ?_ y (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
  refine ⟨?_, ?_, ?_, ?_⟩
  · intro x
    obtain ⟨r, d, rfl⟩ := exists_ix2 (a := 256) (b := 512) x
    refine Eq.trans ?_ ((qa_apply' x0 x1 x2 x3 x4 x5 x6 X MOD GA WG WU WD WIN h0 h1 h2 h3 h4 h5 h6 256 inb_S1x512x1024_S1x256x1024_0_256_0 r d).trans
      (congrArg₂ (fun a b : ℕ => queryA (proj X MOD GA WG WU WD WIN a) b) (emb_val (s := S512x1024) ![256, 512] S256x512.size inb_S512x1024_S256x512_256_512 (ix2 r d) 0 _ rfl).symm (emb_val (s := S512x1024) ![256, 512] S256x512.size inb_S512x1024_S256x512_256_512 (ix2 r d) 1 _ rfl).symm))
    exact congrFun (second_qa' _ _) _
  · intro x
    obtain ⟨r, d, rfl⟩ := exists_ix2 (a := 256) (b := 512) x
    refine Eq.trans ?_ ((qa_apply x0 x1 x2 x3 x4 x5 x6 X MOD GA WG WU WD WIN h0 h1 h2 h3 h4 h5 h6 256 inb_S1x512x1024_S1x256x1024_0_256_0 r d).trans
      (congrArg₂ (fun a b : ℕ => queryA (proj X MOD GA WG WU WD WIN a) b) (emb_val (s := S512x1024) ![256, 0] S256x512.size inb_S512x1024_S256x512_256_0 (ix2 r d) 0 _ rfl).symm (emb_val (s := S512x1024) ![256, 0] S256x512.size inb_S512x1024_S256x512_256_0 (ix2 r d) 1 _ (Nat.zero_add _)).symm))
    exact congrFun (second_qa _ _) _
  · intro x
    obtain ⟨r, d, rfl⟩ := exists_ix2 (a := 256) (b := 512) x
    refine Eq.trans ?_ ((qa_apply' x0 x1 x2 x3 x4 x5 x6 X MOD GA WG WU WD WIN h0 h1 h2 h3 h4 h5 h6 0 inb_S1x512x1024_S1x256x1024_0_0_0 r d).trans
      (congrArg₂ (fun a b : ℕ => queryA (proj X MOD GA WG WU WD WIN a) b) (emb_val (s := S512x1024) ![0, 512] S256x512.size inb_S512x1024_S256x512_0_512 (ix2 r d) 0 _ rfl).symm (emb_val (s := S512x1024) ![0, 512] S256x512.size inb_S512x1024_S256x512_0_512 (ix2 r d) 1 _ rfl).symm))
    exact rfl
  · intro x
    obtain ⟨r, d, rfl⟩ := exists_ix2 (a := 256) (b := 512) x
    refine Eq.trans ?_ ((qa_apply x0 x1 x2 x3 x4 x5 x6 X MOD GA WG WU WD WIN h0 h1 h2 h3 h4 h5 h6 0 inb_S1x512x1024_S1x256x1024_0_0_0 r d).trans
      (congrArg₂ (fun a b : ℕ => queryA (proj X MOD GA WG WU WD WIN a) b) (emb_val (s := S512x1024) ![0, 0] S256x512.size inb_S512x1024_S256x512_0_0 (ix2 r d) 0 _ rfl).symm (emb_val (s := S512x1024) ![0, 0] S256x512.size inb_S512x1024_S256x512_0_0 (ix2 r d) 1 _ (Nat.zero_add _)).symm))
    exact rfl

include h0 h1 h2 h3 h4 h5 h6 in
/-- Mixer A's keys of a block, at the last block of a batch entry. -/
theorem out9_B (c : Dev nD) (t : Fin cfg0.N) (hc : cond0_0 (grid0.coords t)) (y : S512x512.Idx) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN a (512 + b)) (y 0).val (y 1).val := by
  unfold out0_B_9
  rw [View.read_writes_eq_canon _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x512.Idx => (fun a b : ℕ => proj X MOD GA WG WU WD WIN a (512 + b)) (y 0).val (y 1).val) _ ?_ y (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
  refine ⟨?_, ?_⟩
  · intro x
    obtain ⟨r, d, rfl⟩ := exists_ix2 (a := 256) (b := 512) x
    refine Eq.trans ?_ ((ka_apply x0 x1 x2 x3 x4 x5 x6 X MOD GA WG WU WD WIN h0 h1 h2 h3 h4 h5 h6 256 inb_S1x512x1024_S1x256x1024_0_256_0 r d).trans
      (congrArg₂ (fun a b : ℕ => proj X MOD GA WG WU WD WIN a (512 + b)) (emb_val (s := S512x512) ![256, 0] S256x512.size inb_S512x512_S256x512_256_0 (ix2 r d) 0 _ rfl).symm (emb_val (s := S512x512) ![256, 0] S256x512.size inb_S512x512_S256x512_256_0 (ix2 r d) 1 _ (Nat.zero_add _)).symm))
    exact rfl
  · intro x
    obtain ⟨r, d, rfl⟩ := exists_ix2 (a := 256) (b := 512) x
    refine Eq.trans ?_ ((ka_apply x0 x1 x2 x3 x4 x5 x6 X MOD GA WG WU WD WIN h0 h1 h2 h3 h4 h5 h6 0 inb_S1x512x1024_S1x256x1024_0_0_0 r d).trans
      (congrArg₂ (fun a b : ℕ => proj X MOD GA WG WU WD WIN a (512 + b)) (emb_val (s := S512x512) ![0, 0] S256x512.size inb_S512x512_S256x512_0_0 (ix2 r d) 0 _ rfl).symm (emb_val (s := S512x512) ![0, 0] S256x512.size inb_S512x512_S256x512_0_0 (ix2 r d) 1 _ (Nat.zero_add _)).symm))
    exact rfl

include h0 h1 h2 h3 h4 h5 h6 in
/-- Mixer A's values of a block, at the last block of a batch entry. -/
theorem out10_B (c : Dev nD) (t : Fin cfg0.N) (hc : cond0_0 (grid0.coords t)) (y : S512x512.Idx) :
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN a (1024 + b)) (y 0).val (y 1).val := by
  unfold out0_B_10
  rw [View.read_writes_eq_canon _ _ _ (cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x512.Idx => (fun a b : ℕ => proj X MOD GA WG WU WD WIN a (1024 + b)) (y 0).val (y 1).val) _ ?_ y (cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
  refine ⟨?_, ?_⟩
  · intro x
    obtain ⟨r, d, rfl⟩ := exists_ix2 (a := 256) (b := 512) x
    refine Eq.trans ?_ ((va_apply x0 x1 x2 x3 x4 x5 x6 X MOD GA WG WU WD WIN h0 h1 h2 h3 h4 h5 h6 256 inb_S1x512x1024_S1x256x1024_0_256_0 r d).trans
      (congrArg₂ (fun a b : ℕ => proj X MOD GA WG WU WD WIN a (1024 + b)) (emb_val (s := S512x512) ![256, 0] S256x512.size inb_S512x512_S256x512_256_0 (ix2 r d) 0 _ rfl).symm (emb_val (s := S512x512) ![256, 0] S256x512.size inb_S512x512_S256x512_256_0 (ix2 r d) 1 _ (Nat.zero_add _)).symm))
    exact rfl
  · intro x
    obtain ⟨r, d, rfl⟩ := exists_ix2 (a := 256) (b := 512) x
    refine Eq.trans ?_ ((va_apply x0 x1 x2 x3 x4 x5 x6 X MOD GA WG WU WD WIN h0 h1 h2 h3 h4 h5 h6 0 inb_S1x512x1024_S1x256x1024_0_0_0 r d).trans
      (congrArg₂ (fun a b : ℕ => proj X MOD GA WG WU WD WIN a (1024 + b)) (emb_val (s := S512x512) ![0, 0] S256x512.size inb_S512x512_S256x512_0_0 (ix2 r d) 0 _ rfl).symm (emb_val (s := S512x512) ![0, 0] S256x512.size inb_S512x512_S256x512_0_0 (ix2 r d) 1 _ (Nat.zero_add _)).symm))
    exact rfl

include h0 h1 h2 h3 h4 h5 h6 in
/-- Mixer B's queries of a block, at the last block of a batch entry. -/
theorem out11_B (c : Dev nD) (t : Fin cfg0.N) (hc : cond0_0 (grid0.coords t)) (y : S512x1024.Idx) :
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => queryB (proj X MOD GA WG WU WD WIN a) b) (y 0).val (y 1).val := by
  unfold out0_B_11
  rw [View.read_writes_eq_canon _ _ _ (cover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x1024.Idx => (fun a b : ℕ => queryB (proj X MOD GA WG WU WD WIN a) b) (y 0).val (y 1).val) _ ?_ y (cover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
  refine ⟨?_, ?_, ?_, ?_⟩
  · intro x
    obtain ⟨r, d, rfl⟩ := exists_ix2 (a := 256) (b := 512) x
    refine Eq.trans ?_ ((qb_apply' x0 x1 x2 x3 x4 x5 x6 X MOD GA WG WU WD WIN h0 h1 h2 h3 h4 h5 h6 256 inb_S1x512x1024_S1x256x1024_0_256_0 r d).trans
      (congrArg₂ (fun a b : ℕ => queryB (proj X MOD GA WG WU WD WIN a) b) (emb_val (s := S512x1024) ![256, 512] S256x512.size inb_S512x1024_S256x512_256_512 (ix2 r d) 0 _ rfl).symm (emb_val (s := S512x1024) ![256, 512] S256x512.size inb_S512x1024_S256x512_256_512 (ix2 r d) 1 _ rfl).symm))
    exact congrFun (second_qb' _ _) _
  · intro x
    obtain ⟨r, d, rfl⟩ := exists_ix2 (a := 256) (b := 512) x
    refine Eq.trans ?_ ((qb_apply x0 x1 x2 x3 x4 x5 x6 X MOD GA WG WU WD WIN h0 h1 h2 h3 h4 h5 h6 256 inb_S1x512x1024_S1x256x1024_0_256_0 r d).trans
      (congrArg₂ (fun a b : ℕ => queryB (proj X MOD GA WG WU WD WIN a) b) (emb_val (s := S512x1024) ![256, 0] S256x512.size inb_S512x1024_S256x512_256_0 (ix2 r d) 0 _ rfl).symm (emb_val (s := S512x1024) ![256, 0] S256x512.size inb_S512x1024_S256x512_256_0 (ix2 r d) 1 _ (Nat.zero_add _)).symm))
    exact congrFun (second_qb _ _) _
  · intro x
    obtain ⟨r, d, rfl⟩ := exists_ix2 (a := 256) (b := 512) x
    refine Eq.trans ?_ ((qb_apply' x0 x1 x2 x3 x4 x5 x6 X MOD GA WG WU WD WIN h0 h1 h2 h3 h4 h5 h6 0 inb_S1x512x1024_S1x256x1024_0_0_0 r d).trans
      (congrArg₂ (fun a b : ℕ => queryB (proj X MOD GA WG WU WD WIN a) b) (emb_val (s := S512x1024) ![0, 512] S256x512.size inb_S512x1024_S256x512_0_512 (ix2 r d) 0 _ rfl).symm (emb_val (s := S512x1024) ![0, 512] S256x512.size inb_S512x1024_S256x512_0_512 (ix2 r d) 1 _ rfl).symm))
    exact rfl
  · intro x
    obtain ⟨r, d, rfl⟩ := exists_ix2 (a := 256) (b := 512) x
    refine Eq.trans ?_ ((qb_apply x0 x1 x2 x3 x4 x5 x6 X MOD GA WG WU WD WIN h0 h1 h2 h3 h4 h5 h6 0 inb_S1x512x1024_S1x256x1024_0_0_0 r d).trans
      (congrArg₂ (fun a b : ℕ => queryB (proj X MOD GA WG WU WD WIN a) b) (emb_val (s := S512x1024) ![0, 0] S256x512.size inb_S512x1024_S256x512_0_0 (ix2 r d) 0 _ rfl).symm (emb_val (s := S512x1024) ![0, 0] S256x512.size inb_S512x1024_S256x512_0_0 (ix2 r d) 1 _ (Nat.zero_add _)).symm))
    exact rfl

include h0 h1 h2 h3 h4 h5 h6 in
/-- Mixer B's keys of a block, at the last block of a batch entry. -/
theorem out12_B (c : Dev nD) (t : Fin cfg0.N) (hc : cond0_0 (grid0.coords t)) (y : S512x128.Idx) :
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN a (2048 + b)) (y 0).val (y 1).val := by
  unfold out0_B_12
  rw [View.read_writes_eq_canon _ _ _ (cover0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x128.Idx => (fun a b : ℕ => proj X MOD GA WG WU WD WIN a (2048 + b)) (y 0).val (y 1).val) _ ?_ y (cover0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
  refine ⟨?_, ?_⟩
  · intro x
    obtain ⟨r, d, rfl⟩ := exists_ix2 (a := 256) (b := 128) x
    refine Eq.trans ?_ ((kb_apply x0 x1 x2 x3 x4 x5 x6 X MOD GA WG WU WD WIN h0 h1 h2 h3 h4 h5 h6 256 inb_S1x512x1024_S1x256x1024_0_256_0 r d).trans
      (congrArg₂ (fun a b : ℕ => proj X MOD GA WG WU WD WIN a (2048 + b)) (emb_val (s := S512x128) ![256, 0] S256x128.size inb_S512x128_S256x128_256_0 (ix2 r d) 0 _ rfl).symm (emb_val (s := S512x128) ![256, 0] S256x128.size inb_S512x128_S256x128_256_0 (ix2 r d) 1 _ (Nat.zero_add _)).symm))
    exact congrFun (second_kb _ _) _
  · intro x
    obtain ⟨r, d, rfl⟩ := exists_ix2 (a := 256) (b := 128) x
    refine Eq.trans ?_ ((kb_apply x0 x1 x2 x3 x4 x5 x6 X MOD GA WG WU WD WIN h0 h1 h2 h3 h4 h5 h6 0 inb_S1x512x1024_S1x256x1024_0_0_0 r d).trans
      (congrArg₂ (fun a b : ℕ => proj X MOD GA WG WU WD WIN a (2048 + b)) (emb_val (s := S512x128) ![0, 0] S256x128.size inb_S512x128_S256x128_0_0 (ix2 r d) 0 _ rfl).symm (emb_val (s := S512x128) ![0, 0] S256x128.size inb_S512x128_S256x128_0_0 (ix2 r d) 1 _ (Nat.zero_add _)).symm))
    exact rfl

include h0 h1 h2 h3 h4 h5 h6 in
/-- Mixer B's values of a block, at the last block of a batch entry. -/
theorem out13_B (c : Dev nD) (t : Fin cfg0.N) (hc : cond0_0 (grid0.coords t)) (y : S512x128.Idx) :
    out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN a (2176 + b)) (y 0).val (y 1).val := by
  unfold out0_B_13
  rw [View.read_writes_eq_canon _ _ _ (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .bf16) (fun y : S512x128.Idx => (fun a b : ℕ => proj X MOD GA WG WU WD WIN a (2176 + b)) (y 0).val (y 1).val) _ ?_ y (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
  refine ⟨?_, ?_⟩
  · intro x
    obtain ⟨r, d, rfl⟩ := exists_ix2 (a := 256) (b := 128) x
    refine Eq.trans ?_ ((vb_apply x0 x1 x2 x3 x4 x5 x6 X MOD GA WG WU WD WIN h0 h1 h2 h3 h4 h5 h6 256 inb_S1x512x1024_S1x256x1024_0_256_0 r d).trans
      (congrArg₂ (fun a b : ℕ => proj X MOD GA WG WU WD WIN a (2176 + b)) (emb_val (s := S512x128) ![256, 0] S256x128.size inb_S512x128_S256x128_256_0 (ix2 r d) 0 _ rfl).symm (emb_val (s := S512x128) ![256, 0] S256x128.size inb_S512x128_S256x128_256_0 (ix2 r d) 1 _ (Nat.zero_add _)).symm))
    exact congrFun (second_vb _ _) _
  · intro x
    obtain ⟨r, d, rfl⟩ := exists_ix2 (a := 256) (b := 128) x
    refine Eq.trans ?_ ((vb_apply x0 x1 x2 x3 x4 x5 x6 X MOD GA WG WU WD WIN h0 h1 h2 h3 h4 h5 h6 0 inb_S1x512x1024_S1x256x1024_0_0_0 r d).trans
      (congrArg₂ (fun a b : ℕ => proj X MOD GA WG WU WD WIN a (2176 + b)) (emb_val (s := S512x128) ![0, 0] S256x128.size inb_S512x128_S256x128_0_0 (ix2 r d) 0 _ rfl).symm (emb_val (s := S512x128) ![0, 0] S256x128.size inb_S512x128_S256x128_0_0 (ix2 r d) 1 _ (Nat.zero_add _)).symm))
    exact rfl

end

end Cert.Kernel3Ideal.Qkv
end
-- ==== Proof.QkvTail.lean ====
module

public import proofs.«01_k».proof.Proof.QkvWord
public import proofs.«01_k».proof.Proof.Jobs

@[expose] public section

set_option maxRecDepth 100000

noncomputable section

/-! The last positions of a batch entry: at its last block the body hands out the keys and values it kept, lanes first. -/

namespace Cert.Kernel3Ideal.Qkv

open Cert.Kernel3Ideal Cert.Kernel3Ideal.Gen Idealize.ShloMosaic Idealize.ShloMosaic.TcCoe Cert.Ffn

open Cert.Kernel2Ideal.Ffn (exists_ix3 emb_val)
open Cert.KernelIdeal.Attn (exists_ix2)

/-- The last keys of mixer B kept by the second tile. -/
theorem kept_kb (h : FVec Ideal S256x1024 .bf16) (w : Vec Ideal S1024x256 .bf16) (r j : Fin 128) :
    k0_pay62 h w (ix2 r j) = ∑ l : Fin 1024, h (ix2 ⟨128 + r.val, by omega⟩ l) * w (ix2 l ⟨j.val, by omega⟩) := by
  pointwise [k0_pay62, k0_pay54, k0_pay53]

/-- The last values of mixer B kept by the second tile. -/
theorem kept_vb (h : FVec Ideal S256x1024 .bf16) (w : Vec Ideal S1024x256 .bf16) (r j : Fin 128) :
    k0_pay63 h w (ix2 r j) = ∑ l : Fin 1024, h (ix2 ⟨128 + r.val, by omega⟩ l) * w (ix2 l ⟨128 + j.val, by omega⟩) := by
  pointwise [k0_pay63, k0_pay55, k0_pay53]

/-- Keeping a tile's first keys changes nothing. -/
theorem kept_38 (v : FVec Ideal S256x512 .f32) (r : Fin 256) (d : Fin 512) : k0_pay38 v (ix2 r d) = v (ix2 r d) := by
  pointwise [k0_pay38]

/-- Keeping a tile's first values changes nothing. -/
theorem kept_39 (v : FVec Ideal S256x512 .f32) (r : Fin 256) (d : Fin 512) : k0_pay39 v (ix2 r d) = v (ix2 r d) := by
  pointwise [k0_pay39]

/-- Keeping a tile's second keys changes nothing. -/
theorem kept_60 (v : FVec Ideal S256x512 .f32) (r : Fin 256) (d : Fin 512) : k0_pay60 v (ix2 r d) = v (ix2 r d) := by
  pointwise [k0_pay60]

/-- Keeping a tile's second values changes nothing. -/
theorem kept_61 (v : FVec Ideal S256x512 .f32) (r : Fin 256) (d : Fin 512) : k0_pay61 v (ix2 r d) = v (ix2 r d) := by
  pointwise [k0_pay61]

/-- Handing out mixer A's keys swaps the axes. -/
theorem swapped_ka (v : Vec Ideal S512x512 .f32) (j p : Fin 512) : k0_pay1 v (ix3 0 j p) = v (ix2 p j) := by
  pointwise [k0_pay1]

/-- Handing out mixer A's values swaps the axes. -/
theorem swapped_va (v : Vec Ideal S512x512 .f32) (j p : Fin 512) : k0_pay2 v (ix3 0 j p) = v (ix2 p j) := by
  pointwise [k0_pay2]

/-- Handing out mixer B's keys swaps the axes. -/
theorem swapped_kb (v : Vec Ideal S128x128 .f32) (j p : Fin 128) : k0_pay3 v (ix3 0 j p) = v (ix2 p j) := by
  pointwise [k0_pay3]

/-- Handing out mixer B's values swaps the axes. -/
theorem swapped_vb (v : Vec Ideal S128x128 .f32) (j p : Fin 128) : k0_pay4 v (ix3 0 j p) = v (ix2 p j) := by
  pointwise [k0_pay4]

section
variable (x0 : Vec Ideal S1x512x1024 .f32) (x1 : Vec Ideal S9x1x1x1024 .f32) (x2 : Vec Ideal S6x1024 .f32)
  (x3 x4 : Vec Ideal S1024x2816 .bf16) (x5 : Vec Ideal S2816x1024 .bf16) (x6 : Vec Ideal S1024x2304 .bf16)
  (X MOD GA WG WU WD WIN : ℕ → ℕ → EReal)
  (h0 : ∀ y : S1x512x1024.Idx, x0 y = X (y 1).val (y 2).val)
  (h1 : ∀ y : S9x1x1x1024.Idx, x1 y = MOD (y 0).val (y 3).val)
  (h2 : ∀ y : S6x1024.Idx, x2 y = GA (y 0).val (y 1).val)
  (h3 : ∀ y : S1024x2816.Idx, x3 y = WG (y 0).val (y 1).val)
  (h4 : ∀ y : S1024x2816.Idx, x4 y = WU (y 0).val (y 1).val)
  (h5 : ∀ y : S2816x1024.Idx, x5 y = WD (y 0).val (y 1).val)
  (h6 : ∀ y : S1024x2304.Idx, x6 y = WIN (y 0).val (y 1).val)
include h0 h1 h2 h3 h4 h5 h6 in
/-- What the body kept of mixer A's keys. -/
theorem v349_B (c : Dev nD) (t : Fin cfg0.N) (p j : Fin 512) :
    kernelRun0_B.sl.v349 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 x0 x1 x2 x3 x4 x5 x6 (ix2 p j) = proj X MOD GA WG WU WD WIN p.val (512 + j.val) := by
  unfold kernelRun0_B.sl.v349
  rw [View.readCov_eq_canon']
  dsimp only
  refine (View.canon_apply_of_pieces (Val := Elt Ideal) (e := .f32) (fun y : S512x512.Idx => (fun a b : ℕ => proj X MOD GA WG WU WD WIN a (512 + b)) (y 0).val (y 1).val) _ ?_ _ ?_).trans ?_
  · unfold kernelRun0_B.sl.HS0_2
    simp only [List.forall_mem_cons, List.not_mem_nil, false_imp_iff, implies_true, and_true]
    simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
    refine ⟨?_, ?_⟩
    · intro x
      obtain ⟨r, d, rfl⟩ := exists_ix2 (a := 256) (b := 512) x
      refine Eq.trans ?_ ((ka_apply x0 x1 x2 x3 x4 x5 x6 X MOD GA WG WU WD WIN h0 h1 h2 h3 h4 h5 h6 256 inb_S1x512x1024_S1x256x1024_0_256_0 r d).trans
        (congrArg₂ (fun a b : ℕ => proj X MOD GA WG WU WD WIN a (512 + b)) (emb_val (s := S512x512) ![256, 0] S256x512.size inb_S512x512_S256x512_256_0 (ix2 r d) 0 _ rfl).symm (emb_val (s := S512x512) ![256, 0] S256x512.size inb_S512x512_S256x512_256_0 (ix2 r d) 1 _ (Nat.zero_add _)).symm))
      exact kept_60 _ r d
    · intro x
      obtain ⟨r, d, rfl⟩ := exists_ix2 (a := 256) (b := 512) x
      refine Eq.trans ?_ ((ka_apply x0 x1 x2 x3 x4 x5 x6 X MOD GA WG WU WD WIN h0 h1 h2 h3 h4 h5 h6 0 inb_S1x512x1024_S1x256x1024_0_0_0 r d).trans
        (congrArg₂ (fun a b : ℕ => proj X MOD GA WG WU WD WIN a (512 + b)) (emb_val (s := S512x512) ![0, 0] S256x512.size inb_S512x512_S256x512_0_0 (ix2 r d) 0 _ rfl).symm (emb_val (s := S512x512) ![0, 0] S256x512.size inb_S512x512_S256x512_0_0 (ix2 r d) 1 _ (Nat.zero_add _)).symm))
      exact kept_38 _ r d
  · exact View.cover_of_tiledL (s := S512x512) _ ![256, 512] (by sl_kernel_rfl) _
  · exact congrArg₂ (fun a b : ℕ => proj X MOD GA WG WU WD WIN a (512 + b))
      (emb_val (s := S512x512) ![0, 0] S512x512.size inb_S512x512_S512x512_0_0 (ix2 p j) 0 _ (Nat.zero_add _))
      (emb_val (s := S512x512) ![0, 0] S512x512.size inb_S512x512_S512x512_0_0 (ix2 p j) 1 _ (Nat.zero_add _))

include h0 h1 h2 h3 h4 h5 h6 in
/-- What the body kept of mixer A's values. -/
theorem v354_B (c : Dev nD) (t : Fin cfg0.N) (p j : Fin 512) :
    kernelRun0_B.sl.v354 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_1 x0 x1 x2 x3 x4 x5 x6 (ix2 p j) = proj X MOD GA WG WU WD WIN p.val (1024 + j.val) := by
  unfold kernelRun0_B.sl.v354
  rw [View.readCov_eq_canon']
  dsimp only
  refine (View.canon_apply_of_pieces (Val := Elt Ideal) (e := .f32) (fun y : S512x512.Idx => (fun a b : ℕ => proj X MOD GA WG WU WD WIN a (1024 + b)) (y 0).val (y 1).val) _ ?_ _ ?_).trans ?_
  · unfold kernelRun0_B.sl.HS1_2
    simp only [List.forall_mem_cons, List.not_mem_nil, false_imp_iff, implies_true, and_true]
    simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
    refine ⟨?_, ?_⟩
    · intro x
      obtain ⟨r, d, rfl⟩ := exists_ix2 (a := 256) (b := 512) x
      refine Eq.trans ?_ ((va_apply x0 x1 x2 x3 x4 x5 x6 X MOD GA WG WU WD WIN h0 h1 h2 h3 h4 h5 h6 256 inb_S1x512x1024_S1x256x1024_0_256_0 r d).trans
        (congrArg₂ (fun a b : ℕ => proj X MOD GA WG WU WD WIN a (1024 + b)) (emb_val (s := S512x512) ![256, 0] S256x512.size inb_S512x512_S256x512_256_0 (ix2 r d) 0 _ rfl).symm (emb_val (s := S512x512) ![256, 0] S256x512.size inb_S512x512_S256x512_256_0 (ix2 r d) 1 _ (Nat.zero_add _)).symm))
      exact kept_61 _ r d
    · intro x
      obtain ⟨r, d, rfl⟩ := exists_ix2 (a := 256) (b := 512) x
      refine Eq.trans ?_ ((va_apply x0 x1 x2 x3 x4 x5 x6 X MOD GA WG WU WD WIN h0 h1 h2 h3 h4 h5 h6 0 inb_S1x512x1024_S1x256x1024_0_0_0 r d).trans
        (congrArg₂ (fun a b : ℕ => proj X MOD GA WG WU WD WIN a (1024 + b)) (emb_val (s := S512x512) ![0, 0] S256x512.size inb_S512x512_S256x512_0_0 (ix2 r d) 0 _ rfl).symm (emb_val (s := S512x512) ![0, 0] S256x512.size inb_S512x512_S256x512_0_0 (ix2 r d) 1 _ (Nat.zero_add _)).symm))
      exact kept_39 _ r d
  · exact View.cover_of_tiledL (s := S512x512) _ ![256, 512] (by sl_kernel_rfl) _
  · exact congrArg₂ (fun a b : ℕ => proj X MOD GA WG WU WD WIN a (1024 + b))
      (emb_val (s := S512x512) ![0, 0] S512x512.size inb_S512x512_S512x512_0_0 (ix2 p j) 0 _ (Nat.zero_add _))
      (emb_val (s := S512x512) ![0, 0] S512x512.size inb_S512x512_S512x512_0_0 (ix2 p j) 1 _ (Nat.zero_add _))

include h0 h1 h2 h3 h4 h5 h6 in
/-- What the body kept of mixer B's keys. -/
theorem v359_B (c : Dev nD) (t : Fin cfg0.N) (p j : Fin 128) :
    kernelRun0_B.sl.v359 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_2 x0 x1 x2 x3 x4 x5 x6 (ix2 p j) = proj X MOD GA WG WU WD WIN (384 + p.val) (2048 + j.val) := by
  unfold kernelRun0_B.sl.v359 kernelRun0_B.sl.HS2_1
  rw [View.readCov_unit_lit _ _ _ (by decide)]
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
  refine (kept_kb _ _ p j).trans ((proj_sum x0 x1 x2 x3 x4 x5 x6 X MOD GA WG WU WD WIN h0 h1 h2 h3 h4 h5 h6 256 inb_S1x512x1024_S1x256x1024_0_256_0 ⟨128 + p.val, by omega⟩ _ _
    (fun l => (h6 _).trans (congrArg₂ WIN (emb_val _ _ _ _ _ _ (Nat.zero_add _)) (emb_val _ _ _ _ _ _ (show (2048 : ℕ) + j.val = 2048 + j.val from rfl))))).trans ?_)
  rw [show 256 + (⟨128 + p.val, by omega⟩ : Fin 256).val = 384 + p.val from by dsimp only; omega]

include h0 h1 h2 h3 h4 h5 h6 in
/-- What the body kept of mixer B's values. -/
theorem v364_B (c : Dev nD) (t : Fin cfg0.N) (p j : Fin 128) :
    kernelRun0_B.sl.v364 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_3 x0 x1 x2 x3 x4 x5 x6 (ix2 p j) = proj X MOD GA WG WU WD WIN (384 + p.val) (2176 + j.val) := by
  unfold kernelRun0_B.sl.v364 kernelRun0_B.sl.HS3_1
  rw [View.readCov_unit_lit _ _ _ (by decide)]
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, View.readAt_eq_ld, (hs0_0 t).read_unread, (hs0_1 t).read_unread, (hs0_2 t).read_unread, (hs0_3 t).read_unread, (hs0_4 t).read_unread, (hs0_5 t).read_unread, (hs0_6 t).read_unread, v169_B, v217_B]
  refine (kept_vb _ _ p j).trans ((proj_sum x0 x1 x2 x3 x4 x5 x6 X MOD GA WG WU WD WIN h0 h1 h2 h3 h4 h5 h6 256 inb_S1x512x1024_S1x256x1024_0_256_0 ⟨128 + p.val, by omega⟩ _ _
    (fun l => (h6 _).trans (congrArg₂ WIN (emb_val _ _ _ _ _ _ (Nat.zero_add _)) (emb_val _ _ _ _ _ _ (show (2048 : ℕ) + (128 + j.val) = 2176 + j.val by omega))))).trans ?_)
  rw [show 256 + (⟨128 + p.val, by omega⟩ : Fin 256).val = 384 + p.val from by dsimp only; omega]

include h0 h1 h2 h3 h4 h5 h6 in
/-- Mixer A's keys at the last positions. -/
theorem out14_B (c : Dev nD) (t : Fin cfg0.N) (hc : cond0_0 (grid0.coords t)) (y : S1x512x512.Idx) :
    out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN b (512 + a)) (y 1).val (y 2).val := by
  unfold out0_B_14
  rw [View.read_writes_eq_canon _ _ _ (cover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .f32) (fun y : S1x512x512.Idx => (fun a b : ℕ => proj X MOD GA WG WU WD WIN b (512 + a)) (y 1).val (y 2).val) _ ?_ y (cover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  intro x
  obtain ⟨j, p, rfl⟩ := exists_ix3 (a := 512) (b := 512) x
  exact (swapped_ka _ j p).trans ((v349_B x0 x1 x2 x3 x4 x5 x6 X MOD GA WG WU WD WIN h0 h1 h2 h3 h4 h5 h6 c t p j).trans
    (congrArg₂ (fun a b : ℕ => proj X MOD GA WG WU WD WIN b (512 + a)) (emb_val (s := S1x512x512) ![0, 0, 0] S1x512x512.size inb_S1x512x512_S1x512x512_0_0_0 (ix3 0 j p) 1 _ (Nat.zero_add _)).symm (emb_val (s := S1x512x512) ![0, 0, 0] S1x512x512.size inb_S1x512x512_S1x512x512_0_0_0 (ix3 0 j p) 2 _ (Nat.zero_add _)).symm))

include h0 h1 h2 h3 h4 h5 h6 in
/-- Mixer A's values at the last positions. -/
theorem out15_B (c : Dev nD) (t : Fin cfg0.N) (hc : cond0_0 (grid0.coords t)) (y : S1x512x512.Idx) :
    out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN b (1024 + a)) (y 1).val (y 2).val := by
  unfold out0_B_15
  rw [View.read_writes_eq_canon _ _ _ (cover0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .f32) (fun y : S1x512x512.Idx => (fun a b : ℕ => proj X MOD GA WG WU WD WIN b (1024 + a)) (y 1).val (y 2).val) _ ?_ y (cover0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  intro x
  obtain ⟨j, p, rfl⟩ := exists_ix3 (a := 512) (b := 512) x
  exact (swapped_va _ j p).trans ((v354_B x0 x1 x2 x3 x4 x5 x6 X MOD GA WG WU WD WIN h0 h1 h2 h3 h4 h5 h6 c t p j).trans
    (congrArg₂ (fun a b : ℕ => proj X MOD GA WG WU WD WIN b (1024 + a)) (emb_val (s := S1x512x512) ![0, 0, 0] S1x512x512.size inb_S1x512x512_S1x512x512_0_0_0 (ix3 0 j p) 1 _ (Nat.zero_add _)).symm (emb_val (s := S1x512x512) ![0, 0, 0] S1x512x512.size inb_S1x512x512_S1x512x512_0_0_0 (ix3 0 j p) 2 _ (Nat.zero_add _)).symm))

include h0 h1 h2 h3 h4 h5 h6 in
/-- Mixer B's keys at the last positions. -/
theorem out16_B (c : Dev nD) (t : Fin cfg0.N) (hc : cond0_0 (grid0.coords t)) (y : S1x128x128.Idx) :
    out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN (384 + b) (2048 + a)) (y 1).val (y 2).val := by
  unfold out0_B_16
  rw [View.read_writes_eq_canon _ _ _ (cover0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .f32) (fun y : S1x128x128.Idx => (fun a b : ℕ => proj X MOD GA WG WU WD WIN (384 + b) (2048 + a)) (y 1).val (y 2).val) _ ?_ y (cover0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  intro x
  obtain ⟨j, p, rfl⟩ := exists_ix3 (a := 128) (b := 128) x
  exact (swapped_kb _ j p).trans ((v359_B x0 x1 x2 x3 x4 x5 x6 X MOD GA WG WU WD WIN h0 h1 h2 h3 h4 h5 h6 c t p j).trans
    (congrArg₂ (fun a b : ℕ => proj X MOD GA WG WU WD WIN (384 + b) (2048 + a)) (emb_val (s := S1x128x128) ![0, 0, 0] S1x128x128.size inb_S1x128x128_S1x128x128_0_0_0 (ix3 0 j p) 1 _ (Nat.zero_add _)).symm (emb_val (s := S1x128x128) ![0, 0, 0] S1x128x128.size inb_S1x128x128_S1x128x128_0_0_0 (ix3 0 j p) 2 _ (Nat.zero_add _)).symm))

include h0 h1 h2 h3 h4 h5 h6 in
/-- Mixer B's values at the last positions. -/
theorem out17_B (c : Dev nD) (t : Fin cfg0.N) (hc : cond0_0 (grid0.coords t)) (y : S1x128x128.Idx) :
    out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y = (fun a b : ℕ => proj X MOD GA WG WU WD WIN (384 + b) (2176 + a)) (y 1).val (y 2).val := by
  unfold out0_B_17
  rw [View.read_writes_eq_canon _ _ _ (cover0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6)]
  refine View.canon_apply_of_pieces (Val := Elt Ideal) (e := .f32) (fun y : S1x128x128.Idx => (fun a b : ℕ => proj X MOD GA WG WU WD WIN (384 + b) (2176 + a)) (y 1).val (y 2).val) _ ?_ y (cover0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) hc x0 x1 x2 x3 x4 x5 x6 y)
  unfold kernelRun0_B
  dsimp only
  simp only [List.forall_mem_cons, List.not_mem_nil, false_imp_iff, implies_true, and_true]
  intro x
  obtain ⟨j, p, rfl⟩ := exists_ix3 (a := 128) (b := 128) x
  exact (swapped_vb _ j p).trans ((v364_B x0 x1 x2 x3 x4 x5 x6 X MOD GA WG WU WD WIN h0 h1 h2 h3 h4 h5 h6 c t p j).trans
    (congrArg₂ (fun a b : ℕ => proj X MOD GA WG WU WD WIN (384 + b) (2176 + a)) (emb_val (s := S1x128x128) ![0, 0, 0] S1x128x128.size inb_S1x128x128_S1x128x128_0_0_0 (ix3 0 j p) 1 _ (Nat.zero_add _)).symm (emb_val (s := S1x128x128) ![0, 0, 0] S1x128x128.size inb_S1x128x128_S1x128x128_0_0_0 (ix3 0 j p) 2 _ (Nat.zero_add _)).symm))

end

end Cert.Kernel3Ideal.Qkv
end
-- ==== Proof.QkvOut.lean ====
module

public import proofs.«01_k».proof.Proof.QkvBlockA
public import proofs.«01_k».proof.Proof.QkvBlockB
public import proofs.«01_k».proof.Proof.QkvTail
public import proofs.«01_k».proof.Proof.At
public import Idealize.ShloMosaic.Lib.StableHlo.RunRead

@[expose] public section

set_option maxRecDepth 16384

noncomputable section

/-! The arrays the call before the mixers leaves: each point of the grid writes one block of 512 rows of seven of them, and
    the last point of a batch entry its keys and values at the last positions. -/

namespace Cert.Kernel3Ideal.Qkv

open Cert.Kernel3Ideal Cert.Kernel3Ideal.Gen Cert.Attn Cert.Ffn Idealize.ShloMosaic Idealize.ShloMosaic.TcCoe Idealize.SL.Sem
open Cert.Kernel2Ideal.Ffn (exists_ix3)
open Cert.KernelIdeal.Attn (exists_ix2)
open Idealize.ShloMosaic.Pipeline (Dat)

variable (m : (ℓ : Loc nD τ sig) → Buf (Elt Ideal) ℓ)

/-- The modulation as the call is given it. -/
theorem mod_at (c : Dev nD) (k : Fin 9) (b : Fin 2) (j : Fin 1024) :
    (V m c main_v0 : S9x2x1x1024.Idx → EReal) (ix4 k b 0 j)
      = (m (c, Proc.tc.devRef main_arg1) : S9x2x1024.Idx → EReal) (ix3 k b j) := by
  unfold V
  after_reads_simp
  pointwise

/-- The rows of the residual stream a point reads. -/
theorem iblk0_at (c : Dev nD) (t : Fin cfg0.N) (y : S1x512x1024.Idx) :
    iblk m c 0 t y = at3 (a := 2) (b := 8192) (c := 1024) (m (c, Proc.tc.devRef main_arg0)) (t.val / 16) (t.val % 16 * 512 + (y 1).val) (y 2).val := by
  have e0 : ∀ t : Fin cfg0.N, win0_0.index t 0 = t.val / 16 := by decide +kernel
  have e1 : ∀ t : Fin cfg0.N, win0_0.index t 1 = t.val % 16 := by decide +kernel
  have e2 : ∀ t : Fin cfg0.N, win0_0.index t 2 = 0 := by decide +kernel
  obtain ⟨R, C, rfl⟩ := exists_ix3 (a := 512) (b := 1024) y
  rw [← show V m c main_arg0 = m (c, Proc.tc.devRef main_arg0) from V_main_arg0 m c]
  blk_simp [iblk]
  refine at3_of _ _ _ _ _ ?_ ?_ ?_
  · blk_simp [e0 t]
    exact Nat.add_zero _
  · blk_simp [e1 t]
  · blk_simp [e2 t]

/-- The modulation of a point's batch entry. -/
theorem iblk1_at (c : Dev nD) (t : Fin cfg0.N) (y : S9x1x1x1024.Idx) :
    iblk m c 1 t y = at3 (a := 9) (b := 2) (c := 1024) (m (c, Proc.tc.devRef main_arg1)) (y 0).val (t.val / 16) (y 3).val := by
  have e0 : ∀ t : Fin cfg0.N, win0_1.index t 0 = 0 := by decide +kernel
  have e1 : ∀ t : Fin cfg0.N, win0_1.index t 1 = t.val / 16 := by decide +kernel
  have e2 : ∀ t : Fin cfg0.N, win0_1.index t 2 = 0 := by decide +kernel
  have e3 : ∀ t : Fin cfg0.N, win0_1.index t 3 = 0 := by decide +kernel
  have hb : t.val / 16 < 2 := by have : t.val < 32 := t.isLt; omega
  have key : ∀ (k : Fin 9) (j : Fin 1024), at4 (a := 9) (b := 2) (c := 1) (d := 1024) (V m c main_v0) k.val (t.val / 16) 0 j.val
      = at3 (a := 9) (b := 2) (c := 1024) (m (c, Proc.tc.devRef main_arg1)) k.val (t.val / 16) j.val := fun k j =>
    ((at4_of (a := 9) (b := 2) (c := 1) (d := 1024) (V m c main_v0) (ix4 k ⟨t.val / 16, hb⟩ 0 j) _ _ _ _ rfl rfl rfl rfl).symm.trans
      (mod_at m c k ⟨t.val / 16, hb⟩ j)).trans (at3_of _ _ _ _ _ rfl rfl rfl)
  refine Eq.trans ?_ (key (y 0) (y 3))
  have h1 : (y 1).val = 0 := by have : (y 1).val < 1 := (y 1).isLt; omega
  have h2 : (y 2).val = 0 := by have : (y 2).val < 1 := (y 2).isLt; omega
  blk_simp [iblk]
  refine at4_of _ _ _ _ _ _ ?_ ?_ ?_ ?_
  · blk_simp [e0 t]
  · blk_simp [e1 t, h1]
  · blk_simp [e2 t, h2]
  · blk_simp [e3 t]

/-- The gains, whole. -/
theorem iblk2_at (c : Dev nD) (t : Fin cfg0.N) (y : S6x1024.Idx) :
    iblk m c 2 t y = at2 (a := 6) (b := 1024) (m (c, Proc.tc.devRef main_arg2)) (y 0).val (y 1).val := by
  have e0 : ∀ t : Fin cfg0.N, win0_2.index t 0 = 0 := by decide +kernel
  have e1 : ∀ t : Fin cfg0.N, win0_2.index t 1 = 0 := by decide +kernel
  rw [← show V m c main_arg2 = m (c, Proc.tc.devRef main_arg2) from V_main_arg2 m c]
  blk_simp [iblk]
  refine at2_of _ _ _ _ ?_ ?_
  · blk_simp [e0 t]
  · blk_simp [e1 t]

/-- The gate weights, whole. -/
theorem iblk3_at (c : Dev nD) (t : Fin cfg0.N) (y : S1024x2816.Idx) :
    iblk m c 3 t y = at2 (a := 1024) (b := 2816) (m (c, Proc.tc.devRef main_arg3)) (y 0).val (y 1).val := by
  have e0 : ∀ t : Fin cfg0.N, win0_3.index t 0 = 0 := by decide +kernel
  have e1 : ∀ t : Fin cfg0.N, win0_3.index t 1 = 0 := by decide +kernel
  rw [← show V m c main_arg3 = m (c, Proc.tc.devRef main_arg3) from V_main_arg3 m c]
  blk_simp [iblk]
  refine at2_of _ _ _ _ ?_ ?_
  · blk_simp [e0 t]
  · blk_simp [e1 t]

/-- The up weights, whole. -/
theorem iblk4_at (c : Dev nD) (t : Fin cfg0.N) (y : S1024x2816.Idx) :
    iblk m c 4 t y = at2 (a := 1024) (b := 2816) (m (c, Proc.tc.devRef main_arg4)) (y 0).val (y 1).val := by
  have e0 : ∀ t : Fin cfg0.N, win0_4.index t 0 = 0 := by decide +kernel
  have e1 : ∀ t : Fin cfg0.N, win0_4.index t 1 = 0 := by decide +kernel
  rw [← show V m c main_arg4 = m (c, Proc.tc.devRef main_arg4) from V_main_arg4 m c]
  blk_simp [iblk]
  refine at2_of _ _ _ _ ?_ ?_
  · blk_simp [e0 t]
  · blk_simp [e1 t]

/-- The down weights, whole. -/
theorem iblk5_at (c : Dev nD) (t : Fin cfg0.N) (y : S2816x1024.Idx) :
    iblk m c 5 t y = at2 (a := 2816) (b := 1024) (m (c, Proc.tc.devRef main_arg5)) (y 0).val (y 1).val := by
  have e0 : ∀ t : Fin cfg0.N, win0_5.index t 0 = 0 := by decide +kernel
  have e1 : ∀ t : Fin cfg0.N, win0_5.index t 1 = 0 := by decide +kernel
  rw [← show V m c main_arg5 = m (c, Proc.tc.devRef main_arg5) from V_main_arg5 m c]
  blk_simp [iblk]
  refine at2_of _ _ _ _ ?_ ?_
  · blk_simp [e0 t]
  · blk_simp [e1 t]

/-- The weights of the projection, whole. -/
theorem iblk6_at (c : Dev nD) (t : Fin cfg0.N) (y : S1024x2304.Idx) :
    iblk m c 6 t y = at2 (a := 1024) (b := 2304) (m (c, Proc.tc.devRef main_arg6)) (y 0).val (y 1).val := by
  have e0 : ∀ t : Fin cfg0.N, win0_6.index t 0 = 0 := by decide +kernel
  have e1 : ∀ t : Fin cfg0.N, win0_6.index t 1 = 0 := by decide +kernel
  rw [← show V m c main_arg6 = m (c, Proc.tc.devRef main_arg6) from V_main_arg6 m c]
  blk_simp [iblk]
  refine at2_of _ _ _ _ ?_ ?_
  · blk_simp [e0 t]
  · blk_simp [e1 t]

/-- The residual stream after the half step at batch entry `b`, position `p`. -/
def outX (c : Dev nD) (b p : ℕ) : ℕ → EReal :=
  firstRow (at3 (a := 2) (b := 8192) (c := 1024) (m (c, Proc.tc.devRef main_arg0)) b p) (fun k => at3 (a := 9) (b := 2) (c := 1024) (m (c, Proc.tc.devRef main_arg1)) k b) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5)))

/-- The projection at batch entry `b`, position `p`. -/
def outP (c : Dev nD) (b p : ℕ) : ℕ → EReal :=
  projRow (at3 (a := 2) (b := 8192) (c := 1024) (m (c, Proc.tc.devRef main_arg0)) b p) (fun k => at3 (a := 9) (b := 2) (c := 1024) (m (c, Proc.tc.devRef main_arg1)) k b) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6)))

/-- What a point leaves of the residual stream. -/
theorem point7 (c : Dev nD) (t : Fin cfg0.N) (y : S1x512x1024.Idx) :
    (outsAt0 m c t.val t.isLt).1 y = outX m c (t.val / 16) (t.val % 16 * 512 + (y 1).val) (y 2).val := by
  by_cases h0 : t.val % 16 = 15
  · rw [outsAt0_B m c t h0]
    dsimp only
    exact out7_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (iblk0_at m c t) (iblk1_at m c t) (iblk2_at m c t) (iblk3_at m c t) (iblk4_at m c t) (iblk5_at m c t) c t ((hcond0_0 t).mpr h0) y
  · rw [outsAt0_A m c t h0]
    dsimp only
    exact out7_A (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (iblk0_at m c t) (iblk1_at m c t) (iblk2_at m c t) (iblk3_at m c t) (iblk4_at m c t) (iblk5_at m c t) c t (fun h => h0 ((hcond0_0 t).mp h)) y

/-- What a point leaves of the queries of mixer A. -/
theorem point8 (c : Dev nD) (t : Fin cfg0.N) (y : S512x1024.Idx) :
    (outsAt0 m c t.val t.isLt).2.1 y = queryA (outP m c (t.val / 16) (t.val % 16 * 512 + (y 0).val)) (y 1).val := by
  by_cases h0 : t.val % 16 = 15
  · rw [outsAt0_B m c t h0]
    dsimp only
    exact out8_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y
  · rw [outsAt0_A m c t h0]
    dsimp only
    exact out8_A (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t (fun h => h0 ((hcond0_0 t).mp h)) y

/-- What a point leaves of the keys of mixer A. -/
theorem point9 (c : Dev nD) (t : Fin cfg0.N) (y : S512x512.Idx) :
    (outsAt0 m c t.val t.isLt).2.2.1 y = outP m c (t.val / 16) (t.val % 16 * 512 + (y 0).val) (512 + (y 1).val) := by
  by_cases h0 : t.val % 16 = 15
  · rw [outsAt0_B m c t h0]
    dsimp only
    exact out9_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y
  · rw [outsAt0_A m c t h0]
    dsimp only
    exact out9_A (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t (fun h => h0 ((hcond0_0 t).mp h)) y

/-- What a point leaves of the values of mixer A. -/
theorem point10 (c : Dev nD) (t : Fin cfg0.N) (y : S512x512.Idx) :
    (outsAt0 m c t.val t.isLt).2.2.2.1 y = outP m c (t.val / 16) (t.val % 16 * 512 + (y 0).val) (1024 + (y 1).val) := by
  by_cases h0 : t.val % 16 = 15
  · rw [outsAt0_B m c t h0]
    dsimp only
    exact out10_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y
  · rw [outsAt0_A m c t h0]
    dsimp only
    exact out10_A (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t (fun h => h0 ((hcond0_0 t).mp h)) y

/-- What a point leaves of the queries of mixer B. -/
theorem point11 (c : Dev nD) (t : Fin cfg0.N) (y : S512x1024.Idx) :
    (outsAt0 m c t.val t.isLt).2.2.2.2.1 y = queryB (outP m c (t.val / 16) (t.val % 16 * 512 + (y 0).val)) (y 1).val := by
  by_cases h0 : t.val % 16 = 15
  · rw [outsAt0_B m c t h0]
    dsimp only
    exact out11_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y
  · rw [outsAt0_A m c t h0]
    dsimp only
    exact out11_A (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t (fun h => h0 ((hcond0_0 t).mp h)) y

/-- What a point leaves of the keys of mixer B. -/
theorem point12 (c : Dev nD) (t : Fin cfg0.N) (y : S512x128.Idx) :
    (outsAt0 m c t.val t.isLt).2.2.2.2.2.1 y = outP m c (t.val / 16) (t.val % 16 * 512 + (y 0).val) (2048 + (y 1).val) := by
  by_cases h0 : t.val % 16 = 15
  · rw [outsAt0_B m c t h0]
    dsimp only
    exact out12_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y
  · rw [outsAt0_A m c t h0]
    dsimp only
    exact out12_A (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t (fun h => h0 ((hcond0_0 t).mp h)) y

/-- What a point leaves of the values of mixer B. -/
theorem point13 (c : Dev nD) (t : Fin cfg0.N) (y : S512x128.Idx) :
    (outsAt0 m c t.val t.isLt).2.2.2.2.2.2.1 y = outP m c (t.val / 16) (t.val % 16 * 512 + (y 0).val) (2176 + (y 1).val) := by
  by_cases h0 : t.val % 16 = 15
  · rw [outsAt0_B m c t h0]
    dsimp only
    exact out13_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y
  · rw [outsAt0_A m c t h0]
    dsimp only
    exact out13_A (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t (fun h => h0 ((hcond0_0 t).mp h)) y

/-- What a point leaves of the last keys of mixer A. -/
theorem point14 (c : Dev nD) (t : Fin cfg0.N) (h0 : t.val % 16 = 15) (y : S1x512x512.Idx) :
    (outsAt0 m c t.val t.isLt).2.2.2.2.2.2.2.1 y = outP m c (t.val / 16) (7680 + (y 2).val) (512 + (y 1).val) := by
  rw [outsAt0_B m c t h0]
  dsimp only
  refine (out14_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y).trans ?_
  unfold proj outP
  dsimp only
  rw [h0, show 15 * 512 + (y 2).val = 7680 + (y 2).val by omega]

/-- What a point leaves of the last values of mixer A. -/
theorem point15 (c : Dev nD) (t : Fin cfg0.N) (h0 : t.val % 16 = 15) (y : S1x512x512.Idx) :
    (outsAt0 m c t.val t.isLt).2.2.2.2.2.2.2.2.1 y = outP m c (t.val / 16) (7680 + (y 2).val) (1024 + (y 1).val) := by
  rw [outsAt0_B m c t h0]
  dsimp only
  refine (out15_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y).trans ?_
  unfold proj outP
  dsimp only
  rw [h0, show 15 * 512 + (y 2).val = 7680 + (y 2).val by omega]

/-- What a point leaves of the last keys of mixer B. -/
theorem point16 (c : Dev nD) (t : Fin cfg0.N) (h0 : t.val % 16 = 15) (y : S1x128x128.Idx) :
    (outsAt0 m c t.val t.isLt).2.2.2.2.2.2.2.2.2.1 y = outP m c (t.val / 16) (8064 + (y 2).val) (2048 + (y 1).val) := by
  rw [outsAt0_B m c t h0]
  dsimp only
  refine (out16_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y).trans ?_
  unfold proj outP
  dsimp only
  rw [h0, show 15 * 512 + (384 + (y 2).val) = 8064 + (y 2).val by omega]

/-- What a point leaves of the last values of mixer B. -/
theorem point17 (c : Dev nD) (t : Fin cfg0.N) (h0 : t.val % 16 = 15) (y : S1x128x128.Idx) :
    (outsAt0 m c t.val t.isLt).2.2.2.2.2.2.2.2.2.2 y = outP m c (t.val / 16) (8064 + (y 2).val) (2176 + (y 1).val) := by
  rw [outsAt0_B m c t h0]
  dsimp only
  refine (out17_B (iblk m c 0 t) (iblk m c 1 t) (iblk m c 2 t) (iblk m c 3 t) (iblk m c 4 t) (iblk m c 5 t) (iblk m c 6 t) (fun R => at3 (a := 2) (b := 8192) (c := 1024) (m (c, Proc.tc.devRef main_arg0)) (t.val / 16) (t.val % 16 * 512 + R)) (fun k => at3 (a := 9) (b := 2) (c := 1024) (m (c, Proc.tc.devRef main_arg1)) k (t.val / 16)) (at2 (a := 6) (b := 1024) (m (c, Proc.tc.devRef main_arg2))) (at2 (a := 1024) (b := 2816) (m (c, Proc.tc.devRef main_arg3))) (at2 (a := 1024) (b := 2816) (m (c, Proc.tc.devRef main_arg4))) (at2 (a := 2816) (b := 1024) (m (c, Proc.tc.devRef main_arg5))) (at2 (a := 1024) (b := 2304) (m (c, Proc.tc.devRef main_arg6))) (iblk0_at m c t) (iblk1_at m c t) (iblk2_at m c t) (iblk3_at m c t) (iblk4_at m c t) (iblk5_at m c t) (iblk6_at m c t) c t ((hcond0_0 t).mpr h0) y).trans ?_
  unfold proj outP
  dsimp only
  rw [h0, show 15 * 512 + (384 + (y 2).val) = 8064 + (y 2).val by omega]

/-- The array of the residual stream. -/
theorem arr7 (c : Dev nD) :
    (dats m 0 c).arrAt 7 cfg0.N = (fun i : S2x8192x1024.Idx => outX m c (i 0).val (i 1).val (i 2).val : S2x8192x1024.Idx → EReal) := by
  have e0 : ∀ t : Fin cfg0.N, win0_7.index t 0 = t.val / 16 := by decide +kernel
  have e1 : ∀ t : Fin cfg0.N, win0_7.index t 1 = t.val % 16 := by decide +kernel
  have e2 : ∀ t : Fin cfg0.N, win0_7.index t 2 = 0 := by decide +kernel
  refine (dats m 0 c).arrAt_eq_of_covers 7 _ (by decide +kernel) fun t hf y => ?_
  obtain ⟨R, C, hy⟩ := exists_ix3 (a := 512) (b := 1024) y
  subst hy
  blk_simp [e0 t, e1 t, e2 t]
  rw [after0_7]
  exact point7 m c t (ix3 0 R C)

/-- The array of the queries of mixer A. -/
theorem arr8 (c : Dev nD) :
    (dats m 0 c).arrAt 8 cfg0.N = (fun i : S16384x1024.Idx => queryA (outP m c ((i 0).val / 8192) ((i 0).val % 8192)) (i 1).val : S16384x1024.Idx → EReal) := by
  have e0 : ∀ t : Fin cfg0.N, win0_8.index t 0 = t.val := by decide +kernel
  have e1 : ∀ t : Fin cfg0.N, win0_8.index t 1 = 0 := by decide +kernel
  refine (dats m 0 c).arrAt_eq_of_covers 8 _ (by decide +kernel) fun t hf y => ?_
  obtain ⟨R, C, hy⟩ := exists_ix2 (a := 512) (b := 1024) y
  subst hy
  have hR := R.isLt
  have d1 : (t.val * 512 + R.val) / 8192 = t.val / 16 := by omega
  have d2 : (t.val * 512 + R.val) % 8192 = t.val % 16 * 512 + R.val := by omega
  blk_simp [e0 t, e1 t, d1, d2]
  rw [after0_8]
  exact point8 m c t (ix2 R C)

/-- The array of the keys of mixer A. -/
theorem arr9 (c : Dev nD) :
    (dats m 0 c).arrAt 9 cfg0.N = (fun i : S16384x512.Idx => outP m c ((i 0).val / 8192) ((i 0).val % 8192) (512 + (i 1).val) : S16384x512.Idx → EReal) := by
  have e0 : ∀ t : Fin cfg0.N, win0_9.index t 0 = t.val := by decide +kernel
  have e1 : ∀ t : Fin cfg0.N, win0_9.index t 1 = 0 := by decide +kernel
  refine (dats m 0 c).arrAt_eq_of_covers 9 _ (by decide +kernel) fun t hf y => ?_
  obtain ⟨R, C, hy⟩ := exists_ix2 (a := 512) (b := 512) y
  subst hy
  have hR := R.isLt
  have d1 : (t.val * 512 + R.val) / 8192 = t.val / 16 := by omega
  have d2 : (t.val * 512 + R.val) % 8192 = t.val % 16 * 512 + R.val := by omega
  blk_simp [e0 t, e1 t, d1, d2]
  rw [after0_9]
  exact point9 m c t (ix2 R C)

/-- The array of the values of mixer A. -/
theorem arr10 (c : Dev nD) :
    (dats m 0 c).arrAt 10 cfg0.N = (fun i : S16384x512.Idx => outP m c ((i 0).val / 8192) ((i 0).val % 8192) (1024 + (i 1).val) : S16384x512.Idx → EReal) := by
  have e0 : ∀ t : Fin cfg0.N, win0_10.index t 0 = t.val := by decide +kernel
  have e1 : ∀ t : Fin cfg0.N, win0_10.index t 1 = 0 := by decide +kernel
  refine (dats m 0 c).arrAt_eq_of_covers 10 _ (by decide +kernel) fun t hf y => ?_
  obtain ⟨R, C, hy⟩ := exists_ix2 (a := 512) (b := 512) y
  subst hy
  have hR := R.isLt
  have d1 : (t.val * 512 + R.val) / 8192 = t.val / 16 := by omega
  have d2 : (t.val * 512 + R.val) % 8192 = t.val % 16 * 512 + R.val := by omega
  blk_simp [e0 t, e1 t, d1, d2]
  rw [after0_10]
  exact point10 m c t (ix2 R C)

/-- The array of the queries of mixer B. -/
theorem arr11 (c : Dev nD) :
    (dats m 0 c).arrAt 11 cfg0.N = (fun i : S16384x1024.Idx => queryB (outP m c ((i 0).val / 8192) ((i 0).val % 8192)) (i 1).val : S16384x1024.Idx → EReal) := by
  have e0 : ∀ t : Fin cfg0.N, win0_11.index t 0 = t.val := by decide +kernel
  have e1 : ∀ t : Fin cfg0.N, win0_11.index t 1 = 0 := by decide +kernel
  refine (dats m 0 c).arrAt_eq_of_covers 11 _ (by decide +kernel) fun t hf y => ?_
  obtain ⟨R, C, hy⟩ := exists_ix2 (a := 512) (b := 1024) y
  subst hy
  have hR := R.isLt
  have d1 : (t.val * 512 + R.val) / 8192 = t.val / 16 := by omega
  have d2 : (t.val * 512 + R.val) % 8192 = t.val % 16 * 512 + R.val := by omega
  blk_simp [e0 t, e1 t, d1, d2]
  rw [after0_11]
  exact point11 m c t (ix2 R C)

/-- The array of the keys of mixer B. -/
theorem arr12 (c : Dev nD) :
    (dats m 0 c).arrAt 12 cfg0.N = (fun i : S16384x128.Idx => outP m c ((i 0).val / 8192) ((i 0).val % 8192) (2048 + (i 1).val) : S16384x128.Idx → EReal) := by
  have e0 : ∀ t : Fin cfg0.N, win0_12.index t 0 = t.val := by decide +kernel
  have e1 : ∀ t : Fin cfg0.N, win0_12.index t 1 = 0 := by decide +kernel
  refine (dats m 0 c).arrAt_eq_of_covers 12 _ (by decide +kernel) fun t hf y => ?_
  obtain ⟨R, C, hy⟩ := exists_ix2 (a := 512) (b := 128) y
  subst hy
  have hR := R.isLt
  have d1 : (t.val * 512 + R.val) / 8192 = t.val / 16 := by omega
  have d2 : (t.val * 512 + R.val) % 8192 = t.val % 16 * 512 + R.val := by omega
  blk_simp [e0 t, e1 t, d1, d2]
  rw [after0_12]
  exact point12 m c t (ix2 R C)

/-- The array of the values of mixer B. -/
theorem arr13 (c : Dev nD) :
    (dats m 0 c).arrAt 13 cfg0.N = (fun i : S16384x128.Idx => outP m c ((i 0).val / 8192) ((i 0).val % 8192) (2176 + (i 1).val) : S16384x128.Idx → EReal) := by
  have e0 : ∀ t : Fin cfg0.N, win0_13.index t 0 = t.val := by decide +kernel
  have e1 : ∀ t : Fin cfg0.N, win0_13.index t 1 = 0 := by decide +kernel
  refine (dats m 0 c).arrAt_eq_of_covers 13 _ (by decide +kernel) fun t hf y => ?_
  obtain ⟨R, C, hy⟩ := exists_ix2 (a := 512) (b := 128) y
  subst hy
  have hR := R.isLt
  have d1 : (t.val * 512 + R.val) / 8192 = t.val / 16 := by omega
  have d2 : (t.val * 512 + R.val) % 8192 = t.val % 16 * 512 + R.val := by omega
  blk_simp [e0 t, e1 t, d1, d2]
  rw [after0_13]
  exact point13 m c t (ix2 R C)

/-- The array of the last keys of mixer A. -/
theorem arr14 (c : Dev nD) :
    (dats m 0 c).arrAt 14 cfg0.N = (fun i : S2x512x512.Idx => outP m c (i 0).val (7680 + (i 2).val) (512 + (i 1).val) : S2x512x512.Idx → EReal) := by
  have e0 : ∀ t : Fin cfg0.N, win0_14.index t 0 = t.val / 16 := by decide +kernel
  have e1 : ∀ t : Fin cfg0.N, win0_14.index t 1 = 0 := by decide +kernel
  have e2 : ∀ t : Fin cfg0.N, win0_14.index t 2 = 0 := by decide +kernel
  have ef : ∀ t : Fin cfg0.N, win0_14.flush t → t.val % 16 = 15 := by decide +kernel
  refine (dats m 0 c).arrAt_eq_of_covers 14 _ (by decide +kernel) fun t hf y => ?_
  obtain ⟨R, C, hy⟩ := exists_ix3 (a := 512) (b := 512) y
  subst hy
  blk_simp [e0 t, e1 t, e2 t]
  rw [after0_14]
  exact point14 m c t (ef t hf) (ix3 0 R C)

/-- The array of the last values of mixer A. -/
theorem arr15 (c : Dev nD) :
    (dats m 0 c).arrAt 15 cfg0.N = (fun i : S2x512x512.Idx => outP m c (i 0).val (7680 + (i 2).val) (1024 + (i 1).val) : S2x512x512.Idx → EReal) := by
  have e0 : ∀ t : Fin cfg0.N, win0_15.index t 0 = t.val / 16 := by decide +kernel
  have e1 : ∀ t : Fin cfg0.N, win0_15.index t 1 = 0 := by decide +kernel
  have e2 : ∀ t : Fin cfg0.N, win0_15.index t 2 = 0 := by decide +kernel
  have ef : ∀ t : Fin cfg0.N, win0_15.flush t → t.val % 16 = 15 := by decide +kernel
  refine (dats m 0 c).arrAt_eq_of_covers 15 _ (by decide +kernel) fun t hf y => ?_
  obtain ⟨R, C, hy⟩ := exists_ix3 (a := 512) (b := 512) y
  subst hy
  blk_simp [e0 t, e1 t, e2 t]
  rw [after0_15]
  exact point15 m c t (ef t hf) (ix3 0 R C)

/-- The array of the last keys of mixer B. -/
theorem arr16 (c : Dev nD) :
    (dats m 0 c).arrAt 16 cfg0.N = (fun i : S2x128x128.Idx => outP m c (i 0).val (8064 + (i 2).val) (2048 + (i 1).val) : S2x128x128.Idx → EReal) := by
  have e0 : ∀ t : Fin cfg0.N, win0_16.index t 0 = t.val / 16 := by decide +kernel
  have e1 : ∀ t : Fin cfg0.N, win0_16.index t 1 = 0 := by decide +kernel
  have e2 : ∀ t : Fin cfg0.N, win0_16.index t 2 = 0 := by decide +kernel
  have ef : ∀ t : Fin cfg0.N, win0_16.flush t → t.val % 16 = 15 := by decide +kernel
  refine (dats m 0 c).arrAt_eq_of_covers 16 _ (by decide +kernel) fun t hf y => ?_
  obtain ⟨R, C, hy⟩ := exists_ix3 (a := 128) (b := 128) y
  subst hy
  blk_simp [e0 t, e1 t, e2 t]
  rw [after0_16]
  exact point16 m c t (ef t hf) (ix3 0 R C)

/-- The array of the last values of mixer B. -/
theorem arr17 (c : Dev nD) :
    (dats m 0 c).arrAt 17 cfg0.N = (fun i : S2x128x128.Idx => outP m c (i 0).val (8064 + (i 2).val) (2176 + (i 1).val) : S2x128x128.Idx → EReal) := by
  have e0 : ∀ t : Fin cfg0.N, win0_17.index t 0 = t.val / 16 := by decide +kernel
  have e1 : ∀ t : Fin cfg0.N, win0_17.index t 1 = 0 := by decide +kernel
  have e2 : ∀ t : Fin cfg0.N, win0_17.index t 2 = 0 := by decide +kernel
  have ef : ∀ t : Fin cfg0.N, win0_17.flush t → t.val % 16 = 15 := by decide +kernel
  refine (dats m 0 c).arrAt_eq_of_covers 17 _ (by decide +kernel) fun t hf y => ?_
  obtain ⟨R, C, hy⟩ := exists_ix3 (a := 128) (b := 128) y
  subst hy
  blk_simp [e0 t, e1 t, e2 t]
  rw [after0_17]
  exact point17 m c t (ef t hf) (ix3 0 R C)

end Cert.Kernel3Ideal.Qkv
end
-- ==== Proof.QkvRef.lean ====
module

public import proofs.«01_k».proof.Proof.Gen.Reference3Ideal.Read
public import proofs.«01_k».proof.Proof.QkvRow
public import proofs.«01_k».proof.Proof.At
public import Idealize.ShloMosaic.Lib.Pointwise

@[expose] public section

set_option maxRecDepth 16384

noncomputable section

/-! The reference of the call before the mixers, read at an index. -/

namespace Cert.Reference3Ideal.Qkv

open Cert.Reference3Ideal Cert.Reference3Ideal.Gen Cert.Reference3Ideal.Read Cert.Attn Cert.Ffn Idealize.ShloMosaic Idealize.ShloMosaic.TcCoe

section
variable (x0 : S2x8192x1024.Idx → EReal) (x1 : S9x2x1024.Idx → EReal) (x2 : S6x1024.Idx → EReal)
  (x3 x4 : S1024x2816.Idx → EReal) (x5 : S2816x1024.Idx → EReal) (x6 : S1024x2304.Idx → EReal)

/-- The modulation of a batch entry. -/
abbrev MD (b k : ℕ) : ℕ → EReal := at3 (a := 9) (b := 2) (c := 1024) x1 k b

/-- The residual stream of a position after the half step. -/
abbrev FR (b s : ℕ) : ℕ → EReal :=
  firstRow (at3 (a := 2) (b := 8192) (c := 1024) x0 b s) (MD x1 b) (at2 (a := 6) (b := 1024) x2) (at2 (a := 1024) (b := 2816) x3)
    (at2 (a := 1024) (b := 2816) x4) (at2 (a := 2816) (b := 1024) x5)

/-- The projection of a position. -/
abbrev PR (b s : ℕ) : ℕ → EReal :=
  projRow (at3 (a := 2) (b := 8192) (c := 1024) x0 b s) (MD x1 b) (at2 (a := 6) (b := 1024) x2) (at2 (a := 1024) (b := 2816) x3)
    (at2 (a := 1024) (b := 2816) x4) (at2 (a := 2816) (b := 1024) x5) (at2 (a := 1024) (b := 2304) x6)

/-- The modulated input of the feed-forward layer. -/
theorem h_ref (b : Fin 2) (s : Fin 8192) (j : Fin 1024) :
    (val_main_v40 (F := Ideal) x0 x1 x2 : S2x8192x1024.Idx → EReal) (ix3 b s j)
      = hRow (at3 (a := 2) (b := 8192) (c := 1024) x0 b.val s.val) (at2 (a := 6) (b := 1024) x2 0) (MD x1 b.val 0) (MD x1 b.val 1) j.val := by
  pointwise [val_main_v0, val_main_v1, val_main_v2, val_main_v3, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_1, val_main_cst_2]
  have e0 : ∀ p q r, x0 (ix3 p q r) = at3 (a := 2) (b := 8192) (c := 1024) x0 p.val q.val r.val := fun p q r => at3_of _ _ _ _ _ rfl rfl rfl
  have e1 : ∀ p q r, x1 (ix3 p q r) = at3 (a := 9) (b := 2) (c := 1024) x1 p.val q.val r.val := fun p q r => at3_of _ _ _ _ _ rfl rfl rfl
  have e2 : ∀ p q, x2 (ix2 p q) = at2 (a := 6) (b := 1024) x2 p.val q.val := fun p q => at2_of _ _ _ _ rfl rfl
  simp only [e0, e1, e2]
  rfl

/-- The gated product. -/
theorem act_ref (b : Fin 2) (s : Fin 8192) (j : Fin 2816) :
    (val_main_v50 (F := Ideal) x0 x1 x2 x3 x4 : S2x8192x2816.Idx → EReal) (ix3 b s j)
      = actRow (at3 (a := 2) (b := 8192) (c := 1024) x0 b.val s.val) (at2 (a := 6) (b := 1024) x2 0) (MD x1 b.val 0) (MD x1 b.val 1)
          (at2 (a := 1024) (b := 2816) x3) (at2 (a := 1024) (b := 2816) x4) j.val := by
  pointwise [val_main_v44, val_main_v45, val_main_v47, val_main_call0_v0, val_main_call0_v1, val_main_call0_cst, val_main_call0_v2, val_main_call0_v3, val_main_call0_cst_0, val_main_call0_v4, val_main_call0_v5, val_main_v48, val_main_v49, val_main_v50]
  have e3 : ∀ p q, x3 (ix2 p q) = at2 (a := 1024) (b := 2816) x3 p.val q.val := fun p q => at2_of _ _ _ _ rfl rfl
  have e4 : ∀ p q, x4 (ix2 p q) = at2 (a := 1024) (b := 2816) x4 p.val q.val := fun p q => at2_of _ _ _ _ rfl rfl
  simp only [h_ref x0 x1 x2 b s, e3, e4]
  rfl

/-- The residual stream after the half step. -/
theorem first_ref (b : Fin 2) (s : Fin 8192) (j : Fin 1024) :
    (val_main_v69 (F := Ideal) x0 x1 x2 x3 x4 x5 : S2x8192x1024.Idx → EReal) (ix3 b s j)
      = FR x0 x1 x2 x3 x4 x5 b.val s.val j.val := by
  pointwise [val_main_v4, val_main_v5, val_main_v41, val_main_v42, val_main_v43, val_main_v46, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_3, val_main_cst_4, val_main_cst_5, val_main_cst_6]
  have e0 : ∀ p q r, x0 (ix3 p q r) = at3 (a := 2) (b := 8192) (c := 1024) x0 p.val q.val r.val := fun p q r => at3_of _ _ _ _ _ rfl rfl rfl
  have e1 : ∀ p q r, x1 (ix3 p q r) = at3 (a := 9) (b := 2) (c := 1024) x1 p.val q.val r.val := fun p q r => at3_of _ _ _ _ _ rfl rfl rfl
  have e2 : ∀ p q, x2 (ix2 p q) = at2 (a := 6) (b := 1024) x2 p.val q.val := fun p q => at2_of _ _ _ _ rfl rfl
  have e5 : ∀ p q, x5 (ix2 p q) = at2 (a := 2816) (b := 1024) x5 p.val q.val := fun p q => at2_of _ _ _ _ rfl rfl
  simp only [act_ref x0 x1 x2 x3 x4 b s, e0, e1, e2, e5]
  rfl

/-- The mixers' input. -/
theorem h2_ref (b : Fin 2) (s : Fin 8192) (j : Fin 1024) :
    (val_main_v92 (F := Ideal) x0 x1 x2 x3 x4 x5 : S2x8192x1024.Idx → EReal) (ix3 b s j)
      = hRow (FR x0 x1 x2 x3 x4 x5 b.val s.val) (at2 (a := 6) (b := 1024) x2 2) (MD x1 b.val 3) (MD x1 b.val 4) j.val := by
  pointwise [val_main_v6, val_main_v7, val_main_v8, val_main_v9, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_cst_7, val_main_cst_8, val_main_cst_9, val_main_cst_10]
  have e1 : ∀ p q r, x1 (ix3 p q r) = at3 (a := 9) (b := 2) (c := 1024) x1 p.val q.val r.val := fun p q r => at3_of _ _ _ _ _ rfl rfl rfl
  have e2 : ∀ p q, x2 (ix2 p q) = at2 (a := 6) (b := 1024) x2 p.val q.val := fun p q => at2_of _ _ _ _ rfl rfl
  simp only [first_ref x0 x1 x2 x3 x4 x5 b s, e1, e2]
  rfl

/-- The projection. -/
theorem proj_ref (b : Fin 2) (s : Fin 8192) (k : Fin 2304) :
    (val_main_v94 (F := Ideal) x0 x1 x2 x3 x4 x5 x6 : S2x8192x2304.Idx → EReal) (ix3 b s k)
      = PR x0 x1 x2 x3 x4 x5 x6 b.val s.val k.val := by
  pointwise [val_main_v93, val_main_v94]
  have e6 : ∀ p q, x6 (ix2 p q) = at2 (a := 1024) (b := 2304) x6 p.val q.val := fun p q => at2_of _ _ _ _ rfl rfl
  simp only [h2_ref x0 x1 x2 x3 x4 x5 b s, e6]
  rfl

/-- The reference's scale of the queries. -/
theorem scale_ref (i : S_.Idx) : (val_main_v104 (F := Ideal) : S_.Idx → EReal) i = qscale := by
  pointwise [val_main_v102, val_main_v103, val_main_v104, val_main_cst_11, val_main_cst_12, val_main_cst_13]
  have e2 : Ideal.ofBits FTy.f32 1073741824#32 = ((2 : ℝ) : EReal) := by
    simp [Ideal.ofBits, Ideal.ieee, -EReal.coe_mul]; norm_num
  have e8 : Ideal.ofBits FTy.f32 1040187392#32 = ((1 / 8 : ℝ) : EReal) := by
    simp [Ideal.ofBits, Ideal.ieee, -EReal.coe_mul]
    norm_num
  have hl : Real.log 2 ≠ 0 := (Real.log_pos (by norm_num)).ne'
  have h256 : Real.log 256 = 8 * Real.log 2 := by
    rw [show (256 : ℝ) = 2 ^ (8 : ℕ) by norm_num, Real.log_pow]
    norm_num
  rw [e2, e8, Ideal.log_coe, if_neg (by norm_num), Ideal.div_coe hl, one_mul, ← EReal.coe_mul]
  unfold qscale
  rw [h256, mul_inv]
  congr 1
  norm_num

/-- The same scale, for mixer B. -/
theorem scale_ref' (i : S_.Idx) : (val_main_v129 (F := Ideal) : S_.Idx → EReal) i = qscale := scale_ref i

/-- Mixer A's queries. -/
theorem qa_ref (t : Fin 16384) (j : Fin 1024) :
    (val_main_v124 (F := Ideal) x0 x1 x2 x3 x4 x5 x6 : S16384x1024.Idx → EReal) (ix2 t j)
      = queryA (PR x0 x1 x2 x3 x4 x5 x6 (t.val / 8192) (t.val % 8192)) j.val := by
  pointwise [val_main_v95, val_main_v101, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_cst_14]
  have hj := j.isLt
  simp only [scale_ref, proj_ref]
  generalize PR x0 x1 x2 x3 x4 x5 x6 (t.val / 8192) (t.val % 8192) = p
  unfold queryA
  split_ifs <;> first
    | omega
    | rfl
    | exact congrArg (fun k => p k * qscale) (by omega)

/-- Mixer B's queries. -/
theorem qb_ref (t : Fin 16384) (j : Fin 1024) :
    (val_main_v149 (F := Ideal) x0 x1 x2 x3 x4 x5 x6 : S16384x1024.Idx → EReal) (ix2 t j)
      = queryB (PR x0 x1 x2 x3 x4 x5 x6 (t.val / 8192) (t.val % 8192)) j.val := by
  pointwise [val_main_v98, val_main_v125, val_main_v126, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_cst_18]
  have hj := j.isLt
  simp only [scale_ref', proj_ref]
  generalize PR x0 x1 x2 x3 x4 x5 x6 (t.val / 8192) (t.val % 8192) = p
  unfold queryB
  split_ifs <;> first
    | omega
    | rfl
    | exact congrArg (fun k => p k * qscale) (by omega)

/-- Mixer A's keys. -/
theorem ka_ref (t : Fin 16384) (j : Fin 512) :
    (val_main_v151 (F := Ideal) x0 x1 x2 x3 x4 x5 x6 : S16384x512.Idx → EReal) (ix2 t j)
      = PR x0 x1 x2 x3 x4 x5 x6 (t.val / 8192) (t.val % 8192) (512 + j.val) := by
  pointwise [val_main_v96, val_main_v150, val_main_v151]
  exact proj_ref x0 x1 x2 x3 x4 x5 x6 _ _ _

/-- Mixer A's values. -/
theorem va_ref (t : Fin 16384) (j : Fin 512) :
    (val_main_v153 (F := Ideal) x0 x1 x2 x3 x4 x5 x6 : S16384x512.Idx → EReal) (ix2 t j)
      = PR x0 x1 x2 x3 x4 x5 x6 (t.val / 8192) (t.val % 8192) (1024 + j.val) := by
  pointwise [val_main_v97, val_main_v152, val_main_v153]
  exact proj_ref x0 x1 x2 x3 x4 x5 x6 _ _ _

/-- Mixer B's keys. -/
theorem kb_ref (t : Fin 16384) (j : Fin 128) :
    (val_main_v155 (F := Ideal) x0 x1 x2 x3 x4 x5 x6 : S16384x128.Idx → EReal) (ix2 t j)
      = PR x0 x1 x2 x3 x4 x5 x6 (t.val / 8192) (t.val % 8192) (2048 + j.val) := by
  pointwise [val_main_v99, val_main_v154, val_main_v155]
  exact proj_ref x0 x1 x2 x3 x4 x5 x6 _ _ _

/-- Mixer B's values. -/
theorem vb_ref (t : Fin 16384) (j : Fin 128) :
    (val_main_v157 (F := Ideal) x0 x1 x2 x3 x4 x5 x6 : S16384x128.Idx → EReal) (ix2 t j)
      = PR x0 x1 x2 x3 x4 x5 x6 (t.val / 8192) (t.val % 8192) (2176 + j.val) := by
  pointwise [val_main_v100, val_main_v156, val_main_v157]
  exact proj_ref x0 x1 x2 x3 x4 x5 x6 _ _ _

/-- Mixer A's keys at the last 512 positions, lanes first. -/
theorem ka_tail_ref (b : Fin 2) (j p : Fin 512) :
    (val_main_v159 (F := Ideal) x0 x1 x2 x3 x4 x5 x6 : S2x512x512.Idx → EReal) (ix3 b j p)
      = PR x0 x1 x2 x3 x4 x5 x6 b.val (7680 + p.val) (512 + j.val) := by
  pointwise [val_main_v158, val_main_v96, val_main_v159]
  exact proj_ref x0 x1 x2 x3 x4 x5 x6 _ _ _

/-- Mixer A's values at the last 512 positions, lanes first. -/
theorem va_tail_ref (b : Fin 2) (j p : Fin 512) :
    (val_main_v161 (F := Ideal) x0 x1 x2 x3 x4 x5 x6 : S2x512x512.Idx → EReal) (ix3 b j p)
      = PR x0 x1 x2 x3 x4 x5 x6 b.val (7680 + p.val) (1024 + j.val) := by
  pointwise [val_main_v160, val_main_v97, val_main_v161]
  exact proj_ref x0 x1 x2 x3 x4 x5 x6 _ _ _

/-- Mixer B's keys at the last 128 positions, lanes first. -/
theorem kb_tail_ref (b : Fin 2) (j p : Fin 128) :
    (val_main_v163 (F := Ideal) x0 x1 x2 x3 x4 x5 x6 : S2x128x128.Idx → EReal) (ix3 b j p)
      = PR x0 x1 x2 x3 x4 x5 x6 b.val (8064 + p.val) (2048 + j.val) := by
  pointwise [val_main_v162, val_main_v99, val_main_v163]
  exact proj_ref x0 x1 x2 x3 x4 x5 x6 _ _ _

/-- Mixer B's values at the last 128 positions, lanes first. -/
theorem vb_tail_ref (b : Fin 2) (j p : Fin 128) :
    (val_main_v165 (F := Ideal) x0 x1 x2 x3 x4 x5 x6 : S2x128x128.Idx → EReal) (ix3 b j p)
      = PR x0 x1 x2 x3 x4 x5 x6 b.val (8064 + p.val) (2176 + j.val) := by
  pointwise [val_main_v164, val_main_v100, val_main_v165]
  exact proj_ref x0 x1 x2 x3 x4 x5 x6 _ _ _

end

end Cert.Reference3Ideal.Qkv
end
-- ==== Proof.QkvFinal.lean ====
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.QkvOut
public import proofs.«01_k».proof.Proof.QkvRef
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Init

@[expose] public section

set_option maxRecDepth 16384

noncomputable section

/-! The claims about the call before the mixers: the frames, the named constant, and the kernel's arrays against the reference's. -/

namespace Cert.Qkv

open Cert.Attn Cert.Ffn Idealize.ShloMosaic Idealize.ShloMosaic.TcCoe Idealize.SL.Sem
open Cert.Kernel2Ideal.Ffn (exists_ix3)
open Cert.KernelIdeal.Attn (exists_ix2)
open Cert.Kernel3Ideal.Qkv (outX outP)

/-- An index of rank three from its coordinates. -/
theorem exists_ix3' {a b d : ℕ} (x : (⟨3, ![a, b, d]⟩ : Shape).Idx) : ∃ p q r, x = ix3 p q r :=
  ⟨x 0, x 1, x 2, by funext t; match t with | ⟨0, _⟩ => rfl | ⟨1, _⟩ => rfl | ⟨2, _⟩ => rfl⟩

/-- The kernel changes none of its arguments and leaves every counter at zero. -/
theorem frame_kernel : Cert.quiescent_Kernel3 := fun m ρ _ => Cert.Kernel3.Gen.frame m ρ

/-- So does the kernel over the extended reals. -/
theorem frame_ideal : Cert.quiescent_Kernel3Ideal := fun m ρ _ => Cert.Kernel3Ideal.Gen.frame m ρ

/-- The reference changes none of its arguments and leaves every counter at zero. -/
theorem frame_reference : Cert.quiescent_Reference3Ideal := fun m ρ _ =>
  (θ_run Cert.Reference3Ideal.defs _ _).mono (fun r h => ⟨fun c => (h c).2.2.2.2.2.2.2.2.2.2.2,
      Idealize.ShloMosaic.sem_eq_zero_of_no_sems (by decide) r.2⟩)
    (Cert.Reference3Ideal.Value.run (F := Ideal) m ρ)

/-- The one constant the ideal kernel names is the reciprocal of the logarithm of 256, which its table gives it. -/
theorem preserves : Cert.preserves_Kernel3_Kernel3Ideal :=
  IdealRules.named_const.statement Cert.Kernel3Ideal.κ "log2e_scaled" .f32 0x3E38AA3B#32 (((Real.log 256)⁻¹ : ℝ) : EReal) rfl

/-- What the reference leaves: the results its stages spell out, and its arguments. -/
theorem reference_run (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ fun r =>
      ∀ c : Dev Cert.Reference3Ideal.nD,
      r.2.mem ((c.tc : Thread Cert.Reference3Ideal.nD Cert.Reference3Ideal.τ).loc Cert.Reference3Ideal.main_v69)
        = Cert.Reference3Ideal.Read.val_main_v69 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))
      ∧ r.2.mem ((c.tc : Thread Cert.Reference3Ideal.nD Cert.Reference3Ideal.τ).loc Cert.Reference3Ideal.main_v124)
        = Cert.Reference3Ideal.Read.val_main_v124 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_v151)
        = Cert.Reference3Ideal.Read.val_main_v151 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_v153)
        = Cert.Reference3Ideal.Read.val_main_v153 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_v149)
        = Cert.Reference3Ideal.Read.val_main_v149 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_v155)
        = Cert.Reference3Ideal.Read.val_main_v155 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_v157)
        = Cert.Reference3Ideal.Read.val_main_v157 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_v159)
        = Cert.Reference3Ideal.Read.val_main_v159 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_v161)
        = Cert.Reference3Ideal.Read.val_main_v161 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_v163)
        = Cert.Reference3Ideal.Read.val_main_v163 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_v165)
        = Cert.Reference3Ideal.Read.val_main_v165 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6) :=
  (θ_run Cert.Reference3Ideal.defs _ _).mono (fun r h c =>
    ⟨(h c).1.trans (Cert.Reference3Ideal.Read.val_main_v69_eq (StableHlo.launchContents m c)),
      (h c).2.1.trans (Cert.Reference3Ideal.Read.val_main_v124_eq (StableHlo.launchContents m c)),
      (h c).2.2.1.trans (Cert.Reference3Ideal.Read.val_main_v151_eq (StableHlo.launchContents m c)),
      (h c).2.2.2.1.trans (Cert.Reference3Ideal.Read.val_main_v153_eq (StableHlo.launchContents m c)),
      (h c).2.2.2.2.1.trans (Cert.Reference3Ideal.Read.val_main_v149_eq (StableHlo.launchContents m c)),
      (h c).2.2.2.2.2.1.trans (Cert.Reference3Ideal.Read.val_main_v155_eq (StableHlo.launchContents m c)),
      (h c).2.2.2.2.2.2.1.trans (Cert.Reference3Ideal.Read.val_main_v157_eq (StableHlo.launchContents m c)),
      (h c).2.2.2.2.2.2.2.1.trans (Cert.Reference3Ideal.Read.val_main_v159_eq (StableHlo.launchContents m c)),
      (h c).2.2.2.2.2.2.2.2.1.trans (Cert.Reference3Ideal.Read.val_main_v161_eq (StableHlo.launchContents m c)),
      (h c).2.2.2.2.2.2.2.2.2.1.trans (Cert.Reference3Ideal.Read.val_main_v163_eq (StableHlo.launchContents m c)),
      (h c).2.2.2.2.2.2.2.2.2.2.1.trans (Cert.Reference3Ideal.Read.val_main_v165_eq (StableHlo.launchContents m c)),
      (h c).2.2.2.2.2.2.2.2.2.2.2⟩) (Cert.Reference3Ideal.Value.run (F := Ideal) m ρ)

section
open Cert.Kernel3Ideal

/-- On the same arguments the kernel's residual stream is the reference's. -/
theorem agrees7 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5) :
    (fun i : S2x8192x1024.Idx => outX m c (i 0).val (i 1).val (i 2).val)
      = (Cert.Reference3Ideal.Read.val_main_v69 (F := Ideal) x0 x1 x2 x3 x4 x5 : S2x8192x1024.Idx → EReal) := by
  subst e0 e1 e2 e3 e4 e5
  funext i
  obtain ⟨b, p, j, rfl⟩ := exists_ix3' (a := 2) (b := 8192) (d := 1024) i
  exact (Cert.Reference3Ideal.Qkv.first_ref _ _ _ _ _ _ b p j).symm

/-- On the same arguments the kernel's queries of mixer A are the reference's. -/
theorem agrees8 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S16384x1024.Idx => queryA (outP m c ((i 0).val / 8192) ((i 0).val % 8192)) (i 1).val)
      = (Cert.Reference3Ideal.Read.val_main_v124 (F := Ideal) x0 x1 x2 x3 x4 x5 x6 : S16384x1024.Idx → EReal) := by
  subst e0 e1 e2 e3 e4 e5 e6
  funext i
  obtain ⟨t, j, rfl⟩ := exists_ix2 (a := 16384) (b := 1024) i
  exact (Cert.Reference3Ideal.Qkv.qa_ref _ _ _ _ _ _ _ t j).symm

/-- On the same arguments the kernel's keys of mixer A are the reference's. -/
theorem agrees9 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S16384x512.Idx => outP m c ((i 0).val / 8192) ((i 0).val % 8192) (512 + (i 1).val))
      = (Cert.Reference3Ideal.Read.val_main_v151 (F := Ideal) x0 x1 x2 x3 x4 x5 x6 : S16384x512.Idx → EReal) := by
  subst e0 e1 e2 e3 e4 e5 e6
  funext i
  obtain ⟨t, j, rfl⟩ := exists_ix2 (a := 16384) (b := 512) i
  exact (Cert.Reference3Ideal.Qkv.ka_ref _ _ _ _ _ _ _ t j).symm

/-- On the same arguments the kernel's values of mixer A are the reference's. -/
theorem agrees10 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S16384x512.Idx => outP m c ((i 0).val / 8192) ((i 0).val % 8192) (1024 + (i 1).val))
      = (Cert.Reference3Ideal.Read.val_main_v153 (F := Ideal) x0 x1 x2 x3 x4 x5 x6 : S16384x512.Idx → EReal) := by
  subst e0 e1 e2 e3 e4 e5 e6
  funext i
  obtain ⟨t, j, rfl⟩ := exists_ix2 (a := 16384) (b := 512) i
  exact (Cert.Reference3Ideal.Qkv.va_ref _ _ _ _ _ _ _ t j).symm

/-- On the same arguments the kernel's queries of mixer B are the reference's. -/
theorem agrees11 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S16384x1024.Idx => queryB (outP m c ((i 0).val / 8192) ((i 0).val % 8192)) (i 1).val)
      = (Cert.Reference3Ideal.Read.val_main_v149 (F := Ideal) x0 x1 x2 x3 x4 x5 x6 : S16384x1024.Idx → EReal) := by
  subst e0 e1 e2 e3 e4 e5 e6
  funext i
  obtain ⟨t, j, rfl⟩ := exists_ix2 (a := 16384) (b := 1024) i
  exact (Cert.Reference3Ideal.Qkv.qb_ref _ _ _ _ _ _ _ t j).symm

/-- On the same arguments the kernel's keys of mixer B are the reference's. -/
theorem agrees12 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S16384x128.Idx => outP m c ((i 0).val / 8192) ((i 0).val % 8192) (2048 + (i 1).val))
      = (Cert.Reference3Ideal.Read.val_main_v155 (F := Ideal) x0 x1 x2 x3 x4 x5 x6 : S16384x128.Idx → EReal) := by
  subst e0 e1 e2 e3 e4 e5 e6
  funext i
  obtain ⟨t, j, rfl⟩ := exists_ix2 (a := 16384) (b := 128) i
  exact (Cert.Reference3Ideal.Qkv.kb_ref _ _ _ _ _ _ _ t j).symm

/-- On the same arguments the kernel's values of mixer B are the reference's. -/
theorem agrees13 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S16384x128.Idx => outP m c ((i 0).val / 8192) ((i 0).val % 8192) (2176 + (i 1).val))
      = (Cert.Reference3Ideal.Read.val_main_v157 (F := Ideal) x0 x1 x2 x3 x4 x5 x6 : S16384x128.Idx → EReal) := by
  subst e0 e1 e2 e3 e4 e5 e6
  funext i
  obtain ⟨t, j, rfl⟩ := exists_ix2 (a := 16384) (b := 128) i
  exact (Cert.Reference3Ideal.Qkv.vb_ref _ _ _ _ _ _ _ t j).symm

/-- On the same arguments the kernel's last keys of mixer A are the reference's. -/
theorem agrees14 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S2x512x512.Idx => outP m c (i 0).val (7680 + (i 2).val) (512 + (i 1).val))
      = (Cert.Reference3Ideal.Read.val_main_v159 (F := Ideal) x0 x1 x2 x3 x4 x5 x6 : S2x512x512.Idx → EReal) := by
  subst e0 e1 e2 e3 e4 e5 e6
  funext i
  obtain ⟨b, p, j, rfl⟩ := exists_ix3' (a := 2) (b := 512) (d := 512) i
  exact (Cert.Reference3Ideal.Qkv.ka_tail_ref _ _ _ _ _ _ _ b p j).symm

/-- On the same arguments the kernel's last values of mixer A are the reference's. -/
theorem agrees15 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S2x512x512.Idx => outP m c (i 0).val (7680 + (i 2).val) (1024 + (i 1).val))
      = (Cert.Reference3Ideal.Read.val_main_v161 (F := Ideal) x0 x1 x2 x3 x4 x5 x6 : S2x512x512.Idx → EReal) := by
  subst e0 e1 e2 e3 e4 e5 e6
  funext i
  obtain ⟨b, p, j, rfl⟩ := exists_ix3' (a := 2) (b := 512) (d := 512) i
  exact (Cert.Reference3Ideal.Qkv.va_tail_ref _ _ _ _ _ _ _ b p j).symm

/-- On the same arguments the kernel's last keys of mixer B are the reference's. -/
theorem agrees16 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S2x128x128.Idx => outP m c (i 0).val (8064 + (i 2).val) (2048 + (i 1).val))
      = (Cert.Reference3Ideal.Read.val_main_v163 (F := Ideal) x0 x1 x2 x3 x4 x5 x6 : S2x128x128.Idx → EReal) := by
  subst e0 e1 e2 e3 e4 e5 e6
  funext i
  obtain ⟨b, p, j, rfl⟩ := exists_ix3' (a := 2) (b := 128) (d := 128) i
  exact (Cert.Reference3Ideal.Qkv.kb_tail_ref _ _ _ _ _ _ _ b p j).symm

/-- On the same arguments the kernel's last values of mixer B are the reference's. -/
theorem agrees17 (m : (ℓ : Loc nD τ sig) → Buf (Elt Ideal) ℓ) (c : Dev nD) (x0 : S2x8192x1024.Idx → EReal) (x1 : S9x2x1024.Idx → EReal) (x2 : S6x1024.Idx → EReal) (x3 : S1024x2816.Idx → EReal) (x4 : S1024x2816.Idx → EReal) (x5 : S2816x1024.Idx → EReal) (x6 : S1024x2304.Idx → EReal)
    (e0 : (m (c, Proc.tc.devRef main_arg0) : S2x8192x1024.Idx → EReal) = x0)
    (e1 : (m (c, Proc.tc.devRef main_arg1) : S9x2x1024.Idx → EReal) = x1)
    (e2 : (m (c, Proc.tc.devRef main_arg2) : S6x1024.Idx → EReal) = x2)
    (e3 : (m (c, Proc.tc.devRef main_arg3) : S1024x2816.Idx → EReal) = x3)
    (e4 : (m (c, Proc.tc.devRef main_arg4) : S1024x2816.Idx → EReal) = x4)
    (e5 : (m (c, Proc.tc.devRef main_arg5) : S2816x1024.Idx → EReal) = x5)
    (e6 : (m (c, Proc.tc.devRef main_arg6) : S1024x2304.Idx → EReal) = x6) :
    (fun i : S2x128x128.Idx => outP m c (i 0).val (8064 + (i 2).val) (2176 + (i 1).val))
      = (Cert.Reference3Ideal.Read.val_main_v165 (F := Ideal) x0 x1 x2 x3 x4 x5 x6 : S2x128x128.Idx → EReal) := by
  subst e0 e1 e2 e3 e4 e5 e6
  funext i
  obtain ⟨b, p, j, rfl⟩ := exists_ix3' (a := 2) (b := 128) (d := 128) i
  exact (Cert.Reference3Ideal.Qkv.vb_tail_ref _ _ _ _ _ _ _ b p j).symm

end

/-- From memories that agree on the arguments, kernel and reference leave the same arrays. -/
theorem algebraic : Cert.algebraic_Kernel3Ideal_Reference3Ideal := by
  intro m ρ m' ρ' _ hag
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 16 Cert.Kernel3Ideal.cfg0.N, fun c => (Cert.Kernel3Ideal.Gen.dats m 0 c).arrAt 17 Cert.Kernel3Ideal.cfg0.N, Cert.Kernel3Ideal.Value.run_blocks m ρ, ?_⟩
  refine (θ_run Cert.Reference3Ideal.defs _ _).mono (fun r h c => ?_) (reference_run m' ρ')
  obtain ⟨a0, a1, a2, a3, a4, a5, a6⟩ := hag c
  obtain ⟨r7, r8, r9, r10, r11, r12, r13, r14, r15, r16, r17, hr⟩ := h c
  refine ⟨r7.trans (Eq.trans ?_ (Cert.Kernel3Ideal.Qkv.arr7 m c).symm), r8.trans (Eq.trans ?_ (Cert.Kernel3Ideal.Qkv.arr8 m c).symm), r9.trans (Eq.trans ?_ (Cert.Kernel3Ideal.Qkv.arr9 m c).symm), r10.trans (Eq.trans ?_ (Cert.Kernel3Ideal.Qkv.arr10 m c).symm), r11.trans (Eq.trans ?_ (Cert.Kernel3Ideal.Qkv.arr11 m c).symm), r12.trans (Eq.trans ?_ (Cert.Kernel3Ideal.Qkv.arr12 m c).symm), r13.trans (Eq.trans ?_ (Cert.Kernel3Ideal.Qkv.arr13 m c).symm), r14.trans (Eq.trans ?_ (Cert.Kernel3Ideal.Qkv.arr14 m c).symm), r15.trans (Eq.trans ?_ (Cert.Kernel3Ideal.Qkv.arr15 m c).symm), r16.trans (Eq.trans ?_ (Cert.Kernel3Ideal.Qkv.arr16 m c).symm), r17.trans (Eq.trans ?_ (Cert.Kernel3Ideal.Qkv.arr17 m c).symm), hr⟩
  · exact (agrees7 m c _ _ _ _ _ _ a0.symm a1.symm a2.symm a3.symm a4.symm a5.symm).symm
  · exact (agrees8 m c _ _ _ _ _ _ _ a0.symm a1.symm a2.symm a3.symm a4.symm a5.symm a6.symm).symm
  · exact (agrees9 m c _ _ _ _ _ _ _ a0.symm a1.symm a2.symm a3.symm a4.symm a5.symm a6.symm).symm
  · exact (agrees10 m c _ _ _ _ _ _ _ a0.symm a1.symm a2.symm a3.symm a4.symm a5.symm a6.symm).symm
  · exact (agrees11 m c _ _ _ _ _ _ _ a0.symm a1.symm a2.symm a3.symm a4.symm a5.symm a6.symm).symm
  · exact (agrees12 m c _ _ _ _ _ _ _ a0.symm a1.symm a2.symm a3.symm a4.symm a5.symm a6.symm).symm
  · exact (agrees13 m c _ _ _ _ _ _ _ a0.symm a1.symm a2.symm a3.symm a4.symm a5.symm a6.symm).symm
  · exact (agrees14 m c _ _ _ _ _ _ _ a0.symm a1.symm a2.symm a3.symm a4.symm a5.symm a6.symm).symm
  · exact (agrees15 m c _ _ _ _ _ _ _ a0.symm a1.symm a2.symm a3.symm a4.symm a5.symm a6.symm).symm
  · exact (agrees16 m c _ _ _ _ _ _ _ a0.symm a1.symm a2.symm a3.symm a4.symm a5.symm a6.symm).symm
  · exact (agrees17 m c _ _ _ _ _ _ _ a0.symm a1.symm a2.symm a3.symm a4.symm a5.symm a6.symm).symm

end Cert.Qkv
end
-- ==== Proof.lean ====
/- The certificate's claims, put together from Proof/Final.lean (the attention), Proof/FfnFinal.lean (the output
   projection and feed-forward layer) and Proof/QkvFinal.lean (the call before the mixers): the frames of kernels and references, the named constants, and the kernels' arrays
   against the references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Final
public import proofs.«01_k».proof.Proof.FfnFinal
public import proofs.«01_k».proof.Proof.QkvFinal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_scores.Gen.facts,
  Cert.Attn.frame_kernel, Cert.Attn.frame_ideal, Cert.Attn.frame_ideal_pre, Cert.Attn.frame_reference,
  Cert.Attn.frame_reference_pre, Cert.Ffn.frame_kernel, Cert.Ffn.frame_ideal, Cert.Ffn.frame_reference,
  Cert.Qkv.frame_kernel, Cert.Qkv.frame_ideal, Cert.Qkv.frame_reference,
  Cert.Attn.preserves, Cert.Attn.algebraic, Cert.Ffn.preserves, Cert.Ffn.algebraic,
  Cert.Qkv.preserves, Cert.Qkv.algebraic⟩

end Cert.Proof

end
